-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v1)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v1) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v3)) (v2 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2048x6144 : Shape := ⟨2, ![2048, 6144]⟩
abbrev S2048x16 : Shape := ⟨2, ![2048, 16]⟩
abbrev S2048x1024 : Shape := ⟨2, ![2048, 1024]⟩
abbrev S2048x3072 : Shape := ⟨2, ![2048, 3072]⟩
abbrev S_ : Shape := ⟨0, ![]⟩

class Facts : Prop where
  slices_S2048x6144_S2048x3072_0_3072 : S2048x6144.Slices ![0, 3072] S2048x3072
  bitsLt_bf16_f32 : FTy.bits .bf16 < FTy.bits .f32
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x6144 .bf16) (main_arg1 : FVec F S2048x16 .f32) (main_arg2 : FVec F S2048x1024 .bf16) (main_arg3 : FVec F S2048x6144 .bf16) : IVec S_ 1 :=
  let main_v0 : FVec F S2048x3072 .bf16 := (extractStridedSlice S2048x3072 ![0, 3072] · slices_S2048x6144_S2048x3072_0_3072) main_arg0
  let main_v1 : FVec F S2048x3072 .f32 := (extf .f32 · bitsLt_bf16_f32) main_v0
  let main_v2 : FVec F S2048x3072 .f32 := Host.absf main_v1
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_c : IVec S_ 1 := constantI S_ 1 1#1
  let main_v5 : IVec S_ 1 := (fun x v => Host.reduce IntOp.andi x v reducesTo_S2048x3072_S_d0_1 h_S_) main_v4 main_c
  let main_v6 : FVec F S2048x16 .f32 := Host.absf main_arg1
  let main_cst_0 : FVec F S_ .f32 := constant S_ .f32 0x7F800000#32
  let main_v7 : FVec F S2048x16 .f32 := broadcastInDim S2048x16 ![] bcast_S_S2048x16 main_cst_0
  let main_v8 : IVec S2048x16 1 := cmpf .olt main_v6 main_v7
  let main_c_1 : IVec S_ 1 := constantI S_ 1 1#1
  let main_v9 : IVec S_ 1 := (fun x v => Host.reduce IntOp.andi x v reducesTo_S2048x16_S_d0_1 h_S_) main_v8 main_c_1
  let main_v10 : IVec S_ 1 := andi main_v5 main_v9
  let main_v11 : FVec F S2048x1024 .f32 := (extf .f32 · bitsLt_bf16_f32) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  main_v16
-- ==== Pre_finite2.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v16 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v16 main_v20
  main_v21

def fn {F : FTy → Type} [FloatOps F] (main_arg0 : FVec F S2048x1024 .bf16) (main_arg1 : FVec F S1024x5632 .bf16) (main_arg2 : FVec F S2816x1024 .bf16) (main_arg3 : FVec F S2048x1024 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S2816x1024 .f32 := (extf .f32 · bitsLt_bf16_f32) main_arg2
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  let main_v17 : FVec F S2048x1024 .f32 := Host.absf main_arg3
  fn_part1 (F := F) main_v16 main_v17
-- ==== Kernel.lean ====
abbrev S2048x6144 : Shape := ⟨2, ![2048, 6144]⟩
abbrev S2048x16 : Shape := ⟨2, ![2048, 16]⟩
abbrev S2048x1024 : Shape := ⟨2, ![2048, 1024]⟩
abbrev S2048x16x64 : Shape := ⟨3, ![2048, 16, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x64x2048 : Shape := ⟨3, ![16, 64, 2048]⟩
abbrev S8x2x2048 : Shape := ⟨3, ![8, 2, 2048]⟩
abbrev S8x2048x2 : Shape := ⟨3, ![8, 2048, 2]⟩
abbrev S8x2048x128 : Shape := ⟨3, ![8, 2048, 128]⟩
abbrev S2048x128 : Shape := ⟨2, ![2048, 128]⟩
abbrev S1x2048x128 : Shape := ⟨3, ![1, 2048, 128]⟩
abbrev S2x2048x128 : Shape := ⟨3, ![2, 2048, 128]⟩
abbrev S3x2048x128 : Shape := ⟨3, ![3, 2048, 128]⟩
abbrev S3 : Shape := ⟨1, ![3]⟩
abbrev S256x256 : Shape := ⟨2, ![256, 256]⟩
abbrev S1x2048x1 : Shape := ⟨3, ![1, 2048, 1]⟩
abbrev S256x128 : Shape := ⟨2, ![256, 128]⟩
abbrev S1x256x128 : Shape := ⟨3, ![1, 256, 128]⟩
abbrev S512x128 : Shape := ⟨2, ![512, 128]⟩
abbrev S256x512 : Shape := ⟨2, ![256, 512]⟩
abbrev S1x512x128 : Shape := ⟨3, ![1, 512, 128]⟩
abbrev S768x128 : Shape := ⟨2, ![768, 128]⟩
abbrev S256x768 : Shape := ⟨2, ![256, 768]⟩
abbrev S1x768x128 : Shape := ⟨3, ![1, 768, 128]⟩
abbrev S1024x128 : Shape := ⟨2, ![1024, 128]⟩
abbrev S256x1024 : Shape := ⟨2, ![256, 1024]⟩
abbrev S1x1024x128 : Shape := ⟨3, ![1, 1024, 128]⟩
abbrev S1280x128 : Shape := ⟨2, ![1280, 128]⟩
abbrev S256x1280 : Shape := ⟨2, ![256, 1280]⟩
abbrev S1x1280x128 : Shape := ⟨3, ![1, 1280, 128]⟩
abbrev S1536x128 : Shape := ⟨2, ![1536, 128]⟩
abbrev S256x1536 : Shape := ⟨2, ![256, 1536]⟩
abbrev S1x1536x128 : Shape := ⟨3, ![1, 1536, 128]⟩
abbrev S1792x128 : Shape := ⟨2, ![1792, 128]⟩
abbrev S256x1792 : Shape := ⟨2, ![256, 1792]⟩
abbrev S1x1792x128 : Shape := ⟨3, ![1, 1792, 128]⟩
abbrev S256x2048 : Shape := ⟨2, ![256, 2048]⟩
abbrev S1 : Shape := ⟨1, ![1]⟩

abbrev nBuf : Space → Nat
  | .hbm => 61
  | .vmem => 19
  | .smem => 0
  | _ => 0

abbrev bufTy : (tb : Table) → Fin (tcTables nBuf tb) → BufTy
  | .hbm, ⟨0, _⟩ => ⟨S2048x6144, .bf16⟩
  | .hbm, ⟨1, _⟩ => ⟨S2048x16, .f32⟩
  | .hbm, ⟨2, _⟩ => ⟨S2048x1024, .bf16⟩
  | .hbm, ⟨3, _⟩ => ⟨S2048x6144, .bf16⟩
  | .hbm, ⟨4, _⟩ => ⟨S2048x1024, .bf16⟩
  | .hbm, ⟨5, _⟩ => ⟨S2048x16x64, .bf16⟩
  | .hbm, ⟨6, _⟩ => ⟨S2048x1024, .bf16⟩
  | .hbm, ⟨7, _⟩ => ⟨S2048x16x64, .bf16⟩
  | .hbm, ⟨8, _⟩ => ⟨S2048x1024, .bf16⟩
  | .hbm, ⟨9, _⟩ => ⟨S2048x16x64, .bf16⟩
  | .hbm, ⟨10, _⟩ => ⟨S16x2048x2048, .f32⟩
  | .hbm, ⟨11, _⟩ => ⟨S16x2048x2048, .bf16⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048, .f32⟩
  | .hbm, ⟨17, _⟩ => ⟨S16x2048x1, .f32⟩
  | .hbm, ⟨18, _⟩ => ⟨S16x2048, .f32⟩
  | .hbm, ⟨19, _⟩ => ⟨S16x1x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S16x2048x2048, .f32⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x2048x2048, .bf16⟩
  | .hbm, ⟨48, _⟩ => ⟨S16x64x2048, .f32⟩
  | .hbm, ⟨49, _⟩ => ⟨S2048x16x64, .f32⟩
  | .hbm, ⟨50, _⟩ => ⟨S2048x16x64, .bf16⟩
  | .hbm, ⟨51, _⟩ => ⟨S16x2048x1, .f32⟩
  | .hbm, ⟨52, _⟩ => ⟨S16x2048x1, .f32⟩
  | .hbm, ⟨53, _⟩ => ⟨S8x2x2048, .f32⟩
  | .hbm, ⟨54, _⟩ => ⟨S8x2048x2, .f32⟩
  | .hbm, ⟨55, _⟩ => ⟨S2048x1024, .bf16⟩
  | .hbm, ⟨56, _⟩ => ⟨S_, .i32⟩
  | .hbm, ⟨57, _⟩ => ⟨S_, .f32⟩
  | .hbm, ⟨58, _⟩ => ⟨S8x2048x128, .f32⟩
  | .hbm, ⟨59, _⟩ => ⟨S2048x6144, .bf16⟩
  | .hbm, ⟨60, _⟩ => ⟨S8x2048x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x16, .f32⟩
  | .local _ .vmem, ⟨7, _⟩ => ⟨S2048x128, .bf16⟩
  | .local _ .vmem, ⟨8, _⟩ => ⟨S2048x128, .bf16⟩
  | .local _ .vmem, ⟨9, _⟩ => ⟨S1x2048x128, .f32⟩
  | .local _ .vmem, ⟨10, _⟩ => ⟨S1x2048x128, .f32⟩
  | .local _ .vmem, ⟨11, _⟩ => ⟨S2048x128, .bf16⟩
  | .local _ .vmem, ⟨12, _⟩ => ⟨S2048x128, .bf16⟩
  | .local _ .vmem, ⟨13, _⟩ => ⟨S1x2048x128, .f32⟩
  | .local _ .vmem, ⟨14, _⟩ => ⟨S1x2048x128, .f32⟩
  | .local _ .vmem, ⟨15, _⟩ => ⟨S2x2048x128, .f32⟩
  | .local _ .vmem, ⟨16, _⟩ => ⟨S2x2048x128, .f32⟩
  | .local _ .vmem, ⟨17, _⟩ => ⟨S2x2048x128, .f32⟩
  | .local _ .vmem, ⟨18, _⟩ => ⟨S3x2048x128, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call1_v0 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c24_i32 : BitVec 32 := 24#32
  let arg0 : BitVec 32 := BitVec.ofNat 32 (i 0).val
  let v1153 : BitVec 32 := Scalar.addi c24_i32 arg0
  let c128_i32_519 : BitVec 32 := 128#32
  let v1154 : BitVec 32 := Scalar.muli v1153 c128_i32_519
  v1154
def k0_off1 (i : grid0.Coords) (c24_i32 : BitVec 32) : Fin 2 → Nat :=
  let c0_i32_522 : BitVec 32 := 0#32
  let arg0 : BitVec 32 := BitVec.ofNat 32 (i 0).val
  let v1153 : BitVec 32 := Scalar.addi c24_i32 arg0
  let c128_i32_519 : BitVec 32 := 128#32
  let v1154 : BitVec 32 := Scalar.muli v1153 c128_i32_519
  let v1155 : BitVec 32 := v1154
  ![0, v1155.toNat]
def k0_mult2 (i : grid0.Coords) : BitVec 32 :=
  let c32_i32 : BitVec 32 := 32#32
  let arg0 : BitVec 32 := BitVec.ofNat 32 (i 0).val
  let v1165 : BitVec 32 := Scalar.addi c32_i32 arg0
  let c128_i32_528 : BitVec 32 := 128#32
  let v1166 : BitVec 32 := Scalar.muli v1165 c128_i32_528
  v1166
def k0_mult3 (i : grid0.Coords) : BitVec 32 :=
  let c40_i32 : BitVec 32 := 40#32
  let arg0 : BitVec 32 := BitVec.ofNat 32 (i 0).val
  let v1177 : BitVec 32 := Scalar.addi c40_i32 arg0
  let c128_i32_536 : BitVec 32 := 128#32
  let v1178 : BitVec 32 := Scalar.muli v1177 c128_i32_536
  v1178
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x6144 : Shape := ⟨2, ![2048, 6144]⟩
abbrev S2048x16 : Shape := ⟨2, ![2048, 16]⟩
abbrev S2048x1024 : Shape := ⟨2, ![2048, 1024]⟩
abbrev S2048x16x64 : Shape := ⟨3, ![2048, 16, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x64x2048 : Shape := ⟨3, ![16, 64, 2048]⟩
abbrev S16x2048x64 : Shape := ⟨3, ![16, 2048, 64]⟩
abbrev S2048x3072 : Shape := ⟨2, ![2048, 3072]⟩
abbrev S2048x8x2 : Shape := ⟨3, ![2048, 8, 2]⟩
abbrev S8x2048x2 : Shape := ⟨3, ![8, 2048, 2]⟩
abbrev S8x2048x128 : Shape := ⟨3, ![8, 2048, 128]⟩

abbrev nBuf : Space → Nat
  | .hbm => 141
  | .vmem => 0
  | .smem => 0
  | _ => 0

abbrev hbmTy0_0 (i : Nat) : BufTy := match i % 128 with
  | 0 => ⟨S2048x6144, .bf16⟩
  | 1 => ⟨S2048x16, .f32⟩
  | 2 => ⟨S2048x1024, .bf16⟩
  | 3 => ⟨S2048x6144, .bf16⟩
  | 4 => ⟨S2048x1024, .bf16⟩
  | 5 => ⟨S2048x16x64, .bf16⟩
  | 6 => ⟨S2048x1024, .bf16⟩
  | 7 => ⟨S2048x16x64, .bf16⟩
  | 8 => ⟨S2048x1024, .bf16⟩
  | 9 => ⟨S2048x16x64, .bf16⟩
  | 10 => ⟨S16x2048x2048, .f32⟩
  | 11 => ⟨S16x2048x2048, .bf16⟩
  | 12 => ⟨S16x2048x2048, .f32⟩
  | 13 => ⟨S_, .f32⟩
  | 14 => ⟨S16x2048x2048, .f32⟩
  | 15 => ⟨S16x2048x2048, .f32⟩
  | 16 => ⟨S16x2048, .f32⟩
  | 17 => ⟨S16x2048x1, .f32⟩
  | 18 => ⟨S16x2048, .f32⟩
  | 19 => ⟨S16x1x2048, .f32⟩
  | 20 => ⟨S16x2048x2048, .f32⟩
  | 21 => ⟨S16x2048x2048, .f32⟩
  | 22 => ⟨S16x2048x2048, .f32⟩
  | 23 => ⟨S2048, .i32⟩
  | 24 => ⟨S2048x1, .i32⟩
  | 25 => ⟨S2048, .i32⟩
  | 26 => ⟨S1x2048, .i32⟩
  | 27 => ⟨S2048x2048, .i32⟩
  | 28 => ⟨S2048x2048, .i32⟩
  | 29 => ⟨S2048x2048, .i1⟩
  | 30 => ⟨S16x2048x2048, .f32⟩
  | 31 => ⟨S_, .f32⟩
  | 32 => ⟨S_, .f32⟩
  | 33 => ⟨S16x2048x2048, .i1⟩
  | 34 => ⟨S16x2048x2048, .f32⟩
  | 35 => ⟨S16x2048x2048, .f32⟩
  | 36 => ⟨S_, .f32⟩
  | 37 => ⟨S16x2048x2048, .f32⟩
  | 38 => ⟨S_, .f32⟩
  | 39 => ⟨S16x2048, .f32⟩
  | 40 => ⟨S16x2048x1, .f32⟩
  | 41 => ⟨S16x2048x2048, .f32⟩
  | 42 => ⟨S16x2048x2048, .i1⟩
  | 43 => ⟨S16x2048x2048, .f32⟩
  | 44 => ⟨S_, .f32⟩
  | 45 => ⟨S16x2048, .f32⟩
  | 46 => ⟨S_, .f32⟩
  | 47 => ⟨S16x2048, .f32⟩
  | 48 => ⟨S16x2048, .f32⟩
  | 49 => ⟨S_, .f32⟩
  | 50 => ⟨S16x2048, .f32⟩
  | 51 => ⟨S16x2048, .i1⟩
  | 52 => ⟨S_, .f32⟩
  | 53 => ⟨S16x2048, .f32⟩
  | 54 => ⟨S16x2048, .i1⟩
  | 55 => ⟨S_, .f32⟩
  | 56 => ⟨S16x2048, .f32⟩
  | 57 => ⟨S_, .f32⟩
  | 58 => ⟨S16x2048, .f32⟩
  | 59 => ⟨S_, .f32⟩
  | 60 => ⟨S16x2048, .f32⟩
  | 61 => ⟨S16x2048, .f32⟩
  | 62 => ⟨S16x2048, .f32⟩
  | 63 => ⟨S16x2048x1, .f32⟩
  | 64 => ⟨S16x2048x2048, .f32⟩
  | 65 => ⟨S16x2048x2048, .f32⟩
  | 66 => ⟨S16x2048x2048, .f32⟩
  | 67 => ⟨S_, .f32⟩
  | 68 => ⟨S16x2048, .f32⟩
  | 69 => ⟨S16x2048x1, .f32⟩
  | 70 => ⟨S16x2048x2048, .f32⟩
  | 71 => ⟨S16x2048x2048, .f32⟩
  | 72 => ⟨S16x2048x1, .f32⟩
  | 73 => ⟨S_, .f32⟩
  | 74 => ⟨S16x2048x1, .f32⟩
  | 75 => ⟨S16x2048x1, .f32⟩
  | 76 => ⟨S16x2048x2048, .bf16⟩
  | 77 => ⟨S16x64x2048, .f32⟩
  | 78 => ⟨S2048x16x64, .f32⟩
  | 79 => ⟨S2048x16x64, .bf16⟩
  | 80 => ⟨S2048x16x64, .bf16⟩
  | 81 => ⟨S2048x16x64, .f32⟩
  | 82 => ⟨S16x64x2048, .f32⟩
  | 83 => ⟨S16x2048x2048, .f32⟩
  | 84 => ⟨S16x2048x2048, .bf16⟩
  | 85 => ⟨S16x64x2048, .f32⟩
  | 86 => ⟨S2048x16x64, .f32⟩
  | 87 => ⟨S2048x16x64, .bf16⟩
  | 88 => ⟨S16x2048x2048, .f32⟩
  | 89 => ⟨S16x2048x2048, .f32⟩
  | 90 => ⟨S16x2048x2048, .f32⟩
  | 91 => ⟨S16x2048x2048, .f32⟩
  | 92 => ⟨S_, .f32⟩
  | 93 => ⟨S16x2048, .f32⟩
  | 94 => ⟨S16x2048x1, .f32⟩
  | 95 => ⟨S16x2048x1, .f32⟩
  | 96 => ⟨S16x2048x2048, .f32⟩
  | 97 => ⟨S16x2048x2048, .f32⟩
  | 98 => ⟨S_, .f32⟩
  | 99 => ⟨S16x2048, .f32⟩
  | 100 => ⟨S16x2048x2048, .f32⟩
  | 101 => ⟨S16x2048x2048, .f32⟩
  | 102 => ⟨S16x2048x2048, .f32⟩
  | 103 => ⟨S_, .f32⟩
  | 104 => ⟨S16x2048x2048, .f32⟩
  | 105 => ⟨S16x2048x2048, .f32⟩
  | 106 => ⟨S_, .f32⟩
  | 107 => ⟨S16x2048, .f32⟩
  | 108 => ⟨S16x2048x1, .f32⟩
  | 109 => ⟨S16x2048x2048, .f32⟩
  | 110 => ⟨S_, .f32⟩
  | 111 => ⟨S16x2048, .f32⟩
  | 112 => ⟨S16x1x2048, .f32⟩
  | 113 => ⟨S_, .f32⟩
  | 114 => ⟨S16x2048, .f32⟩
  | 115 => ⟨S2048x16, .f32⟩
  | 116 => ⟨S_, .f32⟩
  | 117 => ⟨S16x2048, .f32⟩
  | 118 => ⟨S2048x16, .f32⟩
  | 119 => ⟨S2048x16, .f32⟩
  | 120 => ⟨S_, .f32⟩
  | 121 => ⟨S16x2048x2048, .f32⟩
  | 122 => ⟨S16x2048x2048, .f32⟩
  | 123 => ⟨S16x2048x2048, .bf16⟩
  | 124 => ⟨S16x2048x2048, .f32⟩
  | 125 => ⟨S16x2048x64, .f32⟩
  | 126 => ⟨S2048x16x64, .f32⟩
  | 127 => ⟨S2048x16x64, .bf16⟩
  | _ => ⟨S2048x6144, .bf16⟩

abbrev hbmTy0_1 (i : Nat) : BufTy := match i % 128 with
  | 0 => ⟨S16x2048x64, .f32⟩
  | 1 => ⟨S2048x16x64, .f32⟩
  | 2 => ⟨S2048x16x64, .bf16⟩
  | 3 => ⟨S2048x3072, .bf16⟩
  | 4 => ⟨S2048x1024, .bf16⟩
  | 5 => ⟨S2048x1024, .bf16⟩
  | 6 => ⟨S2048x1024, .bf16⟩
  | 7 => ⟨S2048x6144, .bf16⟩
  | 8 => ⟨S2048x8x2, .f32⟩
  | 9 => ⟨S8x2048x2, .f32⟩
  | 10 => ⟨S_, .i32⟩
  | 11 => ⟨S_, .f32⟩
  | 12 => ⟨S8x2048x128, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_v26_1 : Ref sig .tc := ⟨.hbm, 33, rfl⟩
abbrev main_call0_v2 : Ref sig .tc := ⟨.hbm, 34, rfl⟩
abbrev main_v26_0 : Ref sig .tc := ⟨.hbm, 35, rfl⟩
abbrev main_call0_cst : Ref sig .tc := ⟨.hbm, 36, rfl⟩
abbrev main_v26_2 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call1_cst : Ref sig .tc := ⟨.hbm, 103, rfl⟩
abbrev main_call1_v0 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c : Ref sig .tc := ⟨.hbm, 138, rfl⟩
abbrev main_call2_v0 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Kernel2.lean ====
abbrev S2048x1024 : Shape := ⟨2, ![2048, 1024]⟩
abbrev S1024x5632 : Shape := ⟨2, ![1024, 5632]⟩
abbrev S2816x1024 : Shape := ⟨2, ![2816, 1024]⟩
abbrev S5632x1024 : Shape := ⟨2, ![5632, 1024]⟩
abbrev S2048x5632 : Shape := ⟨2, ![2048, 5632]⟩
abbrev S1024x1024 : Shape := ⟨2, ![1024, 1024]⟩
abbrev S1408x1024 : Shape := ⟨2, ![1408, 1024]⟩
abbrev S1024x1408 : Shape := ⟨2, ![1024, 1408]⟩
abbrev S2048x2816 : Shape := ⟨2, ![2048, 2816]⟩
abbrev S256x2816 : Shape := ⟨2, ![256, 2816]⟩
abbrev S2048x1408 : Shape := ⟨2, ![2048, 1408]⟩
abbrev S256x5632 : Shape := ⟨2, ![256, 5632]⟩

abbrev nBuf : Space → Nat
  | .hbm => 12
  | .vmem => 43
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .f32⟩
  | .hbm, ⟨4, _⟩ => ⟨S5632x1024, .bf16⟩
  | .hbm, ⟨5, _⟩ => ⟨S2048x5632, .bf16⟩
  | .hbm, ⟨6, _⟩ => ⟨S2048x2816, .bf16⟩
  | .hbm, ⟨7, _⟩ => ⟨S2048x2816, .bf16⟩
  | .hbm, ⟨8, _⟩ => ⟨S2816x1024, .bf16⟩
  | .hbm, ⟨9, _⟩ => ⟨S2048x5632, .bf16⟩
  | .hbm, ⟨10, _⟩ => ⟨S2048x1024, .f32⟩
  | .hbm, ⟨11, _⟩ => ⟨S5632x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S1024x1024, .f32⟩
  | .local _ .vmem, ⟨13, _⟩ => ⟨S1024x1024, .f32⟩
  | .local _ .vmem, ⟨14, _⟩ => ⟨S1408x1024, .bf16⟩
  | .local _ .vmem, ⟨15, _⟩ => ⟨S1408x1024, .bf16⟩
  | .local _ .vmem, ⟨16, _⟩ => ⟨S1024x1408, .bf16⟩
  | .local _ .vmem, ⟨17, _⟩ => ⟨S1024x1408, .bf16⟩
  | .local _ .vmem, ⟨18, _⟩ => ⟨S2048x1408, .bf16⟩
  | .local _ .vmem, ⟨19, _⟩ => ⟨S2048x1408, .bf16⟩
  | .local _ .vmem, ⟨20, _⟩ => ⟨S2048x1024, .f32⟩
  | .local _ .vmem, ⟨21, _⟩ => ⟨S1408x1024, .bf16⟩
  | .local _ .vmem, ⟨22, _⟩ => ⟨S1408x1024, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | .local _ .vmem, ⟨28, _⟩ => ⟨S256x2816, .bf16⟩
  | .local _ .vmem, ⟨29, _⟩ => ⟨S256x5632, .bf16⟩
  | .local _ .vmem, ⟨30, _⟩ => ⟨S256x5632, .bf16⟩
  | .local _ .vmem, ⟨31, _⟩ => ⟨S1024x1408, .bf16⟩
  | .local _ .vmem, ⟨32, _⟩ => ⟨S1024x1408, .bf16⟩
  | .local _ .vmem, ⟨33, _⟩ => ⟨S1408x1024, .bf16⟩
  | .local _ .vmem, ⟨34, _⟩ => ⟨S1408x1024, .bf16⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S2048x1408, .bf16⟩
  | .local _ .vmem, ⟨39, _⟩ => ⟨S2048x1408, .bf16⟩
  | .local _ .vmem, ⟨40, _⟩ => ⟨S2048x1024, .bf16⟩
  | .local _ .vmem, ⟨41, _⟩ => ⟨S1408x1024, .bf16⟩
  | .local _ .vmem, ⟨42, _⟩ => ⟨S1408x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x5632 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![1, 2, 4], ![false, false, false]⟩

def k5_cond3 (i : grid5.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S2048x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false, true]

abbrev stage6_2 : Fin 2 → Memref sig .tc .vmem S1408x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference2Ideal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .f32⟩
  | .hbm, ⟨4, _⟩ => ⟨S2048x1024, .f32⟩
  | .hbm, ⟨5, _⟩ => ⟨S1024x5632, .f32⟩
  | .hbm, ⟨6, _⟩ => ⟨S2816x1024, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S1024x2816, .f32⟩
  | .hbm, ⟨26, _⟩ => ⟨S2816x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x5632, .f32⟩
  | .hbm, ⟨35, _⟩ => ⟨S5632x1024, .f32⟩
  | .hbm, ⟨36, _⟩ => ⟨S1024x5632, .f32⟩
  | .hbm, ⟨37, _⟩ => ⟨S2048x1024, .f32⟩
  | .hbm, ⟨38, _⟩ => ⟨S5632x1024, .f32⟩
  | .hbm, ⟨39, _⟩ => ⟨S5632x1024, .bf16⟩
  | .hbm, ⟨40, _⟩ => ⟨S2816x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2048x1024 : Shape := ⟨2, ![2048, 1024]⟩
abbrev S1024x11280 : Shape := ⟨2, ![1024, 11280]⟩
abbrev S2048x6144 : Shape := ⟨2, ![2048, 6144]⟩
abbrev S2048x16 : Shape := ⟨2, ![2048, 16]⟩
abbrev S2048x5120 : Shape := ⟨2, ![2048, 5120]⟩
abbrev S11280x1024 : Shape := ⟨2, ![11280, 1024]⟩
abbrev S16x1024 : Shape := ⟨2, ![16, 1024]⟩
abbrev S6144x1024 : Shape := ⟨2, ![6144, 1024]⟩
abbrev S1024x1024 : Shape := ⟨2, ![1024, 1024]⟩
abbrev S5120x1024 : Shape := ⟨2, ![5120, 1024]⟩
abbrev S1024x16 : Shape := ⟨2, ![1024, 16]⟩

abbrev nBuf : Space → Nat
  | .hbm => 12
  | .vmem => 36
  | .smem => 0
  | _ => 0

abbrev bufTy : (tb : Table) → Fin (tcTables nBuf tb) → BufTy
  | .hbm, ⟨0, _⟩ => ⟨S2048x1024, .bf16⟩
  | .hbm, ⟨1, _⟩ => ⟨S1024x11280, .bf16⟩
  | .hbm, ⟨2, _⟩ => ⟨S2048x6144, .bf16⟩
  | .hbm, ⟨3, _⟩ => ⟨S2048x16, .f32⟩
  | .hbm, ⟨4, _⟩ => ⟨S2048x5120, .bf16⟩
  | .hbm, ⟨5, _⟩ => ⟨S11280x1024, .bf16⟩
  | .hbm, ⟨6, _⟩ => ⟨S16x1024, .bf16⟩
  | .hbm, ⟨7, _⟩ => ⟨S6144x1024, .bf16⟩
  | .hbm, ⟨8, _⟩ => ⟨S5120x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S2048x16, .f32⟩
  | .local _ .vmem, ⟨1, _⟩ => ⟨S2048x1024, .bf16⟩
  | .local _ .vmem, ⟨2, _⟩ => ⟨S16x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x16, .f32⟩
  | .local _ .vmem, ⟨14, _⟩ => ⟨S1024x16, .f32⟩
  | .local _ .vmem, ⟨15, _⟩ => ⟨S16x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg3_1 : Ref sig .tc := ⟨.vmem, 25, rfl⟩
abbrev cc4_scratch0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg3_1 : Ref sig .tc := ⟨.vmem, 34, rfl⟩
abbrev cc5_scratch0 : Ref sig .tc := ⟨.vmem, 35, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem1_1 : DmaSem sig := 21
abbrev cc4_sem2_0 : DmaSem sig := 22
abbrev cc4_sem2_1 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 6, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 5, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def k3_mult1 (i : grid3.Coords) : BitVec 32 :=
  let c6144_i32 : BitVec 32 := 6144#32
  let arg2 : BitVec 32 := BitVec.ofNat 32 (i 2).val
  let c16_i32 : BitVec 32 := 16#32
  let v0 : BitVec 32 := Scalar.muli arg2 c16_i32
  let v1 : BitVec 32 := Scalar.addi c6144_i32 v0
  v1
def k3_mult2 (i : grid3.Coords) : BitVec 32 :=
  let arg0 : BitVec 32 := BitVec.ofNat 32 (i 0).val
  let c1024_i32 : BitVec 32 := 1024#32
  let v2 : BitVec 32 := Scalar.muli arg0 c1024_i32
  v2
def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c6144_i32 : BitVec 32 := 6144#32
  let v1 : BitVec 32 := Scalar.addi c6144_i32 v0
  let c1024_i32 : BitVec 32 := 1024#32
  let v2 : BitVec 32 := Scalar.muli arg0 c1024_i32
  let v3 : BitVec 32 := v1
  let v4 : BitVec 32 := v2
  let c0_i32 : BitVec 32 := 0#32
  ![v3.toNat, v4.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S1024x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S16x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 6], ![false, false, false]⟩

def k4_mult1 (i : grid4.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  v1
def k4_mult2 (i : grid4.Coords) : BitVec 32 :=
  let arg0 : BitVec 32 := BitVec.ofNat 32 (i 0).val
  let c1024_i32_0 : BitVec 32 := 1024#32
  let v2 : BitVec 32 := Scalar.muli arg0 c1024_i32_0
  v2
def k4_cond3 (i : grid4.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c0_i32 : BitVec 32 := 0#32
  let v1 : BitVec 32 := Scalar.addi c0_i32 v0
  let c1024_i32_0 : BitVec 32 := 1024#32
  let v2 : BitVec 32 := Scalar.muli arg0 c1024_i32_0
  let v3 : BitVec 32 := v1
  let v4 : BitVec 32 := v2
  let c0_i32_1 : BitVec 32 := 0#32
  ![v3.toNat, v4.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![1, 2, 5], ![false, false, false]⟩

def k5_mult1 (i : grid5.Coords) : BitVec 32 :=
  let c6160_i32 : BitVec 32 := 6160#32
  let arg2 : BitVec 32 := BitVec.ofNat 32 (i 2).val
  let c1024_i32 : BitVec 32 := 1024#32
  let v0 : BitVec 32 := Scalar.muli arg2 c1024_i32
  let v1 : BitVec 32 := Scalar.addi c6160_i32 v0
  v1
def k5_mult2 (i : grid5.Coords) : BitVec 32 :=
  let arg0 : BitVec 32 := BitVec.ofNat 32 (i 0).val
  let c1024_i32_0 : BitVec 32 := 1024#32
  let v2 : BitVec 32 := Scalar.muli arg0 c1024_i32_0
  v2
def k5_cond3 (i : grid5.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c6160_i32 : BitVec 32 := 6160#32
  let v1 : BitVec 32 := Scalar.addi c6160_i32 v0
  let c1024_i32_0 : BitVec 32 := 1024#32
  let v2 : BitVec 32 := Scalar.muli arg0 c1024_i32_0
  let v3 : BitVec 32 := v1
  let v4 : BitVec 32 := v2
  let c0_i32 : BitVec 32 := 0#32
  ![v3.toNat, v4.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== Reference3Ideal.lean ====
abbrev S2048x1024 : Shape := ⟨2, ![2048, 1024]⟩
abbrev S1024x11280 : Shape := ⟨2, ![1024, 11280]⟩
abbrev S2048x6144 : Shape := ⟨2, ![2048, 6144]⟩
abbrev S2048x16 : Shape := ⟨2, ![2048, 16]⟩
abbrev S2048x5120 : Shape := ⟨2, ![2048, 5120]⟩
abbrev S2048x11280 : Shape := ⟨2, ![2048, 11280]⟩
abbrev S11280x1024 : Shape := ⟨2, ![11280, 1024]⟩
abbrev S6144x1024 : Shape := ⟨2, ![6144, 1024]⟩
abbrev S16x1024 : Shape := ⟨2, ![16, 1024]⟩
abbrev S5120x1024 : Shape := ⟨2, ![5120, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11280, .bf16⟩
  | .hbm, ⟨2, _⟩ => ⟨S2048x6144, .bf16⟩
  | .hbm, ⟨3, _⟩ => ⟨S2048x16, .f32⟩
  | .hbm, ⟨4, _⟩ => ⟨S2048x5120, .bf16⟩
  | .hbm, ⟨5, _⟩ => ⟨S2048x1024, .f32⟩
  | .hbm, ⟨6, _⟩ => ⟨S1024x11280, .f32⟩
  | .hbm, ⟨7, _⟩ => ⟨S2048x11280, .f32⟩
  | .hbm, ⟨8, _⟩ => ⟨S2048x6144, .f32⟩
  | .hbm, ⟨9, _⟩ => ⟨S2048x5120, .f32⟩
  | .hbm, ⟨10, _⟩ => ⟨S2048x11280, .f32⟩
  | .hbm, ⟨11, _⟩ => ⟨S11280x1024, .f32⟩
  | .hbm, ⟨12, _⟩ => ⟨S1024x11280, .f32⟩
  | .hbm, ⟨13, _⟩ => ⟨S2048x1024, .f32⟩
  | .hbm, ⟨14, _⟩ => ⟨S11280x1024, .f32⟩
  | .hbm, ⟨15, _⟩ => ⟨S11280x1024, .bf16⟩
  | .hbm, ⟨16, _⟩ => ⟨S6144x1024, .bf16⟩
  | .hbm, ⟨17, _⟩ => ⟨S16x1024, .bf16⟩
  | .hbm, ⟨18, _⟩ => ⟨S5120x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S2048x1024 : Shape := ⟨2, ![2048, 1024]⟩
abbrev S1024x11280 : Shape := ⟨2, ![1024, 11280]⟩
abbrev S11280x1024 : Shape := ⟨2, ![11280, 1024]⟩
abbrev S2048x6144 : Shape := ⟨2, ![2048, 6144]⟩
abbrev S1024x1024 : Shape := ⟨2, ![1024, 1024]⟩
abbrev S2048x5120 : Shape := ⟨2, ![2048, 5120]⟩
abbrev S2048x16 : Shape := ⟨2, ![2048, 16]⟩
abbrev S16x1024 : Shape := ⟨2, ![16, 1024]⟩
abbrev S1024x16 : Shape := ⟨2, ![1024, 16]⟩

abbrev nBuf : Space → Nat
  | .hbm => 6
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S1024x11280, .bf16⟩
  | .hbm, ⟨2, _⟩ => ⟨S11280x1024, .bf16⟩
  | .hbm, ⟨3, _⟩ => ⟨S2048x6144, .bf16⟩
  | .hbm, ⟨4, _⟩ => ⟨S2048x5120, .bf16⟩
  | .hbm, ⟨5, _⟩ => ⟨S2048x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S16x1024, .bf16⟩
  | .local _ .vmem, ⟨15, _⟩ => ⟨S1024x16, .f32⟩
  | .local _ .vmem, ⟨16, _⟩ => ⟨S1024x16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![2, 6, 1], ![false, false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def k0_mult2 (i : grid0.Coords) : BitVec 32 :=
  let arg2 : BitVec 32 := BitVec.ofNat 32 (i 2).val
  let c1024_i32_0 : BitVec 32 := 1024#32
  let v2 : BitVec 32 := Scalar.muli arg2 c1024_i32_0
  v2
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c0_i32 : BitVec 32 := 0#32
  let v1 : BitVec 32 := Scalar.addi c0_i32 v0
  let c1024_i32_0 : BitVec 32 := 1024#32
  let v2 : BitVec 32 := Scalar.muli arg2 c1024_i32_0
  let v3 : BitVec 32 := v1
  let v4 : BitVec 32 := v2
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 5, 1], ![false, false, false]⟩

def k1_mult1 (i : grid1.Coords) : BitVec 32 :=
  let c6160_i32 : BitVec 32 := 6160#32
  let arg1 : BitVec 32 := BitVec.ofNat 32 (i 1).val
  let c1024_i32 : BitVec 32 := 1024#32
  let v0 : BitVec 32 := Scalar.muli arg1 c1024_i32
  let v1 : BitVec 32 := Scalar.addi c6160_i32 v0
  v1
def k1_mult2 (i : grid1.Coords) : BitVec 32 :=
  let arg2 : BitVec 32 := BitVec.ofNat 32 (i 2).val
  let c1024_i32_0 : BitVec 32 := 1024#32
  let v2 : BitVec 32 := Scalar.muli arg2 c1024_i32_0
  v2
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c6160_i32 : BitVec 32 := 6160#32
  let v1 : BitVec 32 := Scalar.addi c6160_i32 v0
  let c1024_i32_0 : BitVec 32 := 1024#32
  let v2 : BitVec 32 := Scalar.muli arg2 c1024_i32_0
  let v3 : BitVec 32 := v1
  let v4 : BitVec 32 := v2
  let c0_i32 : BitVec 32 := 0#32
  ![v3.toNat, v4.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def k2_mult1 (i : grid2.Coords) : BitVec 32 :=
  let c6144_i32 : BitVec 32 := 6144#32
  let arg0 : BitVec 32 := BitVec.ofNat 32 (i 0).val
  let c16_i32 : BitVec 32 := 16#32
  let v0 : BitVec 32 := Scalar.muli arg0 c16_i32
  let v1 : BitVec 32 := Scalar.addi c6144_i32 v0
  v1
def k2_mult2 (i : grid2.Coords) : BitVec 32 :=
  let arg2 : BitVec 32 := BitVec.ofNat 32 (i 2).val
  let c1024_i32 : BitVec 32 := 1024#32
  let v2 : BitVec 32 := Scalar.muli arg2 c1024_i32
  v2
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c6144_i32 : BitVec 32 := 6144#32
  let v1 : BitVec 32 := Scalar.addi c6144_i32 v0
  let c1024_i32 : BitVec 32 := 1024#32
  let v2 : BitVec 32 := Scalar.muli arg2 c1024_i32
  let v3 : BitVec 32 := v1
  let v4 : BitVec 32 := v2
  let c0_i32 : BitVec 32 := 0#32
  ![v3.toNat, v4.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S16x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference4Ideal.lean ====
abbrev S2048x1024 : Shape := ⟨2, ![2048, 1024]⟩
abbrev S1024x11280 : Shape := ⟨2, ![1024, 11280]⟩
abbrev S2048x11280 : Shape := ⟨2, ![2048, 11280]⟩
abbrev S2048x6144 : Shape := ⟨2, ![2048, 6144]⟩
abbrev S2048x16 : Shape := ⟨2, ![2048, 16]⟩
abbrev S2048x5120 : Shape := ⟨2, ![2048, 5120]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11280, .bf16⟩
  | .hbm, ⟨2, _⟩ => ⟨S2048x1024, .f32⟩
  | .hbm, ⟨3, _⟩ => ⟨S1024x11280, .f32⟩
  | .hbm, ⟨4, _⟩ => ⟨S2048x11280, .f32⟩
  | .hbm, ⟨5, _⟩ => ⟨S2048x6144, .f32⟩
  | .hbm, ⟨6, _⟩ => ⟨S2048x6144, .bf16⟩
  | .hbm, ⟨7, _⟩ => ⟨S2048x16, .f32⟩
  | .hbm, ⟨8, _⟩ => ⟨S2048x5120, .f32⟩
  | .hbm, ⟨9, _⟩ => ⟨S2048x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Lift.lean ====
/-
  Reading products and cuts of arrays whose entries are real numbers: the sums of the extended reals are then the sums of
  the reals. The extents are variables, so that one text serves every block size.
-/
module

public import Idealize.ShloMosaic.Lib.Pointwise
public import Idealize.ShloMosaic.Lib.MatmulPlain
public import Idealize.ShloMosaic.Lib.IdealHost

@[expose] public section

set_option maxRecDepth 16384

noncomputable section

namespace Cert.Proof

open Idealize.ShloMosaic
open scoped BigOperators

/-- A sum of reals, read as extended reals. -/
theorem coe_sum {ι : Type*} (s : Finset ι) (f : ι → ℝ) : ((∑ k ∈ s, f k : ℝ) : EReal) = ∑ k ∈ s, (f k : EReal) :=
  map_sum (⟨⟨Real.toEReal, rfl⟩, EReal.coe_add⟩ : ℝ →+ EReal) f s

/-- A sum of products of reals, read as extended reals. -/
theorem sum_coe_mul {n : ℕ} (f g : Fin n → ℝ) : ∑ k, (f k : EReal) * (g k : EReal) = ((∑ k, f k * g k : ℝ) : EReal) := by
  simp only [coe_sum, EReal.coe_mul]

/-- `[K, M]ᵀ × [K, N]`: both operands contract their rows. -/
def dimsTN (M K N : ℕ) (wf : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ where
  lhsContracting := [0]
  rhsContracting := [0]
  lhsNonContracting := [1]
  rhsNonContracting := [1]
  lhsBatch := []
  rhsBatch := []
  wf := wf

theorem dimsTN_apply {M K N : ℕ} (wf) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (dimsTN M K N wf) prec lhs rhs acc (ix2 r c) = acc (ix2 r c) + ∑ k : Fin K, lhs (ix2 k r) * rhs (ix2 k c) := by
  have hr : (dimsTN M K N wf).contr.rank = 1 := rfl
  have hs : (dimsTN M K N wf).contr.size ⟨0, by rw [hr]; exact Nat.one_pos⟩ = K := rfl
  rw [Ideal.matmul_apply, ← Equiv.sum_comp (ValueIdx.contrEquiv1 _ K hr hs).symm]
  refine congrArg (acc (ix2 r c) + ·) (Finset.sum_congr rfl fun k _ => ?_)
  have hk := ValueIdx.contrEquiv1_symm_val _ K hr hs k
  have el : (dimsTN M K N wf).lhsIdx (ix2 r c) ((ValueIdx.contrEquiv1 _ K hr hs).symm k) = ix2 k r := by
    funext a; apply Fin.ext
    match a with
    | ⟨0, _⟩ => exact hk
    | ⟨1, _⟩ => rfl
  have er : (dimsTN M K N wf).rhsIdx (ix2 r c) ((ValueIdx.contrEquiv1 _ K hr hs).symm k) = ix2 k c := by
    funext a; apply Fin.ext
    match a with
    | ⟨0, _⟩ => exact hk
    | ⟨1, _⟩ => rfl
  rw [el, er]

variable {M K N : ℕ} {φ₁ φ₂ : FTy} (prec : Option ContractPrecision)

/-- The three products of real arrays onto an accumulator of zeros. -/
theorem matmul_tn_real (wf) (lhs : FVec Ideal ⟨2, ![K, M]⟩ φ₁) (rhs : FVec Ideal ⟨2, ![K, N]⟩ φ₂) (f : Fin K → Fin M → ℝ)
    (g : Fin K → Fin N → ℝ) (hf : ∀ k r, lhs (ix2 k r) = ((f k r : ℝ) : EReal)) (hg : ∀ k c, rhs (ix2 k c) = ((g k c : ℝ) : EReal))
    (r : Fin M) (c : Fin N) :
    FloatOps.matmul (dimsTN M K N wf) prec lhs rhs (constant ⟨2, ![M, N]⟩ .f32 0#32) (ix2 r c)
      = ((∑ k, f k r * g k c : ℝ) : EReal) := by
  rw [dimsTN_apply, ValueIdx.constant_apply, Ideal.ofBits_zero_f32, zero_add]
  simp only [hf, hg]
  exact sum_coe_mul _ _

theorem matmul_nn_real (lhs : FVec Ideal ⟨2, ![M, K]⟩ φ₁) (rhs : FVec Ideal ⟨2, ![K, N]⟩ φ₂) (f : Fin M → Fin K → ℝ)
    (g : Fin K → Fin N → ℝ) (hf : ∀ r k, lhs (ix2 r k) = ((f r k : ℝ) : EReal)) (hg : ∀ k c, rhs (ix2 k c) = ((g k c : ℝ) : EReal))
    (r : Fin M) (c : Fin N) :
    FloatOps.matmul (DotDims.plain M K N) prec lhs rhs (constant ⟨2, ![M, N]⟩ .f32 0#32) (ix2 r c)
      = ((∑ k, f r k * g k c : ℝ) : EReal) := by
  simp only [ix2_eq_valueIdx] at hf hg ⊢
  rw [Ideal.matmul_plain_apply, ValueIdx.constant_apply, Ideal.ofBits_zero_f32, zero_add]
  simp only [hf, hg]
  exact sum_coe_mul _ _

theorem matmul_nt_real (lhs : FVec Ideal ⟨2, ![M, K]⟩ φ₁) (rhs : FVec Ideal ⟨2, ![N, K]⟩ φ₂) (f : Fin M → Fin K → ℝ)
    (g : Fin N → Fin K → ℝ) (hf : ∀ r k, lhs (ix2 r k) = ((f r k : ℝ) : EReal)) (hg : ∀ c k, rhs (ix2 c k) = ((g c k : ℝ) : EReal))
    (r : Fin M) (c : Fin N) :
    FloatOps.matmul (DotDims.transposedRhs M K N) prec lhs rhs (constant ⟨2, ![M, N]⟩ .f32 0#32) (ix2 r c)
      = ((∑ k, f r k * g c k : ℝ) : EReal) := by
  simp only [ix2_eq_valueIdx] at hf hg ⊢
  rw [Ideal.matmul_transposedRhs_apply, ValueIdx.constant_apply, Ideal.ofBits_zero_f32, zero_add]
  simp only [hf, hg]
  exact sum_coe_mul _ _

section Cuts
variable {α : Type} {a b a' b' oa ob : ℕ}

/-- A rectangle cut out of a matrix, at an entry. -/
theorem slice2_apply (x : (⟨2, ![a, b]⟩ : Shape).Idx → α) (h : (⟨2, ![a, b]⟩ : Shape).Slices ![oa, ob] ⟨2, ![a', b']⟩)
    (r : Fin a') (c : Fin b') (hr : oa + r.val < a) (hc : ob + c.val < b) :
    extractStridedSlice ⟨2, ![a', b']⟩ ![oa, ob] x h (ix2 r c) = x (ix2 ⟨oa + r.val, hr⟩ ⟨ob + c.val, hc⟩) := by
  refine congrArg x (funext fun d => ?_)
  match d with
  | ⟨0, _⟩ => rfl
  | ⟨1, _⟩ => rfl

/-- Two matrices side by side, at an entry of the left one and at an entry of the right one. -/
theorem beside_left {bl br : ℕ} (x : (⟨2, ![a, bl]⟩ : Shape).Idx → α) (y : (⟨2, ![a, br]⟩ : Shape).Idx → α)
    (h : Shape.Concatenates [(⟨2, ![a, bl]⟩ : Shape), ⟨2, ![a, br]⟩] ⟨2, ![a, b]⟩ 1) (r : Fin a) (c : Fin b) (hc : c.val < bl) :
    concatenate ⟨2, ![a, b]⟩ 1 [⟨⟨2, ![a, bl]⟩, x⟩, ⟨⟨2, ![a, br]⟩, y⟩] h (ix2 r c) = x (ix2 r ⟨c.val, hc⟩) := by
  rw [concatenate_pair_apply]
  refine (dif_pos (show ((ix2 r c : (⟨2, ![a, b]⟩ : Shape).Idx) 1).val < _ from hc)).trans (congrArg x (funext fun d => ?_))
  match d with
  | ⟨0, _⟩ => rfl
  | ⟨1, _⟩ => rfl

theorem beside_right {bl br : ℕ} (x : (⟨2, ![a, bl]⟩ : Shape).Idx → α) (y : (⟨2, ![a, br]⟩ : Shape).Idx → α)
    (h : Shape.Concatenates [(⟨2, ![a, bl]⟩ : Shape), ⟨2, ![a, br]⟩] ⟨2, ![a, b]⟩ 1) (r : Fin a) (c : Fin b) (hc : ¬ c.val < bl)
    (hr : c.val - bl < br) :
    concatenate ⟨2, ![a, b]⟩ 1 [⟨⟨2, ![a, bl]⟩, x⟩, ⟨⟨2, ![a, br]⟩, y⟩] h (ix2 r c) = y (ix2 r ⟨c.val - bl, hr⟩) := by
  rw [concatenate_pair_apply]
  refine (dif_neg (show ¬ ((ix2 r c : (⟨2, ![a, b]⟩ : Shape).Idx) 1).val < _ from hc)).trans (congrArg y (funext fun d => ?_))
  match d with
  | ⟨0, _⟩ => rfl
  | ⟨1, _⟩ => rfl

/-- A matrix as one plane of a stack, and a plane as a matrix. -/
theorem asPlane_apply (x : (⟨2, ![a, b]⟩ : Shape).Idx → α) (h : (⟨2, ![a, b]⟩ : Shape).ShapeCasts ⟨3, ![1, a, b]⟩)
    (r : Fin a) (c : Fin b) : shapeCast ⟨3, ![1, a, b]⟩ x h (ix3 0 r c) = x (ix2 r c) := by
  refine congrArg x (Shape.reshapeEquiv_eq_of_vals _ _ _ (r.val * b + c.val) (r.val * b + c.val) ?_ ?_ rfl)
  · exact rowMajor_val2 _ b rfl
  · refine (rowMajor_val3 _ (a * b) b rfl rfl).trans ?_
    show 0 * (a * b) + r.val * b + c.val = _
    rw [Nat.zero_mul, Nat.zero_add]

theorem asMatrix_apply (x : (⟨3, ![1, a, b]⟩ : Shape).Idx → α) (h : (⟨3, ![1, a, b]⟩ : Shape).ShapeCasts ⟨2, ![a, b]⟩)
    (r : Fin a) (c : Fin b) : shapeCast ⟨2, ![a, b]⟩ x h (ix2 r c) = x (ix3 0 r c) := by
  refine congrArg x (Shape.reshapeEquiv_eq_of_vals _ _ _ (r.val * b + c.val) (r.val * b + c.val) ?_ ?_ rfl)
  · refine (rowMajor_val3 _ (a * b) b rfl rfl).trans ?_
    show 0 * (a * b) + r.val * b + c.val = _
    rw [Nat.zero_mul, Nat.zero_add]
  · exact rowMajor_val2 _ b rfl

end Cuts

end Cert.Proof
-- ==== Proof.Block.lean ====
/-
  One block of 256 queries against the keys before its end: the weights, their gradients, and the three products that
  the block adds to the gradients of q, of k and of v, as real numbers. The block's position is a variable.
-/
module

public import proofs.«01_k».proof.Proof.Lift

@[expose] public section

set_option maxRecDepth 16384

noncomputable section

namespace Cert.Proof

open Idealize.ShloMosaic
open scoped BigOperators

/-! ## The operations' side conditions, for any extents -/

theorem slices2 {a b a' b' oa ob : ℕ} (h0 : oa + a' ≤ a) (h1 : ob + b' ≤ b) :
    (⟨2, ![a, b]⟩ : Shape).Slices ![oa, ob] ⟨2, ![a', b']⟩ :=
  ⟨rfl, fun d => match d with | ⟨0, _⟩ => h0 | ⟨1, _⟩ => h1⟩

theorem beside2 {a b bl br : ℕ} (h : bl + br = b) :
    Shape.Concatenates [(⟨2, ![a, bl]⟩ : Shape), ⟨2, ![a, br]⟩] ⟨2, ![a, b]⟩ 1 := by
  refine ⟨by simp, ?_, ?_⟩
  · intro s hs
    simp only [List.mem_cons, List.not_mem_nil, or_false] at hs
    rcases hs with rfl | rfl
    · refine ⟨rfl, fun d => ?_⟩
      match d with
      | ⟨0, _⟩ => exact fun _ => rfl
      | ⟨1, _⟩ => exact fun hne => absurd rfl hne
    · refine ⟨rfl, fun d => ?_⟩
      match d with
      | ⟨0, _⟩ => exact fun _ => rfl
      | ⟨1, _⟩ => exact fun hne => absurd rfl hne
  · simpa using h

theorem wfTN (M K N : ℕ) : DotDims.WF (⟨2, ![K, M]⟩ : Shape) ⟨2, ![K, N]⟩ ⟨2, ![M, N]⟩ [0] [0] [1] [1] [] [] :=
  ⟨rfl, by simp, rfl, by simp, by simp, by simp, by show ([1, 0] : List (Fin 2)).Perm (List.finRange 2); decide, by show ([1, 0] : List (Fin 2)).Perm (List.finRange 2); decide, rfl, by show 0 < 2; decide, fun a => by fin_cases a <;> rfl⟩

/-! ## What a block computes -/

/-- Scores of a block. -/
def blockScores (K : ℕ) (qb : FVec Ideal ⟨2, ![256, 128]⟩ .bf16) (kb : FVec Ideal ⟨2, ![K, 128]⟩ .bf16) : FVec Ideal ⟨2, ![256, K]⟩ .f32 :=
  FloatOps.matmul (DotDims.transposedRhs 256 128 K) none qb kb (constant ⟨2, ![256, K]⟩ .f32 0#32)

/-- The weights before the diagonal square. -/
def weightsLeft (K0 K : ℕ) (h : K0 + 256 = K) (qb : FVec Ideal ⟨2, ![256, 128]⟩ .bf16) (kb : FVec Ideal ⟨2, ![K, 128]⟩ .bf16) :
    FVec Ideal ⟨2, ![256, K0]⟩ .f32 :=
  exp (subf (extractStridedSlice ⟨2, ![256, K0]⟩ ![0, 0] (blockScores K qb kb) (slices2 (by omega) (by omega)))
    (broadcast ⟨2, ![256, K0]⟩ (Scalar.ofBits (F := Ideal) .f32 0x00000000#32)))

/-- The weights of a square of scores under the mask. -/
def weightsDiag (tri : IVec (⟨2, ![256, 256]⟩ : Shape) 1) (s : FVec Ideal ⟨2, ![256, 256]⟩ .f32) : FVec Ideal ⟨2, ![256, 256]⟩ .f32 :=
  exp (subf (select tri s (broadcast ⟨2, ![256, 256]⟩ (Scalar.ofBits (F := Ideal) .f32 0xFF800000#32)))
    (broadcast ⟨2, ![256, 256]⟩ (Scalar.ofBits (F := Ideal) .f32 0x00000000#32)))

/-- The diagonal square of a block. -/
def squareOf (K0 K : ℕ) (h : K0 + 256 = K) (s : FVec Ideal ⟨2, ![256, K]⟩ .f32) : FVec Ideal ⟨2, ![256, 256]⟩ .f32 :=
  extractStridedSlice ⟨2, ![256, 256]⟩ ![0, K0] s (slices2 (by omega) (by omega))

/-- The weights of a block, rounded. -/
def blockP (K0 K : ℕ) (h : K0 + 256 = K) (tri : IVec (⟨2, ![256, 256]⟩ : Shape) 1) (qb : FVec Ideal ⟨2, ![256, 128]⟩ .bf16)
    (kb : FVec Ideal ⟨2, ![K, 128]⟩ .bf16) : FVec Ideal ⟨2, ![256, K]⟩ .bf16 :=
  concatenate ⟨2, ![256, K]⟩ 1
    [⟨⟨2, ![256, K0]⟩, truncf .bf16 (weightsLeft K0 K h qb kb) (by decide)⟩,
     ⟨⟨2, ![256, 256]⟩, truncf .bf16 (weightsDiag tri (squareOf K0 K h (blockScores K qb kb))) (by decide)⟩] (beside2 h)

/-- The gradients of a block's scores, rounded. -/
def blockDs (K0 K : ℕ) (h : K0 + 256 = K) (tri : IVec (⟨2, ![256, 256]⟩ : Shape) 1) (qb db : FVec Ideal ⟨2, ![256, 128]⟩ .bf16)
    (kb vb : FVec Ideal ⟨2, ![K, 128]⟩ .bf16) : FVec Ideal ⟨2, ![256, K]⟩ .bf16 :=
  concatenate ⟨2, ![256, K]⟩ 1
    [⟨⟨2, ![256, K0]⟩, truncf .bf16 (mulf (weightsLeft K0 K h qb kb)
        (extractStridedSlice ⟨2, ![256, K0]⟩ ![0, 0] (blockScores K db vb) (slices2 (by omega) (by omega)))) (by decide)⟩,
     ⟨⟨2, ![256, 256]⟩, truncf .bf16 (mulf (weightsDiag tri (squareOf K0 K h (blockScores K qb kb)))
        (squareOf K0 K h (blockScores K db vb))) (by decide)⟩] (beside2 h)

/-- The same two for the first block, which is its own diagonal square. -/
def firstP (tri : IVec (⟨2, ![256, 256]⟩ : Shape) 1) (qb kb : FVec Ideal ⟨2, ![256, 128]⟩ .bf16) : FVec Ideal ⟨2, ![256, 256]⟩ .bf16 :=
  truncf .bf16 (weightsDiag tri (blockScores 256 qb kb)) (by decide)
def firstDs (tri : IVec (⟨2, ![256, 256]⟩ : Shape) 1) (qb db kb vb : FVec Ideal ⟨2, ![256, 128]⟩ .bf16) :
    FVec Ideal ⟨2, ![256, 256]⟩ .bf16 :=
  truncf .bf16 (mulf (weightsDiag tri (blockScores 256 qb kb)) (blockScores 256 db vb)) (by decide)

/-- What a block stores as the gradient of its queries. -/
def storeQ (K : ℕ) (ds : FVec Ideal ⟨2, ![256, K]⟩ .bf16) (kb : FVec Ideal ⟨2, ![K, 128]⟩ .bf16)
    (h : (⟨2, ![256, 128]⟩ : Shape).ShapeCasts ⟨3, ![1, 256, 128]⟩) : FVec Ideal ⟨3, ![1, 256, 128]⟩ .f32 :=
  shapeCast ⟨3, ![1, 256, 128]⟩ (FloatOps.matmul (DotDims.plain 256 K 128) none ds kb (constant ⟨2, ![256, 128]⟩ .f32 0#32)) h

/-- What a block stores as the running gradient of its keys, and of its values. -/
def storeAcc (K : ℕ) (w : FVec Ideal ⟨2, ![256, K]⟩ .bf16) (rb : FVec Ideal ⟨2, ![256, 128]⟩ .bf16) (old : FVec Ideal ⟨3, ![1, K, 128]⟩ .f32)
    (h : (⟨2, ![K, 128]⟩ : Shape).ShapeCasts ⟨3, ![1, K, 128]⟩) (h' : (⟨3, ![1, K, 128]⟩ : Shape).ShapeCasts ⟨2, ![K, 128]⟩) :
    FVec Ideal ⟨3, ![1, K, 128]⟩ .f32 :=
  shapeCast ⟨3, ![1, K, 128]⟩ (addf (shapeCast ⟨2, ![K, 128]⟩ old h')
    (FloatOps.matmul (dimsTN K 256 128 (wfTN K 256 128)) none w rb (constant ⟨2, ![K, 128]⟩ .f32 0#32))) h

/-! ## Their values -/

section Values

theorem ofBits_neg_inf : Ideal.ofBits .f32 0xFF800000#32 = ⊥ := by simp [Ideal.ofBits, Ideal.ieee]

/-- An entry of the mask: a key at or before its query. -/
def IsTri (tri : IVec (⟨2, ![256, 256]⟩ : Shape) 1) : Prop := ∀ i x : Fin 256, tri (ix2 i x) = if x.val ≤ i.val then 1 else 0

/-- The weight of a key for a query: the exponential of their product at or before the diagonal, nothing after it. -/
def weight (fq fk : ℕ → Fin 128 → ℝ) (i x : ℕ) : ℝ := if x ≤ i then Real.exp (∑ l, fq i l * fk x l) else 0

/-- The gradient of a score. -/
def dscore (fq fk fd fv : ℕ → Fin 128 → ℝ) (i x : ℕ) : ℝ := weight fq fk i x * ∑ l, fd i l * fv x l

variable {K0 K : ℕ} {h : K0 + 256 = K} {tri : IVec (⟨2, ![256, 256]⟩ : Shape) 1} (ht : IsTri tri)
  {qb db : FVec Ideal ⟨2, ![256, 128]⟩ .bf16} {kb vb : FVec Ideal ⟨2, ![K, 128]⟩ .bf16} {fq fk fd fv : ℕ → Fin 128 → ℝ}
  (hq : ∀ i l, qb (ix2 i l) = ((fq (K0 + i.val) l : ℝ) : EReal)) (hk : ∀ x l, kb (ix2 x l) = ((fk x.val l : ℝ) : EReal))
  (hd : ∀ i l, db (ix2 i l) = ((fd (K0 + i.val) l : ℝ) : EReal)) (hv : ∀ x l, vb (ix2 x l) = ((fv x.val l : ℝ) : EReal))

include hq hk in
theorem blockScores_apply (i : Fin 256) (x : Fin K) :
    blockScores K qb kb (ix2 i x) = ((∑ l, fq (K0 + i.val) l * fk x.val l : ℝ) : EReal) :=
  matmul_nt_real none qb kb (fun i l => fq (K0 + i.val) l) (fun x l => fk x.val l) hq hk i x

include hq hk in
theorem weightsLeft_apply (i : Fin 256) (x : Fin K0) : weightsLeft K0 K h qb kb (ix2 i x) = ((weight fq fk (K0 + i.val) x.val : ℝ) : EReal) := by
  show Ideal.exp (extractStridedSlice _ _ _ _ (ix2 i x) - Ideal.ofBits .f32 0x00000000#32) = _
  rw [slice2_apply _ _ _ _ (by omega) (by omega), blockScores_apply hq hk, Ideal.ofBits_zero_f32, sub_zero, Ideal.exp_coe, weight,
    if_pos (by omega)]
  simp only [Nat.zero_add]

include ht in
theorem weightsDiag_apply {s : FVec Ideal ⟨2, ![256, 256]⟩ .f32} {f : Fin 256 → Fin 256 → ℝ} (hs : ∀ i x, s (ix2 i x) = ((f i x : ℝ) : EReal))
    (i x : Fin 256) : weightsDiag tri s (ix2 i x) = ((if x.val ≤ i.val then Real.exp (f i x) else 0 : ℝ) : EReal) := by
  show Ideal.exp (Scalar.select (tri (ix2 i x)) (s (ix2 i x)) (Ideal.ofBits .f32 0xFF800000#32) - Ideal.ofBits .f32 0x00000000#32) = _
  rw [ht, hs, Ideal.ofBits_zero_f32, sub_zero, ofBits_neg_inf]
  by_cases hx : x.val ≤ i.val
  · rw [if_pos hx, if_pos hx]; rfl
  · rw [if_neg hx, if_neg hx]; rfl

include hq hk in
theorem square_apply (i x : Fin 256) :
    squareOf K0 K h (blockScores K qb kb) (ix2 i x) = ((∑ l, fq (K0 + i.val) l * fk (K0 + x.val) l : ℝ) : EReal) := by
  unfold squareOf
  rw [slice2_apply _ _ _ _ (by omega) (by omega), blockScores_apply hq hk]
  simp only [Nat.zero_add]

include ht hq hk in
theorem weightsSquare_apply (i x : Fin 256) :
    weightsDiag tri (squareOf K0 K h (blockScores K qb kb)) (ix2 i x) = ((weight fq fk (K0 + i.val) (K0 + x.val) : ℝ) : EReal) := by
  rw [weightsDiag_apply ht (square_apply hq hk), weight]
  by_cases hx : x.val ≤ i.val
  · rw [if_pos hx, if_pos (by omega)]
  · rw [if_neg hx, if_neg (by omega)]

include ht hq hk in
theorem blockP_apply (i : Fin 256) (x : Fin K) : blockP K0 K h tri qb kb (ix2 i x) = ((weight fq fk (K0 + i.val) x.val : ℝ) : EReal) := by
  unfold blockP
  by_cases hx : x.val < K0
  · rw [beside_left _ _ _ _ _ hx]
    exact weightsLeft_apply (h := h) hq hk i _
  · rw [beside_right _ _ _ _ _ hx (by omega)]
    refine (weightsSquare_apply ht hq hk i _).trans ?_
    rw [show K0 + (x.val - K0) = x.val by omega]

include ht hq hk hd hv in
theorem blockDs_apply (i : Fin 256) (x : Fin K) :
    blockDs K0 K h tri qb db kb vb (ix2 i x) = ((dscore fq fk fd fv (K0 + i.val) x.val : ℝ) : EReal) := by
  unfold blockDs dscore
  by_cases hx : x.val < K0
  · rw [beside_left _ _ _ _ _ hx, EReal.coe_mul]
    refine congrArg₂ (· * ·) (weightsLeft_apply (h := h) hq hk i _) ?_
    rw [slice2_apply _ _ _ _ (by omega) (by omega), blockScores_apply hd hv]
    simp only [Nat.zero_add]
  · rw [beside_right _ _ _ _ _ hx (by omega), EReal.coe_mul]
    refine congrArg₂ (· * ·) ((weightsSquare_apply ht hq hk i _).trans ?_) ((square_apply hd hv i _).trans ?_)
    all_goals rw [show K0 + (x.val - K0) = x.val by omega]

theorem storeQ_apply {ds : FVec Ideal ⟨2, ![256, K]⟩ .bf16} {f : ℕ → ℕ → ℝ} (hds : ∀ i x, ds (ix2 i x) = ((f (K0 + i.val) x.val : ℝ) : EReal))
    (hk : ∀ x l, kb (ix2 x l) = ((fk x.val l : ℝ) : EReal)) (hc) (i : Fin 256) (l : Fin 128) :
    storeQ K ds kb hc (ix3 0 i l) = ((∑ x : Fin K, f (K0 + i.val) x.val * fk x.val l : ℝ) : EReal) :=
  (asPlane_apply _ _ _ _).trans (matmul_nn_real none ds kb (fun i x => f (K0 + i.val) x.val) (fun x l => fk x.val l) hds hk i l)

theorem storeAcc_apply {w : FVec Ideal ⟨2, ![256, K]⟩ .bf16} {rb : FVec Ideal ⟨2, ![256, 128]⟩ .bf16} {f : ℕ → ℕ → ℝ} {fr : ℕ → Fin 128 → ℝ}
    (hw : ∀ i x, w (ix2 i x) = ((f (K0 + i.val) x.val : ℝ) : EReal)) (hr : ∀ i l, rb (ix2 i l) = ((fr (K0 + i.val) l : ℝ) : EReal))
    (old : FVec Ideal ⟨3, ![1, K, 128]⟩ .f32) (hc hc') (x : Fin K) (l : Fin 128) :
    storeAcc K w rb old hc hc' (ix3 0 x l)
      = old (ix3 0 x l) + ((∑ i : Fin 256, f (K0 + i.val) x.val * fr (K0 + i.val) l : ℝ) : EReal) :=
  (asPlane_apply _ _ _ _).trans (congrArg₂ (· + ·) (asMatrix_apply old hc' x l)
    (matmul_tn_real none (wfTN K 256 128) w rb (fun i x => f (K0 + i.val) x.val) (fun i l => fr (K0 + i.val) l) hw hr x l))

end Values

section First
variable {tri : IVec (⟨2, ![256, 256]⟩ : Shape) 1} (ht : IsTri tri) {fq fk fd fv : ℕ → Fin 128 → ℝ} {qb db kb vb : FVec Ideal ⟨2, ![256, 128]⟩ .bf16}
  (hq : ∀ i l, qb (ix2 i l) = ((fq (0 + i.val) l : ℝ) : EReal)) (hk : ∀ (x : Fin 256) l, kb (ix2 x l) = ((fk x.val l : ℝ) : EReal))
  (hd : ∀ i l, db (ix2 i l) = ((fd (0 + i.val) l : ℝ) : EReal)) (hv : ∀ (x : Fin 256) l, vb (ix2 x l) = ((fv x.val l : ℝ) : EReal))

include ht hq hk in
theorem firstP_apply (i : Fin 256) (x : Fin 256) : firstP tri qb kb (ix2 i x) = ((weight fq fk (0 + i.val) x.val : ℝ) : EReal) := by
  refine (weightsDiag_apply ht (f := fun i x => ∑ l, fq (0 + i.val) l * fk x.val l)
    (fun i x => blockScores_apply (K0 := 0) (K := 256) hq hk i x) i x).trans ?_
  rw [weight]; simp only [Nat.zero_add]

include ht hq hk hd hv in
theorem firstDs_apply (i : Fin 256) (x : Fin 256) :
    firstDs tri qb db kb vb (ix2 i x) = ((dscore fq fk fd fv (0 + i.val) x.val : ℝ) : EReal) := by
  rw [dscore, EReal.coe_mul]
  exact congrArg₂ (· * ·) (firstP_apply ht hq hk i x) (blockScores_apply (K0 := 0) (K := 256) hd hv i x)
end First

end Cert.Proof
-- ==== Proof.Acc.lean ====
/-
  The running gradients of a pair of heads, as the blocks of queries are gone through. Each of the three stacks of two
  planes is a list of stored pieces; after the blocks before query N, the first N rows of a head's plane of gradients
  of q are final, and its planes for k and v hold the sums over the queries before N. A block moves N on by 256 and
  leaves the other head's planes alone.
-/
module

public import proofs.«01_k».proof.Proof.Block
public import Idealize.ShloMosaic.Lib.Pipeline.Value

@[expose] public section

set_option maxRecDepth 16384

noncomputable section

namespace Cert.Proof

open Idealize.ShloMosaic
open scoped BigOperators

/-- The pieces stored into a stack of two planes. -/
abbrev Stack := List (View.Piece (Elt Ideal) (⟨3, ![2, 2048, 128]⟩ : Shape) .f32)

/-- A rectangle of one plane: rows from `off` on, all columns. -/
abbrev rows (hh off K : ℕ) (inb : ∀ a : Fin 3, (![hh, off, 0] : Fin 3 → ℕ) a + (![1, K, 128] : Fin 3 → ℕ) a ≤ (![2, 2048, 128] : Fin 3 → ℕ) a) :
    Rect (⟨3, ![2, 2048, 128]⟩ : Shape) := Rect.unit (s := ⟨3, ![2, 2048, 128]⟩) ![hh, off, 0] ![1, K, 128] inb

theorem rows_emb {hh off K : ℕ} (inb) (h : Fin 2) (hh' : h.val = hh) (x : Fin 2048) (i : Fin K) (hx : x.val = off + i.val) (l : Fin 128) :
    (rows hh off K inb).emb (ix3 (0 : Fin 1) i l) = (ix3 h x l : (⟨3, ![2, 2048, 128]⟩ : Shape).Idx) := by
  refine funext fun a => Fin.ext ?_
  match a with
  | ⟨0, _⟩ => show hh + 1 * 0 = h.val; omega
  | ⟨1, _⟩ => show off + 1 * i.val = x.val; omega
  | ⟨2, _⟩ => show 0 + 1 * l.val = l.val; omega

theorem canon_rows_in {hh off K : ℕ} (inb) (W : (rows hh off K inb).shape.Idx → Elt Ideal .f32) (L : Stack) (h : Fin 2) (hh' : h.val = hh)
    (x : Fin 2048) (i : Fin K) (hx : x.val = off + i.val) (l : Fin 128) :
    View.canon (⟨rows hh off K inb, W⟩ :: L) (ix3 h x l) = W (ix3 (0 : Fin 1) i l) := by
  rw [← rows_emb inb h hh' x i hx l]
  exact View.canon_cons_emb _ W L _

theorem canon_rows_out {hh off K : ℕ} (inb) (W : (rows hh off K inb).shape.Idx → Elt Ideal .f32) (L : Stack) (h : Fin 2)
    (x : Fin 2048) (l : Fin 128) (hx : h.val ≠ hh ∨ x.val < off ∨ off + K ≤ x.val) :
    View.canon (⟨rows hh off K inb, W⟩ :: L) (ix3 h x l) = View.canon L (ix3 h x l) := by
  refine View.canon_cons_of_not_mem _ L fun hm => ?_
  rw [Rect.mem_set_unit] at hm
  have h0 := hm 0
  have h1 := hm 1
  change hh ≤ h.val ∧ h.val < hh + 1 at h0
  change off ≤ x.val ∧ x.val < off + K at h1
  omega

/-- The coefficients of one head: the scaled queries, the keys, the outputs' gradients and the values, each with the
    lanes that carry the gate, the softmax's statistic and the row's correction. -/
structure Head where
  q : ℕ → Fin 128 → ℝ
  k : ℕ → Fin 128 → ℝ
  d : ℕ → Fin 128 → ℝ
  v : ℕ → Fin 128 → ℝ

def Head.p (f : Head) (i x : ℕ) : ℝ := weight f.q f.k i x
def Head.ds (f : Head) (i x : ℕ) : ℝ := dscore f.q f.k f.d f.v i x

theorem Head.p_after (f : Head) {i x : ℕ} (h : i < x) : f.p i x = 0 := if_neg (by omega)
theorem Head.ds_after (f : Head) {i x : ℕ} (h : i < x) : f.ds i x = 0 := by
  show f.p i x * _ = 0
  rw [f.p_after h, zero_mul]

/-- The three stacks after the queries before `N` of the head `hh`. -/
structure Swept (LQ LK LV : Stack) (hh : Fin 2) (N : ℕ) (f : Head) : Prop where
  q : ∀ (x : Fin 2048) (l : Fin 128), x.val < N →
    View.canon LQ (ix3 hh x l) = ((∑ y ∈ Finset.range 2048, f.ds x.val y * f.k y l : ℝ) : EReal)
  k : ∀ (x : Fin 2048) (l : Fin 128),
    View.canon LK (ix3 hh x l) = ((∑ i ∈ Finset.range N, f.ds i x.val * f.q i l : ℝ) : EReal)
  v : ∀ (x : Fin 2048) (l : Fin 128),
    View.canon LV (ix3 hh x l) = ((∑ i ∈ Finset.range N, f.p i x.val * f.d i l : ℝ) : EReal)

/-- The running sums' stacks start at zero. -/
theorem Swept.start (hh : Fin 2) (f : Head) (inb) (w w' : (Rect.unit (s := (⟨3, ![2, 2048, 128]⟩ : Shape)) ![0, 0, 0] ![2, 2048, 128] inb).shape.Idx → Elt Ideal .f32)
    (hw : ∀ y, w y = 0) (hw' : ∀ y, w' y = 0) :
    Swept [] [⟨Rect.unit (s := (⟨3, ![2, 2048, 128]⟩ : Shape)) ![0, 0, 0] ![2, 2048, 128] inb, w⟩]
      [⟨Rect.unit (s := (⟨3, ![2, 2048, 128]⟩ : Shape)) ![0, 0, 0] ![2, 2048, 128] inb, w'⟩] hh 0 f := by
  have e : ∀ (x : Fin 2048) (l : Fin 128), (ix3 hh x l : (⟨3, ![2, 2048, 128]⟩ : Shape).Idx)
      = (Rect.unit (s := (⟨3, ![2, 2048, 128]⟩ : Shape)) ![0, 0, 0] ![2, 2048, 128] inb).emb (ix3 hh x l) := by
    intro x l
    refine funext fun a => Fin.ext ?_
    match a with
    | ⟨0, _⟩ => show hh.val = 0 + 1 * hh.val; omega
    | ⟨1, _⟩ => show x.val = 0 + 1 * x.val; omega
    | ⟨2, _⟩ => show l.val = 0 + 1 * l.val; omega
  refine ⟨fun x l h => absurd h (Nat.not_lt_zero _), fun x l => ?_, fun x l => ?_⟩
  · rw [e x l, View.canon_cons_emb, hw]; rfl
  · rw [e x l, View.canon_cons_emb, hw']; rfl

/-- A running sum's next value. -/
theorem sum_next {N K : ℕ} (hK : N + 256 = K) (g : ℕ → ℕ → ℝ) (r : ℕ → Fin 128 → ℝ) (hg : ∀ i x, i < x → g i x = 0) (hh : ℕ) (h : Fin 2)
    (hh' : h.val = hh) (L : Stack)
    (hL : ∀ (x : Fin 2048) (l : Fin 128), View.canon L (ix3 h x l) = ((∑ i ∈ Finset.range N, g i x.val * r i l : ℝ) : EReal))
    (w : FVec Ideal ⟨2, ![256, K]⟩ .bf16) (rb : FVec Ideal ⟨2, ![256, 128]⟩ .bf16)
    (hw : ∀ i x, w (ix2 i x) = ((g (N + i.val) x.val : ℝ) : EReal)) (hr : ∀ i l, rb (ix2 i l) = ((r (N + i.val) l : ℝ) : EReal))
    {sg : RefSig} {κ : Kind} {sp : Space} (vw : View sg κ sp (⟨3, ![2, 2048, 128]⟩ : Shape) .f32) (inb) (hc hc') (x : Fin 2048) (l : Fin 128) :
    View.canon (⟨rows hh 0 K inb, storeAcc K w rb (vw.readCov L (rows hh 0 K inb).toLoadRect) hc hc'⟩ :: L) (ix3 h x l)
      = ((∑ i ∈ Finset.range K, g i x.val * r i l : ℝ) : EReal) := by
  subst hK
  have split : (∑ i ∈ Finset.range (N + 256), g i x.val * r i l) = (∑ i ∈ Finset.range N, g i x.val * r i l)
      + ∑ i : Fin 256, g (N + i.val) x.val * r (N + i.val) l := by
    rw [Finset.sum_range_add, Finset.sum_range (n := 256)]
  rw [split]
  by_cases hx : x.val < N + 256
  · rw [canon_rows_in inb _ L h hh' x ⟨x.val, hx⟩ (by simp) l, storeAcc_apply (K0 := N) (f := g) (fr := r) hw hr, EReal.coe_add, ← hL,
      View.readCov_eq_canon']
    refine congrArg (fun y => View.canon L y + _) ?_
    exact rows_emb inb h hh' x ⟨x.val, hx⟩ (by simp) l
  · rw [canon_rows_out inb _ L h x l (by omega), hL,
      Finset.sum_eq_zero (s := Finset.univ) fun i _ => by rw [hg _ _ (by omega), zero_mul], add_zero]

/-- One block of queries of the head `h`, given by what it stores into the three stacks. -/
theorem Swept.step {LQ LK LV LQ' LK' LV' : Stack} {h o : Fin 2} (hne : o ≠ h) {N M : ℕ} {f g : Head} (hS : Swept LQ LK LV h N f ∧ Swept LQ LK LV o M g)
    {hh K : ℕ} (hh' : h.val = hh) (hK : N + 256 = K) (hN : K ≤ 2048)
    {qb db : FVec Ideal ⟨2, ![256, 128]⟩ .bf16} {kb : FVec Ideal ⟨2, ![K, 128]⟩ .bf16} {ds p : FVec Ideal ⟨2, ![256, K]⟩ .bf16}
    (hq : ∀ i l, qb (ix2 i l) = ((f.q (N + i.val) l : ℝ) : EReal)) (hk : ∀ x l, kb (ix2 x l) = ((f.k x.val l : ℝ) : EReal))
    (hd : ∀ i l, db (ix2 i l) = ((f.d (N + i.val) l : ℝ) : EReal))
    (hds : ∀ i x, ds (ix2 i x) = ((f.ds (N + i.val) x.val : ℝ) : EReal)) (hp : ∀ i x, p (ix2 i x) = ((f.p (N + i.val) x.val : ℝ) : EReal))
    {sg sg' : RefSig} {κ κ' : Kind} {sp sp' : Space} {vK : View sg κ sp (⟨3, ![2, 2048, 128]⟩ : Shape) .f32}
    {vV : View sg' κ' sp' (⟨3, ![2, 2048, 128]⟩ : Shape) .f32} {inbQ inb hc hc1 hc2}
    (eQ : LQ' = ⟨rows hh N 256 inbQ, storeQ K ds kb hc⟩ :: LQ)
    (eK : LK' = ⟨rows hh 0 K inb, storeAcc K ds qb (vK.readCov LK (rows hh 0 K inb).toLoadRect) hc1 hc2⟩ :: LK)
    (eV : LV' = ⟨rows hh 0 K inb, storeAcc K p db (vV.readCov LV (rows hh 0 K inb).toLoadRect) hc1 hc2⟩ :: LV) :
    Swept LQ' LK' LV' h K f ∧ Swept LQ' LK' LV' o M g := by
  subst eQ eK eV
  obtain ⟨hS, hO⟩ := hS
  have ho : o.val ≠ hh := fun e => hne (Fin.ext (e.trans hh'.symm))
  refine ⟨⟨fun x l hx => ?_, ?_, ?_⟩, ⟨fun x l hx => ?_, fun x l => ?_, fun x l => ?_⟩⟩
  · by_cases hxN : x.val < N
    · rw [canon_rows_out inbQ _ LQ h x l (by omega)]
      exact hS.q x l hxN
    · rw [canon_rows_in inbQ _ LQ h hh' x ⟨x.val - N, by omega⟩ (by show x.val = N + (x.val - N); omega) l,
        storeQ_apply (K0 := N) (f := f.ds) (fk := f.k) hds hk]
      refine congrArg _ ?_
      show (∑ y : Fin K, f.ds (N + (x.val - N)) y.val * f.k y.val l) = _
      rw [show N + (x.val - N) = x.val by omega, ← Finset.sum_range (fun y => f.ds x.val y * f.k y l)]
      refine Finset.sum_subset (Finset.range_subset_range.mpr hN) fun y _ hy => ?_
      rw [f.ds_after (by rw [Finset.mem_range] at hy; omega), zero_mul]
  · exact sum_next hK f.ds f.q (fun _ _ => f.ds_after) hh h hh' LK hS.k ds qb hds hq vK inb hc1 hc2
  · exact sum_next hK f.p f.d (fun _ _ => f.p_after) hh h hh' LV hS.v p db hp hd vV inb hc1 hc2
  · rw [canon_rows_out inbQ _ LQ o x l (Or.inl ho)]; exact hO.q x l hx
  · rw [canon_rows_out inb _ LK o x l (Or.inl ho)]; exact hO.k x l
  · rw [canon_rows_out inb _ LV o x l (Or.inl ho)]; exact hO.v x l

/-- A block of queries by its operands: `qa`, `da` of all queries, `ka`, `va` of all keys, cut to the block. -/
def rowsOf (N : ℕ) (a : FVec Ideal ⟨2, ![2048, 128]⟩ .bf16) (K : ℕ) (h : N + K ≤ 2048) : FVec Ideal ⟨2, ![K, 128]⟩ .bf16 :=
  extractStridedSlice ⟨2, ![K, 128]⟩ ![N, 0] a (slices2 h (by omega))

theorem rowsOf_apply {N K : ℕ} {a : FVec Ideal ⟨2, ![2048, 128]⟩ .bf16} {f : ℕ → Fin 128 → ℝ} (ha : ∀ i l, a (ix2 i l) = ((f i.val l : ℝ) : EReal))
    (h : N + K ≤ 2048) (i : Fin K) (l : Fin 128) : rowsOf N a K h (ix2 i l) = ((f (N + i.val) l : ℝ) : EReal) := by
  unfold rowsOf
  rw [slice2_apply _ _ _ _ (by omega) (by omega), ha]
  simp only [Nat.zero_add]

/-- The entries of an array of all queries or all keys. -/
def Reads (a : FVec Ideal ⟨2, ![2048, 128]⟩ .bf16) (f : ℕ → Fin 128 → ℝ) : Prop := ∀ i l, a (ix2 i l) = ((f i.val l : ℝ) : EReal)

theorem Reads.upTo {a : FVec Ideal ⟨2, ![2048, 128]⟩ .bf16} {f : ℕ → Fin 128 → ℝ} (ha : Reads a f) {K : ℕ} (h : 0 + K ≤ 2048) (x : Fin K) (l : Fin 128) :
    rowsOf 0 a K h (ix2 x l) = ((f x.val l : ℝ) : EReal) := by
  rw [rowsOf_apply ha]
  simp only [Nat.zero_add]

section
variable {LQ LK LV LQ' LK' LV' : Stack} {h o : Fin 2} (hne : o ≠ h) {N M : ℕ} {f g : Head}
  {tri : IVec (⟨2, ![256, 256]⟩ : Shape) 1} (ht : IsTri tri) {qa da : FVec Ideal ⟨2, ![2048, 128]⟩ .bf16} (hq : Reads qa f.q) (hd : Reads da f.d)
  {hh K : ℕ} (hh' : h.val = hh) {sg sg' : RefSig} {κ κ' : Kind} {sp sp' : Space} {vK : View sg κ sp (⟨3, ![2, 2048, 128]⟩ : Shape) .f32}
  {vV : View sg' κ' sp' (⟨3, ![2, 2048, 128]⟩ : Shape) .f32} {hc hc1 hc2}

include hne ht hq hd hh' in
/-- A head's first block. -/
theorem Swept.first (hS : Swept LQ LK LV h 0 f ∧ Swept LQ LK LV o M g) {ka va : FVec Ideal ⟨2, ![2048, 128]⟩ .bf16} (hk : Reads ka f.k) (hv : Reads va f.v)
    {inbQ inb}
    (eQ : LQ' = ⟨rows hh 0 256 inbQ, storeQ 256 (firstDs tri (rowsOf 0 qa 256 (by decide)) (rowsOf 0 da 256 (by decide)) (rowsOf 0 ka 256 (by decide))
      (rowsOf 0 va 256 (by decide))) (rowsOf 0 ka 256 (by decide)) hc⟩ :: LQ)
    (eK : LK' = ⟨rows hh 0 256 inb, storeAcc 256 (firstDs tri (rowsOf 0 qa 256 (by decide)) (rowsOf 0 da 256 (by decide)) (rowsOf 0 ka 256 (by decide))
      (rowsOf 0 va 256 (by decide))) (rowsOf 0 qa 256 (by decide)) (vK.readCov LK (rows hh 0 256 inb).toLoadRect) hc1 hc2⟩ :: LK)
    (eV : LV' = ⟨rows hh 0 256 inb, storeAcc 256 (firstP tri (rowsOf 0 qa 256 (by decide)) (rowsOf 0 ka 256 (by decide)))
      (rowsOf 0 da 256 (by decide)) (vV.readCov LV (rows hh 0 256 inb).toLoadRect) hc1 hc2⟩ :: LV) :
    Swept LQ' LK' LV' h 256 f ∧ Swept LQ' LK' LV' o M g :=
  Swept.step hne hS hh' rfl (by decide) (rowsOf_apply hq _) (hk.upTo _) (rowsOf_apply hd _)
    (firstDs_apply ht (rowsOf_apply hq _) (hk.upTo _) (rowsOf_apply hd _) (hv.upTo _)) (firstP_apply ht (rowsOf_apply hq _) (hk.upTo _)) eQ eK eV

include hne ht hq hd hh' in
/-- A later block. -/
theorem Swept.block (hS : Swept LQ LK LV h N f ∧ Swept LQ LK LV o M g) (hK : N + 256 = K) (hN : N + 256 ≤ 2048) {kb vb : FVec Ideal ⟨2, ![K, 128]⟩ .bf16}
    (hk : ∀ x l, kb (ix2 x l) = ((f.k x.val l : ℝ) : EReal)) (hv : ∀ x l, vb (ix2 x l) = ((f.v x.val l : ℝ) : EReal)) {inbQ inb}
    (eQ : LQ' = ⟨rows hh N 256 inbQ, storeQ K (blockDs N K hK tri (rowsOf N qa 256 hN) (rowsOf N da 256 hN) kb vb) kb hc⟩ :: LQ)
    (eK : LK' = ⟨rows hh 0 K inb, storeAcc K (blockDs N K hK tri (rowsOf N qa 256 hN) (rowsOf N da 256 hN) kb vb) (rowsOf N qa 256 hN)
      (vK.readCov LK (rows hh 0 K inb).toLoadRect) hc1 hc2⟩ :: LK)
    (eV : LV' = ⟨rows hh 0 K inb, storeAcc K (blockP N K hK tri (rowsOf N qa 256 hN) kb) (rowsOf N da 256 hN)
      (vV.readCov LV (rows hh 0 K inb).toLoadRect) hc1 hc2⟩ :: LV) :
    Swept LQ' LK' LV' h K f ∧ Swept LQ' LK' LV' o M g :=
  Swept.step hne hS hh' hK (hK ▸ hN) (rowsOf_apply hq _) hk (rowsOf_apply hd _)
    (blockDs_apply ht (rowsOf_apply hq _) hk (rowsOf_apply hd _) hv) (blockP_apply ht (rowsOf_apply hq _) hk) eQ eK eV
end

end Cert.Proof
-- ==== Proof.Body.lean ====
/-
  One grid point of the forgetting attention's backward kernel, run once at any elements `F`: from the seven staged
  blocks (q, k, v, the cumulated gates, the output, the log-sums, the output's gradient) it leaves the gate gradients in
  the staged result and copies the gradients of q, k and v into three column windows of the gradient array.
-/
module

public import proofs.«01_k».proof.Proof.Gen.KernelIdeal.Skeleton
public import proofs.«01_k».proof.Proof.Gen.KernelIdeal.Frame
public import Idealize.ShloMosaic.Lib.Pipeline.FrameValue
public import Idealize.ShloMosaic.Lib.Transfers
public import Idealize.ShloMosaic.Lib.Tactic

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The contents of memref `M`'s buffer on core `c`. -/
abbrev BufOf (c : Dev nD) {sp : Space} {S : Shape} {e : EltTy} (M : Memref sig .tc sp S e) : Type :=
  Buf (Elt F) (M.view.loc (c : Thread nD τ))

/-- Memref `M`'s elements held on core `c`, its buffer's contents being `f`. -/
abbrev held (c : Dev nD) {sp : Space} {S : Shape} {e : EltTy} (M : Memref sig .tc sp S e) (f : BufOf (F := F) c M) : sProp 𝕄 :=
  M.view.loc (c : Thread nD τ) ↦[M.view.set]{fullShare} f

/-- The scratch buffers: the gradients of q, the accumulated gradients of k and of v, the rounded gradients to copy. -/
abbrev scQ : Memref sig .tc .vmem S2x2048x128 .f32 := Memref.whole cc0_scratch0
abbrev scK : Memref sig .tc .vmem S2x2048x128 .f32 := Memref.whole cc0_scratch1
abbrev scV : Memref sig .tc .vmem S2x2048x128 .f32 := Memref.whole cc0_scratch2
abbrev scS : Memref sig .tc .vmem S3x2048x128 .bf16 := Memref.whole cc0_scratch3
/-- The gradient array. -/
abbrev arrG : Memref sig .tc .hbm S2048x6144 .bf16 := Memref.whole main_v46_0

/-- The column window of the gradient array that point `i` writes for gradient `r` (0: q, 1: k, 2: v). -/
abbrev win (i : grid0.Coords) (r : Fin 3) : Memref sig .tc .hbm S2048x128 .bf16 :=
  arrG.slice (Rect.unit (s := S2048x6144) (k0_off1 i (BitVec.ofNat 32 (24 + 8 * r.val))) S2048x128.size (k0_off1_inb i r)) (fun _ => rfl)

/-- The first column of a window: `128 * (24 + 8 r + i)`. -/
theorem off1_col (i : grid0.Coords) (r : Fin 3) :
    k0_off1 i (BitVec.ofNat 32 (24 + 8 * r.val)) 1 = 128 * (24 + 8 * r.val + (i 0).val) := by
  revert i r; decide +kernel

/-- The three windows of one point lie apart. -/
theorem win_disjoint (i : grid0.Coords) (r r' : Fin 3) (h : r ≠ r') : Disjoint (win i r).view.set (win i r').view.set := by
  refine View.disjoint_slice_of_sep _ _ _ (1 : Fin 2) rfl rfl ?_
  have h1 := off1_col i r
  have h2 := off1_col i r'
  have hi := (i 0).isLt
  have : r.val ≠ r'.val := fun e => h (Fin.ext e)
  show k0_off1 i (BitVec.ofNat 32 (24 + 8 * r.val)) 1 + 128 ≤ k0_off1 i (BitVec.ofNat 32 (24 + 8 * r'.val)) 1
    ∨ k0_off1 i (BitVec.ofNat 32 (24 + 8 * r'.val)) 1 + 128 ≤ k0_off1 i (BitVec.ofNat 32 (24 + 8 * r.val)) 1
  rw [h1, h2]
  omega

/-- What one point leaves in the staged result and in the gradient array, WITH its run: from the staged blocks at `f1 … f7`,
    the gradient array at `g` and the kernel's three transfer semaphores at zero, the body returns the blocks as they were. -/
noncomputable def pointRun (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x16 .f32) (harg4 : arg4.IsWhole)
    (arg5 : Memref sig .tc .vmem S2048x128 .bf16) (harg5 : arg5.IsWhole)
    (arg6 : Memref sig .tc .vmem S1x2048x128 .f32) (harg6 : arg6.IsWhole)
    (arg7 : Memref sig .tc .vmem S2048x128 .bf16) (harg7 : arg7.IsWhole)
    (arg10 : Memref sig .tc .vmem S1x2048x128 .f32) (harg10 : arg10.IsWhole)
    (f1 : BufOf (F := F) c arg1) (f2 : BufOf (F := F) c arg2) (f3 : BufOf (F := F) c arg3) (f4 : BufOf (F := F) c arg4)
    (f5 : BufOf (F := F) c arg5) (f6 : BufOf (F := F) c arg6) (f7 : BufOf (F := F) c arg7) (g : BufOf (F := F) c arrG) (fs : BufOf (F := F) c scS) :
    { p : List (View.Piece (Elt F) S1x2048x128 .f32) × BufOf (F := F) c arrG //
      ∀ (W : Waits sig Unit) (K : PUnit → sProp 𝕄),
        iprop(held c arg1 f1 ∗ held c arg2 f2 ∗ held c arg3 f3 ∗ held c arg4 f4 ∗ held c arg5 f5 ∗ held c arg6 f6 ∗ held c arg7 f7
            ∗ (∃ f, held c arg10 f)
            ∗ (∃ f, held c scQ f) ∗ (∃ f, held c scK f) ∗ (∃ f, held c scV f) ∗ held c scS fs
            ∗ semVal ((c : Thread nD τ), SemLoc.dma 15) 0 ∗ semVal ((c : Thread nD τ), SemLoc.dma 16) 0
            ∗ semVal ((c : Thread nD τ), SemLoc.dma 17) 0
            ∗ held c arrG g
            ∗ owes (c : Thread nD τ) 0 W
            ∗ (iprop(held c arg1 f1 ∗ held c arg2 f2 ∗ held c arg3 f3 ∗ held c arg4 f4 ∗ held c arg5 f5 ∗ held c arg6 f6
                ∗ held c arg7 f7
                ∗ (∃ f, held c arg10 (arg10.view.writes (Elt F) f p.1))
                ∗ (∃ f, held c scQ f) ∗ (∃ f, held c scK f) ∗ (∃ f, held c scV f) ∗ (∃ f, held c scS f)
                ∗ semVal ((c : Thread nD τ), SemLoc.dma 15) 0 ∗ semVal ((c : Thread nD τ), SemLoc.dma 16) 0
                ∗ semVal ((c : Thread nD τ), SemLoc.dma 17) 0
                ∗ held c arrG p.2
                ∗ (∃ W', owes (c : Thread nD τ) 0 W')) -∗ K ⟨⟩))
          ⊢ wp frame (wpE (defs₀ (F := F)) Variants.none c none) Set.univ
              (cc0_fox_bwd i arg1 harg1 arg2 harg2 arg3 harg3 arg4 harg4 arg5 harg5 arg6 harg6 arg7 harg7
                arrG (Memref.isWhole_whole _) arrG (Memref.isWhole_whole _) arg10 harg10
                scQ (Memref.isWhole_whole _) scK (Memref.isWhole_whole _) scV (Memref.isWhole_whole _) scS (Memref.isWhole_whole _)
                cc0_scratch4) K } := by
  refine ⟨⟨?_, ?_⟩, fun W K => ?run⟩
  case run =>
    have d01 := win_disjoint i 0 1 (by decide)
    have d02 := win_disjoint i 0 2 (by decide)
    have d12 := win_disjoint i 1 2 (by decide)
    simp only [cc0_fox_bwd_eq_skeleton]; unfold cc0_fox_bwd_skel
    iintro ⟨H1, H2, H3, H4, H5, H6, H7, ⟨%f10, H10⟩, ⟨%fq, HQ⟩, ⟨%fk, HK⟩, ⟨%fv, HV⟩, HS, Hs0, Hs1, Hs2, HG, HW, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexists _; iexact H10
    isplitl [HQ]; · iexists _; iexact HQ
    isplitl [HK]; · iexists _; iexact HK
    isplitl [HV]; · iexists _; iexact HV
    isplitl [HS]; · iexists _; iexact HS
    isplitl [Hs0]; · iexact Hs0
    isplitl [Hs1]; · iexact Hs1
    isplitl [Hs2]; · iexact Hs2
    isplitl [HG]; · iexact HG
    iexists _; iexact HW

end Cert.Proof

end
-- ==== Proof.First.lean ====
/-
  The eight blocks of the pair's first head, one after another.
-/
module

public import proofs.«01_k».proof.Proof.Acc
public import Idealize.ShloMosaic.Lib.Pointwise
public import proofs.«01_k».proof.Proof.Body

@[expose] public section

set_option maxRecDepth 16384

noncomputable section

namespace Cert.Proof

open Cert.KernelIdeal Cert.KernelIdeal.Gen
open Idealize.ShloMosaic
open Idealize.ShloMosaic.TcCoe

section
variable {c : Dev nD} {i : grid0.Coords}
    {arg1 : Memref sig .tc .vmem S2048x128 .bf16} {arg2 : Memref sig .tc .vmem S2048x128 .bf16} {arg3 : Memref sig .tc .vmem S2048x128 .bf16}
    {arg4 : Memref sig .tc .vmem S2048x16 .f32} {arg5 : Memref sig .tc .vmem S2048x128 .bf16} {arg6 : Memref sig .tc .vmem S1x2048x128 .f32}
    {arg7 : Memref sig .tc .vmem S2048x128 .bf16}
    {f1 : BufOf (F := Ideal) c arg1} {f2 : BufOf (F := Ideal) c arg2} {f3 : BufOf (F := Ideal) c arg3} {f4 : BufOf (F := Ideal) c arg4}
    {f5 : BufOf (F := Ideal) c arg5} {f6 : BufOf (F := Ideal) c arg6} {f7 : BufOf (F := Ideal) c arg7} {f g : Head}

/-- The mask of a diagonal square. -/
theorem isTri : IsTri k0_pay4 := by
  intro i x
  pointwise [k0_pay4]
  rw [WordCmp.cmpi_sge_ofNat (by omega) (by omega)]
  by_cases h : x.val ≤ i.val <;> simp [h]

variable
    (hq : Reads (pointRun.sl.r_6 c i arg1 arg4 arg6 f1 f4 f6) f.q) (hk : Reads (pointRun.sl.r_11 c i arg2 arg4 f2 f4) f.k)
    (hd : Reads (pointRun.sl.r_16 c arg5 arg7 f5 f7) f.d) (hv : Reads (pointRun.sl.r_12 c arg3 f3) f.v)
include hq hk hd hv

theorem first_block0
    (hS : Swept [] pointRun.sl.HK_1
      pointRun.sl.HV_1 0 0 f
      ∧ Swept [] pointRun.sl.HK_1
      pointRun.sl.HV_1 1 0 g) :
    Swept (pointRun.sl.HQ_1 c i arg1 arg2 arg3 arg4 arg5 arg6 arg7 f1 f2 f3 f4 f5 f6 f7) (pointRun.sl.HK_2 c i arg1 arg2 arg3 arg4 arg5 arg6 arg7 f1 f2 f3 f4 f5 f6 f7)
      (pointRun.sl.HV_2 c i arg1 arg2 arg4 arg5 arg6 arg7 f1 f2 f4 f5 f6 f7) 0 256 f
      ∧ Swept (pointRun.sl.HQ_1 c i arg1 arg2 arg3 arg4 arg5 arg6 arg7 f1 f2 f3 f4 f5 f6 f7) (pointRun.sl.HK_2 c i arg1 arg2 arg3 arg4 arg5 arg6 arg7 f1 f2 f3 f4 f5 f6 f7)
      (pointRun.sl.HV_2 c i arg1 arg2 arg4 arg5 arg6 arg7 f1 f2 f4 f5 f6 f7) 1 0 g :=
  Swept.first (by decide) isTri hq hd rfl hS hk hv rfl rfl rfl

theorem first_block1
    (hS : Swept (pointRun.sl.HQ_1 c i arg1 arg2 arg3 arg4 arg5 arg6 arg7 f1 f2 f3 f4 f5 f6 f7) (pointRun.sl.HK_2 c i arg1 arg2 arg3 arg4 arg5 arg6 arg7 f1 f2 f3 f4 f5 f6 f7)
      (pointRun.sl.HV_2 c i arg1 arg2 arg4 arg5 arg6 arg7 f1 f2 f4 f5 f6 f7) 0 256 f
      ∧ Swept (pointRun.sl.HQ_1 c i arg1 arg2 arg3 arg4 arg5 arg6 arg7 f1 f2 f3 f4 f5 f6 f7) (pointRun.sl.HK_2 c i arg1 arg2 arg3 arg4 arg5 arg6 arg7 f1 f2 f3 f4 f5 f6 f7)
      (pointRun.sl.HV_2 c i arg1 arg2 arg4 arg5 arg6 arg7 f1 f2 f4 f5 f6 f7) 1 0 g) :
    Swept (pointRun.sl.HQ_2 c i arg1 arg2 arg3 arg4 arg5 arg6 arg7 f1 f2 f3 f4 f5 f6 f7) (pointRun.sl.HK_3 c i arg1 arg2 arg3 arg4 arg5 arg6 arg7 f1 f2 f3 f4 f5 f6 f7)
      (pointRun.sl.HV_3 c i arg1 arg2 arg4 arg5 arg6 arg7 f1 f2 f4 f5 f6 f7) 0 512 f
      ∧ Swept (pointRun.sl.HQ_2 c i arg1 arg2 arg3 arg4 arg5 arg6 arg7 f1 f2 f3 f4 f5 f6 f7) (pointRun.sl.HK_3 c i arg1 arg2 arg3 arg4 arg5 arg6 arg7 f1 f2 f3 f4 f5 f6 f7)
      (pointRun.sl.HV_3 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block2
    (hS : Swept (pointRun.sl.HQ_2 c i arg1 arg2 arg3 arg4 arg5 arg6 arg7 f1 f2 f3 f4 f5 f6 f7) (pointRun.sl.HK_3 c i arg1 arg2 arg3 arg4 arg5 arg6 arg7 f1 f2 f3 f4 f5 f6 f7)
      (pointRun.sl.HV_3 c i arg1 arg2 arg4 arg5 arg6 arg7 f1 f2 f4 f5 f6 f7) 0 512 f
      ∧ Swept (pointRun.sl.HQ_2 c i arg1 arg2 arg3 arg4 arg5 arg6 arg7 f1 f2 f3 f4 f5 f6 f7) (pointRun.sl.HK_3 c i arg1 arg2 arg3 arg4 arg5 arg6 arg7 f1 f2 f3 f4 f5 f6 f7)
      (pointRun.sl.HV_3 c i arg1 arg2 arg4 arg5 arg6 arg7 f1 f2 f4 f5 f6 f7) 1 0 g) :
    Swept (pointRun.sl.HQ_3 c i arg1 arg2 arg3 arg4 arg5 arg6 arg7 f1 f2 f3 f4 f5 f6 f7) (pointRun.sl.HK_4 c i arg1 arg2 arg3 arg4 arg5 arg6 arg7 f1 f2 f3 f4 f5 f6 f7)
      (pointRun.sl.HV_4 c i arg1 arg2 arg4 arg5 arg6 arg7 f1 f2 f4 f5 f6 f7) 0 768 f
      ∧ Swept (pointRun.sl.HQ_3 c i arg1 arg2 arg3 arg4 arg5 arg6 arg7 f1 f2 f3 f4 f5 f6 f7) (pointRun.sl.HK_4 c i arg1 arg2 arg3 arg4 arg5 arg6 arg7 f1 f2 f3 f4 f5 f6 f7)
      (pointRun.sl.HV_4 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block3
    (hS : Swept (pointRun.sl.HQ_3 c i arg1 arg2 arg3 arg4 arg5 arg6 arg7 f1 f2 f3 f4 f5 f6 f7) (pointRun.sl.HK_4 c i arg1 arg2 arg3 arg4 arg5 arg6 arg7 f1 f2 f3 f4 f5 f6 f7)
      (pointRun.sl.HV_4 c i arg1 arg2 arg4 arg5 arg6 arg7 f1 f2 f4 f5 f6 f7) 0 768 f
      ∧ Swept (pointRun.sl.HQ_3 c i arg1 arg2 arg3 arg4 arg5 arg6 arg7 f1 f2 f3 f4 f5 f6 f7) (pointRun.sl.HK_4 c i arg1 arg2 arg3 arg4 arg5 arg6 arg7 f1 f2 f3 f4 f5 f6 f7)
      (pointRun.sl.HV_4 c i arg1 arg2 arg4 arg5 arg6 arg7 f1 f2 f4 f5 f6 f7) 1 0 g) :
    Swept (pointRun.sl.HQ_4 c i arg1 arg2 arg3 arg4 arg5 arg6 arg7 f1 f2 f3 f4 f5 f6 f7) (pointRun.sl.HK_5 c i arg1 arg2 arg3 arg4 arg5 arg6 arg7 f1 f2 f3 f4 f5 f6 f7)
      (pointRun.sl.HV_5 c i arg1 arg2 arg4 arg5 arg6 arg7 f1 f2 f4 f5 f6 f7) 0 1024 f
      ∧ Swept (pointRun.sl.HQ_4 c i arg1 arg2 arg3 arg4 arg5 arg6 arg7 f1 f2 f3 f4 f5 f6 f7) (pointRun.sl.HK_5 c i arg1 arg2 arg3 arg4 arg5 arg6 arg7 f1 f2 f3 f4 f5 f6 f7)
      (pointRun.sl.HV_5 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block4
    (hS : Swept (pointRun.sl.HQ_4 c i arg1 arg2 arg3 arg4 arg5 arg6 arg7 f1 f2 f3 f4 f5 f6 f7) (pointRun.sl.HK_5 c i arg1 arg2 arg3 arg4 arg5 arg6 arg7 f1 f2 f3 f4 f5 f6 f7)
      (pointRun.sl.HV_5 c i arg1 arg2 arg4 arg5 arg6 arg7 f1 f2 f4 f5 f6 f7) 0 1024 f
      ∧ Swept (pointRun.sl.HQ_4 c i arg1 arg2 arg3 arg4 arg5 arg6 arg7 f1 f2 f3 f4 f5 f6 f7) (pointRun.sl.HK_5 c i arg1 arg2 arg3 arg4 arg5 arg6 arg7 f1 f2 f3 f4 f5 f6 f7)
      (pointRun.sl.HV_5 c i arg1 arg2 arg4 arg5 arg6 arg7 f1 f2 f4 f5 f6 f7) 1 0 g) :
    Swept (pointRun.sl.HQ_5 c i arg1 arg2 arg3 arg4 arg5 arg6 arg7 f1 f2 f3 f4 f5 f6 f7) (pointRun.sl.HK_6 c i arg1 arg2 arg3 arg4 arg5 arg6 arg7 f1 f2 f3 f4 f5 f6 f7)
      (pointRun.sl.HV_6 c i arg1 arg2 arg4 arg5 arg6 arg7 f1 f2 f4 f5 f6 f7) 0 1280 f
      ∧ Swept (pointRun.sl.HQ_5 c i arg1 arg2 arg3 arg4 arg5 arg6 arg7 f1 f2 f3 f4 f5 f6 f7) (pointRun.sl.HK_6 c i arg1 arg2 arg3 arg4 arg5 arg6 arg7 f1 f2 f3 f4 f5 f6 f7)
      (pointRun.sl.HV_6 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block5
    (hS : Swept (pointRun.sl.HQ_5 c i arg1 arg2 arg3 arg4 arg5 arg6 arg7 f1 f2 f3 f4 f5 f6 f7) (pointRun.sl.HK_6 c i arg1 arg2 arg3 arg4 arg5 arg6 arg7 f1 f2 f3 f4 f5 f6 f7)
      (pointRun.sl.HV_6 c i arg1 arg2 arg4 arg5 arg6 arg7 f1 f2 f4 f5 f6 f7) 0 1280 f
      ∧ Swept (pointRun.sl.HQ_5 c i arg1 arg2 arg3 arg4 arg5 arg6 arg7 f1 f2 f3 f4 f5 f6 f7) (pointRun.sl.HK_6 c i arg1 arg2 arg3 arg4 arg5 arg6 arg7 f1 f2 f3 f4 f5 f6 f7)
      (pointRun.sl.HV_6 c i arg1 arg2 arg4 arg5 arg6 arg7 f1 f2 f4 f5 f6 f7) 1 0 g) :
    Swept (pointRun.sl.HQ_6 c i arg1 arg2 arg3 arg4 arg5 arg6 arg7 f1 f2 f3 f4 f5 f6 f7) (pointRun.sl.HK_7 c i arg1 arg2 arg3 arg4 arg5 arg6 arg7 f1 f2 f3 f4 f5 f6 f7)
      (pointRun.sl.HV_7 c i arg1 arg2 arg4 arg5 arg6 arg7 f1 f2 f4 f5 f6 f7) 0 1536 f
      ∧ Swept (pointRun.sl.HQ_6 c i arg1 arg2 arg3 arg4 arg5 arg6 arg7 f1 f2 f3 f4 f5 f6 f7) (pointRun.sl.HK_7 c i arg1 arg2 arg3 arg4 arg5 arg6 arg7 f1 f2 f3 f4 f5 f6 f7)
      (pointRun.sl.HV_7 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block6
    (hS : Swept (pointRun.sl.HQ_6 c i arg1 arg2 arg3 arg4 arg5 arg6 arg7 f1 f2 f3 f4 f5 f6 f7) (pointRun.sl.HK_7 c i arg1 arg2 arg3 arg4 arg5 arg6 arg7 f1 f2 f3 f4 f5 f6 f7)
      (pointRun.sl.HV_7 c i arg1 arg2 arg4 arg5 arg6 arg7 f1 f2 f4 f5 f6 f7) 0 1536 f
      ∧ Swept (pointRun.sl.HQ_6 c i arg1 arg2 arg3 arg4 arg5 arg6 arg7 f1 f2 f3 f4 f5 f6 f7) (pointRun.sl.HK_7 c i arg1 arg2 arg3 arg4 arg5 arg6 arg7 f1 f2 f3 f4 f5 f6 f7)
      (pointRun.sl.HV_7 c i arg1 arg2 arg4 arg5 arg6 arg7 f1 f2 f4 f5 f6 f7) 1 0 g) :
    Swept (pointRun.sl.HQ_7 c i arg1 arg2 arg3 arg4 arg5 arg6 arg7 f1 f2 f3 f4 f5 f6 f7) (pointRun.sl.HK_8 c i arg1 arg2 arg3 arg4 arg5 arg6 arg7 f1 f2 f3 f4 f5 f6 f7)
      (pointRun.sl.HV_8 c i arg1 arg2 arg4 arg5 arg6 arg7 f1 f2 f4 f5 f6 f7) 0 1792 f
      ∧ Swept (pointRun.sl.HQ_7 c i arg1 arg2 arg3 arg4 arg5 arg6 arg7 f1 f2 f3 f4 f5 f6 f7) (pointRun.sl.HK_8 c i arg1 arg2 arg3 arg4 arg5 arg6 arg7 f1 f2 f3 f4 f5 f6 f7)
      (pointRun.sl.HV_8 c i arg1 arg2 arg4 arg5 arg6 arg7 f1 f2 f4 f5 f6 f7) 1 0 g :=
  Swept.block (by decide) isTri hq hd rfl hS rfl (by decide) (hk.upTo (by decide)) (hv.upTo (by decide)) rfl rfl rfl

theorem first_block7
    (hS : Swept (pointRun.sl.HQ_7 c i arg1 arg2 arg3 arg4 arg5 arg6 arg7 f1 f2 f3 f4 f5 f6 f7) (pointRun.sl.HK_8 c i arg1 arg2 arg3 arg4 arg5 arg6 arg7 f1 f2 f3 f4 f5 f6 f7)
      (pointRun.sl.HV_8 c i arg1 arg2 arg4 arg5 arg6 arg7 f1 f2 f4 f5 f6 f7) 0 1792 f
      ∧ Swept (pointRun.sl.HQ_7 c i arg1 arg2 arg3 arg4 arg5 arg6 arg7 f1 f2 f3 f4 f5 f6 f7) (pointRun.sl.HK_8 c i arg1 arg2 arg3 arg4 arg5 arg6 arg7 f1 f2 f3 f4 f5 f6 f7)
      (pointRun.sl.HV_8 c i arg1 arg2 arg4 arg5 arg6 arg7 f1 f2 f4 f5 f6 f7) 1 0 g) :
    Swept (pointRun.sl.HQ_8 c i arg1 arg2 arg3 arg4 arg5 arg6 arg7 f1 f2 f3 f4 f5 f6 f7) (pointRun.sl.HK_9 c i arg1 arg2 arg3 arg4 arg5 arg6 arg7 f1 f2 f3 f4 f5 f6 f7)
      (pointRun.sl.HV_9 c i arg1 arg2 arg4 arg5 arg6 arg7 f1 f2 f4 f5 f6 f7) 0 2048 f
      ∧ Swept (pointRun.sl.HQ_8 c i arg1 arg2 arg3 arg4 arg5 arg6 arg7 f1 f2 f3 f4 f5 f6 f7) (pointRun.sl.HK_9 c i arg1 arg2 arg3 arg4 arg5 arg6 arg7 f1 f2 f3 f4 f5 f6 f7)
      (pointRun.sl.HV_9 c i arg1 arg2 arg4 arg5 arg6 arg7 f1 f2 f4 f5 f6 f7) 1 0 g := by
  have hk' : ∀ (x : Fin 2048) l, pointRun.sl.r_11 c i arg2 arg4 f2 f4 (ix2 x l) = ((f.k x.val l : ℝ) : EReal) := fun x l => hk x l
  have hv' : ∀ (x : Fin 2048) l, pointRun.sl.r_12 c arg3 f3 (ix2 x l) = ((f.v x.val l : ℝ) : EReal) := fun x l => hv x l
  refine Swept.block (K := 2048) (N := 1792) (qa := pointRun.sl.r_6 c i arg1 arg4 arg6 f1 f4 f6) (da := pointRun.sl.r_16 c arg5 arg7 f5 f7) (hh := 0)
    (by decide) isTri hq hd rfl hS rfl (by decide) hk' hv' (inbQ := ?_) (inb := ?_) (hc := ?_) (hc1 := ?_) (hc2 := ?_) (vK := scK.view)
    (vV := scV.view) ?_ ?_ ?_
  rotate_left 5
  · rfl
  · rfl
  · rfl
end

end Cert.Proof
-- ==== Proof.Second.lean ====
/-
  The eight blocks of the pair's second head, one after another; the first head's planes stay.
-/
module

public import proofs.«01_k».proof.Proof.Acc
public import Idealize.ShloMosaic.Lib.Pointwise
public import proofs.«01_k».proof.Proof.First

@[expose] public section

set_option maxRecDepth 16384

noncomputable section

namespace Cert.Proof

open Cert.KernelIdeal Cert.KernelIdeal.Gen
open Idealize.ShloMosaic
open Idealize.ShloMosaic.TcCoe

section
variable {c : Dev nD} {i : grid0.Coords}
    {arg1 : Memref sig .tc .vmem S2048x128 .bf16} {arg2 : Memref sig .tc .vmem S2048x128 .bf16} {arg3 : Memref sig .tc .vmem S2048x128 .bf16}
    {arg4 : Memref sig .tc .vmem S2048x16 .f32} {arg5 : Memref sig .tc .vmem S2048x128 .bf16} {arg6 : Memref sig .tc .vmem S1x2048x128 .f32}
    {arg7 : Memref sig .tc .vmem S2048x128 .bf16}
    {f1 : BufOf (F := Ideal) c arg1} {f2 : BufOf (F := Ideal) c arg2} {f3 : BufOf (F := Ideal) c arg3} {f4 : BufOf (F := Ideal) c arg4}
    {f5 : BufOf (F := Ideal) c arg5} {f6 : BufOf (F := Ideal) c arg6} {f7 : BufOf (F := Ideal) c arg7} {f g : Head}

variable
    (hq : Reads (pointRun.sl.r_49 c i arg1 arg4 arg6 f1 f4 f6) f.q) (hk : Reads (pointRun.sl.r_54 c i arg2 arg4 f2 f4) f.k)
    (hd : Reads (pointRun.sl.r_59 c arg5 arg7 f5 f7) f.d) (hv : Reads (pointRun.sl.r_55 c arg3 f3) f.v)
include hq hk hd hv

theorem second_block0
    (hS : Swept (pointRun.sl.HQ_8 c i arg1 arg2 arg3 arg4 arg5 arg6 arg7 f1 f2 f3 f4 f5 f6 f7) (pointRun.sl.HK_9 c i arg1 arg2 arg3 arg4 arg5 arg6 arg7 f1 f2 f3 f4 f5 f6 f7)
      (pointRun.sl.HV_9 c i arg1 arg2 arg4 arg5 arg6 arg7 f1 f2 f4 f5 f6 f7) 1 0 f
      ∧ Swept (pointRun.sl.HQ_8 c i arg1 arg2 arg3 arg4 arg5 arg6 arg7 f1 f2 f3 f4 f5 f6 f7) (pointRun.sl.HK_9 c i arg1 arg2 arg3 arg4 arg5 arg6 arg7 f1 f2 f3 f4 f5 f6 f7)
      (pointRun.sl.HV_9 c i arg1 arg2 arg4 arg5 arg6 arg7 f1 f2 f4 f5 f6 f7) 0 2048 g) :
    Swept (pointRun.sl.HQ_9 c i arg1 arg2 arg3 arg4 arg5 arg6 arg7 f1 f2 f3 f4 f5 f6 f7) (pointRun.sl.HK_10 c i arg1 arg2 arg3 arg4 arg5 arg6 arg7 f1 f2 f3 f4 f5 f6 f7)
      (pointRun.sl.HV_10 c i arg1 arg2 arg4 arg5 arg6 arg7 f1 f2 f4 f5 f6 f7) 1 256 f
      ∧ Swept (pointRun.sl.HQ_9 c i arg1 arg2 arg3 arg4 arg5 arg6 arg7 f1 f2 f3 f4 f5 f6 f7) (pointRun.sl.HK_10 c i arg1 arg2 arg3 arg4 arg5 arg6 arg7 f1 f2 f3 f4 f5 f6 f7)
      (pointRun.sl.HV_10 c i arg1 arg2 arg4 arg5 arg6 arg7 f1 f2 f4 f5 f6 f7) 0 2048 g :=
  Swept.first (by decide) isTri hq hd rfl hS hk hv rfl rfl rfl

theorem second_block1
    (hS : Swept (pointRun.sl.HQ_9 c i arg1 arg2 arg3 arg4 arg5 arg6 arg7 f1 f2 f3 f4 f5 f6 f7) (pointRun.sl.HK_10 c i arg1 arg2 arg3 arg4 arg5 arg6 arg7 f1 f2 f3 f4 f5 f6 f7)
      (pointRun.sl.HV_10 c i arg1 arg2 arg4 arg5 arg6 arg7 f1 f2 f4 f5 f6 f7) 1 256 f
      ∧ Swept (pointRun.sl.HQ_9 c i arg1 arg2 arg3 arg4 arg5 arg6 arg7 f1 f2 f3 f4 f5 f6 f7) (pointRun.sl.HK_10 c i arg1 arg2 arg3 arg4 arg5 arg6 arg7 f1 f2 f3 f4 f5 f6 f7)
      (pointRun.sl.HV_10 c i arg1 arg2 arg4 arg5 arg6 arg7 f1 f2 f4 f5 f6 f7) 0 2048 g) :
    Swept (pointRun.sl.HQ_10 c i arg1 arg2 arg3 arg4 arg5 arg6 arg7 f1 f2 f3 f4 f5 f6 f7) (pointRun.sl.HK_11 c i arg1 arg2 arg3 arg4 arg5 arg6 arg7 f1 f2 f3 f4 f5 f6 f7)
      (pointRun.sl.HV_11 c i arg1 arg2 arg4 arg5 arg6 arg7 f1 f2 f4 f5 f6 f7) 1 512 f
      ∧ Swept (pointRun.sl.HQ_10 c i arg1 arg2 arg3 arg4 arg5 arg6 arg7 f1 f2 f3 f4 f5 f6 f7) (pointRun.sl.HK_11 c i arg1 arg2 arg3 arg4 arg5 arg6 arg7 f1 f2 f3 f4 f5 f6 f7)
      (pointRun.sl.HV_11 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block2
    (hS : Swept (pointRun.sl.HQ_10 c i arg1 arg2 arg3 arg4 arg5 arg6 arg7 f1 f2 f3 f4 f5 f6 f7) (pointRun.sl.HK_11 c i arg1 arg2 arg3 arg4 arg5 arg6 arg7 f1 f2 f3 f4 f5 f6 f7)
      (pointRun.sl.HV_11 c i arg1 arg2 arg4 arg5 arg6 arg7 f1 f2 f4 f5 f6 f7) 1 512 f
      ∧ Swept (pointRun.sl.HQ_10 c i arg1 arg2 arg3 arg4 arg5 arg6 arg7 f1 f2 f3 f4 f5 f6 f7) (pointRun.sl.HK_11 c i arg1 arg2 arg3 arg4 arg5 arg6 arg7 f1 f2 f3 f4 f5 f6 f7)
      (pointRun.sl.HV_11 c i arg1 arg2 arg4 arg5 arg6 arg7 f1 f2 f4 f5 f6 f7) 0 2048 g) :
    Swept (pointRun.sl.HQ_11 c i arg1 arg2 arg3 arg4 arg5 arg6 arg7 f1 f2 f3 f4 f5 f6 f7) (pointRun.sl.HK_12 c i arg1 arg2 arg3 arg4 arg5 arg6 arg7 f1 f2 f3 f4 f5 f6 f7)
      (pointRun.sl.HV_12 c i arg1 arg2 arg4 arg5 arg6 arg7 f1 f2 f4 f5 f6 f7) 1 768 f
      ∧ Swept (pointRun.sl.HQ_11 c i arg1 arg2 arg3 arg4 arg5 arg6 arg7 f1 f2 f3 f4 f5 f6 f7) (pointRun.sl.HK_12 c i arg1 arg2 arg3 arg4 arg5 arg6 arg7 f1 f2 f3 f4 f5 f6 f7)
      (pointRun.sl.HV_12 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block3
    (hS : Swept (pointRun.sl.HQ_11 c i arg1 arg2 arg3 arg4 arg5 arg6 arg7 f1 f2 f3 f4 f5 f6 f7) (pointRun.sl.HK_12 c i arg1 arg2 arg3 arg4 arg5 arg6 arg7 f1 f2 f3 f4 f5 f6 f7)
      (pointRun.sl.HV_12 c i arg1 arg2 arg4 arg5 arg6 arg7 f1 f2 f4 f5 f6 f7) 1 768 f
      ∧ Swept (pointRun.sl.HQ_11 c i arg1 arg2 arg3 arg4 arg5 arg6 arg7 f1 f2 f3 f4 f5 f6 f7) (pointRun.sl.HK_12 c i arg1 arg2 arg3 arg4 arg5 arg6 arg7 f1 f2 f3 f4 f5 f6 f7)
      (pointRun.sl.HV_12 c i arg1 arg2 arg4 arg5 arg6 arg7 f1 f2 f4 f5 f6 f7) 0 2048 g) :
    Swept (pointRun.sl.HQ_12 c i arg1 arg2 arg3 arg4 arg5 arg6 arg7 f1 f2 f3 f4 f5 f6 f7) (pointRun.sl.HK_13 c i arg1 arg2 arg3 arg4 arg5 arg6 arg7 f1 f2 f3 f4 f5 f6 f7)
      (pointRun.sl.HV_13 c i arg1 arg2 arg4 arg5 arg6 arg7 f1 f2 f4 f5 f6 f7) 1 1024 f
      ∧ Swept (pointRun.sl.HQ_12 c i arg1 arg2 arg3 arg4 arg5 arg6 arg7 f1 f2 f3 f4 f5 f6 f7) (pointRun.sl.HK_13 c i arg1 arg2 arg3 arg4 arg5 arg6 arg7 f1 f2 f3 f4 f5 f6 f7)
      (pointRun.sl.HV_13 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block4
    (hS : Swept (pointRun.sl.HQ_12 c i arg1 arg2 arg3 arg4 arg5 arg6 arg7 f1 f2 f3 f4 f5 f6 f7) (pointRun.sl.HK_13 c i arg1 arg2 arg3 arg4 arg5 arg6 arg7 f1 f2 f3 f4 f5 f6 f7)
      (pointRun.sl.HV_13 c i arg1 arg2 arg4 arg5 arg6 arg7 f1 f2 f4 f5 f6 f7) 1 1024 f
      ∧ Swept (pointRun.sl.HQ_12 c i arg1 arg2 arg3 arg4 arg5 arg6 arg7 f1 f2 f3 f4 f5 f6 f7) (pointRun.sl.HK_13 c i arg1 arg2 arg3 arg4 arg5 arg6 arg7 f1 f2 f3 f4 f5 f6 f7)
      (pointRun.sl.HV_13 c i arg1 arg2 arg4 arg5 arg6 arg7 f1 f2 f4 f5 f6 f7) 0 2048 g) :
    Swept (pointRun.sl.HQ_13 c i arg1 arg2 arg3 arg4 arg5 arg6 arg7 f1 f2 f3 f4 f5 f6 f7) (pointRun.sl.HK_14 c i arg1 arg2 arg3 arg4 arg5 arg6 arg7 f1 f2 f3 f4 f5 f6 f7)
      (pointRun.sl.HV_14 c i arg1 arg2 arg4 arg5 arg6 arg7 f1 f2 f4 f5 f6 f7) 1 1280 f
      ∧ Swept (pointRun.sl.HQ_13 c i arg1 arg2 arg3 arg4 arg5 arg6 arg7 f1 f2 f3 f4 f5 f6 f7) (pointRun.sl.HK_14 c i arg1 arg2 arg3 arg4 arg5 arg6 arg7 f1 f2 f3 f4 f5 f6 f7)
      (pointRun.sl.HV_14 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block5
    (hS : Swept (pointRun.sl.HQ_13 c i arg1 arg2 arg3 arg4 arg5 arg6 arg7 f1 f2 f3 f4 f5 f6 f7) (pointRun.sl.HK_14 c i arg1 arg2 arg3 arg4 arg5 arg6 arg7 f1 f2 f3 f4 f5 f6 f7)
      (pointRun.sl.HV_14 c i arg1 arg2 arg4 arg5 arg6 arg7 f1 f2 f4 f5 f6 f7) 1 1280 f
      ∧ Swept (pointRun.sl.HQ_13 c i arg1 arg2 arg3 arg4 arg5 arg6 arg7 f1 f2 f3 f4 f5 f6 f7) (pointRun.sl.HK_14 c i arg1 arg2 arg3 arg4 arg5 arg6 arg7 f1 f2 f3 f4 f5 f6 f7)
      (pointRun.sl.HV_14 c i arg1 arg2 arg4 arg5 arg6 arg7 f1 f2 f4 f5 f6 f7) 0 2048 g) :
    Swept (pointRun.sl.HQ_14 c i arg1 arg2 arg3 arg4 arg5 arg6 arg7 f1 f2 f3 f4 f5 f6 f7) (pointRun.sl.HK_15 c i arg1 arg2 arg3 arg4 arg5 arg6 arg7 f1 f2 f3 f4 f5 f6 f7)
      (pointRun.sl.HV_15 c i arg1 arg2 arg4 arg5 arg6 arg7 f1 f2 f4 f5 f6 f7) 1 1536 f
      ∧ Swept (pointRun.sl.HQ_14 c i arg1 arg2 arg3 arg4 arg5 arg6 arg7 f1 f2 f3 f4 f5 f6 f7) (pointRun.sl.HK_15 c i arg1 arg2 arg3 arg4 arg5 arg6 arg7 f1 f2 f3 f4 f5 f6 f7)
      (pointRun.sl.HV_15 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block6
    (hS : Swept (pointRun.sl.HQ_14 c i arg1 arg2 arg3 arg4 arg5 arg6 arg7 f1 f2 f3 f4 f5 f6 f7) (pointRun.sl.HK_15 c i arg1 arg2 arg3 arg4 arg5 arg6 arg7 f1 f2 f3 f4 f5 f6 f7)
      (pointRun.sl.HV_15 c i arg1 arg2 arg4 arg5 arg6 arg7 f1 f2 f4 f5 f6 f7) 1 1536 f
      ∧ Swept (pointRun.sl.HQ_14 c i arg1 arg2 arg3 arg4 arg5 arg6 arg7 f1 f2 f3 f4 f5 f6 f7) (pointRun.sl.HK_15 c i arg1 arg2 arg3 arg4 arg5 arg6 arg7 f1 f2 f3 f4 f5 f6 f7)
      (pointRun.sl.HV_15 c i arg1 arg2 arg4 arg5 arg6 arg7 f1 f2 f4 f5 f6 f7) 0 2048 g) :
    Swept (pointRun.sl.HQ_15 c i arg1 arg2 arg3 arg4 arg5 arg6 arg7 f1 f2 f3 f4 f5 f6 f7) (pointRun.sl.HK_16 c i arg1 arg2 arg3 arg4 arg5 arg6 arg7 f1 f2 f3 f4 f5 f6 f7)
      (pointRun.sl.HV_16 c i arg1 arg2 arg4 arg5 arg6 arg7 f1 f2 f4 f5 f6 f7) 1 1792 f
      ∧ Swept (pointRun.sl.HQ_15 c i arg1 arg2 arg3 arg4 arg5 arg6 arg7 f1 f2 f3 f4 f5 f6 f7) (pointRun.sl.HK_16 c i arg1 arg2 arg3 arg4 arg5 arg6 arg7 f1 f2 f3 f4 f5 f6 f7)
      (pointRun.sl.HV_16 c i arg1 arg2 arg4 arg5 arg6 arg7 f1 f2 f4 f5 f6 f7) 0 2048 g :=
  Swept.block (by decide) isTri hq hd rfl hS rfl (by decide) (hk.upTo (by decide)) (hv.upTo (by decide)) rfl rfl rfl

theorem second_block7
    (hS : Swept (pointRun.sl.HQ_15 c i arg1 arg2 arg3 arg4 arg5 arg6 arg7 f1 f2 f3 f4 f5 f6 f7) (pointRun.sl.HK_16 c i arg1 arg2 arg3 arg4 arg5 arg6 arg7 f1 f2 f3 f4 f5 f6 f7)
      (pointRun.sl.HV_16 c i arg1 arg2 arg4 arg5 arg6 arg7 f1 f2 f4 f5 f6 f7) 1 1792 f
      ∧ Swept (pointRun.sl.HQ_15 c i arg1 arg2 arg3 arg4 arg5 arg6 arg7 f1 f2 f3 f4 f5 f6 f7) (pointRun.sl.HK_16 c i arg1 arg2 arg3 arg4 arg5 arg6 arg7 f1 f2 f3 f4 f5 f6 f7)
      (pointRun.sl.HV_16 c i arg1 arg2 arg4 arg5 arg6 arg7 f1 f2 f4 f5 f6 f7) 0 2048 g) :
    Swept (pointRun.sl.HQ_16 c i arg1 arg2 arg3 arg4 arg5 arg6 arg7 f1 f2 f3 f4 f5 f6 f7) (pointRun.sl.HK_17 c i arg1 arg2 arg3 arg4 arg5 arg6 arg7 f1 f2 f3 f4 f5 f6 f7)
      (pointRun.sl.HV_17 c i arg1 arg2 arg4 arg5 arg6 arg7 f1 f2 f4 f5 f6 f7) 1 2048 f
      ∧ Swept (pointRun.sl.HQ_16 c i arg1 arg2 arg3 arg4 arg5 arg6 arg7 f1 f2 f3 f4 f5 f6 f7) (pointRun.sl.HK_17 c i arg1 arg2 arg3 arg4 arg5 arg6 arg7 f1 f2 f3 f4 f5 f6 f7)
      (pointRun.sl.HV_17 c i arg1 arg2 arg4 arg5 arg6 arg7 f1 f2 f4 f5 f6 f7) 0 2048 g := by
  have hk' : ∀ (x : Fin 2048) l, pointRun.sl.r_54 c i arg2 arg4 f2 f4 (ix2 x l) = ((f.k x.val l : ℝ) : EReal) := fun x l => hk x l
  have hv' : ∀ (x : Fin 2048) l, pointRun.sl.r_55 c arg3 f3 (ix2 x l) = ((f.v x.val l : ℝ) : EReal) := fun x l => hv x l
  refine Swept.block (K := 2048) (N := 1792) (qa := pointRun.sl.r_49 c i arg1 arg4 arg6 f1 f4 f6) (da := pointRun.sl.r_59 c arg5 arg7 f5 f7) (hh := 1)
    (by decide) isTri hq hd rfl hS rfl (by decide) hk' hv' (inbQ := ?_) (inb := ?_) (hc := ?_) (hc1 := ?_) (hc2 := ?_) (vK := scK.view)
    (vV := scV.view) ?_ ?_ ?_
  rotate_left 5
  · rfl
  · rfl
  · rfl
end

end Cert.Proof
-- ==== Proof.Operands.lean ====
/-
  The four operands of a head, each with the head's 64 lanes and, in the lanes the head leaves free, the terms that
  carry the gate, the softmax's statistic and the row's correction into the two products.
-/
module

public import proofs.«01_k».proof.Proof.Second
public import Idealize.ShloMosaic.Lib.Pointwise
public import Idealize.ShloMosaic.Lib.VecWindow

@[expose] public section

set_option maxRecDepth 16384

noncomputable section

namespace Cert.Proof

open Cert.KernelIdeal Cert.KernelIdeal.Gen
open Idealize.ShloMosaic
open Idealize.ShloMosaic.TcCoe
open scoped BigOperators

theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

/-- Comparisons of a lane's number. -/
theorem lane_ge {l : ℕ} (h : l < 128) (k : ℕ) (hk : k < 129 := by decide) : IntOp.cmpi .sge (BitVec.ofNat 32 l) (BitVec.ofNat 32 k) = BitVec.ofBool (decide (k ≤ l)) :=
  WordCmp.cmpi_sge_ofNat (by omega) (by omega)
theorem lane_lt {l : ℕ} (h : l < 128) (k : ℕ) (hk : k < 129 := by decide) : IntOp.cmpi .slt (BitVec.ofNat 32 l) (BitVec.ofNat 32 k) = BitVec.ofBool (decide (l < k)) :=
  WordCmp.cmpi_slt_ofNat (by omega) (by omega)
theorem lane_eq {l : ℕ} (h : l < 128) (k : ℕ) (hk : k < 129 := by decide) : IntOp.cmpi .eq (BitVec.ofNat 32 l) (BitVec.ofNat 32 k) = BitVec.ofBool (decide (l = k)) :=
  WordCmp.cmpi_eq_ofNat (by omega) (by omega)

section
variable {ch : FVec Ideal S2048x1 .f32} {g m : ℕ → ℝ} (hg : ∀ i : Fin 2048, ch (ix2 i 0) = ((g i.val : ℝ) : EReal))
  {lse : Vec Ideal S1x2048x1 .f32} (hm : ∀ i : Fin 2048, lse (ix3 0 i 0) = ((m i.val : ℝ) : EReal))
  {x : Vec Ideal S2048x128 .bf16} {f : ℕ → Fin 128 → ℝ} (hx : Reads x f)

/-- A head's queries: its lanes scaled, then the row's share of the score, and ones. -/
def laneQ (own : ℕ → Prop) [DecidablePred own] (b : ℕ) (f : ℕ → Fin 128 → ℝ) (g m : ℕ → ℝ) (i : ℕ) (l : Fin 128) : ℝ :=
  if own l.val then f i l * (1 / 8) else if l.val = b then g i - m i else if b + 3 ≤ l.val ∧ l.val < b + 6 then 1 else 0

/-- A head's keys: its lanes, ones, and the key's share of the score. -/
def laneK (own : ℕ → Prop) [DecidablePred own] (b : ℕ) (f : ℕ → Fin 128 → ℝ) (g : ℕ → ℝ) (i : ℕ) (l : Fin 128) : ℝ :=
  if own l.val then f i l else if l.val = b + 3 then -g i else if b ≤ l.val ∧ l.val < b + 3 then 1 else 0

/-- A head's values: its lanes, and ones. -/
def laneV (own : ℕ → Prop) [DecidablePred own] (b : ℕ) (f : ℕ → Fin 128 → ℝ) (i : ℕ) (l : Fin 128) : ℝ :=
  if own l.val then f i l else if b ≤ l.val ∧ l.val < b + 3 then 1 else 0

/-- A head's gradients of its output: its lanes, and the row's correction. -/
def laneD (own : ℕ → Prop) [DecidablePred own] (b : ℕ) (f : ℕ → Fin 128 → ℝ) (d : ℕ → ℝ) (i : ℕ) (l : Fin 128) : ℝ :=
  if own l.val then f i l else if l.val = b then -d i else 0

/-! ## The first head: lanes 0 to 63 -/

include hg hm hx in
theorem operandQ_first : Reads (k0_pay16 (k0_pay13 ch lse) (k0_pay14 ch lse) (iota .tc S2048x128 32 [1] iota_S2048x128_d1_w32) (k0_pay15 ch x lse))
    (laneQ (fun l => l < 64) 64 f g m) := by
  intro i l
  pointwise [k0_pay16, k0_pay13, k0_pay14, k0_pay15, k0_pay12, k0_pay11, k0_pay10, k0_pay9]
  rw [hg, hm, hx i l, ofBits_eighth]
  unfold laneQ
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hg hx in
theorem operandK_first : Reads (k0_pay25 (k0_pay20 ch) (k0_pay21 ch) (k0_pay22 ch) (iota .tc S2048x128 32 [1] iota_S2048x128_d1_w32) (k0_pay23 x) k0_pay24)
    (laneK (fun l => l < 64) 64 f g) := by
  intro i l
  pointwise [k0_pay25, k0_pay24, k0_pay23, k0_pay22, k0_pay21, k0_pay20, k0_pay19, k0_pay18, k0_pay17]
  rw [hg, hx i l, ofBits_neg_one]
  unfold laneK
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hx in
theorem operandV_first : Reads (k0_pay26 x) (laneV (fun l => l < 64) 64 f) := by
  intro i l
  pointwise [k0_pay26]
  rw [hx i l]
  unfold laneV
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hg hx in
theorem operandD_first : Reads (k0_pay32 (k0_pay7 x) (k0_pay29 ch) (k0_pay30 ch) (k0_pay31 ch)) (laneD (fun l => l < 64) 64 f g) := by
  intro i l
  pointwise [k0_pay32, k0_pay7, k0_pay29, k0_pay30, k0_pay31, k0_pay28, k0_pay27]
  rw [hg, hx i l, ofBits_neg_one]
  unfold laneD
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

/-! ## The second head: lanes 64 to 127 -/

include hg hm hx in
theorem operandQ_second : Reads (k0_pay118 (k0_pay114 ch lse) (iota .tc S2048x128 32 [1] iota_S2048x128_d1_w32) (k0_pay115 ch x lse) k0_pay116 (k0_pay117 ch lse))
    (laneQ (fun l => 64 ≤ l) 0 f g m) := by
  intro i l
  pointwise [k0_pay118, k0_pay117, k0_pay116, k0_pay115, k0_pay114, k0_pay113, k0_pay112, k0_pay111, k0_pay110]
  rw [hg, hm, hx i l, ofBits_eighth]
  unfold laneQ
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hg hx in
theorem operandK_second : Reads (k0_pay127 (k0_pay122 ch) (k0_pay123 ch) (k0_pay124 ch) (iota .tc S2048x128 32 [1] iota_S2048x128_d1_w32) (k0_pay125 x) k0_pay126
      (FloatOps.ofBits .f32 0x3F800000#32)) (laneK (fun l => 64 ≤ l) 0 f g) := by
  intro i l
  pointwise [k0_pay127, k0_pay126, k0_pay125, k0_pay124, k0_pay123, k0_pay122, k0_pay121, k0_pay120, k0_pay119]
  rw [hg, hx i l, ofBits_neg_one]
  unfold laneK
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hx in
theorem operandV_second : Reads (k0_pay128 x) (laneV (fun l => 64 ≤ l) 0 f) := by
  intro i l
  pointwise [k0_pay128]
  rw [hx i l]
  unfold laneV
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

include hg hx in
theorem operandD_second : Reads (k0_pay135 (k0_pay107 x) (k0_pay132 ch) (k0_pay133 ch) (k0_pay134 ch) (FloatOps.ofBits .f32 0xBF800000#32))
    (laneD (fun l => 64 ≤ l) 0 f g) := by
  intro i l
  pointwise [k0_pay135, k0_pay107, k0_pay134, k0_pay133, k0_pay132, k0_pay131, k0_pay130, k0_pay129]
  rw [hg, hx i l, ofBits_neg_one]
  unfold laneD
  have hl := l.isLt
  simp only [lane_ge hl 0, lane_ge hl 3, lane_ge hl 64, lane_ge hl 67, lane_lt hl 3, lane_lt hl 6, lane_lt hl 64, lane_lt hl 67, lane_lt hl 70,
    lane_lt hl 128, lane_eq hl 0, lane_eq hl 1, lane_eq hl 2, lane_eq hl 3, lane_eq hl 4, lane_eq hl 5, lane_eq hl 64, lane_eq hl 65, lane_eq hl 66,
    lane_eq hl 67, lane_eq hl 68, lane_eq hl 69, WordCmp.andi_ofBool, WordCmp.select_ofBool, Bool.and_eq_true, decide_eq_true_eq,
    ← EReal.coe_sub, ← EReal.coe_mul, sub_self, mul_zero, ← EReal.coe_zero, ← EReal.coe_one]
  split_ifs
  all_goals first | omega | rfl | (congr 1; ring)

end

/-! ## The columns that enter them -/

section
variable {x o : Vec Ideal S2048x128 .bf16} {f fo : ℕ → Fin 128 → ℝ} (hx : Reads x f) (ho : Reads o fo)

/-- A row's correction: its product with the output over the head's lanes. -/
def laneSum (own : ℕ → Prop) [DecidablePred own] (f fo : ℕ → Fin 128 → ℝ) (i : ℕ) : ℝ := ∑ l : Fin 128, if own l.val then f i l * fo i l else 0

include hx ho in
theorem laneSum_first (i : Fin 2048) : k0_pay8 k0_pay5 (k0_pay7 x) o (ix2 i 0) = ((laneSum (fun l => l < 64) f fo i.val : ℝ) : EReal) := by
  pointwise [k0_pay8, k0_pay5, k0_pay7]
  rw [laneSum, coe_sum]
  refine Finset.sum_congr rfl fun l _ => ?_
  rw [hx i l, ho i l]
  have hl := l.isLt
  simp only [lane_ge hl 0, lane_ge hl 64, lane_lt hl 64, lane_lt hl 128, WordCmp.andi_ofBool, WordCmp.select_ofBool, Bool.and_eq_true,
    decide_eq_true_eq, ← EReal.coe_mul]
  split_ifs
  all_goals first | omega | rfl

include hx ho in
theorem laneSum_second (i : Fin 2048) :
    k0_pay109 (k0_pay105 (iota .tc S2048x128 32 [1] iota_S2048x128_d1_w32)) (k0_pay108 x o) (ix2 i 0) = ((laneSum (fun l => 64 ≤ l) f fo i.val : ℝ) : EReal) := by
  pointwise [k0_pay109, k0_pay105, k0_pay108, k0_pay107]
  rw [laneSum, coe_sum]
  refine Finset.sum_congr rfl fun l _ => ?_
  rw [hx i l, ho i l]
  have hl := l.isLt
  simp only [lane_ge hl 0, lane_ge hl 64, lane_lt hl 64, lane_lt hl 128, WordCmp.andi_ofBool, WordCmp.select_ofBool, Bool.and_eq_true,
    decide_eq_true_eq, ← EReal.coe_mul]
  split_ifs
  all_goals first | omega | rfl

theorem gate_first (t : grid0.Coords) (c : Vec Ideal S2048x16 .f32) (i : Fin 2048) (hh : 2 * (t 0).val < 16) :
    k0_pay6 t c (ix2 i 0) = c (ix2 i ⟨2 * (t 0).val, hh⟩) := by
  pointwise [k0_pay6]
  have hi : ∀ h : Fin 16, IntOp.cmpi .eq (BitVec.ofNat 32 h.val) (Scalar.addi (Scalar.muli (BitVec.ofNat 32 (t 0).val) 2#32) 0#32)
      = BitVec.ofBool (decide (h.val = 2 * (t 0).val)) := by
    intro h
    have := h.isLt
    rw [show Scalar.addi (Scalar.muli (BitVec.ofNat 32 (t 0).val) 2#32) 0#32 = BitVec.ofNat 32 ((t 0).val * 2 + 0) from
      (congrArg (fun w => IntOp.addi w 0#32) (WordCmp.muli_ofNat (w := 32) (t 0).val 2)).trans (WordCmp.addi_ofNat (w := 32) _ 0),
      WordCmp.cmpi_eq_ofNat (by omega) (by omega)]
    congr 2
    exact propext (by omega)
  simp only [hi, WordCmp.select_ofBool, decide_eq_true_eq]
  rw [Finset.sum_eq_single (⟨2 * (t 0).val, hh⟩ : Fin 16)]
  · rw [if_pos rfl]
  · intro h _ hne
    exact if_neg fun e => hne (Fin.ext e)
  · exact fun h => absurd (Finset.mem_univ _) h

theorem gate_second (t : grid0.Coords) (c : Vec Ideal S2048x16 .f32) (i : Fin 2048) (hh : 2 * (t 0).val + 1 < 16) :
    k0_pay106 (BitVec.ofNat 32 (t 0).val) c (ix2 i 0) = c (ix2 i ⟨2 * (t 0).val + 1, hh⟩) := by
  pointwise [k0_pay106]
  have hi : ∀ h : Fin 16, IntOp.cmpi .eq (BitVec.ofNat 32 h.val) (Scalar.addi (Scalar.muli (BitVec.ofNat 32 (t 0).val) 2#32) 1#32)
      = BitVec.ofBool (decide (h.val = 2 * (t 0).val + 1)) := by
    intro h
    have := h.isLt
    rw [show Scalar.addi (Scalar.muli (BitVec.ofNat 32 (t 0).val) 2#32) 1#32 = BitVec.ofNat 32 ((t 0).val * 2 + 1) from
      (congrArg (fun w => IntOp.addi w 1#32) (WordCmp.muli_ofNat (w := 32) (t 0).val 2)).trans (WordCmp.addi_ofNat (w := 32) _ 1),
      WordCmp.cmpi_eq_ofNat (by omega) (by omega)]
    congr 2
    exact propext (by omega)
  simp only [hi, WordCmp.select_ofBool, decide_eq_true_eq]
  rw [Finset.sum_eq_single (⟨2 * (t 0).val + 1, hh⟩ : Fin 16)]
  · rw [if_pos rfl]
  · intro h _ hne
    exact if_neg fun e => hne (Fin.ext e)
  · exact fun h => absurd (Finset.mem_univ _) h
end

end Cert.Proof
-- ==== Proof.Step.lean ====
/-
  What one grid point leaves, named: the three planes it copies into the column windows of the gradient array, and the
  pieces it writes into the staged gate gradient. What the rounded gradients' buffer held before does not enter.
-/
module

public import proofs.«01_k».proof.Proof.Body
public import Idealize.ShloMosaic.Lib.Pipeline.Value

@[expose] public section

set_option maxRecDepth 16384

noncomputable section

namespace Cert.Proof

open Cert.KernelIdeal Cert.KernelIdeal.Gen
open Idealize.ShloMosaic
open Idealize.ShloMosaic.TcCoe

variable {F : FTy → Type} [FloatOps F]

/-- A plane of a stack of planes, copied out right after it was stored, is the stored plane. -/
theorem read_stored_plane {S S' : Shape} {e : EltTy} (M : Memref sig .tc .vmem S e) (r : Rect S) (hr : ∀ a, r.stride a = 1)
    (hq : r.shape.Squeezes S') (hc : r.shape.ShapeCasts S') (f : M.view.ty.Contents (Elt F)) (w : r.shape.Idx → Elt F e)
    (L : List (View.Piece (Elt F) S e)) :
    ReadAs.same.apply (((M.slice r hr).squeeze S' hq).view.read (Elt F) (M.view.writes (Elt F) f (⟨r, w⟩ :: L))) = shapeCast S' w hc := by
  show ((M.slice r hr).squeeze S' hq).view.read (Elt F) _ = _
  rw [Memref.read_squeeze_slice M r hr hq hc]
  refine congrArg (fun u => shapeCast S' u hc) (funext fun y => ?_)
  exact View.read_writes_cons_emb M.view f r w L y

section
variable (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x16 .f32) (harg4 : arg4.IsWhole)
    (arg5 : Memref sig .tc .vmem S2048x128 .bf16) (harg5 : arg5.IsWhole)
    (arg6 : Memref sig .tc .vmem S1x2048x128 .f32) (harg6 : arg6.IsWhole)
    (arg7 : Memref sig .tc .vmem S2048x128 .bf16) (harg7 : arg7.IsWhole)
    (arg10 : Memref sig .tc .vmem S1x2048x128 .f32) (harg10 : arg10.IsWhole)
    (f1 : BufOf (F := F) c arg1) (f2 : BufOf (F := F) c arg2) (f3 : BufOf (F := F) c arg3) (f4 : BufOf (F := F) c arg4)
    (f5 : BufOf (F := F) c arg5) (f6 : BufOf (F := F) c arg6) (f7 : BufOf (F := F) c arg7) (g : BufOf (F := F) c arrG) (fs : BufOf (F := F) c scS)

/-- The rounded gradients of q, of k and of v as one point stores them. -/
def planeQ : Vec F S1x2048x128 .bf16 :=
  k0_pay213 (pointRun.sl.r_84 c i arg1 arg2 arg3 arg4 arg5 arg6 arg7 f1 f2 f3 f4 f5 f6 f7)
def planeK : Vec F S1x2048x128 .bf16 :=
  k0_pay214 (pointRun.sl.r_85 c i arg1 arg2 arg3 arg4 arg5 arg6 arg7 f1 f2 f3 f4 f5 f6 f7)
def planeV : Vec F S1x2048x128 .bf16 :=
  k0_pay216 (pointRun.sl.r_86 c i arg1 arg2 arg4 arg5 arg6 arg7 f1 f2 f4 f5 f6 f7)

/-- A gradient array with three planes written into the point's column windows. -/
def putPlanes (w0 w1 w2 : Vec F S1x2048x128 .bf16) : BufOf (F := F) c arrG :=
  (win i 2).view.write (Elt F) ((win i 1).view.write (Elt F) ((win i 0).view.write (Elt F) g
    (shapeCast S2048x128 w0 shapeCasts_S1x2048x128_S2048x128) Finset.univ)
    (shapeCast S2048x128 w1 shapeCasts_S1x2048x128_S2048x128) Finset.univ)
    (shapeCast S2048x128 w2 shapeCasts_S1x2048x128_S2048x128) Finset.univ

/-- What the point leaves in the gradient array. -/
theorem run_array :
    (pointRun c i arg1 harg1 arg2 harg2 arg3 harg3 arg4 harg4 arg5 harg5 arg6 harg6 arg7 harg7 arg10 harg10 f1 f2 f3 f4 f5 f6 f7 g fs).1.2
      = putPlanes c i g (planeQ c i arg1 arg2 arg3 arg4 arg5 arg6 arg7 f1 f2 f3 f4 f5 f6 f7)
          (planeK c i arg1 arg2 arg3 arg4 arg5 arg6 arg7 f1 f2 f3 f4 f5 f6 f7)
          (planeV c i arg1 arg2 arg4 arg5 arg6 arg7 f1 f2 f4 f5 f6 f7) := by
  have e0 := read_stored_plane (F := F) scS (Rect.unit ![0, 0, 0] S1x2048x128.size inb_S3x2048x128_S1x2048x128_0_0_0) (fun _ => rfl)
    squeezes_S1x2048x128_S2048x128 shapeCasts_S1x2048x128_S2048x128 fs (planeQ c i arg1 arg2 arg3 arg4 arg5 arg6 arg7 f1 f2 f3 f4 f5 f6 f7) []
  have e1 := read_stored_plane (F := F) scS (Rect.unit ![1, 0, 0] S1x2048x128.size inb_S3x2048x128_S1x2048x128_1_0_0) (fun _ => rfl)
    squeezes_S1x2048x128_S2048x128 shapeCasts_S1x2048x128_S2048x128 fs (planeK c i arg1 arg2 arg3 arg4 arg5 arg6 arg7 f1 f2 f3 f4 f5 f6 f7)
    (pointRun.sl.HS_1 c i arg1 arg2 arg3 arg4 arg5 arg6 arg7 f1 f2 f3 f4 f5 f6 f7)
  have e2 := read_stored_plane (F := F) scS (Rect.unit ![2, 0, 0] S1x2048x128.size inb_S3x2048x128_S1x2048x128_2_0_0) (fun _ => rfl)
    squeezes_S1x2048x128_S2048x128 shapeCasts_S1x2048x128_S2048x128 fs (planeV c i arg1 arg2 arg4 arg5 arg6 arg7 f1 f2 f4 f5 f6 f7)
    (pointRun.sl.HS_2 c i arg1 arg2 arg3 arg4 arg5 arg6 arg7 f1 f2 f3 f4 f5 f6 f7)
  unfold putPlanes
  rw [← e0, ← e1, ← e2]
  rfl

/-- The pieces the point writes into the staged gate gradient. -/
def piecesC : List (View.Piece (Elt F) S1x2048x128 .f32) :=
  pointRun.sl.H10_3 c i arg1 arg2 arg3 arg4 arg5 arg6 arg7 f1 f2 f3 f4 f5 f6 f7

theorem run_pieces :
    (pointRun c i arg1 harg1 arg2 harg2 arg3 harg3 arg4 harg4 arg5 harg5 arg6 harg6 arg7 harg7 arg10 harg10 f1 f2 f3 f4 f5 f6 f7 g fs).1.1
      = piecesC c i arg1 arg2 arg3 arg4 arg5 arg6 arg7 f1 f2 f3 f4 f5 f6 f7 := rfl

/-- They cover the block: the first written is the whole of it. -/
theorem piecesC_cover (y : S1x2048x128.Idx) :
    ∃ pc ∈ piecesC c i arg1 arg2 arg3 arg4 arg5 arg6 arg7 f1 f2 f3 f4 f5 f6 f7, y ∈ pc.1.set := by
  refine ⟨⟨Rect.unit ![0, 0, 0] S1x2048x128.size inb_S1x2048x128_S1x2048x128_0_0_0, k0_pay3⟩, ?_, ?_⟩
  · unfold piecesC
    exact List.mem_cons_of_mem _ (List.mem_cons_of_mem _ (List.mem_singleton.mpr rfl))
  · rw [Rect.mem_set_unit]
    intro a
    refine ⟨?_, ?_⟩
    · revert a; intro a; fin_cases a <;> exact Nat.zero_le _
    · have := (y a).isLt
      revert a; intro a; fin_cases a <;> intro h <;> exact (Nat.zero_add _).symm ▸ h
end

end Cert.Proof

end
-- ==== Proof.Columns.lean ====
module

public import proofs.«01_k».proof.Proof.Acc

@[expose] public section

set_option maxRecDepth 16384
noncomputable section

namespace Cert.Proof

open Idealize.ShloMosaic
open Idealize.ShloMosaic (ix2 ix3)

/-! Columns stored over a plane. -/

section
variable {n d : ℕ} {o : ℕ} (inb) (w : (Rect.unit (s := ⟨3, ![1, n, d]⟩) ![0, 0, o] ![1, n, 1] inb).shape.Idx → Elt Ideal .f32)
  (L : List (View.Piece (Elt Ideal) ⟨3, ![1, n, d]⟩ .f32)) (r : Fin n) (l : Fin d)

/-- The column `o` of a plane, where a column was stored there. -/
theorem canon_column_in (hl : l.val = o) :
    View.canon (⟨Rect.unit (s := ⟨3, ![1, n, d]⟩) ![0, 0, o] ![1, n, 1] inb, w⟩ :: L) (ix3 0 r l) = w (ix3 (0 : Fin 1) r (0 : Fin 1)) := by
  have e : (ix3 0 r l : (⟨3, ![1, n, d]⟩ : Shape).Idx) = (Rect.unit (s := ⟨3, ![1, n, d]⟩) ![0, 0, o] ![1, n, 1] inb).emb (ix3 (0 : Fin 1) r (0 : Fin 1)) := by
    refine funext fun a => Fin.ext ?_
    match a with
    | ⟨0, _⟩ => rfl
    | ⟨1, _⟩ => show r.val = 0 + 1 * r.val; omega
    | ⟨2, _⟩ => show l.val = o + 1 * 0; omega
  rw [e]
  exact View.canon_cons_emb _ w L _

theorem canon_column_out (hl : l.val ≠ o) :
    View.canon (⟨Rect.unit (s := ⟨3, ![1, n, d]⟩) ![0, 0, o] ![1, n, 1] inb, w⟩ :: L) (ix3 0 r l) = View.canon L (ix3 0 r l) := by
  refine View.canon_cons_of_not_mem _ L fun hm => ?_
  rw [Rect.mem_set_unit] at hm
  have h2 := hm 2
  change o ≤ l.val ∧ l.val < o + 1 at h2
  omega
end

/-- Two columns stored over a whole plane. -/
theorem canon_columns {n d : ℕ} (inb1 inb0 inb) (w1 : (Rect.unit (s := ⟨3, ![1, n, d]⟩) ![0, 0, 1] ![1, n, 1] inb1).shape.Idx → Elt Ideal .f32)
    (w0 : (Rect.unit (s := ⟨3, ![1, n, d]⟩) ![0, 0, 0] ![1, n, 1] inb0).shape.Idx → Elt Ideal .f32)
    (w : (Rect.unit (s := ⟨3, ![1, n, d]⟩) ![0, 0, 0] ![1, n, d] inb).shape.Idx → Elt Ideal .f32) (r : Fin n) (l : Fin d) :
    View.canon (Val := Elt Ideal) (e := .f32) (⟨Rect.unit (s := ⟨3, ![1, n, d]⟩) ![0, 0, 1] ![1, n, 1] inb1, w1⟩
        :: ⟨Rect.unit (s := ⟨3, ![1, n, d]⟩) ![0, 0, 0] ![1, n, 1] inb0, w0⟩
        :: [⟨Rect.unit (s := ⟨3, ![1, n, d]⟩) ![0, 0, 0] ![1, n, d] inb, w⟩]) (ix3 0 r l)
      = if l.val = 0 then w0 (ix3 (0 : Fin 1) r (0 : Fin 1)) else if l.val = 1 then w1 (ix3 (0 : Fin 1) r (0 : Fin 1)) else w (ix3 (0 : Fin 1) r l) := by
  by_cases h1 : l.val = 1
  · rw [if_neg (by omega), if_pos h1, canon_column_in inb1 w1 _ r l h1]
  rw [canon_column_out inb1 w1 _ r l h1]
  by_cases h0 : l.val = 0
  · rw [if_pos h0, canon_column_in inb0 w0 _ r l h0]
  rw [if_neg h0, if_neg h1, canon_column_out inb0 w0 _ r l h0]
  have e : (ix3 0 r l : (⟨3, ![1, n, d]⟩ : Shape).Idx) = (Rect.unit (s := ⟨3, ![1, n, d]⟩) ![0, 0, 0] ![1, n, d] inb).emb (ix3 (0 : Fin 1) r l) := by
    refine funext fun a => Fin.ext ?_
    match a with
    | ⟨0, _⟩ => rfl
    | ⟨1, _⟩ => show r.val = 0 + 1 * r.val; omega
    | ⟨2, _⟩ => show l.val = 0 + 1 * l.val; omega
  refine (congrArg _ e).trans ?_
  exact View.canon_cons_emb _ w [] _

end Cert.Proof
-- ==== Proof.Point.lean ====
/-
  What one point leaves, as real numbers: the three planes of gradients and the gate gradients of the pair of heads,
  in terms of the two heads' weights and gradients of scores.
-/
module

public import proofs.«01_k».proof.Proof.Operands
public import proofs.«01_k».proof.Proof.Step
public import proofs.«01_k».proof.Proof.Columns

@[expose] public section

set_option maxRecDepth 16384

noncomputable section

namespace Cert.Proof

open Cert.KernelIdeal Cert.KernelIdeal.Gen
open Idealize.ShloMosaic
open Idealize.ShloMosaic.TcCoe
open scoped BigOperators

/-! ## The last operations -/

section
variable (a b : Vec Ideal S1x2048x128 .f32) (x y : Vec Ideal S1x2048x1 .f32) (i : Fin 2048) (l : Fin 128)

theorem plane_scaled : k0_pay213 (k0_pay210 (iota .tc S2048x128 32 [1] iota_S2048x128_d1_w32) a b) (ix3 0 i l)
    = (if 64 ≤ l.val then b (ix3 0 i l) else a (ix3 0 i l)) * ((1 / 8 : ℝ) : EReal) := by
  pointwise [k0_pay213, k0_pay210]
  rw [lane_ge l.isLt 64, WordCmp.select_ofBool, ofBits_eighth]
  simp only [decide_eq_true_eq]

theorem plane_keys : k0_pay214 (k0_pay211 (iota .tc S2048x128 32 [1] iota_S2048x128_d1_w32) a b) (ix3 0 i l)
    = if 64 ≤ l.val then b (ix3 0 i l) else a (ix3 0 i l) := by
  pointwise [k0_pay214, k0_pay211]
  rw [lane_ge l.isLt 64, WordCmp.select_ofBool]
  simp only [decide_eq_true_eq]

theorem plane_values : k0_pay216 (k0_pay215 (k0_pay209 a) (k0_pay212 (iota .tc S2048x128 32 [1] iota_S2048x128_d1_w32)) b) (ix3 0 i l)
    = if 64 ≤ l.val then b (ix3 0 i l) else a (ix3 0 i l) := by
  pointwise [k0_pay216, k0_pay215, k0_pay212, k0_pay209]
  rw [lane_ge l.isLt 64, WordCmp.select_ofBool]
  simp only [decide_eq_true_eq]

theorem gate_diff_first : k0_pay104 x y (ix3 0 i 0) = x (ix3 0 i 0) - y (ix3 0 i 0) := by
  pointwise [k0_pay104]
theorem gate_diff_second : k0_pay208 x y (ix3 0 i 0) = x (ix3 0 i 0) - y (ix3 0 i 0) := by
  pointwise [k0_pay208]
theorem gate_zero : k0_pay3 (F := Ideal) (ix3 0 i l) = 0 := by
  pointwise [k0_pay3]
theorem start_keys (j) : k0_pay1 (F := Ideal) j = 0 := by
  pointwise [k0_pay1]
theorem start_values (j) : k0_pay2 (F := Ideal) j = 0 := by
  pointwise [k0_pay2]
end

/-- The heads of a pair: the first in lanes 0 to 63, the second in lanes 64 to 127. -/
def headA (fq fk fv fd fo : ℕ → Fin 128 → ℝ) (g m : ℕ → ℝ) : Head :=
  ⟨laneQ (fun l => l < 64) 64 fq g m, laneK (fun l => l < 64) 64 fk g, laneD (fun l => l < 64) 64 fd (laneSum (fun l => l < 64) fd fo),
    laneV (fun l => l < 64) 64 fv⟩
def headB (fq fk fv fd fo : ℕ → Fin 128 → ℝ) (g m : ℕ → ℝ) : Head :=
  ⟨laneQ (fun l => 64 ≤ l) 0 fq g m, laneK (fun l => 64 ≤ l) 0 fk g, laneD (fun l => 64 ≤ l) 0 fd (laneSum (fun l => 64 ≤ l) fd fo),
    laneV (fun l => 64 ≤ l) 0 fv⟩

/-- A head's three gradients, over all lanes. -/
def Head.gradQ (f : Head) (i : ℕ) (l : Fin 128) : ℝ := ∑ y ∈ Finset.range 2048, f.ds i y * f.k y l
def Head.gradK (f : Head) (x : ℕ) (l : Fin 128) : ℝ := ∑ i ∈ Finset.range 2048, f.ds i x * f.q i l
def Head.gradV (f : Head) (x : ℕ) (l : Fin 128) : ℝ := ∑ i ∈ Finset.range 2048, f.p i x * f.d i l

/-- What the point reads, as real numbers. -/
structure PointReads (c : Dev nD) (i : grid0.Coords)
    (arg1 : Memref sig .tc .vmem S2048x128 .bf16) (arg2 : Memref sig .tc .vmem S2048x128 .bf16) (arg3 : Memref sig .tc .vmem S2048x128 .bf16)
    (arg4 : Memref sig .tc .vmem S2048x16 .f32) (arg5 : Memref sig .tc .vmem S2048x128 .bf16) (arg6 : Memref sig .tc .vmem S1x2048x128 .f32)
    (arg7 : Memref sig .tc .vmem S2048x128 .bf16)
    (f1 : BufOf (F := Ideal) c arg1) (f2 : BufOf (F := Ideal) c arg2) (f3 : BufOf (F := Ideal) c arg3) (f4 : BufOf (F := Ideal) c arg4)
    (f5 : BufOf (F := Ideal) c arg5) (f6 : BufOf (F := Ideal) c arg6) (f7 : BufOf (F := Ideal) c arg7)
    (fq fk fv fd fo : ℕ → Fin 128 → ℝ) (gA gB mA mB : ℕ → ℝ) : Prop where
  q : Reads (View.readAt (Elt Ideal) arg1.view (Rect.unit ![0, 0] S2048x128.size inb_S2048x128_S2048x128_0_0).toLoadRect f1) fq
  k : Reads (View.readAt (Elt Ideal) arg2.view (Rect.unit ![0, 0] S2048x128.size inb_S2048x128_S2048x128_0_0).toLoadRect f2) fk
  v : Reads (View.readAt (Elt Ideal) arg3.view (Rect.unit ![0, 0] S2048x128.size inb_S2048x128_S2048x128_0_0).toLoadRect f3) fv
  o : Reads (View.readAt (Elt Ideal) arg5.view (Rect.unit ![0, 0] S2048x128.size inb_S2048x128_S2048x128_0_0).toLoadRect f5) fo
  d : Reads (View.readAt (Elt Ideal) arg7.view (Rect.unit ![0, 0] S2048x128.size inb_S2048x128_S2048x128_0_0).toLoadRect f7) fd
  cA : ∀ r : Fin 2048, k0_pay6 i (View.readAt (Elt Ideal) arg4.view (Rect.unit ![0, 0] S2048x16.size inb_S2048x16_S2048x16_0_0).toLoadRect f4) (ix2 r 0)
    = ((gA r.val : ℝ) : EReal)
  cB : ∀ r : Fin 2048, k0_pay106 (BitVec.ofNat 32 (i 0).val)
    (View.readAt (Elt Ideal) arg4.view (Rect.unit ![0, 0] S2048x16.size inb_S2048x16_S2048x16_0_0).toLoadRect f4) (ix2 r 0) = ((gB r.val : ℝ) : EReal)
  sA : ∀ r : Fin 2048, View.readAt (Elt Ideal) arg6.view (Rect.unit (s := S1x2048x128) ![0, 0, 0] S1x2048x1.size inb_S1x2048x128_S1x2048x1_0_0_0).toLoadRect f6 (ix3 0 r 0)
    = ((mA r.val : ℝ) : EReal)
  sB : ∀ r : Fin 2048, View.readAt (Elt Ideal) arg6.view (Rect.unit (s := S1x2048x128) ![0, 0, 1] S1x2048x1.size inb_S1x2048x128_S1x2048x1_0_0_1).toLoadRect f6 (ix3 0 r 0)
    = ((mB r.val : ℝ) : EReal)

section
variable {c : Dev nD} {i : grid0.Coords}
    {arg1 : Memref sig .tc .vmem S2048x128 .bf16} {arg2 : Memref sig .tc .vmem S2048x128 .bf16} {arg3 : Memref sig .tc .vmem S2048x128 .bf16}
    {arg4 : Memref sig .tc .vmem S2048x16 .f32} {arg5 : Memref sig .tc .vmem S2048x128 .bf16} {arg6 : Memref sig .tc .vmem S1x2048x128 .f32}
    {arg7 : Memref sig .tc .vmem S2048x128 .bf16}
    {f1 : BufOf (F := Ideal) c arg1} {f2 : BufOf (F := Ideal) c arg2} {f3 : BufOf (F := Ideal) c arg3} {f4 : BufOf (F := Ideal) c arg4}
    {f5 : BufOf (F := Ideal) c arg5} {f6 : BufOf (F := Ideal) c arg6} {f7 : BufOf (F := Ideal) c arg7}

variable {fq fk fv fd fo : ℕ → Fin 128 → ℝ} {gA gB mA mB : ℕ → ℝ}
  (R : PointReads c i arg1 arg2 arg3 arg4 arg5 arg6 arg7 f1 f2 f3 f4 f5 f6 f7 fq fk fv fd fo gA gB mA mB)

include R in
/-- The stacks after the first head's blocks. -/
theorem swept_first : Swept (pointRun.sl.HQ_8 c i arg1 arg2 arg3 arg4 arg5 arg6 arg7 f1 f2 f3 f4 f5 f6 f7)
      (pointRun.sl.HK_9 c i arg1 arg2 arg3 arg4 arg5 arg6 arg7 f1 f2 f3 f4 f5 f6 f7) (pointRun.sl.HV_9 c i arg1 arg2 arg4 arg5 arg6 arg7 f1 f2 f4 f5 f6 f7)
      0 2048 (headA fq fk fv fd fo gA mA)
    ∧ Swept (pointRun.sl.HQ_8 c i arg1 arg2 arg3 arg4 arg5 arg6 arg7 f1 f2 f3 f4 f5 f6 f7)
      (pointRun.sl.HK_9 c i arg1 arg2 arg3 arg4 arg5 arg6 arg7 f1 f2 f3 f4 f5 f6 f7) (pointRun.sl.HV_9 c i arg1 arg2 arg4 arg5 arg6 arg7 f1 f2 f4 f5 f6 f7)
      1 0 (headB fq fk fv fd fo gB mB) := by
  have hq : Reads (pointRun.sl.r_6 c i arg1 arg4 arg6 f1 f4 f6) (headA fq fk fv fd fo gA mA).q := operandQ_first R.cA R.sA R.q
  have hk : Reads (pointRun.sl.r_11 c i arg2 arg4 f2 f4) (headA fq fk fv fd fo gA mA).k := operandK_first R.cA R.k
  have hd : Reads (pointRun.sl.r_16 c arg5 arg7 f5 f7) (headA fq fk fv fd fo gA mA).d := operandD_first (laneSum_first R.d R.o) R.d
  have hv : Reads (pointRun.sl.r_12 c arg3 f3) (headA fq fk fv fd fo gA mA).v := operandV_first R.v
  have s0 : Swept [] pointRun.sl.HK_1 pointRun.sl.HV_1 0 0 (headA fq fk fv fd fo gA mA) := Swept.start _ _ _ _ _ start_keys start_values
  have s0' : Swept [] pointRun.sl.HK_1 pointRun.sl.HV_1 1 0 (headB fq fk fv fd fo gB mB) := Swept.start _ _ _ _ _ start_keys start_values
  have s1 := first_block0 hq hk hd hv ⟨s0, s0'⟩
  have s2 := first_block1 hq hk hd hv s1
  have s3 := first_block2 hq hk hd hv s2
  have s4 := first_block3 hq hk hd hv s3
  have s5 := first_block4 hq hk hd hv s4
  have s6 := first_block5 hq hk hd hv s5
  have s7 := first_block6 hq hk hd hv s6
  exact first_block7 hq hk hd hv s7

include R in
/-- The stacks after both heads' blocks. -/
theorem swept_second : Swept (pointRun.sl.HQ_16 c i arg1 arg2 arg3 arg4 arg5 arg6 arg7 f1 f2 f3 f4 f5 f6 f7)
      (pointRun.sl.HK_17 c i arg1 arg2 arg3 arg4 arg5 arg6 arg7 f1 f2 f3 f4 f5 f6 f7) (pointRun.sl.HV_17 c i arg1 arg2 arg4 arg5 arg6 arg7 f1 f2 f4 f5 f6 f7)
      1 2048 (headB fq fk fv fd fo gB mB)
    ∧ Swept (pointRun.sl.HQ_16 c i arg1 arg2 arg3 arg4 arg5 arg6 arg7 f1 f2 f3 f4 f5 f6 f7)
      (pointRun.sl.HK_17 c i arg1 arg2 arg3 arg4 arg5 arg6 arg7 f1 f2 f3 f4 f5 f6 f7) (pointRun.sl.HV_17 c i arg1 arg2 arg4 arg5 arg6 arg7 f1 f2 f4 f5 f6 f7)
      0 2048 (headA fq fk fv fd fo gA mA) := by
  have hq : Reads (pointRun.sl.r_49 c i arg1 arg4 arg6 f1 f4 f6) (headB fq fk fv fd fo gB mB).q := operandQ_second R.cB R.sB R.q
  have hk : Reads (pointRun.sl.r_54 c i arg2 arg4 f2 f4) (headB fq fk fv fd fo gB mB).k := operandK_second R.cB R.k
  have hd : Reads (pointRun.sl.r_59 c arg5 arg7 f5 f7) (headB fq fk fv fd fo gB mB).d := operandD_second (laneSum_second R.d R.o) R.d
  have hv : Reads (pointRun.sl.r_55 c arg3 f3) (headB fq fk fv fd fo gB mB).v := operandV_second R.v
  have s0 := swept_first R
  have s1 := second_block0 hq hk hd hv ⟨s0.2, s0.1⟩
  have s2 := second_block1 hq hk hd hv s1
  have s3 := second_block2 hq hk hd hv s2
  have s4 := second_block3 hq hk hd hv s3
  have s5 := second_block4 hq hk hd hv s4
  have s6 := second_block5 hq hk hd hv s5
  have s7 := second_block6 hq hk hd hv s6
  exact second_block7 hq hk hd hv s7

/-- A load of part of a plane out of a list of stored pieces. -/
theorem load_plane {sg : RefSig} {κ : Kind} {sp : Space} (vw : View sg κ sp (⟨3, ![2, 2048, 128]⟩ : Shape) .f32) (L : Stack) {hh n o : ℕ}
    (inb : ∀ a : Fin 3, (![hh, 0, o] : Fin 3 → ℕ) a + (![1, 2048, n] : Fin 3 → ℕ) a ≤ (![2, 2048, 128] : Fin 3 → ℕ) a)
    (h : Fin 2) (e : h.val = hh) (r : Fin 2048) (j : Fin n) (l : Fin 128) (hl : l.val = o + j.val) :
    vw.readCov L (Rect.unit (s := ⟨3, ![2, 2048, 128]⟩) ![hh, 0, o] ![1, 2048, n] inb).toLoadRect (ix3 (0 : Fin 1) r j) = View.canon L (ix3 h r l) := by
  rw [View.readCov_eq_canon']
  refine congrArg (View.canon L) (funext fun a => Fin.ext ?_)
  match a with
  | ⟨0, _⟩ => show hh + 1 * 0 = h.val; omega
  | ⟨1, _⟩ => show 0 + 1 * r.val = r.val; omega
  | ⟨2, _⟩ => show o + 1 * j.val = l.val; omega

include R in
theorem planeQ_apply (r : Fin 2048) (l : Fin 128) :
    planeQ c i arg1 arg2 arg3 arg4 arg5 arg6 arg7 f1 f2 f3 f4 f5 f6 f7 (ix3 0 r l)
      = (((if 64 ≤ l.val then (headB fq fk fv fd fo gB mB).gradQ r.val l else (headA fq fk fv fd fo gA mA).gradQ r.val l) * (1 / 8) : ℝ) : EReal) := by
  refine (plane_scaled _ _ r l).trans ?_
  rw [EReal.coe_mul]
  refine congrArg (· * _) ?_
  split_ifs
  · exact (load_plane scQ.view _ _ 1 rfl r l l (by omega)).trans ((swept_second R).1.q r l r.isLt)
  · exact (load_plane scQ.view _ _ 0 rfl r l l (by omega)).trans ((swept_second R).2.q r l r.isLt)

include R in
theorem planeK_apply (r : Fin 2048) (l : Fin 128) :
    planeK c i arg1 arg2 arg3 arg4 arg5 arg6 arg7 f1 f2 f3 f4 f5 f6 f7 (ix3 0 r l)
      = ((if 64 ≤ l.val then (headB fq fk fv fd fo gB mB).gradK r.val l else (headA fq fk fv fd fo gA mA).gradK r.val l : ℝ) : EReal) := by
  refine (plane_keys _ _ r l).trans ?_
  split_ifs
  · exact (load_plane scK.view _ _ 1 rfl r l l (by omega)).trans ((swept_second R).1.k r l)
  · exact (load_plane scK.view _ _ 0 rfl r l l (by omega)).trans ((swept_second R).2.k r l)

include R in
theorem planeV_apply (r : Fin 2048) (l : Fin 128) :
    planeV c i arg1 arg2 arg4 arg5 arg6 arg7 f1 f2 f4 f5 f6 f7 (ix3 0 r l)
      = ((if 64 ≤ l.val then (headB fq fk fv fd fo gB mB).gradV r.val l else (headA fq fk fv fd fo gA mA).gradV r.val l : ℝ) : EReal) := by
  refine (plane_values _ _ r l).trans ?_
  split_ifs
  · exact (load_plane scV.view _ _ 1 rfl r l l (by omega)).trans ((swept_second R).1.v r l)
  · exact (load_plane scV.view _ _ 0 rfl r l l (by omega)).trans ((swept_second R).2.v r l)

include R in
/-- The staged gate gradients: the pair's two columns, and zeros. -/
theorem piecesC_apply (r : Fin 2048) (l : Fin 128) :
    View.canon (piecesC c i arg1 arg2 arg3 arg4 arg5 arg6 arg7 f1 f2 f3 f4 f5 f6 f7) (ix3 0 r l)
      = ((if l.val = 0 then (headA fq fk fv fd fo gA mA).gradQ r.val 64 - (headA fq fk fv fd fo gA mA).gradK r.val 67
          else if l.val = 1 then (headB fq fk fv fd fo gB mB).gradQ r.val 0 - (headB fq fk fv fd fo gB mB).gradK r.val 3 else 0 : ℝ) : EReal) := by
  have a1 : pointRun.sl.v563 c i arg1 arg2 arg3 arg4 arg5 arg6 arg7 f1 f2 f3 f4 f5 f6 f7 (ix3 0 r 0) = (((headA fq fk fv fd fo gA mA).gradQ r.val 64 : ℝ) : EReal) :=
    (load_plane scQ.view (pointRun.sl.HQ_8 c i arg1 arg2 arg3 arg4 arg5 arg6 arg7 f1 f2 f3 f4 f5 f6 f7) (o := 64) (n := 1) _ 0 rfl r (0 : Fin 1) 64 rfl).trans ((swept_first R).1.q r 64 r.isLt)
  have a2 : pointRun.sl.v565 c i arg1 arg2 arg3 arg4 arg5 arg6 arg7 f1 f2 f3 f4 f5 f6 f7 (ix3 0 r 0) = (((headA fq fk fv fd fo gA mA).gradK r.val 67 : ℝ) : EReal) :=
    (load_plane scK.view (pointRun.sl.HK_9 c i arg1 arg2 arg3 arg4 arg5 arg6 arg7 f1 f2 f3 f4 f5 f6 f7) (o := 67) (n := 1) _ 0 rfl r (0 : Fin 1) 67 rfl).trans ((swept_first R).1.k r 67)
  have b1 : pointRun.sl.v1118 c i arg1 arg2 arg3 arg4 arg5 arg6 arg7 f1 f2 f3 f4 f5 f6 f7 (ix3 0 r 0) = (((headB fq fk fv fd fo gB mB).gradQ r.val 0 : ℝ) : EReal) :=
    (load_plane scQ.view (pointRun.sl.HQ_16 c i arg1 arg2 arg3 arg4 arg5 arg6 arg7 f1 f2 f3 f4 f5 f6 f7) (o := 0) (n := 1) _ 1 rfl r (0 : Fin 1) 0 rfl).trans ((swept_second R).1.q r 0 r.isLt)
  have b2 : pointRun.sl.v1120 c i arg1 arg2 arg3 arg4 arg5 arg6 arg7 f1 f2 f3 f4 f5 f6 f7 (ix3 0 r 0) = (((headB fq fk fv fd fo gB mB).gradK r.val 3 : ℝ) : EReal) :=
    (load_plane scK.view (pointRun.sl.HK_17 c i arg1 arg2 arg3 arg4 arg5 arg6 arg7 f1 f2 f3 f4 f5 f6 f7) (o := 3) (n := 1) _ 1 rfl r (0 : Fin 1) 3 rfl).trans ((swept_second R).1.k r 3)
  have e : piecesC c i arg1 arg2 arg3 arg4 arg5 arg6 arg7 f1 f2 f3 f4 f5 f6 f7
      = ⟨Rect.unit (s := S1x2048x128) ![0, 0, 1] S1x2048x1.size inb_S1x2048x128_S1x2048x1_0_0_1, k0_pay208 (pointRun.sl.v1118 c i arg1 arg2 arg3 arg4 arg5 arg6 arg7 f1 f2 f3 f4 f5 f6 f7) (pointRun.sl.v1120 c i arg1 arg2 arg3 arg4 arg5 arg6 arg7 f1 f2 f3 f4 f5 f6 f7)⟩
        :: ⟨Rect.unit (s := S1x2048x128) ![0, 0, 0] S1x2048x1.size inb_S1x2048x128_S1x2048x1_0_0_0, k0_pay104 (pointRun.sl.v563 c i arg1 arg2 arg3 arg4 arg5 arg6 arg7 f1 f2 f3 f4 f5 f6 f7) (pointRun.sl.v565 c i arg1 arg2 arg3 arg4 arg5 arg6 arg7 f1 f2 f3 f4 f5 f6 f7)⟩
        :: [⟨Rect.unit (s := S1x2048x128) ![0, 0, 0] S1x2048x128.size inb_S1x2048x128_S1x2048x128_0_0_0, k0_pay3 (F := Ideal)⟩] := rfl
  rw [e]
  generalize hw1 : k0_pay208 (F := Ideal) (pointRun.sl.v1118 c i arg1 arg2 arg3 arg4 arg5 arg6 arg7 f1 f2 f3 f4 f5 f6 f7) (pointRun.sl.v1120 c i arg1 arg2 arg3 arg4 arg5 arg6 arg7 f1 f2 f3 f4 f5 f6 f7) = w1
  generalize hw0 : k0_pay104 (F := Ideal) (pointRun.sl.v563 c i arg1 arg2 arg3 arg4 arg5 arg6 arg7 f1 f2 f3 f4 f5 f6 f7) (pointRun.sl.v565 c i arg1 arg2 arg3 arg4 arg5 arg6 arg7 f1 f2 f3 f4 f5 f6 f7) = w0
  refine (canon_columns (n := 2048) (d := 128) inb_S1x2048x128_S1x2048x1_0_0_1 inb_S1x2048x128_S1x2048x1_0_0_0 inb_S1x2048x128_S1x2048x128_0_0_0 w1 w0 (k0_pay3 (F := Ideal)) r l).trans ?_
  subst hw1 hw0
  rw [gate_diff_first, gate_diff_second, gate_zero, a1, a2, b1, b2, ← EReal.coe_sub, ← EReal.coe_sub]
  split_ifs <;> rfl
end

end Cert.Proof
-- ==== Proof.Spec.lean ====
/-
  The attention of one head with its gate, over the reals, and its gradients; and that a head's augmented operands
  (the gate, the softmax's statistic and the row's correction carried in spare lanes) give those gradients.
-/
module

public import proofs.«01_k».proof.Proof.Point

@[expose] public section

set_option maxRecDepth 16384

noncomputable section

namespace Cert.Proof

open scoped BigOperators

/-- One head: queries, keys, values, the gradients of its outputs, and the cumulated gate. -/
structure Att where
  q : ℕ → Fin 64 → ℝ
  k : ℕ → Fin 64 → ℝ
  v : ℕ → Fin 64 → ℝ
  d : ℕ → Fin 64 → ℝ
  g : ℕ → ℝ

namespace Att
variable (A : Att)

/-- The score of key `y` for query `i`. -/
def score (i y : ℕ) : ℝ := (∑ l, A.q i l * A.k y l) * (1 / 8) + (A.g i - A.g y)

/-- The sum of a query's exponentials, each scaled by `exp (-M)`. -/
def total (M : ℝ) (i : ℕ) : ℝ := ∑ y ∈ Finset.range 2048, if y ≤ i then Real.exp (A.score i y - M) else 0

/-- The softmax of a query's scores over the keys up to it. -/
def p (i y : ℕ) : ℝ := if y ≤ i then Real.exp (A.score i y) / A.total 0 i else 0

/-- The head's output. -/
def out (i : ℕ) (l : Fin 64) : ℝ := ∑ y ∈ Finset.range 2048, A.p i y * A.v y l

/-- The gradient of a weight, of a score, of the head's inputs, and of the gate. -/
def dp (i y : ℕ) : ℝ := ∑ l, A.d i l * A.v y l
def ds (i y : ℕ) : ℝ := A.p i y * (A.dp i y - ∑ x ∈ Finset.range 2048, A.p i x * A.dp i x)
def gq (i : ℕ) (l : Fin 64) : ℝ := (∑ y ∈ Finset.range 2048, A.ds i y * A.k y l) * (1 / 8)
def gk (y : ℕ) (l : Fin 64) : ℝ := (∑ i ∈ Finset.range 2048, A.ds i y * A.q i l) * (1 / 8)
def gv (y : ℕ) (l : Fin 64) : ℝ := ∑ i ∈ Finset.range 2048, A.p i y * A.d i l
def gg (i : ℕ) : ℝ := (∑ y ∈ Finset.range 2048, A.ds i y) - ∑ x ∈ Finset.range 2048, A.ds x i

theorem total_shift (M : ℝ) (i : ℕ) : A.total M i = A.total 0 i * Real.exp (-M) := by
  unfold total
  rw [Finset.sum_mul]
  refine Finset.sum_congr rfl fun y _ => ?_
  split_ifs
  · rw [sub_zero, ← Real.exp_add, sub_eq_add_neg]
  · rw [zero_mul]

theorem total_pos (M : ℝ) {i : ℕ} (hi : i < 2048) : 0 < A.total M i := by
  unfold total
  refine Finset.sum_pos' (fun y _ => ?_) ⟨i, Finset.mem_range.mpr hi, ?_⟩
  · split_ifs
    · exact (Real.exp_pos _).le
    · exact le_rfl
  · rw [if_pos le_rfl]; exact Real.exp_pos _

/-- The exponential of a score under the log-sum, whatever the shift it was taken with. -/
theorem exp_lse (M : ℝ) {i : ℕ} (hi : i < 2048) {y : ℕ} (hy : y ≤ i) :
    Real.exp (A.score i y - (M + Real.log (A.total M i))) = A.p i y := by
  have h0 := A.total_pos 0 hi
  have hM := A.total_pos M hi
  rw [p, if_pos hy, ← sub_sub, Real.exp_sub, Real.exp_log hM, total_shift, Real.exp_sub, Real.exp_neg]
  have := Real.exp_pos M
  field_simp

/-- A weight by exponentials with any shift. -/
theorem p_shift (M : ℝ) (i : ℕ) {y : ℕ} (hy : y ≤ i) :
    Real.exp (A.score i y - M) / A.total M i = A.p i y := by
  rw [p, if_pos hy, total_shift, Real.exp_sub, Real.exp_neg, div_eq_mul_inv (Real.exp _) (Real.exp M)]
  exact mul_div_mul_right _ _ (inv_ne_zero (Real.exp_pos M).ne')

theorem p_after {i y : ℕ} (h : ¬ y ≤ i) : A.p i y = 0 := if_neg h

/-- The row's correction is the product of the output and its gradient. -/
theorem delta_eq (i : ℕ) : ∑ l, A.d i l * A.out i l = ∑ y ∈ Finset.range 2048, A.p i y * A.dp i y := by
  unfold out dp
  simp only [Finset.mul_sum]
  rw [Finset.sum_comm]
  refine Finset.sum_congr rfl fun y _ => Finset.sum_congr rfl fun l _ => ?_
  ring
end Att

/-! ## The augmented operands -/

/-- A sum over lanes with two nonzero terms. -/
theorem sum_two (F : Fin 64 → ℝ) (a b : ℝ) (h : ∀ d, F d = (if d = 0 then a else 0) + (if d = 3 then b else 0)) : ∑ d, F d = a + b := by
  simp only [h, Finset.sum_add_distrib, Finset.sum_ite_eq', Finset.mem_univ, if_true]

theorem sum_one (F : Fin 64 → ℝ) (a : ℝ) (h : ∀ d, F d = if d = 0 then a else 0) : ∑ d, F d = a := by
  simp only [h, Finset.sum_ite_eq', Finset.mem_univ, if_true]

section
variable {own : ℕ → Prop} [DecidablePred own] {b : ℕ} {e a : Fin 64 → Fin 128} (he : ∀ d, own (e d).val) (ha : ∀ d, ¬ own (a d).val)
  (hv : ∀ d, (a d).val = b + d.val) (hs : ∀ F : Fin 128 → ℝ, ∑ l, F l = ∑ d, F (e d) + ∑ d, F (a d))
  {fq fk fv fd fo : ℕ → Fin 128 → ℝ} {g m : ℕ → ℝ}

/-- The head of the own lanes. -/
def attOf (e : Fin 64 → Fin 128) (fq fk fv fd : ℕ → Fin 128 → ℝ) (g : ℕ → ℝ) : Att :=
  ⟨fun i d => fq i (e d), fun i d => fk i (e d), fun i d => fv i (e d), fun i d => fd i (e d), g⟩

def headOf (own : ℕ → Prop) [DecidablePred own] (b : ℕ) (fq fk fv fd fo : ℕ → Fin 128 → ℝ) (g m : ℕ → ℝ) : Head :=
  ⟨laneQ own b fq g m, laneK own b fk g, laneD own b fd (laneSum own fd fo), laneV own b fv⟩

include he ha hv hs in
theorem dot_qk (i y : ℕ) : ∑ l, laneQ own b fq g m i l * laneK own b fk g y l = (attOf e fq fk fv fd g).score i y - m i := by
  rw [hs, sum_two (fun d => laneQ own b fq g m i (a d) * laneK own b fk g y (a d)) (g i - m i) (- g y)]
  · have : ∀ d, laneQ own b fq g m i (e d) * laneK own b fk g y (e d) = fq i (e d) * fk y (e d) * (1 / 8) := fun d => by
      rw [laneQ, laneK, if_pos (he d), if_pos (he d)]; ring
    simp only [this, ← Finset.sum_mul]
    show _ = (∑ d, fq i (e d) * fk y (e d)) * (1 / 8) + (g i - g y) - m i
    ring
  · intro d
    rw [laneQ, laneK, if_neg (ha d), if_neg (ha d), hv d]
    have d0 : d = 0 ↔ d.val = 0 := by rw [Fin.ext_iff]; rfl
    have d3 : d = 3 ↔ d.val = 3 := by rw [Fin.ext_iff]; rfl
    simp only [d0, d3]
    split_ifs <;> first | omega | ring

include he ha hv hs in
theorem dot_dv (i y : ℕ) (D : ℕ → ℝ) : ∑ l, laneD own b fd D i l * laneV own b fv y l = (attOf e fq fk fv fd g).dp i y - D i := by
  rw [hs, sum_one (fun d => laneD own b fd D i (a d) * laneV own b fv y (a d)) (- D i)]
  · have : ∀ d, laneD own b fd D i (e d) * laneV own b fv y (e d) = fd i (e d) * fv y (e d) := fun d => by
      rw [laneD, laneV, if_pos (he d), if_pos (he d)]
    simp only [this]
    show _ = (∑ d, fd i (e d) * fv y (e d)) - D i
    ring
  · intro d
    rw [laneD, laneV, if_neg (ha d), if_neg (ha d), hv d]
    have d0 : d = 0 ↔ d.val = 0 := by rw [Fin.ext_iff]; rfl
    simp only [d0]
    split_ifs <;> first | omega | ring

include he ha hs in
theorem laneSum_own (i : ℕ) : laneSum own fd fo i = ∑ d, fd i (e d) * fo i (e d) := by
  rw [laneSum, hs, Finset.sum_eq_zero (s := Finset.univ) (f := fun d => if own (a d).val then fd i (a d) * fo i (a d) else 0)
    fun d _ => if_neg (ha d), add_zero]
  exact Finset.sum_congr rfl fun d _ => if_pos (he d)

variable (hm : ∀ i, i < 2048 → ∃ M, m i = M + Real.log ((attOf e fq fk fv fd g).total M i))
  (ho : ∀ i, i < 2048 → ∀ d, fo i (e d) = (attOf e fq fk fv fd g).out i d)

include he ha hv hs hm in
theorem headOf_p {i : ℕ} (hi : i < 2048) (y : ℕ) : (headOf own b fq fk fv fd fo g m).p i y = (attOf e fq fk fv fd g).p i y := by
  show weight (laneQ own b fq g m) (laneK own b fk g) i y = _
  unfold weight
  split_ifs with h
  · obtain ⟨M, hM⟩ := hm i hi
    rw [dot_qk (fv := fv) (fd := fd) he ha hv hs, hM, Att.exp_lse _ M hi h]
  · exact (Att.p_after _ h).symm

include he ha hv hs hm ho in
theorem headOf_ds {i : ℕ} (hi : i < 2048) (y : ℕ) : (headOf own b fq fk fv fd fo g m).ds i y = (attOf e fq fk fv fd g).ds i y := by
  have hp := headOf_p (fo := fo) he ha hv hs hm hi y
  show (headOf own b fq fk fv fd fo g m).p i y * ∑ l, laneD own b fd (laneSum own fd fo) i l * laneV own b fv y l = _
  rw [hp, dot_dv (fq := fq) (fk := fk) (g := g) he ha hv hs, laneSum_own he ha hs, Att.ds, ← Att.delta_eq]
  simp only [ho i hi]
  rfl

include he ha hv hs hm ho in
theorem headOf_gradQ {i : ℕ} (hi : i < 2048) (d : Fin 64) :
    (headOf own b fq fk fv fd fo g m).gradQ i (e d) * (1 / 8) = (attOf e fq fk fv fd g).gq i d := by
  unfold Head.gradQ Att.gq
  refine congrArg (· * _) (Finset.sum_congr rfl fun y _ => ?_)
  rw [headOf_ds he ha hv hs hm ho hi]
  exact congrArg _ (if_pos (he d))

include he ha hv hs hm ho in
theorem headOf_gradK (x : ℕ) (d : Fin 64) : (headOf own b fq fk fv fd fo g m).gradK x (e d) = (attOf e fq fk fv fd g).gk x d := by
  unfold Head.gradK Att.gk
  rw [Finset.sum_mul]
  refine Finset.sum_congr rfl fun i hi => ?_
  rw [headOf_ds he ha hv hs hm ho (Finset.mem_range.mp hi), mul_assoc]
  exact congrArg _ (if_pos (he d))

include he ha hv hs hm in
theorem headOf_gradV (x : ℕ) (d : Fin 64) : (headOf own b fq fk fv fd fo g m).gradV x (e d) = (attOf e fq fk fv fd g).gv x d := by
  unfold Head.gradV Att.gv
  refine Finset.sum_congr rfl fun i hi => ?_
  rw [headOf_p he ha hv hs hm (Finset.mem_range.mp hi)]
  exact congrArg _ (if_pos (he d))

include he ha hv hs hm ho in
/-- The gate's gradient, from the lane of ones of the keys and the lane of ones of the queries. -/
theorem headOf_gate {i : ℕ} (hi : i < 2048) :
    (headOf own b fq fk fv fd fo g m).gradQ i (a 0) - (headOf own b fq fk fv fd fo g m).gradK i (a 3) = (attOf e fq fk fv fd g).gg i := by
  unfold Head.gradQ Head.gradK Att.gg
  have hk : ∀ y, (headOf own b fq fk fv fd fo g m).k y (a 0) = 1 := fun y => by
    show laneK own b fk g y (a 0) = 1
    have h0 : (a 0).val = b := hv 0
    rw [laneK, if_neg (ha 0), if_neg (by omega), if_pos (by omega)]
  have hq : ∀ y, (headOf own b fq fk fv fd fo g m).q y (a 3) = 1 := fun y => by
    show laneQ own b fq g m y (a 3) = 1
    have h3 : (a 3).val = b + 3 := hv 3
    rw [laneQ, if_neg (ha 3), if_neg (by omega), if_pos (by omega)]
  refine congrArg₂ (· - ·) (Finset.sum_congr rfl fun y _ => ?_) (Finset.sum_congr rfl fun x hx => ?_)
  · rw [hk, mul_one, headOf_ds he ha hv hs hm ho hi]
  · rw [hq, mul_one, headOf_ds he ha hv hs hm ho (Finset.mem_range.mp hx)]
end

theorem headA_eq (fq fk fv fd fo : ℕ → Fin 128 → ℝ) (g m : ℕ → ℝ) :
    headA fq fk fv fd fo g m = headOf (fun l => l < 64) 64 fq fk fv fd fo g m := rfl
theorem headB_eq (fq fk fv fd fo : ℕ → Fin 128 → ℝ) (g m : ℕ → ℝ) :
    headB fq fk fv fd fo g m = headOf (fun l => 64 ≤ l) 0 fq fk fv fd fo g m := rfl

/-- The lanes of the lower and of the upper half. -/
def lower (d : Fin 64) : Fin 128 := ⟨d.val, by omega⟩
def upper (d : Fin 64) : Fin 128 := ⟨64 + d.val, by omega⟩

theorem lower_own (d : Fin 64) : (lower d).val < 64 := d.isLt
theorem upper_not (d : Fin 64) : ¬ (upper d).val < 64 := by show ¬ 64 + d.val < 64; omega
theorem upper_own (d : Fin 64) : 64 ≤ (upper d).val := Nat.le_add_right _ _
theorem lower_not (d : Fin 64) : ¬ 64 ≤ (lower d).val := by show ¬ 64 ≤ d.val; omega
theorem upper_val (d : Fin 64) : (upper d).val = 64 + d.val := rfl
theorem lower_val (d : Fin 64) : (lower d).val = 0 + d.val := (Nat.zero_add _).symm

theorem sum_halves (F : Fin 128 → ℝ) : ∑ l, F l = ∑ d, F (lower d) + ∑ d, F (upper d) :=
  Fin.sum_univ_add (a := 64) (b := 64) F

theorem sum_halves' (F : Fin 128 → ℝ) : ∑ l, F l = ∑ d, F (upper d) + ∑ d, F (lower d) := by
  rw [sum_halves, add_comm]

section
variable {fq fk fv fd fo : ℕ → Fin 128 → ℝ} {g m : ℕ → ℝ}

section
variable (hm : ∀ i, i < 2048 → ∃ M, m i = M + Real.log ((attOf lower fq fk fv fd g).total M i))
  (ho : ∀ i, i < 2048 → ∀ d, fo i (lower d) = (attOf lower fq fk fv fd g).out i d)
include hm ho

theorem headA_gradQ {i : ℕ} (hi : i < 2048) (d : Fin 64) :
    (headA fq fk fv fd fo g m).gradQ i (lower d) * (1 / 8) = (attOf lower fq fk fv fd g).gq i d := by
  rw [headA_eq]; exact headOf_gradQ (own := fun l => l < 64) (a := upper) lower_own upper_not upper_val sum_halves hm ho hi d
theorem headA_gradK (i : ℕ) (d : Fin 64) : (headA fq fk fv fd fo g m).gradK i (lower d) = (attOf lower fq fk fv fd g).gk i d := by
  rw [headA_eq]; exact headOf_gradK (own := fun l => l < 64) (a := upper) lower_own upper_not upper_val sum_halves hm ho i d
theorem headA_gradV (i : ℕ) (d : Fin 64) : (headA fq fk fv fd fo g m).gradV i (lower d) = (attOf lower fq fk fv fd g).gv i d := by
  rw [headA_eq]; exact headOf_gradV (own := fun l => l < 64) (a := upper) lower_own upper_not upper_val sum_halves hm i d
theorem headA_gate {i : ℕ} (hi : i < 2048) :
    (headA fq fk fv fd fo g m).gradQ i 64 - (headA fq fk fv fd fo g m).gradK i 67 = (attOf lower fq fk fv fd g).gg i := by
  rw [headA_eq]; exact headOf_gate (own := fun l => l < 64) (a := upper) lower_own upper_not upper_val sum_halves hm ho hi
end

section
variable (hm : ∀ i, i < 2048 → ∃ M, m i = M + Real.log ((attOf upper fq fk fv fd g).total M i))
  (ho : ∀ i, i < 2048 → ∀ d, fo i (upper d) = (attOf upper fq fk fv fd g).out i d)
include hm ho

theorem headB_gradQ {i : ℕ} (hi : i < 2048) (d : Fin 64) :
    (headB fq fk fv fd fo g m).gradQ i (upper d) * (1 / 8) = (attOf upper fq fk fv fd g).gq i d := by
  rw [headB_eq]; exact headOf_gradQ (own := fun l => 64 ≤ l) (a := lower) upper_own lower_not lower_val sum_halves' hm ho hi d
theorem headB_gradK (i : ℕ) (d : Fin 64) : (headB fq fk fv fd fo g m).gradK i (upper d) = (attOf upper fq fk fv fd g).gk i d := by
  rw [headB_eq]; exact headOf_gradK (own := fun l => 64 ≤ l) (a := lower) upper_own lower_not lower_val sum_halves' hm ho i d
theorem headB_gradV (i : ℕ) (d : Fin 64) : (headB fq fk fv fd fo g m).gradV i (upper d) = (attOf upper fq fk fv fd g).gv i d := by
  rw [headB_eq]; exact headOf_gradV (own := fun l => 64 ≤ l) (a := lower) upper_own lower_not lower_val sum_halves' hm i d
theorem headB_gate {i : ℕ} (hi : i < 2048) :
    (headB fq fk fv fd fo g m).gradQ i 0 - (headB fq fk fv fd fo g m).gradK i 3 = (attOf upper fq fk fv fd g).gg i := by
  rw [headB_eq]; exact headOf_gate (own := fun l => 64 ≤ l) (a := lower) upper_own lower_not lower_val sum_halves' hm ho hi
end
end

end Cert.Proof
-- ==== Proof.HostSteps.lean ====
/-
  The host's lines, one array after the other: the scores, the softmax with its maximum, the output and the log-sum
  that the kernel takes, and the lines of the reference's gradient. Each is read at an index.
-/
module

public import proofs.«01_k».proof.Proof.Spec
public import proofs.«01_k».proof.Proof.Gen.ReferenceIdeal

@[expose] public section

set_option maxRecDepth 16384

noncomputable section

namespace Cert.Proof.Lines

open Cert.ReferenceIdeal Cert.ReferenceIdeal.Gen
open Idealize.ShloMosaic
open Idealize.ShloMosaic (ix2 ix3)
open scoped BigOperators

variable (z : FVec Ideal S2048x6144 .bf16) (c : FVec Ideal S2048x16 .f32) (d : FVec Ideal S2048x1024 .bf16)
  (q k v g : FVec Ideal S2048x16x64 .bf16) (s e p dp ds : FVec Ideal S16x2048x2048 .f32) (t : FVec Ideal S16x2048 .f32) (l cr : FVec Ideal S16x2048x1 .f32)

/-! ## The arrays -/

def zero : FVec Ideal S_ .f32 := constant S_ .f32 0x00000000#32
def negInf : FVec Ideal S_ .f32 := constant S_ .f32 0xFF800000#32

def splitQ : FVec Ideal S2048x16x64 .bf16 :=
  shapeCast _ (extractStridedSlice S2048x1024 ![0, 3072] z slices_S2048x6144_S2048x1024_0_3072) shapeCasts_S2048x1024_S2048x16x64
def splitK : FVec Ideal S2048x16x64 .bf16 :=
  shapeCast _ (extractStridedSlice S2048x1024 ![0, 4096] z slices_S2048x6144_S2048x1024_0_4096) shapeCasts_S2048x1024_S2048x16x64
def splitV : FVec Ideal S2048x16x64 .bf16 :=
  shapeCast _ (extractStridedSlice S2048x1024 ![0, 5120] z slices_S2048x6144_S2048x1024_0_5120) shapeCasts_S2048x1024_S2048x16x64
def splitD : FVec Ideal S2048x16x64 .bf16 := shapeCast _ d shapeCasts_S2048x1024_S2048x16x64

def causal : IVec S16x2048x2048 1 :=
  broadcastInDim S16x2048x2048 ![1, 2] bcast_S2048x2048_S16x2048x2048_1_2
    (cmpi .sge (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0))))

def scores : FVec Ideal S16x2048x2048 .f32 :=
  select causal
    (addf (mulf (extf .f32 (truncf .bf16 (Host.dotGeneral dot_S2048x16x64_S2048x16x64_S16x2048x2048_2_2_0_0_1_1 none q k) bitsLt_bf16_f32) bitsLt_bf16_f32)
        (broadcastInDim S16x2048x2048 ![] bcast_S_S16x2048x2048 (constant S_ .f32 0x3E000000#32)))
      (subf (broadcastInDim S16x2048x2048 ![0, 1, 2] bcast_S16x2048x1_S16x2048x2048_0_1_2
          (broadcastInDim S16x2048x1 ![0, 1] bcast_S16x2048_S16x2048x1_0_1 (transpose S16x2048 [1, 0] c transposes_S2048x16_S16x2048_1_0)))
        (broadcastInDim S16x2048x2048 ![0, 1, 2] bcast_S16x1x2048_S16x2048x2048_0_1_2
          (broadcastInDim S16x1x2048 ![0, 2] bcast_S16x2048_S16x1x2048_0_2 (transpose S16x2048 [1, 0] c transposes_S2048x16_S16x2048_1_0)))))
    (broadcastInDim S16x2048x2048 ![] bcast_S_S16x2048x2048 (id negInf))

def rowMax : FVec Ideal S16x2048 .f32 := Host.reduce FloatOps.maximumf s negInf reducesTo_S16x2048x2048_S16x2048_d2 h_S_
def keep : FVec Ideal S16x2048x1 .f32 := broadcastInDim S16x2048x1 ![0, 1] bcast_S16x2048_S16x2048x1_0_1 t
def along : FVec Ideal S16x2048x2048 .f32 := broadcastInDim S16x2048x2048 ![0, 1, 2] bcast_S16x2048x1_S16x2048x2048_0_1_2 l
def expo : FVec Ideal S16x2048x2048 .f32 := Host.exp (subf s (along l))
def rowSum : FVec Ideal S16x2048 .f32 := Host.reduceAdd e zero reducesTo_S16x2048x2048_S16x2048_d2 h_S_
def prob : FVec Ideal S16x2048x2048 .f32 := Host.divf e (along l)

/-- The heads' outputs, and the log-sums of pairs of heads in their blocks. -/
def outs : FVec Ideal S2048x1024 .bf16 :=
  shapeCast _ (truncf .bf16 (transpose S2048x16x64 [2, 0, 1]
    (Host.dotGeneral dot_S2048x16x64_S16x2048x2048_S16x64x2048_0_2_2_1_1_0 none v (truncf .bf16 p bitsLt_bf16_f32)) transposes_S16x64x2048_S2048x16x64_2_0_1)
    bitsLt_bf16_f32) shapeCasts_S2048x16x64_S2048x1024

/-! ## The gradient's arrays -/

def ct : FVec Ideal S16x64x2048 .f32 := transpose S16x64x2048 [1, 2, 0] (extf .f32 g bitsLt_bf16_f32) transposes_S2048x16x64_S16x64x2048_1_2_0
def dProb : FVec Ideal S16x2048x2048 .f32 :=
  extf .f32 (truncf .bf16 (Host.dotGeneral dot_S16x64x2048_S2048x16x64_S16x2048x2048_1_2_2_0_0_1 none (ct g) v) bitsLt_bf16_f32) bitsLt_bf16_f32
def dValue : FVec Ideal S2048x16x64 .bf16 :=
  truncf .bf16 (transpose S2048x16x64 [2, 0, 1]
    (Host.dotGeneral dot_S16x64x2048_S16x2048x2048_S16x64x2048_2_1_1_2_0_0 none (ct g) (truncf .bf16 p bitsLt_bf16_f32)) transposes_S16x64x2048_S2048x16x64_2_0_1)
    bitsLt_bf16_f32
def invSquare : FVec Ideal S16x2048x1 .f32 := Host.divf (broadcastInDim S16x2048x1 ![] bcast_S_S16x2048x1 (constant S_ .f32 0x3F800000#32)) (mulf l l)
def correction : FVec Ideal S16x2048 .f32 :=
  Host.reduceAdd (Host.negf (shapeCast S16x2048x1 (rowSum (mulf (mulf dp (along (invSquare l))) e)) shapeCasts_S16x2048_S16x2048x1)) zero
    reducesTo_S16x2048x1_S16x2048_d2 h_S_
def dScore : FVec Ideal S16x2048x2048 .f32 :=
  select causal (mulf (addf (Host.divf dp (along l)) (broadcastInDim S16x2048x2048 ![0, 1] bcast_S16x2048_S16x2048x2048_0_1 t)) e)
    (broadcastInDim S16x2048x2048 ![] bcast_S_S16x2048x2048 zero)
def dGate : FVec Ideal S2048x16 .f32 :=
  addf (transpose S2048x16 [1, 0] (Host.reduceAdd (shapeCast S16x1x2048 (Host.reduceAdd (Host.negf ds) zero reducesTo_S16x2048x2048_S16x2048_d1 h_S_)
      shapeCasts_S16x2048_S16x1x2048) zero reducesTo_S16x1x2048_S16x2048_d1 h_S_) transposes_S16x2048_S2048x16_1_0)
    (transpose S2048x16 [1, 0] (Host.reduceAdd (shapeCast S16x2048x1 (rowSum ds) shapeCasts_S16x2048_S16x2048x1) zero reducesTo_S16x2048x1_S16x2048_d2 h_S_)
      transposes_S16x2048_S2048x16_1_0)
def scaled : FVec Ideal S16x2048x2048 .f32 :=
  extf .f32 (truncf .bf16 (mulf ds (broadcastInDim S16x2048x2048 ![] bcast_S_S16x2048x2048 (constant S_ .f32 0x3E000000#32))) bitsLt_bf16_f32) bitsLt_bf16_f32
def dKey : FVec Ideal S2048x16x64 .bf16 :=
  truncf .bf16 (transpose S2048x16x64 [1, 0, 2] (Host.dotGeneral dot_S16x2048x2048_S2048x16x64_S16x2048x64_1_0_2_2_0_1 none (scaled ds) q)
    transposes_S16x2048x64_S2048x16x64_1_0_2) bitsLt_bf16_f32
def dQuery : FVec Ideal S2048x16x64 .bf16 :=
  truncf .bf16 (transpose S2048x16x64 [1, 0, 2] (Host.dotGeneral dot_S16x2048x2048_S2048x16x64_S16x2048x64_2_0_1_2_0_1 none (scaled ds) k)
    transposes_S16x2048x64_S2048x16x64_1_0_2) bitsLt_bf16_f32
def merge : FVec Ideal S2048x1024 .bf16 := shapeCast _ q shapeCasts_S2048x16x64_S2048x1024

/-! ## Read at an index -/

theorem splitQ_apply (i : Fin 2048) (h : Fin 16) (a : Fin 64) : splitQ z (ix3 i h a) = z (ix2 i ⟨3072 + (h.val * 64 + a.val), by omega⟩) := by
  pointwise [splitQ]
theorem splitK_apply (i : Fin 2048) (h : Fin 16) (a : Fin 64) : splitK z (ix3 i h a) = z (ix2 i ⟨4096 + (h.val * 64 + a.val), by omega⟩) := by
  pointwise [splitK]
theorem splitV_apply (i : Fin 2048) (h : Fin 16) (a : Fin 64) : splitV z (ix3 i h a) = z (ix2 i ⟨5120 + (h.val * 64 + a.val), by omega⟩) := by
  pointwise [splitV]
theorem splitD_apply (i : Fin 2048) (h : Fin 16) (a : Fin 64) : splitD d (ix3 i h a) = d (ix2 i ⟨h.val * 64 + a.val, by omega⟩) := by
  pointwise [splitD]
theorem causal_apply (h : Fin 16) (i y : Fin 2048) : causal (ix3 h i y) = BitVec.ofBool (decide (y.val ≤ i.val)) := by
  pointwise [causal]
  exact WordCmp.cmpi_sge_ofNat (by omega) (by omega)
theorem scores_apply (h : Fin 16) (i y : Fin 2048) : scores c q k (ix3 h i y)
    = Scalar.select (causal (ix3 h i y)) ((∑ a, q (ix3 i h a) * k (ix3 y h a)) * ((1 / 8 : ℝ) : EReal) + (c (ix2 i h) - c (ix2 y h))) ⊥ := by
  pointwise [scores, negInf, id]
  rw [ofBits_eighth, ofBits_neg_inf]
theorem rowMax_apply (h : Fin 16) (i : Fin 2048) : rowMax s (ix2 h i) = Finset.univ.fold max ⊥ fun y => s (ix3 h i y) := by
  pointwise [rowMax]
  exact congrArg (fun b => Finset.fold max b (fun y => s (ix3 h i y)) Finset.univ) ofBits_neg_inf
theorem expo_apply (h : Fin 16) (i y : Fin 2048) : expo s l (ix3 h i y) = Ideal.exp (s (ix3 h i y) - l (ix3 h i 0)) := by
  pointwise [expo, along]
theorem rowSum_apply (h : Fin 16) (i : Fin 2048) : rowSum e (ix2 h i) = ∑ y, e (ix3 h i y) := by
  pointwise [rowSum, zero]
theorem keep_apply (h : Fin 16) (i : Fin 2048) : keep t (ix3 h i 0) = t (ix2 h i) := by
  pointwise [keep]
theorem prob_apply (h : Fin 16) (i y : Fin 2048) : prob e l (ix3 h i y) = Ideal.div (e (ix3 h i y)) (l (ix3 h i 0)) := by
  pointwise [prob, along]
theorem outs_apply (i : Fin 2048) (x : Fin 1024) : outs v p (ix2 i x)
    = ∑ y, v (ix3 y ⟨x.val / 64, by omega⟩ ⟨x.val % 64, by omega⟩) * p (ix3 ⟨x.val / 64, by omega⟩ i y) := by
  pointwise [outs]
theorem dProb_apply (h : Fin 16) (i y : Fin 2048) : dProb v g (ix3 h i y) = ∑ a, g (ix3 i h a) * v (ix3 y h a) := by
  pointwise [dProb, ct]
theorem dValue_apply (y : Fin 2048) (h : Fin 16) (a : Fin 64) : dValue g p (ix3 y h a) = ∑ i, g (ix3 i h a) * p (ix3 h i y) := by
  pointwise [dValue, ct]
theorem invSquare_apply (h : Fin 16) (i : Fin 2048) : invSquare l (ix3 h i 0) = Ideal.div 1 (l (ix3 h i 0) * l (ix3 h i 0)) := by
  pointwise [invSquare]
theorem correction_apply (h : Fin 16) (i : Fin 2048) : correction e dp l (ix2 h i)
    = - ∑ y, dp (ix3 h i y) * (invSquare l (ix3 h i 0)) * e (ix3 h i y) := by
  pointwise [correction, rowSum, along, zero]
  simp only [Finset.sum_const, Finset.card_univ, Fintype.card_fin, one_smul]
theorem dScore_apply (h : Fin 16) (i y : Fin 2048) : dScore e dp t l (ix3 h i y)
    = Scalar.select (causal (ix3 h i y)) ((Ideal.div (dp (ix3 h i y)) (l (ix3 h i 0)) + t (ix2 h i)) * e (ix3 h i y)) 0 := by
  pointwise [dScore, along, zero]
theorem dGate_apply (i : Fin 2048) (h : Fin 16) : dGate ds (ix2 i h) = (∑ x, -ds (ix3 h x i)) + ∑ y, ds (ix3 h i y) := by
  pointwise [dGate, rowSum, zero]
  simp only [Finset.sum_const, Finset.card_univ, Fintype.card_fin, one_smul]
theorem dKey_apply (y : Fin 2048) (h : Fin 16) (a : Fin 64) : dKey q ds (ix3 y h a) = ∑ i, ds (ix3 h i y) * ((1 / 8 : ℝ) : EReal) * q (ix3 i h a) := by
  pointwise [dKey, scaled]
  rw [ofBits_eighth]
theorem dQuery_apply (i : Fin 2048) (h : Fin 16) (a : Fin 64) : dQuery k ds (ix3 i h a) = ∑ y, ds (ix3 h i y) * ((1 / 8 : ℝ) : EReal) * k (ix3 y h a) := by
  pointwise [dQuery, scaled]
  rw [ofBits_eighth]
theorem merge_apply (i : Fin 2048) (x : Fin 1024) : merge q (ix2 i x) = q (ix3 i ⟨x.val / 64, by omega⟩ ⟨x.val % 64, by omega⟩) := by
  pointwise [merge]

end Cert.Proof.Lines
-- ==== Proof.HostVals.lean ====
/-
  The host's lines over real inputs: the scores' exponentials, their sums and weights, the outputs, and every line of
  the reference's gradient, as the real numbers of the specification.
-/
module

public import proofs.«01_k».proof.Proof.HostSteps

@[expose] public section

set_option maxRecDepth 16384

noncomputable section

namespace Cert.Proof.Lines

open Cert.ReferenceIdeal Cert.ReferenceIdeal.Gen
open Idealize.ShloMosaic
open Idealize.ShloMosaic (ix2 ix3)
open scoped BigOperators

/-- A sum over rows of real numbers. -/
theorem coe_rows (n : ℕ) (f : ℕ → ℝ) : ∑ y : Fin n, ((f y.val : ℝ) : EReal) = ((∑ y ∈ Finset.range n, f y : ℝ) : EReal) := by
  rw [Finset.sum_range, coe_sum]

/-- A quotient of real numbers. -/
theorem div_real (x : ℝ) {y : ℝ} (h : y ≠ 0) : Ideal.div (x : EReal) (y : EReal) = ((x / y : ℝ) : EReal) := by
  rw [Ideal.div_coe h, ← EReal.coe_mul, mul_one_div]

/-- The maximum of finitely many entries, each a real number or `-∞`, one at least a real number. -/
theorem fold_max_real {n : ℕ} (f : Fin n → EReal) (i : Fin n) (r : ℝ) (hi : f i = (r : EReal)) (hf : ∀ y, f y < ⊤) :
    ∃ M : ℝ, Finset.univ.fold max ⊥ f = (M : EReal) := by
  have h1 : Finset.univ.fold max ⊥ f < ⊤ := (Finset.fold_max_lt _).mpr ⟨bot_lt_top, fun y _ => hf y⟩
  have h2 : ⊥ < Finset.univ.fold max ⊥ f := (Finset.lt_fold_max _).mpr (Or.inr ⟨i, Finset.mem_univ _, by rw [hi]; exact EReal.bot_lt_coe r⟩)
  exact ⟨_, (EReal.coe_toReal h1.ne h2.ne').symm⟩

theorem select_causal (h : Fin 16) (i y : Fin 2048) (a b : EReal) : Scalar.select (causal (ix3 h i y)) a b = if y.val ≤ i.val then a else b := by
  rw [causal_apply, WordCmp.select_ofBool]
  simp only [decide_eq_true_eq]

/-- The heads' real numbers behind the arrays. -/
structure HeadReads (A : ℕ → Att) (q k v g : FVec Ideal S2048x16x64 .bf16) (c : FVec Ideal S2048x16 .f32) : Prop where
  q : ∀ i h a, q (ix3 i h a) = (((A h.val).q i.val a : ℝ) : EReal)
  k : ∀ i h a, k (ix3 i h a) = (((A h.val).k i.val a : ℝ) : EReal)
  v : ∀ i h a, v (ix3 i h a) = (((A h.val).v i.val a : ℝ) : EReal)
  d : ∀ i h a, g (ix3 i h a) = (((A h.val).d i.val a : ℝ) : EReal)
  c : ∀ i h, c (ix2 i h) = (((A h.val).g i.val : ℝ) : EReal)

variable {A : ℕ → Att} {q k v g : FVec Ideal S2048x16x64 .bf16} {c : FVec Ideal S2048x16 .f32}

section
variable (R : HeadReads A q k v g c)
include R

theorem scores_val (h : Fin 16) (i y : Fin 2048) :
    scores c q k (ix3 h i y) = if y.val ≤ i.val then (((A h.val).score i.val y.val : ℝ) : EReal) else ⊥ := by
  rw [scores_apply, select_causal]
  simp only [R.q, R.k, R.c]
  rw [sum_coe_mul, ← EReal.coe_mul, ← EReal.coe_sub, ← EReal.coe_add]
  rfl

theorem rowMax_val (h : Fin 16) (i : Fin 2048) : ∃ M : ℝ, rowMax (scores c q k) (ix2 h i) = (M : EReal) := by
  rw [rowMax_apply]
  refine fold_max_real _ i _ ((scores_val R h i i).trans (if_pos le_rfl)) fun y => ?_
  rw [scores_val R]
  split_ifs
  · exact EReal.coe_lt_top _
  · exact bot_lt_top

-- From here on `mx` is a row's shift, any real number.
variable {mx : FVec Ideal S16x2048x1 .f32} {M : Fin 16 → Fin 2048 → ℝ} (hM : ∀ h i, mx (ix3 h i 0) = ((M h i : ℝ) : EReal))
include hM

theorem expo_val (h : Fin 16) (i y : Fin 2048) :
    expo (scores c q k) mx (ix3 h i y) = ((if y.val ≤ i.val then Real.exp ((A h.val).score i.val y.val - M h i) else 0 : ℝ) : EReal) := by
  rw [expo_apply, scores_val R, hM]
  split_ifs
  · rw [← EReal.coe_sub, Ideal.exp_coe]
  · rw [EReal.bot_sub, Ideal.exp_bot]; rfl

theorem total_val (h : Fin 16) (i : Fin 2048) :
    keep (rowSum (expo (scores c q k) mx)) (ix3 h i 0) = (((A h.val).total (M h i) i.val : ℝ) : EReal) := by
  rw [keep_apply, rowSum_apply]
  simp only [expo_val R hM]
  exact coe_rows 2048 fun y => if y ≤ i.val then Real.exp ((A h.val).score i.val y - M h i) else 0

theorem prob_val (h : Fin 16) (i y : Fin 2048) :
    prob (expo (scores c q k) mx) (keep (rowSum (expo (scores c q k) mx))) (ix3 h i y) = (((A h.val).p i.val y.val : ℝ) : EReal) := by
  rw [prob_apply, expo_val R hM, total_val R hM, div_real _ (Att.total_pos _ _ i.isLt).ne']
  by_cases hy : y.val ≤ i.val
  · rw [if_pos hy, Att.p_shift _ _ _ hy]
  · rw [if_neg hy, zero_div, Att.p_after _ hy]

theorem outs_val (i : Fin 2048) (x : Fin 1024) :
    outs v (prob (expo (scores c q k) mx) (keep (rowSum (expo (scores c q k) mx)))) (ix2 i x)
      = (((A (x.val / 64)).out i.val ⟨x.val % 64, Nat.mod_lt _ (by omega)⟩ : ℝ) : EReal) := by
  rw [outs_apply]
  simp only [prob_val R hM, R.v, ← EReal.coe_mul]
  rw [coe_rows 2048 fun y => (A (x.val / 64)).v y ⟨x.val % 64, Nat.mod_lt _ (by omega)⟩ * (A (x.val / 64)).p i.val y]
  simp only [mul_comm ((A (x.val / 64)).v _ _)]
  rfl

/-! ## The reference's gradient -/

omit hM in
theorem dProb_val (h : Fin 16) (i y : Fin 2048) : dProb v g (ix3 h i y) = (((A h.val).dp i.val y.val : ℝ) : EReal) := by
  rw [dProb_apply]
  simp only [R.d, R.v]
  rw [sum_coe_mul]
  rfl

theorem dValue_val (y : Fin 2048) (h : Fin 16) (a : Fin 64) :
    dValue g (prob (expo (scores c q k) mx) (keep (rowSum (expo (scores c q k) mx)))) (ix3 y h a) = (((A h.val).gv y.val a : ℝ) : EReal) := by
  rw [dValue_apply]
  simp only [prob_val R hM, R.d, ← EReal.coe_mul]
  rw [coe_rows 2048 fun i => (A h.val).d i a * (A h.val).p i y.val]
  simp only [mul_comm ((A h.val).d _ _)]
  rfl

theorem correction_val (h : Fin 16) (i : Fin 2048) :
    correction (expo (scores c q k) mx) (dProb v g) (keep (rowSum (expo (scores c q k) mx))) (ix2 h i)
      = ((-((∑ y ∈ Finset.range 2048, (A h.val).p i.val y * (A h.val).dp i.val y) / (A h.val).total (M h i) i.val) : ℝ) : EReal) := by
  have ht := (Att.total_pos (A h.val) (M h i) i.isLt).ne'
  rw [correction_apply, invSquare_apply, total_val R hM, ← EReal.coe_mul, ← EReal.coe_one, div_real _ (mul_ne_zero ht ht)]
  simp only [dProb_val R, expo_val R hM, ← EReal.coe_mul]
  rw [coe_rows 2048 fun y => (A h.val).dp i.val y * (1 / ((A h.val).total (M h i) i.val * (A h.val).total (M h i) i.val))
      * (if y ≤ i.val then Real.exp ((A h.val).score i.val y - M h i) else 0), ← EReal.coe_neg, Finset.sum_div]
  refine congrArg (fun x : ℝ => ((-x : ℝ) : EReal)) (Finset.sum_congr rfl fun y _ => ?_)
  by_cases hy : y ≤ i.val
  · rw [if_pos hy, ← Att.p_shift (A h.val) (M h i) _ hy]
    field_simp
  · rw [if_neg hy, Att.p_after _ hy, mul_zero, zero_mul, zero_div]

theorem dScore_val (h : Fin 16) (i y : Fin 2048) :
    dScore (expo (scores c q k) mx) (dProb v g)
        (correction (expo (scores c q k) mx) (dProb v g) (keep (rowSum (expo (scores c q k) mx)))) (keep (rowSum (expo (scores c q k) mx))) (ix3 h i y)
      = (((A h.val).ds i.val y.val : ℝ) : EReal) := by
  have ht := (Att.total_pos (A h.val) (M h i) i.isLt).ne'
  rw [dScore_apply, select_causal, dProb_val R, total_val R hM, correction_val R hM, expo_val R hM, div_real _ ht, ← EReal.coe_add, ← EReal.coe_mul]
  by_cases hy : y.val ≤ i.val
  · rw [if_pos hy, if_pos hy, Att.ds, ← Att.p_shift (A h.val) (M h i) _ hy]
    refine congrArg _ ?_
    field_simp
    ring
  · rw [if_neg hy, Att.ds, Att.p_after _ hy, zero_mul]; rfl
end

section
variable (R : HeadReads A q k v g c) {ds : FVec Ideal S16x2048x2048 .f32} (hds : ∀ h i y, ds (ix3 h i y) = (((A h.val).ds i.val y.val : ℝ) : EReal))

include hds in
theorem dGate_val (i : Fin 2048) (h : Fin 16) : dGate ds (ix2 i h) = (((A h.val).gg i.val : ℝ) : EReal) := by
  rw [dGate_apply]
  simp only [hds, ← EReal.coe_neg]
  rw [coe_rows 2048 fun x => - (A h.val).ds x i.val, coe_rows 2048 fun y => (A h.val).ds i.val y, ← EReal.coe_add, Finset.sum_neg_distrib,
    neg_add_eq_sub]
  rfl

include R hds in
theorem dKey_val (y : Fin 2048) (h : Fin 16) (a : Fin 64) : dKey q ds (ix3 y h a) = (((A h.val).gk y.val a : ℝ) : EReal) := by
  rw [dKey_apply]
  simp only [hds, R.q, ← EReal.coe_mul]
  rw [coe_rows 2048 fun i => (A h.val).ds i y.val * (1 / 8) * (A h.val).q i a, Att.gk, Finset.sum_mul]
  exact congrArg _ (Finset.sum_congr rfl fun i _ => by ring)

include R hds in
theorem dQuery_val (i : Fin 2048) (h : Fin 16) (a : Fin 64) : dQuery k ds (ix3 i h a) = (((A h.val).gq i.val a : ℝ) : EReal) := by
  rw [dQuery_apply]
  simp only [hds, R.k, ← EReal.coe_mul]
  rw [coe_rows 2048 fun y => (A h.val).ds i.val y * (1 / 8) * (A h.val).k y a, Att.gq, Finset.sum_mul]
  exact congrArg _ (Finset.sum_congr rfl fun y _ => by ring)
end

end Cert.Proof.Lines
-- ==== Proof.RefVal.lean ====
/-
  The reference's two results at an index: the gradient array and the gate gradients, as the specification's real
  numbers.
-/
module

public import proofs.«01_k».proof.Proof.HostVals
public import proofs.«01_k».proof.Proof.Gen.ReferenceIdeal.Run

@[expose] public section

set_option maxRecDepth 16384

noncomputable section

namespace Cert.Proof

/-- The heads of real inputs: head `h` has its columns of `z` and `d`, and its column of `c`. -/
def attAt (z c d : ℕ → ℕ → ℝ) (h : ℕ) : Att :=
  ⟨fun i a => z i (3072 + (h * 64 + a.val)), fun i a => z i (4096 + (h * 64 + a.val)), fun i a => z i (5120 + (h * 64 + a.val)),
    fun i a => d i (h * 64 + a.val), fun i => c i h⟩

/-- The gradient array: the given columns, then the gradients of all heads' queries, keys and values. -/
def outZ (A : ℕ → Att) (i x : ℕ) (first : EReal) : EReal :=
  if x < 3072 then first
  else if x < 4096 then (((A ((x - 3072) / 64)).gq i ⟨(x - 3072) % 64, Nat.mod_lt _ (by omega)⟩ : ℝ) : EReal)
  else if x < 5120 then (((A ((x - 4096) / 64)).gk i ⟨(x - 4096) % 64, Nat.mod_lt _ (by omega)⟩ : ℝ) : EReal)
  else (((A ((x - 5120) / 64)).gv i ⟨(x - 5120) % 64, Nat.mod_lt _ (by omega)⟩ : ℝ) : EReal)

/-- The gate gradients of a pair of heads, in its block's first two columns. -/
def outC (A : ℕ → Att) (j r l : ℕ) : EReal :=
  if l = 0 then (((A (2 * j)).gg r : ℝ) : EReal) else if l = 1 then (((A (2 * j + 1)).gg r : ℝ) : EReal) else 0

namespace Lines

open Cert.ReferenceIdeal Cert.ReferenceIdeal.Gen
open Idealize.ShloMosaic
open Idealize.ShloMosaic.TcCoe
open Idealize.ShloMosaic (ix2 ix3)
open scoped BigOperators

section
variable (z : FVec Ideal S2048x6144 .bf16) (c : FVec Ideal S2048x16 .f32) (d : FVec Ideal S2048x1024 .bf16) (first : FVec Ideal S2048x6144 .bf16)

/-- The reference's row shift. -/
def shift (s : FVec Ideal S16x2048x2048 .f32) : FVec Ideal S16x2048x1 .f32 :=
  keep (maximumf (broadcastInDim S16x2048 ![] bcast_S_S16x2048 negInf) (rowMax s))

def refExp : FVec Ideal S16x2048x2048 .f32 := expo (scores c (splitQ z) (splitK z)) (shift (scores c (splitQ z) (splitK z)))
def refProb : FVec Ideal S16x2048x2048 .f32 := prob (refExp z c) (keep (rowSum (refExp z c)))
def refDs : FVec Ideal S16x2048x2048 .f32 :=
  dScore (refExp z c) (dProb (splitV z) (splitD d))
    (correction (refExp z c) (dProb (splitV z) (splitD d)) (keep (rowSum (refExp z c)))) (keep (rowSum (refExp z c)))

def refZ : FVec Ideal S2048x6144 .bf16 :=
  concatenate S2048x6144 1 [⟨S2048x3072, (extractStridedSlice S2048x3072 ![0, 0] first slices_S2048x6144_S2048x3072_0_0 : FVec Ideal S2048x3072 .bf16)⟩,
    ⟨S2048x1024, merge (dQuery (splitK z) (refDs z c d))⟩, ⟨S2048x1024, merge (dKey (splitQ z) (refDs z c d))⟩,
    ⟨S2048x1024, merge (dValue (splitD d) (refProb z c))⟩] concatenates_S2048x3072_S2048x1024_S2048x1024_S2048x1024_S2048x6144_d1

def pairs (a : FVec Ideal S2048x16 .f32) : FVec Ideal S8x2048x128 .f32 :=
  pad S8x2048x128 ![0, 0, 0] ![0, 0, 126] ![0, 0, 0]
    (transpose S8x2048x2 [1, 0, 2] (shapeCast S2048x8x2 a shapeCasts_S2048x16_S2048x8x2) transposes_S2048x8x2_S8x2048x2_1_0_2)
    (sitofp .f32 (constantI S_ 32 0#32)) pads_S8x2048x2_S8x2048x128_000_000_01260 h_S_
end

/-! ## At an index -/

theorem keepMax_apply (t : FVec Ideal S16x2048 .f32) (h : Fin 16) (i : Fin 2048) :
    keep (maximumf (broadcastInDim S16x2048 ![] bcast_S_S16x2048 negInf) t) (ix3 h i 0) = max ⊥ (t (ix2 h i)) := by
  pointwise [keep, negInf]
  rw [ofBits_neg_inf]

theorem shift_val {s : FVec Ideal S16x2048x2048 .f32} (h : Fin 16) (i : Fin 2048) : shift s (ix3 h i 0) = max ⊥ (rowMax s (ix2 h i)) := by
  exact keepMax_apply (rowMax s) h i

theorem pairs_apply (a : FVec Ideal S2048x16 .f32) (j : Fin 8) (r : Fin 2048) (l : Fin 128) :
    pairs a (ix3 j r l) = if h : l.val < 2 then a (ix2 r ⟨j.val * 2 + l.val, by omega⟩) else 0 := by
  pointwise [pairs]
  have e : FloatOps.sitofp (F := Ideal) FTy.f32 (0#32) = 0 := by
    show (((0#32).toInt : ℝ) : EReal) = 0
    simp
  rw [e]

section
variable {z : FVec Ideal S2048x6144 .bf16} {c : FVec Ideal S2048x16 .f32} {d : FVec Ideal S2048x1024 .bf16} (first : FVec Ideal S2048x6144 .bf16)
  {rz rc rd : ℕ → ℕ → ℝ} (hz : ∀ i x, 3072 ≤ x.val → z (ix2 i x) = ((rz i.val x.val : ℝ) : EReal))
  (hc : ∀ i h, c (ix2 i h) = ((rc i.val h.val : ℝ) : EReal)) (hd : ∀ i x, d (ix2 i x) = ((rd i.val x.val : ℝ) : EReal))
include hz hc hd

theorem headReads : HeadReads (attAt rz rc rd) (splitQ z) (splitK z) (splitV z) (splitD d) c where
  q i h a := (splitQ_apply z i h a).trans (hz _ _ (by show 3072 ≤ 3072 + _; omega))
  k i h a := (splitK_apply z i h a).trans (hz _ _ (by show 3072 ≤ 4096 + _; omega))
  v i h a := (splitV_apply z i h a).trans (hz _ _ (by show 3072 ≤ 5120 + _; omega))
  d i h a := (splitD_apply d i h a).trans (hd _ _)
  c := hc

theorem shift_real : ∃ M : Fin 16 → Fin 2048 → ℝ, ∀ h i, shift (scores c (splitQ z) (splitK z)) (ix3 h i 0) = ((M h i : ℝ) : EReal) := by
  choose M hM using rowMax_val (headReads hz hc hd)
  refine ⟨M, fun h i => ?_⟩
  rw [shift_val, hM, max_eq_right bot_le]

theorem refDs_val (h : Fin 16) (i y : Fin 2048) : refDs z c d (ix3 h i y) = (((attAt rz rc rd h.val).ds i.val y.val : ℝ) : EReal) := by
  obtain ⟨M, hM⟩ := shift_real hz hc hd
  exact dScore_val (headReads hz hc hd) hM h i y

theorem refZ_val (i : Fin 2048) (x : Fin 6144) : refZ z c d first (ix2 i x) = outZ (attAt rz rc rd) i.val x.val (first (ix2 i x)) := by
  obtain ⟨M, hM⟩ := shift_real hz hc hd
  have R := headReads hz hc hd
  have hds := refDs_val hz hc hd
  have hdv : ∀ y h a, dValue (splitD d) (refProb z c) (ix3 y h a) = (((attAt rz rc rd h.val).gv y.val a : ℝ) : EReal) := dValue_val R hM
  rw [outZ]
  pointwise [refZ]
  by_cases h1 : x.val < 3072
  · rw [dif_pos h1, if_pos h1]
  rw [dif_neg h1, if_neg h1]
  by_cases h2 : x.val < 4096
  · rw [dif_pos (by omega), if_pos h2, merge_apply, dQuery_val R hds]
  rw [dif_neg (by omega), if_neg h2]
  by_cases h3 : x.val < 5120
  · rw [dif_pos (by omega), if_pos h3, merge_apply, dKey_val R hds]
    simp only [show x.val - 3072 - 1024 = x.val - 4096 by omega]
  · rw [dif_neg (by omega), if_neg h3, merge_apply, hdv]
    simp only [show x.val - 3072 - 1024 - 1024 = x.val - 5120 by omega]

theorem refC_val (j : Fin 8) (r : Fin 2048) (l : Fin 128) :
    pairs (dGate (refDs z c d)) (ix3 j r l) = outC (attAt rz rc rd) j.val r.val l.val := by
  have hds := refDs_val hz hc hd
  rw [pairs_apply, outC]
  by_cases h : l.val < 2
  · rw [dif_pos h, dGate_val hds]
    by_cases h0 : l.val = 0
    · rw [if_pos h0]
      exact congrArg (fun n => (((attAt rz rc rd n).gg r.val : ℝ) : EReal)) (by show j.val * 2 + l.val = 2 * j.val; omega)
    · rw [if_neg h0, if_pos (by omega)]
      exact congrArg (fun n => (((attAt rz rc rd n).gg r.val : ℝ) : EReal)) (by show j.val * 2 + l.val = 2 * j.val + 1; omega)
  · rw [dif_neg h, if_neg (by omega), if_neg (by omega)]
end

/-! ## The run's results are these arrays -/

variable (m : (ℓ : Loc nD τ sig) → Buf (Elt Ideal) ℓ) (c : Dev nD)

theorem res_z : Cert.ReferenceIdeal.Value.res_main_v105 m c
    = refZ (m ((c.tc : Thread nD τ).loc main_arg0)) (m ((c.tc : Thread nD τ).loc main_arg1)) (m ((c.tc : Thread nD τ).loc main_arg2))
        (m ((c.tc : Thread nD τ).loc main_arg3)) := by
  unfold Cert.ReferenceIdeal.Value.res_main_v105
  rfl

theorem res_c : Cert.ReferenceIdeal.Value.res_main_v108 m c
    = pairs (dGate (refDs (m ((c.tc : Thread nD τ).loc main_arg0)) (m ((c.tc : Thread nD τ).loc main_arg1)) (m ((c.tc : Thread nD τ).loc main_arg2)))) := by
  unfold Cert.ReferenceIdeal.Value.res_main_v108
  rfl

end Lines

end Cert.Proof
-- ==== Proof.Frame.lean ====
/-
  The run of the backward kernel's region over its eight grid points, at any elements: it ends, the arguments and the
  semaphores are as they were, and the two results hold what the points left: the gradient array the planes every
  point copied into its column windows, the gate gradients the blocks written back.
-/
module

public import proofs.«01_k».proof.Proof.Step
public import Idealize.ShloMosaic.Lib.Pipeline.TableIdle

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- Input window `w`'s staged block at a point, as its buffer's contents. -/
abbrev in0 (c : Dev nD) (t : Fin cfg0.N) : BufOf (F := F) c (st0_0 t) := (st0_0 t).view.rep (Val := Elt F) (iblk m c 0 t)
abbrev in1 (c : Dev nD) (t : Fin cfg0.N) : BufOf (F := F) c (st0_1 t) := (st0_1 t).view.rep (Val := Elt F) (iblk m c 1 t)
abbrev in2 (c : Dev nD) (t : Fin cfg0.N) : BufOf (F := F) c (st0_2 t) := (st0_2 t).view.rep (Val := Elt F) (iblk m c 2 t)
abbrev in3 (c : Dev nD) (t : Fin cfg0.N) : BufOf (F := F) c (st0_3 t) := (st0_3 t).view.rep (Val := Elt F) (iblk m c 3 t)
abbrev in4 (c : Dev nD) (t : Fin cfg0.N) : BufOf (F := F) c (st0_4 t) := (st0_4 t).view.rep (Val := Elt F) (iblk m c 4 t)
abbrev in5 (c : Dev nD) (t : Fin cfg0.N) : BufOf (F := F) c (st0_5 t) := (st0_5 t).view.rep (Val := Elt F) (iblk m c 5 t)
abbrev in6 (c : Dev nD) (t : Fin cfg0.N) : BufOf (F := F) c (st0_6 t) := (st0_6 t).view.rep (Val := Elt F) (iblk m c 6 t)

/-- The planes point `t` copies out, and the pieces it writes into the staged gate gradient. -/
def gradQ (c : Dev nD) (t : Fin cfg0.N) : Vec F S1x2048x128 .bf16 :=
  planeQ c (grid0.coords t) (st0_0 t) (st0_1 t) (st0_2 t) (st0_3 t) (st0_4 t) (st0_5 t) (st0_6 t)
    (in0 m c t) (in1 m c t) (in2 m c t) (in3 m c t) (in4 m c t) (in5 m c t) (in6 m c t)
def gradK (c : Dev nD) (t : Fin cfg0.N) : Vec F S1x2048x128 .bf16 :=
  planeK c (grid0.coords t) (st0_0 t) (st0_1 t) (st0_2 t) (st0_3 t) (st0_4 t) (st0_5 t) (st0_6 t)
    (in0 m c t) (in1 m c t) (in2 m c t) (in3 m c t) (in4 m c t) (in5 m c t) (in6 m c t)
def gradV (c : Dev nD) (t : Fin cfg0.N) : Vec F S1x2048x128 .bf16 :=
  planeV c (grid0.coords t) (st0_0 t) (st0_1 t) (st0_3 t) (st0_4 t) (st0_5 t) (st0_6 t)
    (in0 m c t) (in1 m c t) (in3 m c t) (in4 m c t) (in5 m c t) (in6 m c t)
def gradC (c : Dev nD) (t : Fin cfg0.N) : List (View.Piece (Elt F) S1x2048x128 .f32) :=
  piecesC c (grid0.coords t) (st0_0 t) (st0_1 t) (st0_2 t) (st0_3 t) (st0_4 t) (st0_5 t) (st0_6 t)
    (in0 m c t) (in1 m c t) (in2 m c t) (in3 m c t) (in4 m c t) (in5 m c t) (in6 m c t)

/-- The gradient array before point `n`: as the region finds it, then with every point's planes written. -/
def arrayAt (c : Dev nD) : ℕ → BufOf (F := F) c arrG
  | 0 => V m c main_v46_0
  | n + 1 => if h : n < cfg0.N then
      putPlanes c (grid0.coords ⟨n, h⟩) (arrayAt c n) (gradQ m c ⟨n, h⟩) (gradK m c ⟨n, h⟩) (gradV m c ⟨n, h⟩)
    else arrayAt c n

theorem arrayAt_succ (c : Dev nD) (t : Fin cfg0.N) :
    arrayAt m c (t.val + 1) = putPlanes c (grid0.coords t) (arrayAt m c t.val) (gradQ m c t) (gradK m c t) (gradV m c t) := by
  conv_lhs => unfold arrayAt
  rw [dif_pos t.isLt]

/-- The core's buffers with the gradient array as it is before point `n`. -/
def bufsAt (n : ℕ) (c : Dev nD) : (b : Ref sig .tc) → Buf (Elt F) ((c : Thread nD τ).loc b) :=
  Function.update (V m c) main_v46_0 (arrayAt m c n)

theorem bufsAt_zero (c : Dev nD) : bufsAt m 0 c = V m c := Function.update_eq_self _ _
theorem bufsAt_array (n : ℕ) (c : Dev nD) : bufsAt m n c main_v46_0 = arrayAt m c n := Function.update_self _ _ _

/-! ## @main up to the region -/

set_option maxHeartbeats 800000 in
theorem hmain_ud (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The invariant -/

/-- The three cells the copies complete on. -/
abbrev cells0 : Fin 3 → SemLoc sig := fun j => (![SemLoc.dma 15, SemLoc.dma 16, SemLoc.dma 17] : Fin 3 → SemLoc sig) j
theorem cells0_facts : Pipeline.OwnSemFacts spec0 cells0 := by decide
theorem cells0_eq (c : Dev nD) :
    (Pipeline.ownSems0 (Ix := Unit) (Name := ℕ) (U := Pipeline.UD sig nD τ) (Lvl := ℕ) (Val := Elt F) (τ := τ) cells0 c : sProp 𝕄)
      = iprop(semVal ((c : Thread nD τ), SemLoc.dma 15) 0 ∗ semVal ((c : Thread nD τ), SemLoc.dma 16) 0
          ∗ semVal ((c : Thread nD τ), SemLoc.dma 17) 0) := by
  rw [Pipeline.ownSems0_eq_of_list c cells0 [0, 1, 2] (by decide) (by decide)]; rfl

/-- No operand is only read in place; the gradient array is written in place. -/
abbrev readRefs : Finset (Ref sig .tc) := ∅
abbrev wroteRefs : Finset (Ref sig .tc) := {main_v46_0}
theorem readRefs_sub : readRefs ⊆ Pipeline.restRefs sig spec0 := by decide
theorem wroteRefs_sub : wroteRefs ⊆ Pipeline.restRefs sig spec0 \ readRefs := by decide

/-- The region's invariant before point `n`. -/
abbrev inv (n : ℕ) (c : Dev nD) : sProp 𝕄 := Pipeline.ΦDRG cells0 spec0 readRefs wroteRefs (V m) (bufsAt m n) c

theorem inv_eq (n : ℕ) (c : Dev nD) :
    (inv m n c : sProp 𝕄) = iprop(((∃ f, held c scQ f) ∗ (∃ f, held c scK f) ∗ (∃ f, held c scV f) ∗ (∃ f, held c scS f))
      ∗ (∃ r, prngReg c r)
      ∗ (semVal ((c : Thread nD τ), SemLoc.dma 15) 0 ∗ semVal ((c : Thread nD τ), SemLoc.dma 16) 0
          ∗ semVal ((c : Thread nD τ), SemLoc.dma 17) 0)
      ∗ emp ∗ held c arrG (arrayAt m c n)) := by
  unfold inv
  rw [Pipeline.ΦDRG_eq, scopedRest0_eq, cells0_eq, BI.bigSep_empty]
  unfold Pipeline.routed
  rw [BI.bigSep_singleton, bufsAt_array]
  unfold held
  simp only [Memref.view_whole, View.set_whole]
  rfl

/-- The proof data of the region on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (gradC m c t)
  Φ t := inv m t.val c
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

theorem after_7 (c : Dev nD) (t : Fin cfg0.N) : (dats m 0 c).after 7 t = View.canon (gradC m c t) := by dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = inv m (t.val + 1) c from rfl, show (dats m 0 c).Φ t.castSucc = inv m t.val c from rfl,
    inv_eq, inv_eq, arrayAt_succ, after_7]
  unfold Dat.owesAt Pipeline.owesWithin
  rw [show (dats m 0 c).owed t.castSucc = 0 from rfl, show (dats m 0 c).owed t.succ = 0 from rfl]
  simp only [before_0, before_1, before_2, before_3, before_4, before_5, before_6]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl,
    show (dats m 0 c).after 6 t = iblk m c 6 t from rfl]
  iintro ⟨⟨⟨HQ, HK, HV, ⟨%fs, HS⟩⟩, Hg, ⟨Hs0, Hs1, Hs2⟩, He, HG⟩, ⟨%W, -, HW⟩, ⟨%_, H0⟩, ⟨%_, H1⟩, ⟨%_, H2⟩, ⟨%_, H3⟩, ⟨%_, H4⟩, ⟨%_, H5⟩,
    ⟨%_, H6⟩, ⟨%_, H7⟩⟩
  ihave H0 := (rep_of_owns (c : Thread nD τ) (st0_0 t) fullShare (iblk m c 0 t)) $$ H0
  ihave H1 := (rep_of_owns (c : Thread nD τ) (st0_1 t) fullShare (iblk m c 1 t)) $$ H1
  ihave H2 := (rep_of_owns (c : Thread nD τ) (st0_2 t) fullShare (iblk m c 2 t)) $$ H2
  ihave H3 := (rep_of_owns (c : Thread nD τ) (st0_3 t) fullShare (iblk m c 3 t)) $$ H3
  ihave H4 := (rep_of_owns (c : Thread nD τ) (st0_4 t) fullShare (iblk m c 4 t)) $$ H4
  ihave H5 := (rep_of_owns (c : Thread nD τ) (st0_5 t) fullShare (iblk m c 5 t)) $$ H5
  ihave H6 := (rep_of_owns (c : Thread nD τ) (st0_6 t) fullShare (iblk m c 6 t)) $$ H6
  ihave H7 := (rep_of_owns (c : Thread nD τ) (st0_7 t) fullShare _) $$ H7
  iapply ((pointRun c (grid0.coords t) (st0_0 t) _ (st0_1 t) _ (st0_2 t) _ (st0_3 t) _ (st0_4 t) _ (st0_5 t) _ (st0_6 t) _ (st0_7 t) _
    (in0 m c t) (in1 m c t) (in2 m c t) (in3 m c t) (in4 m c t) (in5 m c t) (in6 m c t) (arrayAt m c t.val) fs).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HQ]; · iexact HQ
  isplitl [HK]; · iexact HK
  isplitl [HV]; · iexact HV
  isplitl [HS]; · iexact HS
  isplitl [Hs0]; · iexact Hs0
  isplitl [Hs1]; · iexact Hs1
  isplitl [Hs2]; · iexact Hs2
  isplitl [HG]; · iexact HG
  isplitl [HW]; · iexact HW
  rw [run_array, run_pieces]
  iintro ⟨H0, H1, H2, H3, H4, H5, H6, ⟨%e7, H7⟩, HQ, HK, HV, HS, Hs0, Hs1, Hs2, HG, ⟨%W', HW'⟩⟩
  isplitl [HQ HK HV HS Hg Hs0 Hs1 Hs2 He HG]
  · isplitl [HQ HK HV HS]
    · isplitl [HQ]; · iexact HQ
      isplitl [HK]; · iexact HK
      isplitl [HV]; · iexact HV
      iexact HS
    isplitl [Hg]; · iexact Hg
    isplitl [Hs0 Hs1 Hs2]
    · isplitl [Hs0]; · iexact Hs0
      isplitl [Hs1]; · iexact Hs1
      iexact Hs2
    isplitl [He]; · iexact He
    iexact HG
  isplitl [HW']
  · iexists W'; isplitr; · ipureintro; exact fun _ _ => Or.inl trivial
    iexact HW'
  isplitl [H0]; · iapply (owns_of_rep (c : Thread nD τ) (st0_0 t) fullShare (iblk m c 0 t)); iexact H0
  isplitl [H1]; · iapply (owns_of_rep (c : Thread nD τ) (st0_1 t) fullShare (iblk m c 1 t)); iexact H1
  isplitl [H2]; · iapply (owns_of_rep (c : Thread nD τ) (st0_2 t) fullShare (iblk m c 2 t)); iexact H2
  isplitl [H3]; · iapply (owns_of_rep (c : Thread nD τ) (st0_3 t) fullShare (iblk m c 3 t)); iexact H3
  isplitl [H4]; · iapply (owns_of_rep (c : Thread nD τ) (st0_4 t) fullShare (iblk m c 4 t)); iexact H4
  isplitl [H5]; · iapply (owns_of_rep (c : Thread nD τ) (st0_5 t) fullShare (iblk m c 5 t)); iexact H5
  isplitl [H6]; · iapply (owns_of_rep (c : Thread nD τ) (st0_6 t) fullShare (iblk m c 6 t)); iexact H6
  unfold owns; iexists _; isplitr
  swap; · iexact H7
  ipureintro
  exact View.read_writes_eq_canon _ _ _ (piecesC_cover c _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_last (c : Dev nD) : (inv m 8 c : sProp 𝕄) = Pipeline.ΦDRG cells0 spec0 readRefs wroteRefs (V m) (bufsAt m 8) c := rfl

set_option backward.isDefEq.respectTransparency.types false in
/-- The region run from the launch: every buffer the post names, and the semaphores at zero. -/
theorem run_region : θ_run defs (onTc (τ := τ) (main (F := F))) (s₀ m ρ)
    (fun r => Pipeline.FramePostRG cfgs (dats m) 0 wroteRefs (V m) (bufsAt m 8) r ∧ r.2.sem = fun _ => 0) :=
  Pipeline.θ_run_frame_dmaRG_shared (Q' := _) cfgs (dats m) (0 : Fin 1) launch₀0 cells0 defs₀ Variants.none cells0_facts readRefs wroteRefs
    readRefs_sub wroteRefs_sub m ρ main
    (hbody := fun c => (body_obligation m c).loose) (hq := fun _ _ _ => rfl)
    (howed := fun _ _ => rfl) (V := V m) (hmain := hmain_ud m Variants.none) (hA := A_eq m)
    (G := bufsAt m 8)
    (hin := fun c => by
      show _ ⊢ inv m 0 c
      unfold inv
      rw [show (bufsAt m 0 : (c : Dev nD) → (b : Ref sig .tc) → Buf (Elt F) ((c : Thread nD τ).loc b)) = V m from funext (bufsAt_zero m)])
    (hout := fun c => by
      show inv m (Fin.last cfg0.N).val c ⊢ _
      rw [show (Fin.last cfg0.N).val = 8 from N_0])

/-- The run, read at the arguments and at the results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v46_0) = arrayAt m c 8
      ∧ r.2.mem ((c.tc : Thread nD τ).loc main_v46_1) = (dats m 0 c).arrAt 7 cfg0.N)
      ∧ r.2.sem = fun _ => 0) :=
  (θ_run defs _ _).mono (fun r h => ⟨fun c => ⟨⟨
      ((h.1.toR c).1 2).trans (((dats m 0 c).arrAt_in 2 rfl _).trans ((A_eq m c 2).trans (V_main_arg0 m c))),
      ((h.1.toR c).1 3).trans (((dats m 0 c).arrAt_in 3 rfl _).trans ((A_eq m c 3).trans (V_main_arg1 m c))),
      ((h.1.toR c).1 6).trans (((dats m 0 c).arrAt_in 6 rfl _).trans ((A_eq m c 6).trans (V_main_arg2 m c))),
      ((h.1.toR c).2 main_arg3 (Finset.mem_sdiff.mpr ⟨Pipeline.mem_restRefs_of main_arg3 (by decide) (by decide), by decide⟩)).trans
        (V_main_arg3 m c)⟩,
      (h.1.written c (b := main_v46_0) (by decide)).trans (bufsAt_array m 8 c),
      (h.1.toR c).1 7⟩, h.2⟩) (run_region m ρ)

end Cert.Proof

end
-- ==== Proof.KerHost.lean ====
/-
  What the kernel's host hands to the region: the arguments as they were, the heads' outputs and the log-sums.
-/
module

public import proofs.«01_k».proof.Proof.RefVal
public import proofs.«01_k».proof.Proof.Frame
public import Idealize.ShloMosaic.Lib.StableHlo.Run

@[expose] public section

set_option maxRecDepth 16384

noncomputable section

namespace Cert.Proof

open Cert.KernelIdeal Cert.KernelIdeal.Gen
open Idealize.ShloMosaic Idealize.ShloMosaic.StableHlo
open Idealize.ShloMosaic.TcCoe
open Idealize.ShloMosaic (ix2 ix3)
open scoped BigOperators

/-- The log-sums of pairs of heads in their blocks' first two columns. -/
def lsePairs (mx l : FVec Ideal S16x2048x1 .f32) : FVec Ideal S8x2048x128 .f32 :=
  pad S8x2048x128 ![0, 0, 0] ![0, 0, 126] ![0, 0, 0]
    (transpose S8x2048x2 [0, 2, 1] (shapeCast S8x2x2048 (addf mx (Host.log l)) shapeCasts_S16x2048x1_S8x2x2048) transposes_S8x2x2048_S8x2048x2_0_2_1)
    (sitofp .f32 (constantI S_ 32 0#32)) pads_S8x2048x2_S8x2048x128_000_000_01260 h_S_

theorem lsePairs_apply (mx l : FVec Ideal S16x2048x1 .f32) (j : Fin 8) (r : Fin 2048) (a : Fin 128) (ha : a.val < 2) :
    lsePairs mx l (ix3 j r a) = mx (ix3 ⟨2 * j.val + a.val, by omega⟩ r 0) + Ideal.log (l (ix3 ⟨2 * j.val + a.val, by omega⟩ r 0)) := by
  pointwise [lsePairs]
  rw [dif_pos ha]
  simp only [Nat.mul_comm j.val 2]

variable (m : (ℓ : Loc nD τ sig) → Buf (Elt Ideal) ℓ) (c : Dev nD)

abbrev argZ : FVec Ideal S2048x6144 .bf16 := m ((c : Thread nD τ).loc main_arg0)
abbrev argC : FVec Ideal S2048x16 .f32 := m ((c : Thread nD τ).loc main_arg1)
abbrev argD : FVec Ideal S2048x1024 .bf16 := m ((c : Thread nD τ).loc main_arg2)
abbrev argF : FVec Ideal S2048x6144 .bf16 := m ((c : Thread nD τ).loc main_arg3)

/-- The kernel's scores, the rows' maxima and the exponentials under them. -/
def kScores : FVec Ideal S16x2048x2048 .f32 := Lines.scores (argC m c) (Lines.splitQ (argZ m c)) (Lines.splitK (argZ m c))
def kMax : FVec Ideal S16x2048x1 .f32 := Lines.keep (Lines.rowMax (kScores m c))
def kExp : FVec Ideal S16x2048x2048 .f32 := Lines.expo (kScores m c) (kMax m c)
def kSum : FVec Ideal S16x2048x1 .f32 := Lines.keep (Lines.rowSum (kExp m c))

theorem host_z : V m c main_arg0 = argZ m c := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp

theorem host_c : V m c main_arg1 = argC m c := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp

theorem host_d : V m c main_arg2 = argD m c := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp

theorem host_first : V m c main_v46_0 = argF m c := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp
  rfl

theorem host_o : V m c main_v44 = Lines.outs (Lines.splitV (argZ m c)) (Lines.prob (kExp m c) (kSum m c)) := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp
  rfl

theorem host_lse : V m c main_v45 = lsePairs (kMax m c) (kSum m c) := by
  unfold V
  simp only [List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp
  rfl

/-! ## Over real inputs -/

section
variable {m : (ℓ : Loc nD τ sig) → Buf (Elt Ideal) ℓ} {c : Dev nD}
  {rz rc rd : ℕ → ℕ → ℝ} (hz : ∀ i x, 3072 ≤ x.val → argZ m c (ix2 i x) = ((rz i.val x.val : ℝ) : EReal))
  (hc : ∀ i h, argC m c (ix2 i h) = ((rc i.val h.val : ℝ) : EReal)) (hd : ∀ i x, argD m c (ix2 i x) = ((rd i.val x.val : ℝ) : EReal))
include hz hc hd

theorem kMax_real : ∃ M : Fin 16 → Fin 2048 → ℝ, ∀ h i, kMax m c (ix3 h i 0) = ((M h i : ℝ) : EReal) := by
  choose M hM using Lines.rowMax_val (Lines.headReads hz hc hd)
  exact ⟨M, fun h i => (Lines.keep_apply _ h i).trans (hM h i)⟩

theorem host_o_val (i : Fin 2048) (x : Fin 1024) :
    V m c main_v44 (ix2 i x) = (((attAt rz rc rd (x.val / 64)).out i.val ⟨x.val % 64, Nat.mod_lt _ (by omega)⟩ : ℝ) : EReal) := by
  obtain ⟨M, hM⟩ := kMax_real hz hc hd
  rw [host_o]
  exact Lines.outs_val (Lines.headReads hz hc hd) hM i x

theorem host_lse_val : ∃ M : ℕ → ℕ → ℝ, ∀ (j : Fin 8) (r : Fin 2048) (a : Fin 128), a.val < 2 →
    V m c main_v45 (ix3 j r a) = ((M (2 * j.val + a.val) r.val + Real.log ((attAt rz rc rd (2 * j.val + a.val)).total (M (2 * j.val + a.val) r.val) r.val) : ℝ) : EReal) := by
  obtain ⟨M, hM⟩ := kMax_real hz hc hd
  refine ⟨fun h i => if k : h < 16 ∧ i < 2048 then M ⟨h, k.1⟩ ⟨i, k.2⟩ else 0, fun j r a ha => ?_⟩
  have k : 2 * j.val + a.val < 16 ∧ r.val < 2048 := ⟨by omega, r.isLt⟩
  have ht := Att.total_pos (attAt rz rc rd (2 * j.val + a.val)) (M ⟨_, k.1⟩ ⟨_, k.2⟩) r.isLt
  have hs : kSum m c (ix3 ⟨2 * j.val + a.val, k.1⟩ r 0) = _ := Lines.total_val (Lines.headReads hz hc hd) hM ⟨2 * j.val + a.val, k.1⟩ r
  dsimp only
  rw [dif_pos k, host_lse, lsePairs_apply _ _ _ _ _ ha, hM, hs, Ideal.log_coe, if_neg (not_le.mpr ht), ← EReal.coe_add]
end

end Cert.Proof
-- ==== Proof.Inputs.lean ====
/-
  Inputs whose elements are all of finite magnitude are arrays of real numbers.
-/
module

public import proofs.«01_k».proof.Defs
public import proofs.«01_k».proof.Proof.KerHost
public import proofs.«01_k».proof.Proof.Gen.Pre_finite
public import Idealize.ShloMosaic.Lib.ReduceAll

@[expose] public section

set_option maxRecDepth 16384

noncomputable section

namespace Cert.Proof

open Idealize.ShloMosaic
open Idealize.ShloMosaic.TcCoe
open Idealize.ShloMosaic (ix2 ix3)

/-- An extended real whose magnitude is below infinity is real. -/
theorem real_of_magnitude (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  have h1 : (x : EReal) ≠ ⊤ := hlt.1.ne
  have h2 : (x : EReal) ≠ ⊥ := fun e => by rw [e] at hlt; simp at hlt
  exact ⟨EReal.toReal x, (EReal.coe_toReal h1 h2).symm⟩

section
open Cert.Pre_finite

theorem magnitude_z (a : FVec Ideal S2048x6144 .bf16) (i : Fin 2048) (x : Fin 3072)
    (h : cmpf .olt (Host.absf (extf .f32 (extractStridedSlice S2048x3072 ![0, 3072] a Cert.Pre_finite.Gen.slices_S2048x6144_S2048x3072_0_3072) Cert.Pre_finite.Gen.bitsLt_bf16_f32))
      (broadcastInDim S2048x3072 ![] Cert.Pre_finite.Gen.bcast_S_S2048x3072 (constant S_ .f32 0x7F800000#32)) (ix2 i x) = 1#1) :
    ∃ r : ℝ, a (ix2 i ⟨3072 + x.val, by omega⟩) = (r : EReal) := by
  refine real_of_magnitude _ ?_
  rw [← h]
  pointwise []

theorem magnitude_c (a : FVec Ideal S2048x16 .f32) (i : Fin 2048) (x : Fin 16)
    (h : cmpf .olt (Host.absf a) (broadcastInDim S2048x16 ![] Cert.Pre_finite.Gen.bcast_S_S2048x16 (constant S_ .f32 0x7F800000#32)) (ix2 i x) = 1#1) :
    ∃ r : ℝ, a (ix2 i x) = (r : EReal) := by
  refine real_of_magnitude _ ?_
  rw [← h]
  pointwise []

theorem magnitude_d (a : FVec Ideal S2048x1024 .bf16) (i : Fin 2048) (x : Fin 1024)
    (h : cmpf .olt (Host.absf (extf .f32 a Cert.Pre_finite.Gen.bitsLt_bf16_f32))
      (broadcastInDim S2048x1024 ![] Cert.Pre_finite.Gen.bcast_S_S2048x1024 (constant S_ .f32 0x7F800000#32)) (ix2 i x) = 1#1) :
    ∃ r : ℝ, a (ix2 i x) = (r : EReal) := by
  refine real_of_magnitude _ ?_
  rw [← h]
  pointwise []

/-- The three tests of the precondition, element by element. -/
theorem magnitudes (z : FVec Ideal S2048x6144 .bf16) (a : FVec Ideal S2048x16 .f32) (d : FVec Ideal S2048x1024 .bf16) (f : FVec Ideal S2048x6144 .bf16)
    (h : Cert.Pre_finite.fn (F := Ideal) z a d f = fun _ => 1#1) :
    (∀ (i : Fin 2048) (x : Fin 3072), ∃ r : ℝ, z (ix2 i ⟨3072 + x.val, by omega⟩) = (r : EReal))
    ∧ (∀ (i : Fin 2048) (x : Fin 16), ∃ r : ℝ, a (ix2 i x) = (r : EReal)) ∧ ∀ (i : Fin 2048) (x : Fin 1024), ∃ r : ℝ, d (ix2 i x) = (r : EReal) := by
  have e := congrFun h (fun k : Fin 0 => k.elim0)
  obtain ⟨e12, e3⟩ := IntOp.andi_eq_one.mp e
  obtain ⟨e1, e2⟩ := IntOp.andi_eq_one.mp e12
  haveI : Subsingleton S_.Idx := ⟨fun p q => funext fun k => k.elim0⟩
  exact ⟨fun i x => magnitude_z z i x (Host.reduce_andi_all _ _ _ _ _ e1 _), fun i x => magnitude_c a i x (Host.reduce_andi_all _ _ _ _ _ e2 _),
    fun i x => magnitude_d d i x (Host.reduce_andi_all _ _ _ _ _ e3 _)⟩
end

section
open Cert.KernelIdeal Cert.KernelIdeal.Gen

variable (m : (ℓ : Loc nD τ sig) → Buf (Elt Ideal) ℓ) (h : Cert.Pre_KernelIdeal_finite m) (c : Dev nD)
include h

/-- The inputs of an allowed launch are real arrays. -/
theorem real_inputs : ∃ rz rc rd : ℕ → ℕ → ℝ, (∀ (i : Fin 2048) (x : Fin 6144), 3072 ≤ x.val → argZ m c (ix2 i x) = ((rz i.val x.val : ℝ) : EReal))
    ∧ (∀ (i : Fin 2048) (l : Fin 16), argC m c (ix2 i l) = ((rc i.val l.val : ℝ) : EReal))
    ∧ ∀ (i : Fin 2048) (x : Fin 1024), argD m c (ix2 i x) = ((rd i.val x.val : ℝ) : EReal) := by
  obtain ⟨h1, h2, h3⟩ := magnitudes _ _ _ _ (h c)
  choose f1 h1 using h1
  choose f2 h2 using h2
  choose f3 h3 using h3
  refine ⟨fun i x => if k : i < 2048 ∧ x - 3072 < 3072 then f1 ⟨i, k.1⟩ ⟨x - 3072, k.2⟩ else 0,
    fun i x => if k : i < 2048 ∧ x < 16 then f2 ⟨i, k.1⟩ ⟨x, k.2⟩ else 0,
    fun i x => if k : i < 2048 ∧ x < 1024 then f3 ⟨i, k.1⟩ ⟨x, k.2⟩ else 0, fun i x hx => ?_, fun i l => ?_, fun i x => ?_⟩
  · have k : i.val < 2048 ∧ x.val - 3072 < 3072 := ⟨i.isLt, by omega⟩
    have e : (⟨3072 + (x.val - 3072), by omega⟩ : Fin 6144) = x := Fin.ext (by show 3072 + (x.val - 3072) = x.val; omega)
    dsimp only
    rw [dif_pos k, ← h1 i ⟨x.val - 3072, k.2⟩]
    exact congrArg (fun y => argZ m c (ix2 i y)) e.symm
  · dsimp only
    rw [dif_pos ⟨i.isLt, l.isLt⟩]
    exact h2 i l
  · dsimp only
    rw [dif_pos ⟨i.isLt, x.isLt⟩]
    exact h3 i x
end

end Cert.Proof
-- ==== Proof.Blocks.lean ====
/-
  What a point's staged blocks hold: column blocks of the host's arrays, the pair of heads' gates and log-sums.
-/
module

public import proofs.«01_k».proof.Proof.Frame
public import proofs.«01_k».proof.Proof.Point
public import proofs.«01_k».proof.Proof.KerHost
public import Idealize.ShloMosaic.Lib.Pipeline.ValueKit

@[expose] public section

set_option maxRecDepth 16384

noncomputable section

namespace Cert.Proof

open Cert.KernelIdeal Cert.KernelIdeal.Gen
open Idealize.ShloMosaic
open Idealize.ShloMosaic.TcCoe
open Idealize.ShloMosaic (ix2 ix3)
open scoped BigOperators

variable (m : (ℓ : Loc nD τ sig) → Buf (Elt Ideal) ℓ) (c : Dev nD) (t : Fin cfg0.N)

/-- A point's coordinate is its number. -/
theorem coord_val : ∀ t : Fin cfg0.N, (grid0.coords t 0).val = t.val := (by decide +kernel : ∀ t : Fin grid0.N, (grid0.coords t 0).val = t.val)

theorem point_lt : t.val < 8 := lt_of_lt_of_eq t.isLt N_0

/-- Where every window's block lies at a point. -/
theorem block_index : ∀ t : Fin grid0.N, win0_0.index t = ![0, 24 + t.val] ∧ win0_1.index t = ![0, 32 + t.val] ∧ win0_2.index t = ![0, 40 + t.val]
    ∧ win0_3.index t = ![0, 0] ∧ win0_4.index t = ![0, t.val] ∧ win0_5.index t = ![t.val, 0, 0] ∧ win0_6.index t = ![0, t.val]
    ∧ win0_7.index t = ![t.val, 0, 0] := by
  decide +kernel

theorem block_q (i : Fin 2048) (l : Fin 128) :
    (iblk m c 0 t : FVec Ideal S2048x128 .bf16) (ix2 i l) = V m c main_arg0 (ix2 i ⟨3072 + (128 * t.val + l.val), by have := point_lt t; omega⟩) := by
  have h := (block_index t).1
  blk_ext [iblk, h]
theorem block_k (i : Fin 2048) (l : Fin 128) :
    (iblk m c 1 t : FVec Ideal S2048x128 .bf16) (ix2 i l) = V m c main_arg0 (ix2 i ⟨4096 + (128 * t.val + l.val), by have := point_lt t; omega⟩) := by
  have h := (block_index t).2.1
  blk_ext [iblk, h]
theorem block_v (i : Fin 2048) (l : Fin 128) :
    (iblk m c 2 t : FVec Ideal S2048x128 .bf16) (ix2 i l) = V m c main_arg0 (ix2 i ⟨5120 + (128 * t.val + l.val), by have := point_lt t; omega⟩) := by
  have h := (block_index t).2.2.1
  blk_ext [iblk, h]
theorem block_c (i : Fin 2048) (l : Fin 16) : (iblk m c 3 t : FVec Ideal S2048x16 .f32) (ix2 i l) = V m c main_arg1 (ix2 i l) := by
  have h := (block_index t).2.2.2.1
  blk_ext [iblk, h]
theorem block_o (i : Fin 2048) (l : Fin 128) :
    (iblk m c 4 t : FVec Ideal S2048x128 .bf16) (ix2 i l) = V m c main_v44 (ix2 i ⟨128 * t.val + l.val, by have := point_lt t; omega⟩) := by
  have h := (block_index t).2.2.2.2.1
  blk_ext [iblk, h]
theorem block_lse (i : Fin 2048) (l : Fin 128) :
    (iblk m c 5 t : FVec Ideal S1x2048x128 .f32) (ix3 0 i l) = V m c main_v45 (ix3 ⟨t.val, point_lt t⟩ i l) := by
  have h := (block_index t).2.2.2.2.2.1
  blk_ext [iblk, h]
theorem block_d (i : Fin 2048) (l : Fin 128) :
    (iblk m c 6 t : FVec Ideal S2048x128 .bf16) (ix2 i l) = V m c main_arg2 (ix2 i ⟨128 * t.val + l.val, by have := point_lt t; omega⟩) := by
  have h := (block_index t).2.2.2.2.2.2.1
  blk_ext [iblk, h]

/-! ## The reads of a point over real inputs -/

/-- Lane `l` of the pair's columns belongs to head `2 t + l / 64`, at lane `l % 64`. -/
theorem attAt_first (rz rc rd : ℕ → ℕ → ℝ) (e : ℕ) :
    attOf lower (fun i l => rz i (3072 + (128 * e + l.val))) (fun i l => rz i (4096 + (128 * e + l.val))) (fun i l => rz i (5120 + (128 * e + l.val)))
      (fun i l => rd i (128 * e + l.val)) (fun i => rc i (2 * e)) = attAt rz rc rd (2 * e) := by
  unfold attOf attAt lower
  have h : ∀ a : Fin 64, 128 * e + a.val = 2 * e * 64 + a.val := fun a => by omega
  simp only [h]

theorem attAt_second (rz rc rd : ℕ → ℕ → ℝ) (e : ℕ) :
    attOf upper (fun i l => rz i (3072 + (128 * e + l.val))) (fun i l => rz i (4096 + (128 * e + l.val))) (fun i l => rz i (5120 + (128 * e + l.val)))
      (fun i l => rd i (128 * e + l.val)) (fun i => rc i (2 * e + 1)) = attAt rz rc rd (2 * e + 1) := by
  unfold attOf attAt upper
  have h : ∀ a : Fin 64, 128 * e + (64 + a.val) = (2 * e + 1) * 64 + a.val := fun a => by omega
  simp only [h]

/-- The point's columns of the real inputs, and of the attention's result. -/
def colQ (rz : ℕ → ℕ → ℝ) (e : ℕ) : ℕ → Fin 128 → ℝ := fun i l => rz i (3072 + (128 * e + l.val))
def colK (rz : ℕ → ℕ → ℝ) (e : ℕ) : ℕ → Fin 128 → ℝ := fun i l => rz i (4096 + (128 * e + l.val))
def colV (rz : ℕ → ℕ → ℝ) (e : ℕ) : ℕ → Fin 128 → ℝ := fun i l => rz i (5120 + (128 * e + l.val))
def colD (rd : ℕ → ℕ → ℝ) (e : ℕ) : ℕ → Fin 128 → ℝ := fun i l => rd i (128 * e + l.val)
def colO (A : ℕ → Att) (e : ℕ) : ℕ → Fin 128 → ℝ := fun i l => (A ((128 * e + l.val) / 64)).out i ⟨(128 * e + l.val) % 64, Nat.mod_lt _ (by omega)⟩

/-- A block's first and second column, loaded as columns. -/
theorem lane_first (a : Memref sig .tc .vmem S1x2048x128 .f32) (x : FVec Ideal S1x2048x128 .f32) (r : Fin 2048) :
    View.readAt (Elt Ideal) a.view (Rect.unit (s := S1x2048x128) ![0, 0, 0] S1x2048x1.size inb_S1x2048x128_S1x2048x1_0_0_0).toLoadRect
      (a.view.rep (Val := Elt Ideal) x) (ix3 0 r 0) = x (ix3 0 r 0) := by
  refine (congrFun (View.readAt_rep (Val := Elt Ideal) _ _ _) _).trans (congrArg x (funext fun d => Fin.ext ?_))
  match d with
  | ⟨0, _⟩ => rfl
  | ⟨1, _⟩ => show 0 + 1 * r.val = r.val; omega
  | ⟨2, _⟩ => rfl
theorem lane_second (a : Memref sig .tc .vmem S1x2048x128 .f32) (x : FVec Ideal S1x2048x128 .f32) (r : Fin 2048) :
    View.readAt (Elt Ideal) a.view (Rect.unit (s := S1x2048x128) ![0, 0, 1] S1x2048x1.size inb_S1x2048x128_S1x2048x1_0_0_1).toLoadRect
      (a.view.rep (Val := Elt Ideal) x) (ix3 0 r 0) = x (ix3 0 r 1) := by
  refine (congrFun (View.readAt_rep (Val := Elt Ideal) _ _ _) _).trans (congrArg x (funext fun d => Fin.ext ?_))
  match d with
  | ⟨0, _⟩ => rfl
  | ⟨1, _⟩ => show 0 + 1 * r.val = r.val; omega
  | ⟨2, _⟩ => rfl

section
variable {m : (ℓ : Loc nD τ sig) → Buf (Elt Ideal) ℓ} {c : Dev nD}
  {rz rc rd : ℕ → ℕ → ℝ} (hz : ∀ i x, 3072 ≤ x.val → argZ m c (ix2 i x) = ((rz i.val x.val : ℝ) : EReal))
  (hc : ∀ i h, argC m c (ix2 i h) = ((rc i.val h.val : ℝ) : EReal)) (hd : ∀ i x, argD m c (ix2 i x) = ((rd i.val x.val : ℝ) : EReal))
include hz hc hd

/-- The staged blocks hold the pair's columns, gates and log-sums. -/
theorem point_reads : ∃ M : ℕ → ℕ → ℝ, ∀ t : Fin cfg0.N,
    PointReads c (grid0.coords t) (st0_0 t) (st0_1 t) (st0_2 t) (st0_3 t) (st0_4 t) (st0_5 t) (st0_6 t)
      (in0 m c t) (in1 m c t) (in2 m c t) (in3 m c t) (in4 m c t) (in5 m c t) (in6 m c t)
      (colQ rz t.val) (colK rz t.val) (colV rz t.val) (colD rd t.val) (colO (attAt rz rc rd) t.val)
      (fun i => rc i (2 * t.val)) (fun i => rc i (2 * t.val + 1))
      (fun i => M (2 * t.val) i + Real.log ((attAt rz rc rd (2 * t.val)).total (M (2 * t.val) i) i))
      (fun i => M (2 * t.val + 1) i + Real.log ((attAt rz rc rd (2 * t.val + 1)).total (M (2 * t.val + 1) i) i)) := by
  obtain ⟨M, hM⟩ := host_lse_val hz hc hd
  refine ⟨M, fun t => ?_⟩
  have ht := point_lt t
  have hcoord := coord_val t
  have hgate : View.readAt (Elt Ideal) (st0_3 t).view (Rect.unit ![0, 0] S2048x16.size inb_S2048x16_S2048x16_0_0).toLoadRect (in3 m c t)
      = iblk m c 3 t := View.readAt_rep_full (Val := Elt Ideal) _ _ _
  constructor
  · intro i l
    rw [View.readAt_rep_full (Val := Elt Ideal) (st0_0 t).view (iblk m c 0 t)]
    exact (block_q m c t i l).trans ((congrFun (host_z m c) _).trans (hz i _ (by dsimp only; omega)))
  · intro i l
    rw [View.readAt_rep_full (Val := Elt Ideal) (st0_1 t).view (iblk m c 1 t)]
    exact (block_k m c t i l).trans ((congrFun (host_z m c) _).trans (hz i _ (by dsimp only; omega)))
  · intro i l
    rw [View.readAt_rep_full (Val := Elt Ideal) (st0_2 t).view (iblk m c 2 t)]
    exact (block_v m c t i l).trans ((congrFun (host_z m c) _).trans (hz i _ (by dsimp only; omega)))
  · intro i l
    rw [View.readAt_rep_full (Val := Elt Ideal) (st0_4 t).view (iblk m c 4 t)]
    exact (block_o m c t i l).trans (host_o_val hz hc hd i _)
  · intro i l
    rw [View.readAt_rep_full (Val := Elt Ideal) (st0_6 t).view (iblk m c 6 t)]
    exact (block_d m c t i l).trans ((congrFun (host_d m c) _).trans (hd i _))
  · intro r
    rw [hgate, gate_first _ _ _ (by omega), block_c, host_c, hc]
    dsimp only
    rw [hcoord]
  · intro r
    rw [hgate, gate_second _ _ _ (by omega), block_c, host_c, hc]
    dsimp only
    rw [hcoord]
  · intro r
    exact (lane_first (st0_5 t) (iblk m c 5 t) r).trans <| (block_lse m c t r 0).trans (hM ⟨t.val, ht⟩ r 0 (by decide))
  · intro r
    exact (lane_second (st0_5 t) (iblk m c 5 t) r).trans <| (block_lse m c t r 1).trans (hM ⟨t.val, ht⟩ r 1 (by decide))
end

end Cert.Proof
-- ==== Proof.Results.lean ====
/-
  The kernel's two results over real inputs: every point's planes are the gradients of its pair of heads, so the gradient
  array ends up with all of them after its given columns, and the gate gradients fill their blocks' first two columns.
-/
module

public import proofs.«01_k».proof.Proof.Blocks

@[expose] public section

set_option maxRecDepth 16384

noncomputable section

namespace Cert.Proof

open Cert.KernelIdeal Cert.KernelIdeal.Gen
open Idealize.ShloMosaic
open Idealize.ShloMosaic.TcCoe
open Idealize.ShloMosaic (ix2 ix3)
open scoped BigOperators

/-- A lane is a lower or an upper one. -/
theorem lane_cases (l : Fin 128) : (∃ d, l = lower d) ∨ ∃ d, l = upper d := by
  by_cases h : l.val < 64
  · exact Or.inl ⟨⟨l.val, h⟩, rfl⟩
  · exact Or.inr ⟨⟨l.val - 64, by omega⟩, Fin.ext (by show l.val = 64 + (l.val - 64); omega)⟩

/-- What the pair's heads give, at a lane of the pair's columns. -/
def atLane (A : ℕ → Att) (f : Att → ℕ → Fin 64 → ℝ) (e i l : ℕ) : ℝ := f (A ((128 * e + l) / 64)) i ⟨(128 * e + l) % 64, Nat.mod_lt _ (by omega)⟩

theorem atLane_lower (A : ℕ → Att) (f : Att → ℕ → Fin 64 → ℝ) (e i : ℕ) (d : Fin 64) : atLane A f e i (lower d).val = f (A (2 * e)) i d := by
  have h1 : (128 * e + (lower d).val) / 64 = 2 * e := by show (128 * e + d.val) / 64 = 2 * e; omega
  have h2 : (⟨(128 * e + (lower d).val) % 64, Nat.mod_lt _ (by omega)⟩ : Fin 64) = d := Fin.ext (by show (128 * e + d.val) % 64 = d.val; omega)
  unfold atLane; rw [h1, h2]
theorem atLane_upper (A : ℕ → Att) (f : Att → ℕ → Fin 64 → ℝ) (e i : ℕ) (d : Fin 64) : atLane A f e i (upper d).val = f (A (2 * e + 1)) i d := by
  have h1 : (128 * e + (upper d).val) / 64 = 2 * e + 1 := by show (128 * e + (64 + d.val)) / 64 = 2 * e + 1; omega
  have h2 : (⟨(128 * e + (upper d).val) % 64, Nat.mod_lt _ (by omega)⟩ : Fin 64) = d := Fin.ext (by show (128 * e + (64 + d.val)) % 64 = d.val; omega)
  unfold atLane; rw [h1, h2]

theorem lower_lt (d : Fin 64) : ¬ 64 ≤ (lower d).val := by show ¬ 64 ≤ d.val; omega
theorem upper_ge (d : Fin 64) : 64 ≤ (upper d).val := by show 64 ≤ 64 + d.val; omega

section
variable {m : (ℓ : Loc nD τ sig) → Buf (Elt Ideal) ℓ} {c : Dev nD}
  {rz rc rd : ℕ → ℕ → ℝ} (hz : ∀ i x, 3072 ≤ x.val → argZ m c (ix2 i x) = ((rz i.val x.val : ℝ) : EReal))
  (hc : ∀ i h, argC m c (ix2 i h) = ((rc i.val h.val : ℝ) : EReal)) (hd : ∀ i x, argD m c (ix2 i x) = ((rd i.val x.val : ℝ) : EReal))
include hz hc hd

/-- The planes and the staged gate gradients of a point. -/
theorem point_values (t : Fin cfg0.N) (r : Fin 2048) (l : Fin 128) :
    gradQ m c t (ix3 0 r l) = ((atLane (attAt rz rc rd) Att.gq t.val r.val l.val : ℝ) : EReal)
    ∧ gradK m c t (ix3 0 r l) = ((atLane (attAt rz rc rd) Att.gk t.val r.val l.val : ℝ) : EReal)
    ∧ gradV m c t (ix3 0 r l) = ((atLane (attAt rz rc rd) Att.gv t.val r.val l.val : ℝ) : EReal)
    ∧ View.canon (gradC m c t) (ix3 0 r l) = outC (attAt rz rc rd) t.val r.val l.val := by
  obtain ⟨M, hM⟩ := point_reads hz hc hd
  have R := hM t
  have hA : attOf lower (colQ rz t.val) (colK rz t.val) (colV rz t.val) (colD rd t.val) (fun i => rc i (2 * t.val)) = attAt rz rc rd (2 * t.val) :=
    attAt_first rz rc rd t.val
  have hB : attOf upper (colQ rz t.val) (colK rz t.val) (colV rz t.val) (colD rd t.val) (fun i => rc i (2 * t.val + 1)) = attAt rz rc rd (2 * t.val + 1) :=
    attAt_second rz rc rd t.val
  have mA : ∀ i, i < 2048 → ∃ N, M (2 * t.val) i + Real.log ((attAt rz rc rd (2 * t.val)).total (M (2 * t.val) i) i)
      = N + Real.log ((attOf lower (colQ rz t.val) (colK rz t.val) (colV rz t.val) (colD rd t.val) (fun i => rc i (2 * t.val))).total N i) :=
    fun i _ => ⟨M (2 * t.val) i, by rw [hA]⟩
  have mB : ∀ i, i < 2048 → ∃ N, M (2 * t.val + 1) i + Real.log ((attAt rz rc rd (2 * t.val + 1)).total (M (2 * t.val + 1) i) i)
      = N + Real.log ((attOf upper (colQ rz t.val) (colK rz t.val) (colV rz t.val) (colD rd t.val) (fun i => rc i (2 * t.val + 1))).total N i) :=
    fun i _ => ⟨M (2 * t.val + 1) i, by rw [hB]⟩
  have oA : ∀ i, i < 2048 → ∀ d, colO (attAt rz rc rd) t.val i (lower d)
      = (attOf lower (colQ rz t.val) (colK rz t.val) (colV rz t.val) (colD rd t.val) (fun i => rc i (2 * t.val))).out i d :=
    fun i _ d => by rw [hA]; exact atLane_lower (attAt rz rc rd) Att.out t.val i d
  have oB : ∀ i, i < 2048 → ∀ d, colO (attAt rz rc rd) t.val i (upper d)
      = (attOf upper (colQ rz t.val) (colK rz t.val) (colV rz t.val) (colD rd t.val) (fun i => rc i (2 * t.val + 1))).out i d :=
    fun i _ d => by rw [hB]; exact atLane_upper (attAt rz rc rd) Att.out t.val i d
  refine ⟨(planeQ_apply R r l).trans (congrArg _ ?_), (planeK_apply R r l).trans (congrArg _ ?_), (planeV_apply R r l).trans (congrArg _ ?_),
    (piecesC_apply R r l).trans ?_⟩
  · obtain ⟨d, rfl⟩ | ⟨d, rfl⟩ := lane_cases l
    · rw [if_neg (lower_lt d), headA_gradQ mA oA r.isLt d, hA, atLane_lower]
    · rw [if_pos (upper_ge d), headB_gradQ mB oB r.isLt d, hB, atLane_upper]
  · obtain ⟨d, rfl⟩ | ⟨d, rfl⟩ := lane_cases l
    · rw [if_neg (lower_lt d), headA_gradK mA oA r.val d, hA, atLane_lower]
    · rw [if_pos (upper_ge d), headB_gradK mB oB r.val d, hB, atLane_upper]
  · obtain ⟨d, rfl⟩ | ⟨d, rfl⟩ := lane_cases l
    · rw [if_neg (lower_lt d), headA_gradV mA oA r.val d, hA, atLane_lower]
    · rw [if_pos (upper_ge d), headB_gradV mB oB r.val d, hB, atLane_upper]
  · rw [headA_gate mA oA r.isLt, headB_gate mB oB r.isLt, hA, hB]
    unfold outC
    split_ifs
    · rfl
    · rfl
    · exact EReal.coe_zero
end

/-! ## Writing a column window -/

theorem off1_row (i : grid0.Coords) (r : Fin 3) : k0_off1 i (BitVec.ofNat 32 (24 + 8 * r.val)) 0 = 0 := by
  revert i r; decide +kernel

section
variable (i : grid0.Coords) (r : Fin 3) (g : arrG.view.ty.Contents (Elt Ideal)) (w : Vec Ideal S2048x128 .bf16) (y : Fin 2048) (x : Fin 6144)

theorem write_window_in (l : Fin 128) (hx : x.val = 128 * (24 + 8 * r.val + (i 0).val) + l.val) :
    (win i r).view.write (Elt Ideal) g w Finset.univ (ix2 y x) = w (ix2 y l) := by
  have e : (win i r).view.emb (ix2 y l) = ix2 y x := funext fun a => Fin.ext (by
    match a with
    | ⟨0, _⟩ =>
      show k0_off1 i (BitVec.ofNat 32 (24 + 8 * r.val)) 0 + 1 * y.val = y.val
      rw [off1_row]; omega
    | ⟨1, _⟩ =>
      show k0_off1 i (BitVec.ofNat 32 (24 + 8 * r.val)) 1 + 1 * l.val = x.val
      rw [off1_col]; omega)
  rw [← e]
  exact View.write_emb_of_mem _ _ (Finset.mem_univ _)

theorem write_window_out (hx : x.val < 128 * (24 + 8 * r.val + (i 0).val) ∨ 128 * (24 + 8 * r.val + (i 0).val) + 128 ≤ x.val) :
    (win i r).view.write (Elt Ideal) g w Finset.univ (ix2 y x) = g (ix2 y x) := by
  refine View.write_of_not_mem _ _ _ fun hm => ?_
  obtain ⟨z, -, hz⟩ := Finset.mem_map.mp hm
  have h1 : k0_off1 i (BitVec.ofNat 32 (24 + 8 * r.val)) 1 + 1 * (z 1).val = x.val := congrArg (fun j => (j 1).val) hz
  have h2 : (z 1).val < 128 := (z 1).isLt
  rw [off1_col] at h1
  omega
end

theorem flatten_plane (w : Vec Ideal S1x2048x128 .bf16) (y : Fin 2048) (l : Fin 128) :
    shapeCast S2048x128 w shapeCasts_S1x2048x128_S2048x128 (ix2 y l) = w (ix3 0 y l) := by
  pointwise []

theorem idx_member {n d : ℕ} (y : (⟨3, ![1, n, d]⟩ : Shape).Idx) : y = ix3 (0 : Fin 1) (y 1) (y 2) := by
  funext a
  match a with
  | ⟨0, _⟩ => exact Subsingleton.elim (α := Fin 1) _ _
  | ⟨1, _⟩ => rfl
  | ⟨2, _⟩ => rfl

/-! ## The gradient array -/

section
variable {m : (ℓ : Loc nD τ sig) → Buf (Elt Ideal) ℓ} {c : Dev nD}
  {rz rc rd : ℕ → ℕ → ℝ} (hz : ∀ i x, 3072 ≤ x.val → argZ m c (ix2 i x) = ((rz i.val x.val : ℝ) : EReal))
  (hc : ∀ i h, argC m c (ix2 i h) = ((rc i.val h.val : ℝ) : EReal)) (hd : ∀ i x, argD m c (ix2 i x) = ((rd i.val x.val : ℝ) : EReal))
include hz hc hd

/-- Before point `n` the given columns and the columns of the points before are in place. -/
theorem array_upto (n : ℕ) (hn : n ≤ 8) (y : Fin 2048) (x : Fin 6144) (h : x.val < 3072 ∨ (x.val - 3072) % 1024 / 128 < n) :
    arrayAt m c n (ix2 y x) = outZ (attAt rz rc rd) y.val x.val (argF m c (ix2 y x)) := by
  induction n with
  | zero =>
    have hx : x.val < 3072 := by omega
    unfold outZ
    rw [if_pos hx]
    exact congrFun (host_first m c) _
  | succ n ih =>
    have hN : n < cfg0.N := lt_of_lt_of_eq (show n < 8 by omega) N_0.symm
    have hstep := arrayAt_succ m c ⟨n, hN⟩
    have hcoord : (grid0.coords ⟨n, hN⟩ 0).val = n := coord_val ⟨n, hN⟩
    rw [show arrayAt m c (n + 1) = _ from hstep]
    unfold putPlanes
    have hv := fun l => point_values hz hc hd ⟨n, hN⟩ y l
    by_cases hx : x.val < 3072
    · rw [write_window_out, write_window_out, write_window_out]
      · exact ih (by omega) (Or.inl hx)
      all_goals (left; omega)
    by_cases hb : (x.val - 3072) % 1024 / 128 = n
    · have hlt := x.isLt
      unfold outZ
      rw [if_neg hx]
      by_cases hq : x.val < 4096
      · rw [if_pos hq, write_window_out, write_window_out, write_window_in (l := ⟨x.val - 3072 - 128 * n, by omega⟩), flatten_plane, (hv _).1]
        · unfold atLane
          have e : 128 * n + (x.val - 3072 - 128 * n) = x.val - 3072 := by omega
          simp only [e]
        · show x.val = 128 * (24 + 8 * 0 + (grid0.coords ⟨n, hN⟩ 0).val) + (x.val - 3072 - 128 * n); omega
        · left; show x.val < 128 * (24 + 8 * 1 + (grid0.coords ⟨n, hN⟩ 0).val); omega
        · left; show x.val < 128 * (24 + 8 * 2 + (grid0.coords ⟨n, hN⟩ 0).val); omega
      rw [if_neg hq]
      by_cases hk : x.val < 5120
      · rw [if_pos hk, write_window_out, write_window_in (l := ⟨x.val - 4096 - 128 * n, by omega⟩), flatten_plane, (hv _).2.1]
        · unfold atLane
          have e : 128 * n + (x.val - 4096 - 128 * n) = x.val - 4096 := by omega
          simp only [e]
        · show x.val = 128 * (24 + 8 * 1 + (grid0.coords ⟨n, hN⟩ 0).val) + (x.val - 4096 - 128 * n); omega
        · left; show x.val < 128 * (24 + 8 * 2 + (grid0.coords ⟨n, hN⟩ 0).val); omega
      · rw [if_neg hk, write_window_in (l := ⟨x.val - 5120 - 128 * n, by omega⟩), flatten_plane, (hv _).2.2.1]
        · unfold atLane
          have e : 128 * n + (x.val - 5120 - 128 * n) = x.val - 5120 := by omega
          simp only [e]
        · show x.val = 128 * (24 + 8 * 2 + (grid0.coords ⟨n, hN⟩ 0).val) + (x.val - 5120 - 128 * n); omega
    · rw [write_window_out, write_window_out, write_window_out]
      · exact ih (by omega) (Or.inr (by omega))
      · show x.val < 128 * (24 + 8 * 0 + (grid0.coords ⟨n, hN⟩ 0).val) ∨ 128 * (24 + 8 * 0 + (grid0.coords ⟨n, hN⟩ 0).val) + 128 ≤ x.val; omega
      · show x.val < 128 * (24 + 8 * 1 + (grid0.coords ⟨n, hN⟩ 0).val) ∨ 128 * (24 + 8 * 1 + (grid0.coords ⟨n, hN⟩ 0).val) + 128 ≤ x.val; omega
      · show x.val < 128 * (24 + 8 * 2 + (grid0.coords ⟨n, hN⟩ 0).val) ∨ 128 * (24 + 8 * 2 + (grid0.coords ⟨n, hN⟩ 0).val) + 128 ≤ x.val; omega

theorem array_val (y : Fin 2048) (x : Fin 6144) :
    arrayAt m c 8 (ix2 y x) = outZ (attAt rz rc rd) y.val x.val (argF m c (ix2 y x)) :=
  array_upto hz hc hd 8 le_rfl y x (by have := x.isLt; omega)

theorem gates_block (t : Fin cfg0.N) (y : S1x2048x128.Idx) :
    (View.canon (gradC m c t) : FVec Ideal S1x2048x128 .f32) y = outC (attAt rz rc rd) t.val (y 1).val (y 2).val := by
  rw [idx_member (n := 2048) (d := 128) y]
  exact (point_values hz hc hd t (y 1) (y 2)).2.2.2

end

end Cert.Proof
-- ==== Proof.Gates.lean ====
/-
  The array of gate gradients after the run, block by block.
-/
module

public import proofs.«01_k».proof.Proof.Results
public import Idealize.ShloMosaic.Lib.Pipeline.ValueKit

@[expose] public section

set_option maxRecDepth 16384

noncomputable section

namespace Cert.Proof

open Cert.KernelIdeal Cert.KernelIdeal.Gen
open Idealize.ShloMosaic
open Idealize.ShloMosaic.TcCoe
open Idealize.ShloMosaic (ix2 ix3)
open scoped BigOperators

section
variable {m : (ℓ : Loc nD τ sig) → Buf (Elt Ideal) ℓ} {c : Dev nD}
  {rz rc rd : ℕ → ℕ → ℝ} (hz : ∀ i x, 3072 ≤ x.val → argZ m c (ix2 i x) = ((rz i.val x.val : ℝ) : EReal))
  (hc : ∀ i h, argC m c (ix2 i h) = ((rc i.val h.val : ℝ) : EReal)) (hd : ∀ i x, argD m c (ix2 i x) = ((rd i.val x.val : ℝ) : EReal))
include hz hc hd

/-- The gate gradients, block by block. -/
theorem gates_val (j : Fin 8) (r : Fin 2048) (l : Fin 128) :
    (dats m 0 c).arrAt 7 cfg0.N (ix3 j r l) = outC (attAt rz rc rd) j.val r.val l.val := by
  have h : (dats m 0 c).arrAt 7 cfg0.N = (fun p => outC (attAt rz rc rd) (p 0).val (p 1).val (p 2).val : FVec Ideal S8x2048x128 .f32) := by
    refine (dats m 0 c).arrAt_eq_of_covers 7 _ (by decide +kernel) fun t hf y => ?_
    have hi := (block_index t).2.2.2.2.2.2.2
    have hb := gates_block hz hc hd t
    blk_simp [hi]
    rw [after_7]
    generalize View.canon (gradC m c t) = X at hb
    generalize attAt rz rc rd = A at hb
    exact hb y
  rw [h]; rfl
end

end Cert.Proof
-- ==== Proof.Equation.lean ====
/-
  From inputs of finite magnitude the kernel's two results are the reference's.
-/
module

public import proofs.«01_k».proof.Proof.Inputs
public import proofs.«01_k».proof.Proof.Gates

@[expose] public section

set_option maxRecDepth 16384

noncomputable section

namespace Cert.Proof

open Cert.KernelIdeal Cert.KernelIdeal.Gen
open Idealize.ShloMosaic
open Idealize.ShloMosaic.TcCoe
open Idealize.ShloMosaic (ix2 ix3)

/-- Two arrays equal at every row and column (at every block, row and column) are equal. -/
theorem ext_pair {n d : ℕ} {φ : FTy} {a b : FVec Ideal ⟨2, ![n, d]⟩ φ} (h : ∀ i x, a (ix2 i x) = b (ix2 i x)) : a = b := by
  funext y
  have e : y = ix2 (y 0) (y 1) := funext fun k => by
    match k with
    | ⟨0, _⟩ => rfl
    | ⟨1, _⟩ => rfl
  rw [e]; exact h _ _
theorem ext_triple {g n d : ℕ} {φ : FTy} {a b : FVec Ideal ⟨3, ![g, n, d]⟩ φ} (h : ∀ j i x, a (ix3 j i x) = b (ix3 j i x)) : a = b := by
  funext y
  have e : y = ix3 (y 0) (y 1) (y 2) := funext fun k => by
    match k with
    | ⟨0, _⟩ => rfl
    | ⟨1, _⟩ => rfl
    | ⟨2, _⟩ => rfl
  rw [e]; exact h _ _ _

variable (m : (ℓ : Loc nD τ sig) → Buf (Elt Ideal) ℓ) (h : Cert.Pre_KernelIdeal_finite m) (c : Dev nD)
include h

theorem gradients_agree : arrayAt m c 8 = Lines.refZ (argZ m c) (argC m c) (argD m c) (argF m c) := by
  obtain ⟨rz, rc, rd, hz, hc, hd⟩ := real_inputs m h c
  exact ext_pair (n := 2048) (d := 6144) (φ := .bf16) fun i x => (array_val hz hc hd i x).trans (Lines.refZ_val (argF m c) hz hc hd i x).symm

theorem gates_agree : (dats m 0 c).arrAt 7 cfg0.N = Lines.pairs (Lines.dGate (Lines.refDs (argZ m c) (argC m c) (argD m c))) := by
  obtain ⟨rz, rc, rd, hz, hc, hd⟩ := real_inputs m h c
  exact ext_triple (g := 8) (n := 2048) (d := 128) (φ := .f32) fun j r l => (gates_val hz hc hd j r l).trans (Lines.refC_val hz hc hd j r l).symm

end Cert.Proof
-- ==== Proof.Words.lean ====
/-
  The kernel's program and its idealization are one text, so the run of the second at machine words is the first's.
-/
module

public import proofs.«01_k».proof.Proof.Gen.Kernel
public import proofs.«01_k».proof.Proof.Gen.KernelIdeal

@[expose] public section

set_option maxRecDepth 65536

noncomputable section

namespace Cert.Proof

open Idealize.ShloMosaic Idealize.SL.Sem

set_option maxHeartbeats 1000000

variable {F : FTy → Type} [FloatOps F]

theorem same_body : @Cert.Kernel.cc0_fox_bwd F _ _ = @Cert.KernelIdeal.cc0_fox_bwd F _ _ := rfl

theorem same_bodies : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) =>
    show Cert.Kernel.cc0_fox_bwd _ _ _ _ _ _ _ _ _ _ _ _ _ _ _ _ _ _ _ _ _ _ _ _ _ _ _ _ _ _ = _
    rw [same_body]
    rfl
  | ⟨_ + 1, h⟩, _ => exact absurd h (Nat.not_lt.2 (Nat.le_add_left _ _))

theorem same_defs : @Cert.Kernel.defs F _ _ = @Cert.KernelIdeal.defs F _ _ := by
  show Pipeline.defs Cert.Kernel.pcfgs Cert.Kernel.defs₀ = _
  rw [same_bodies]
  rfl

theorem same_main : @Cert.Kernel.main F _ _ = @Cert.KernelIdeal.main F _ _ := rfl

end Cert.Proof
-- ==== Proof.FfnPoints.lean ====
/-
  The calls of the feed-forward layer (its first product and its gate forward, and the five calls of its backward pass):
  what one grid point of each leaves, at any elements.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import Idealize.ShloMosaic.Lib.Pipeline.FrameValue
public import Idealize.ShloMosaic.Lib.Pipeline.TableIdle
public import Idealize.ShloMosaic.Lib.Pipeline.RegionsLoop
public import Idealize.ShloMosaic.Lib.VecWindow
public import Idealize.ShloMosaic.Lib.Tactic

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M` owned whole on core `c` at contents `X`. -/
abbrev own (c : Dev nD) {sp : Space} {S : Shape} {e : EltTy} (M : Memref sig .tc sp S e) (X : S.Idx → Elt F e) : sProp 𝕄 :=
  owns (c : Thread nD τ) M fullShare X

/-- A buffer written whole is owned at what was written. -/
theorem own_written (c : Dev nD) {sp : Space} {S : Shape} {e : EltTy} (M : Memref sig .tc sp S e) (f : M.view.ty.Contents (Elt F))
    {off : Fin S.rank → ℕ} (inb : ∀ a, off a + S.size a ≤ S.size a) (X : S.Idx → Elt F e) :
    (M.view.loc (c : Thread nD τ) ↦[M.view.set]{fullShare} M.view.writes (Elt F) f [⟨Rect.unit off S.size inb, X⟩]) ⊢ (own c M X : sProp 𝕄) := by
  iintro H
  unfold own owns; iexists _; isplitr
  swap; · iexact H
  ipureintro
  exact View.read_writes_full _ _ inb X []

theorem run0 (c : Dev nD) (i : grid0.Coords) (a : Memref sig .tc .vmem S1024x1024 .bf16) (ha : a.IsWhole) (b : Memref sig .tc .vmem S1408x1024 .bf16) (hb : b.IsWhole) (o : Memref sig .tc .vmem S1024x1408 .bf16) (ho : o.IsWhole)
    (x : Vec F S1024x1024 .bf16) (y : Vec F S1408x1024 .bf16) (z : Vec F S1024x1408 .bf16) (W : Waits sig Unit) (K : PUnit → sProp 𝕄) :
    iprop(own c a x ∗ own c b y ∗ own c o z ∗ owes (c : Thread nD τ) 0 W
      ∗ (iprop(own c a x ∗ own c b y ∗ own c o (k0_pay1 x y) ∗ (∃ W', owes (c : Thread nD τ) 0 W')) -∗ K ⟨⟩))
      ⊢ wp frame (wpE (defs₀ (F := F)) Variants.none c none) Set.univ (cc0_mm_gate_up i a ha b hb o ho) K := by
  simp only [cc0_mm_gate_up_eq_skeleton]; unfold cc0_mm_gate_up_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k0_pay1 x y)); iexact Ho
  iexists _; iexact HW

theorem run1 (c : Dev nD) (i : grid1.Coords) (a : Memref sig .tc .vmem S256x2816 .bf16) (ha : a.IsWhole) (b : Memref sig .tc .vmem S256x2816 .bf16) (hb : b.IsWhole) (o : Memref sig .tc .vmem S256x2816 .bf16) (ho : o.IsWhole)
    (x : Vec F S256x2816 .bf16) (y : Vec F S256x2816 .bf16) (z : Vec F S256x2816 .bf16) (W : Waits sig Unit) (K : PUnit → sProp 𝕄) :
    iprop(own c a x ∗ own c b y ∗ own c o z ∗ owes (c : Thread nD τ) 0 W
      ∗ (iprop(own c a x ∗ own c b y ∗ own c o (k1_pay1 x y) ∗ (∃ W', owes (c : Thread nD τ) 0 W')) -∗ K ⟨⟩))
      ⊢ wp frame (wpE (defs₀ (F := F)) Variants.none c none) Set.univ (cc1_swiglu_fwd i a ha b hb o ho) K := by
  simp only [cc1_swiglu_fwd_eq_skeleton]; unfold cc1_swiglu_fwd_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k1_pay1 x y)); iexact Ho
  iexists _; iexact HW

theorem run2 (c : Dev nD) (i : grid2.Coords) (a : Memref sig .tc .vmem S1024x1024 .f32) (ha : a.IsWhole) (b : Memref sig .tc .vmem S1408x1024 .bf16) (hb : b.IsWhole) (o : Memref sig .tc .vmem S1024x1408 .bf16) (ho : o.IsWhole)
    (x : Vec F S1024x1024 .f32) (y : Vec F S1408x1024 .bf16) (z : Vec F S1024x1408 .bf16) (W : Waits sig Unit) (K : PUnit → sProp 𝕄) :
    iprop(own c a x ∗ own c b y ∗ own c o z ∗ owes (c : Thread nD τ) 0 W
      ∗ (iprop(own c a x ∗ own c b y ∗ own c o (k2_pay1 x y) ∗ (∃ W', owes (c : Thread nD τ) 0 W')) -∗ K ⟨⟩))
      ⊢ wp frame (wpE (defs₀ (F := F)) Variants.none c none) Set.univ (cc2_mmb_down i a ha b hb o ho) K := by
  simp only [cc2_mmb_down_eq_skeleton]; unfold cc2_mmb_down_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k2_pay1 x y)); iexact Ho
  iexists _; iexact HW

theorem run3 (c : Dev nD) (i : grid3.Coords) (a : Memref sig .tc .vmem S2048x1408 .bf16) (ha : a.IsWhole) (b : Memref sig .tc .vmem S2048x1024 .f32) (hb : b.IsWhole) (o : Memref sig .tc .vmem S1408x1024 .bf16) (ho : o.IsWhole)
    (x : Vec F S2048x1408 .bf16) (y : Vec F S2048x1024 .f32) (z : Vec F S1408x1024 .bf16) (W : Waits sig Unit) (K : PUnit → sProp 𝕄) :
    iprop(own c a x ∗ own c b y ∗ own c o z ∗ owes (c : Thread nD τ) 0 W
      ∗ (iprop(own c a x ∗ own c b y ∗ own c o (k3_pay1 x y) ∗ (∃ W', owes (c : Thread nD τ) 0 W')) -∗ K ⟨⟩))
      ⊢ wp frame (wpE (defs₀ (F := F)) Variants.none c none) Set.univ (cc3_mmg_w_down i a ha b hb o ho) K := by
  simp only [cc3_mmg_w_down_eq_skeleton]; unfold cc3_mmg_w_down_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k3_pay1 x y)); iexact Ho
  iexists _; iexact HW

theorem run6 (c : Dev nD) (i : grid6.Coords) (a : Memref sig .tc .vmem S2048x1408 .bf16) (ha : a.IsWhole) (b : Memref sig .tc .vmem S2048x1024 .bf16) (hb : b.IsWhole) (o : Memref sig .tc .vmem S1408x1024 .bf16) (ho : o.IsWhole)
    (x : Vec F S2048x1408 .bf16) (y : Vec F S2048x1024 .bf16) (z : Vec F S1408x1024 .bf16) (W : Waits sig Unit) (K : PUnit → sProp 𝕄) :
    iprop(own c a x ∗ own c b y ∗ own c o z ∗ owes (c : Thread nD τ) 0 W
      ∗ (iprop(own c a x ∗ own c b y ∗ own c o (k6_pay1 x y) ∗ (∃ W', owes (c : Thread nD τ) 0 W')) -∗ K ⟨⟩))
      ⊢ wp frame (wpE (defs₀ (F := F)) Variants.none c none) Set.univ (cc6_mmg_w_gate_up i a ha b hb o ho) K := by
  simp only [cc6_mmg_w_gate_up_eq_skeleton]; unfold cc6_mmg_w_gate_up_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k6_pay1 x y)); iexact Ho
  iexists _; iexact HW

/-- What a point of the gate's backward leaves: the gates' gradients in the first half of the columns, the values' in the second. -/
def halves (x y z : Vec F S256x2816 .bf16) : Vec F S256x5632 .bf16 :=
  View.canon [⟨Rect.unit ![0, 2816] S256x2816.size inb_S256x5632_S256x2816_0_2816, k4_pay5 x z⟩,
    ⟨Rect.unit ![0, 0] S256x2816.size inb_S256x5632_S256x2816_0_0, k4_pay4 x y z⟩]

theorem halves_cover (p q : Vec F S256x2816 .bf16) (j : S256x5632.Idx) :
    ∃ pc ∈ ([⟨Rect.unit ![0, 2816] S256x2816.size inb_S256x5632_S256x2816_0_2816, p⟩,
      ⟨Rect.unit ![0, 0] S256x2816.size inb_S256x5632_S256x2816_0_0, q⟩] : List (View.Piece (Elt F) S256x5632 .bf16)), j ∈ pc.1.set := by
  have h0 : (j 0).val < 256 := (j 0).isLt
  have h1 : (j 1).val < 5632 := (j 1).isLt
  by_cases h : (j 1).val < 2816
  · refine ⟨_, List.mem_cons_of_mem _ (List.mem_singleton.mpr rfl), ?_⟩
    rw [Rect.mem_set_unit]
    intro a
    match a with
    | ⟨0, _⟩ => exact ⟨Nat.zero_le _, by show (j 0).val < 0 + 256; omega⟩
    | ⟨1, _⟩ => exact ⟨Nat.zero_le _, by show (j 1).val < 0 + 2816; omega⟩
  · refine ⟨_, List.mem_cons_self, ?_⟩
    rw [Rect.mem_set_unit]
    intro a
    match a with
    | ⟨0, _⟩ => exact ⟨Nat.zero_le _, by show (j 0).val < 0 + 256; omega⟩
    | ⟨1, _⟩ => exact ⟨by show 2816 ≤ (j 1).val; omega, by show (j 1).val < 2816 + 2816; omega⟩

theorem run4 (c : Dev nD) (i : grid4.Coords) (a : Memref sig .tc .vmem S256x2816 .bf16) (ha : a.IsWhole) (b : Memref sig .tc .vmem S256x2816 .bf16) (hb : b.IsWhole) (d : Memref sig .tc .vmem S256x2816 .bf16) (hd : d.IsWhole) (o : Memref sig .tc .vmem S256x5632 .bf16) (ho : o.IsWhole)
    (x y z : Vec F S256x2816 .bf16) (u : Vec F S256x5632 .bf16) (W : Waits sig Unit) (K : PUnit → sProp 𝕄) :
    iprop(own c a x ∗ own c b y ∗ own c d z ∗ own c o u ∗ owes (c : Thread nD τ) 0 W
      ∗ (iprop(own c a x ∗ own c b y ∗ own c d z ∗ own c o (halves x y z) ∗ (∃ W', owes (c : Thread nD τ) 0 W')) -∗ K ⟨⟩))
      ⊢ wp frame (wpE (defs₀ (F := F)) Variants.none c none) Set.univ (cc4_swiglu_bwd i a ha b hb d hd o ho) K := by
  simp only [cc4_swiglu_bwd_eq_skeleton]; unfold cc4_swiglu_bwd_skel
  iintro ⟨Ha, Hb, Hd, Ho, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare z) $$ Hd
  ihave Ho := (rep_of_owns (c : Thread nD τ) o fullShare u) $$ Ho
  sl_exec
  sl_step
  rw [View.readAt_rep_full (Val := Elt F) a.view x, View.readAt_rep_full (Val := Elt F) b.view y, View.readAt_rep_full (Val := Elt F) d.view z]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare z); iexact Hd
  isplitl [Ho]
  · unfold own owns; iexists _; isplitr
    swap; · iexact Ho
    ipureintro
    exact View.read_writes_eq_canon _ _ _ (halves_cover _ _)
  iexists _; iexact HW

/-- The first of a row block's four steps starts the sum. -/
theorem run5_first (c : Dev nD) (i : grid5.Coords) (hk : (i 2).val = 0) (a : Memref sig .tc .vmem S1024x1408 .bf16) (ha : a.IsWhole) (b : Memref sig .tc .vmem S1408x1024 .bf16) (hb : b.IsWhole) (o : Memref sig .tc .vmem S1024x1024 .f32) (ho : o.IsWhole) (s : Memref sig .tc .vmem S1024x1024 .f32) (hs : s.IsWhole)
    (x : Vec F S1024x1408 .bf16) (y : Vec F S1408x1024 .bf16) (z t : Vec F S1024x1024 .f32) (W : Waits sig Unit) (K : PUnit → sProp 𝕄) :
    iprop(own c a x ∗ own c b y ∗ own c o z ∗ own c s t ∗ owes (c : Thread nD τ) 0 W
      ∗ (iprop(own c a x ∗ own c b y ∗ own c o (z) ∗ own c s (k5_pay2 x y) ∗ (∃ W', owes (c : Thread nD τ) 0 W')) -∗ K ⟨⟩))
      ⊢ wp frame (wpE (defs₀ (F := F)) Variants.none c none) Set.univ (cc5_mmb_gate_up i a ha b hb o ho s hs) K := by
  simp only [cc5_mmb_gate_up_eq_skeleton]; unfold cc5_mmb_gate_up_skel
  have e1 : Scalar.cmpi .ne (Scalar.extui (Scalar.cmpi .eq (BitVec.ofNat 32 (i 2).val) 0#32) : BitVec 32) 0#32 = 1#1 := by
    rw [hk]; decide
  have e2 : ¬ (Scalar.cmpi .ne (Scalar.extui (Scalar.cmpi .sgt (BitVec.ofNat 32 (i 2).val) 0#32) : BitVec 32) 0#32 = 1#1) := by
    rw [hk]; decide
  have e3 : ¬ (k5_cond3 i = 1#1) := by
    unfold k5_cond3; dsimp only; rw [hk]; decide
  iintro ⟨Ha, Hb, Ho, Hs, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (owns_of_rep (c : Thread nD τ) o fullShare z); iexact Ho
  isplitl [Hs]; · iapply (own_written c s _ _ (k5_pay2 x y)); iexact Hs
  iexists _; iexact HW
/-- A middle step adds to it. -/
theorem run5_next (c : Dev nD) (i : grid5.Coords) (hk : (i 2).val = 1 ∨ (i 2).val = 2) (a : Memref sig .tc .vmem S1024x1408 .bf16) (ha : a.IsWhole) (b : Memref sig .tc .vmem S1408x1024 .bf16) (hb : b.IsWhole) (o : Memref sig .tc .vmem S1024x1024 .f32) (ho : o.IsWhole) (s : Memref sig .tc .vmem S1024x1024 .f32) (hs : s.IsWhole)
    (x : Vec F S1024x1408 .bf16) (y : Vec F S1408x1024 .bf16) (z t : Vec F S1024x1024 .f32) (W : Waits sig Unit) (K : PUnit → sProp 𝕄) :
    iprop(own c a x ∗ own c b y ∗ own c o z ∗ own c s t ∗ owes (c : Thread nD τ) 0 W
      ∗ (iprop(own c a x ∗ own c b y ∗ own c o (z) ∗ own c s (k5_pay3 x y t) ∗ (∃ W', owes (c : Thread nD τ) 0 W')) -∗ K ⟨⟩))
      ⊢ wp frame (wpE (defs₀ (F := F)) Variants.none c none) Set.univ (cc5_mmb_gate_up i a ha b hb o ho s hs) K := by
  simp only [cc5_mmb_gate_up_eq_skeleton]; unfold cc5_mmb_gate_up_skel
  have e1 : ¬ (Scalar.cmpi .ne (Scalar.extui (Scalar.cmpi .eq (BitVec.ofNat 32 (i 2).val) 0#32) : BitVec 32) 0#32 = 1#1) := by
    rcases hk with hk | hk <;> rw [hk] <;> decide
  have e2 : Scalar.cmpi .ne (Scalar.extui (Scalar.cmpi .sgt (BitVec.ofNat 32 (i 2).val) 0#32) : BitVec 32) 0#32 = 1#1 := by
    rcases hk with hk | hk <;> rw [hk] <;> decide
  have e3 : ¬ (k5_cond3 i = 1#1) := by
    unfold k5_cond3; dsimp only; rcases hk with hk | hk <;> rw [hk] <;> decide
  iintro ⟨Ha, Hb, Ho, Hs, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y, View.readAt_rep_full (Val := Elt F) s.view t]
  iapply Hk
  isplitl [Ha]; · iapply (owns_of_rep (c : Thread nD τ) a fullShare x); iexact Ha
  isplitl [Hb]; · iapply (owns_of_rep (c : Thread nD τ) b fullShare y); iexact Hb
  isplitl [Ho]; · iapply (owns_of_rep (c : Thread nD τ) o fullShare z); iexact Ho
  isplitl [Hs]; · iapply (own_written c s _ _ (k5_pay3 x y t)); iexact Hs
  iexists _; iexact HW
/-- The last step adds to it and writes it out. -/
theorem run5_last (c : Dev nD) (i : grid5.Coords) (hk : (i 2).val = 3) (a : Memref sig .tc .vmem S1024x1408 .bf16) (ha : a.IsWhole) (b : Memref sig .tc .vmem S1408x1024 .bf16) (hb : b.IsWhole) (o : Memref sig .tc .vmem S1024x1024 .f32) (ho : o.IsWhole) (s : Memref sig .tc .vmem S1024x1024 .f32) (hs : s.IsWhole)
    (x : Vec F S1024x1408 .bf16) (y : Vec F S1408x1024 .bf16) (z t : Vec F S1024x1024 .f32) (W : Waits sig Unit) (K : PUnit → sProp 𝕄) :
    iprop(own c a x ∗ own c b y ∗ own c o z ∗ own c s t ∗ owes (c : Thread nD τ) 0 W
      ∗ (iprop(own c a x ∗ own c b y ∗ own c o (k5_pay3 x y t) ∗ own c s (k5_pay3 x y t) ∗ (∃ W', owes (c : Thread nD τ) 0 W')) -∗ K ⟨⟩))
      ⊢ wp frame (wpE (defs₀ (F := F)) Variants.none c none) Set.univ (cc5_mmb_gate_up i a ha b hb o ho s hs) K := by
  simp only [cc5_mmb_gate_up_eq_skeleton]; unfold cc5_mmb_gate_up_skel
  have e1 : ¬ (Scalar.cmpi .ne (Scalar.extui (Scalar.cmpi .eq (BitVec.ofNat 32 (i 2).val) 0#32) : BitVec 32) 0#32 = 1#1) := by
    rw [hk]; decide
  have e2 : Scalar.cmpi .ne (Scalar.extui (Scalar.cmpi .sgt (BitVec.ofNat 32 (i 2).val) 0#32) : BitVec 32) 0#32 = 1#1 := by
    rw [hk]; decide
  have e3 : k5_cond3 i = 1#1 := by
    unfold k5_cond3; dsimp only; rw [hk]; decide
  iintro ⟨Ha, Hb, Ho, Hs, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  ihave Hs := (rep_of_owns (c : Thread nD τ) s fullShare t) $$ Hs
  sl_exec
  sl_step
  unfold run5_last.sl.v14 run5_last.sl.Hs_1
  rw [View.readAt_rep_full (Val := Elt F) a.view x, View.readAt_rep_full (Val := Elt F) b.view y, View.readAt_rep_full (Val := Elt F) s.view t]
  generalize k5_pay3 x y t = p
  rw [View.readCov_full (Val := Elt F) s.view]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ p); iexact Ho
  isplitl [Hs]; · iapply (own_written c s _ _ (p)); iexact Hs
  iexists _; iexact HW
end Cert.Proof.Ffn

end
-- ==== Proof.FfnData.lean ====
/-
  The feed-forward layer's regions as the pipeline runs them: what each reads and leaves at every point, over any
  contents of the buffers it is entered with, and that its body does so.
-/
module

public import proofs.«01_k».proof.Proof.FfnPoints

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (W : Dev nD → Valuation τ sig (Elt F))

/-! ## Region 0: `mm_gate_up` -/

/-- Operand 0's block at a point. -/
def blk0_0 (c : Dev nD) (t : Fin cfg0.N) : Vec F S1024x1024 .bf16 :=
  ((cfg0.win 0).blk t).view.read (Elt F) (W c (Pipeline.arrRef spec0 0))
/-- Operand 1's block at a point. -/
def blk0_1 (c : Dev nD) (t : Fin cfg0.N) : Vec F S1408x1024 .bf16 :=
  ((cfg0.win 1).blk t).view.read (Elt F) (W c (Pipeline.arrRef spec0 1))
/-- The invariant at every point: the scoped buffers and the generator's register. -/
def inv0 (c : Dev nD) : sProp 𝕄 :=
  iprop(Pipeline.scopedRest (Ix := Unit) (Name := ℕ) (U := Pipeline.UD sig nD τ) (Lvl := ℕ) (Val := Elt F) spec0 c ∗ ∃ r, prngReg c r)
/-- The proof data on core `c`, entered at `W`. -/
def dat0 (c : Dev nD) : Dat τ (Elt F) Unit ℕ (Pipeline.UD sig nD τ) ℕ cfg0 c where
  A w := W c (Pipeline.arrRef spec0 w)
  after w t := match w with
    | ⟨0, _⟩ => blk0_0 W c t
    | ⟨1, _⟩ => blk0_1 W c t
    | ⟨2, _⟩ => k0_pay1 (blk0_0 W c t) (blk0_1 W c t)
  Φ _ := inv0 c
  q w := Pipeline.shareOf spec0 w
  owed _ := 0
theorem dat0_A (c : Dev nD) (w : Fin cfg0.W) : (dat0 W c).A w = W c (Pipeline.arrRef spec0 w) := by dsimp only [dat0]
theorem before0_0 (c : Dev nD) (t : Fin cfg0.N) (d) : (dat0 W c).before 0 t d = blk0_0 W c t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0_1 W c t :=
  ((dat0 W c).before_in_eq_fetched 1 rfl (fun _ => rfl) (fun _ _ _ => rfl) (fun _ => rfl) t d).trans rfl
theorem after0_2 (c : Dev nD) (t : Fin cfg0.N) : (dat0 W c).after 2 t = k0_pay1 (blk0_0 W c t) (blk0_1 W c t) := by dsimp only [dat0]

def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

set_option maxHeartbeats 1000000 in
theorem sound0 (c : Dev nD) (t : Fin cfg0.N) :
    pre0 W c t ⊢ wp frame (wpE (defs₀ (F := F)) Variants.none c none) Set.univ (bodyAt0 t) (fun _ => post0 W c t) := by
  unfold pre0 post0 bodyAt0
  rw [show (dat0 W c).Φ t.succ = inv0 c from rfl, show (dat0 W c).Φ t.castSucc = inv0 c from rfl, after0_2]
  unfold Dat.owesAt Pipeline.owesWithin
  rw [show (dat0 W c).owed t.castSucc = 0 from rfl, show (dat0 W c).owed t.succ = 0 from rfl]
  simp only [before0_0, before0_1]
  rw [show (dat0 W c).after 0 t = blk0_0 W c t from rfl, show (dat0 W c).after 1 t = blk0_1 W c t from rfl]
  iintro ⟨HΦ, ⟨%Ws, -, HW⟩, ⟨%_, H0⟩, ⟨%_, H1⟩, ⟨%d, H2⟩⟩
  iapply (run0 c (grid0.coords t) (st0_0 t) _ (st0_1 t) _ (st0_2 t) _ (blk0_0 W c t) (blk0_1 W c t) ((dat0 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) W c) (defs₀ (F := F)) Variants.none () Set.univ := fun t => by
  rw [bigSep_W0, bigSep_W0, row0]
  exact triple_restated (sound0 W c t) rfl .rfl fun _ => .rfl

/-! ## Region 1: `swiglu_fwd` -/

/-- Operand 0's block at a point. -/
def blk1_0 (c : Dev nD) (t : Fin cfg1.N) : Vec F S256x2816 .bf16 :=
  ((cfg1.win 0).blk t).view.read (Elt F) (W c (Pipeline.arrRef spec1 0))
/-- Operand 1's block at a point. -/
def blk1_1 (c : Dev nD) (t : Fin cfg1.N) : Vec F S256x2816 .bf16 :=
  ((cfg1.win 1).blk t).view.read (Elt F) (W c (Pipeline.arrRef spec1 1))
/-- The invariant at every point: the scoped buffers and the generator's register. -/
def inv1 (c : Dev nD) : sProp 𝕄 :=
  iprop(Pipeline.scopedRest (Ix := Unit) (Name := ℕ) (U := Pipeline.UD sig nD τ) (Lvl := ℕ) (Val := Elt F) spec1 c ∗ ∃ r, prngReg c r)
/-- The proof data on core `c`, entered at `W`. -/
def dat1 (c : Dev nD) : Dat τ (Elt F) Unit ℕ (Pipeline.UD sig nD τ) ℕ cfg1 c where
  A w := W c (Pipeline.arrRef spec1 w)
  after w t := match w with
    | ⟨0, _⟩ => blk1_0 W c t
    | ⟨1, _⟩ => blk1_1 W c t
    | ⟨2, _⟩ => k1_pay1 (blk1_0 W c t) (blk1_1 W c t)
  Φ _ := inv1 c
  q w := Pipeline.shareOf spec1 w
  owed _ := 0
theorem dat1_A (c : Dev nD) (w : Fin cfg1.W) : (dat1 W c).A w = W c (Pipeline.arrRef spec1 w) := by dsimp only [dat1]
theorem before1_0 (c : Dev nD) (t : Fin cfg1.N) (d) : (dat1 W c).before 0 t d = blk1_0 W c t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1_1 W c t :=
  ((dat1 W c).before_in_eq_fetched 1 rfl (fun _ => rfl) (fun _ _ _ => rfl) (fun _ => rfl) t d).trans rfl
theorem after1_2 (c : Dev nD) (t : Fin cfg1.N) : (dat1 W c).after 2 t = k1_pay1 (blk1_0 W c t) (blk1_1 W c t) := by dsimp only [dat1]

def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d)))
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t))

set_option maxHeartbeats 1000000 in
theorem sound1 (c : Dev nD) (t : Fin cfg1.N) :
    pre1 W c t ⊢ wp frame (wpE (defs₀ (F := F)) Variants.none c none) Set.univ (bodyAt1 t) (fun _ => post1 W c t) := by
  unfold pre1 post1 bodyAt1
  rw [show (dat1 W c).Φ t.succ = inv1 c from rfl, show (dat1 W c).Φ t.castSucc = inv1 c from rfl, after1_2]
  unfold Dat.owesAt Pipeline.owesWithin
  rw [show (dat1 W c).owed t.castSucc = 0 from rfl, show (dat1 W c).owed t.succ = 0 from rfl]
  simp only [before1_0, before1_1]
  rw [show (dat1 W c).after 0 t = blk1_0 W c t from rfl, show (dat1 W c).after 1 t = blk1_1 W c t from rfl]
  iintro ⟨HΦ, ⟨%Ws, -, HW⟩, ⟨%_, H0⟩, ⟨%_, H1⟩, ⟨%d, H2⟩⟩
  iapply (run1 c (grid1.coords t) (st1_0 t) _ (st1_1 t) _ (st1_2 t) _ (blk1_0 W c t) (blk1_1 W c t) ((dat1 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) W c) (defs₀ (F := F)) Variants.none () Set.univ := fun t => by
  rw [bigSep_W1, bigSep_W1, row1]
  exact triple_restated (sound1 W c t) rfl .rfl fun _ => .rfl

/-! ## Region 2: `mmb_down` -/

/-- Operand 0's block at a point. -/
def blk2_0 (c : Dev nD) (t : Fin cfg2.N) : Vec F S1024x1024 .f32 :=
  ((cfg2.win 0).blk t).view.read (Elt F) (W c (Pipeline.arrRef spec2 0))
/-- Operand 1's block at a point. -/
def blk2_1 (c : Dev nD) (t : Fin cfg2.N) : Vec F S1408x1024 .bf16 :=
  ((cfg2.win 1).blk t).view.read (Elt F) (W c (Pipeline.arrRef spec2 1))
/-- The invariant at every point: the scoped buffers and the generator's register. -/
def inv2 (c : Dev nD) : sProp 𝕄 :=
  iprop(Pipeline.scopedRest (Ix := Unit) (Name := ℕ) (U := Pipeline.UD sig nD τ) (Lvl := ℕ) (Val := Elt F) spec2 c ∗ ∃ r, prngReg c r)
/-- The proof data on core `c`, entered at `W`. -/
def dat2 (c : Dev nD) : Dat τ (Elt F) Unit ℕ (Pipeline.UD sig nD τ) ℕ cfg2 c where
  A w := W c (Pipeline.arrRef spec2 w)
  after w t := match w with
    | ⟨0, _⟩ => blk2_0 W c t
    | ⟨1, _⟩ => blk2_1 W c t
    | ⟨2, _⟩ => k2_pay1 (blk2_0 W c t) (blk2_1 W c t)
  Φ _ := inv2 c
  q w := Pipeline.shareOf spec2 w
  owed _ := 0
theorem dat2_A (c : Dev nD) (w : Fin cfg2.W) : (dat2 W c).A w = W c (Pipeline.arrRef spec2 w) := by dsimp only [dat2]
theorem before2_0 (c : Dev nD) (t : Fin cfg2.N) (d) : (dat2 W c).before 0 t d = blk2_0 W c t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2_1 W c t :=
  ((dat2 W c).before_in_eq_fetched 1 rfl (fun _ => rfl) (fun _ _ _ => rfl) (fun _ => rfl) t d).trans rfl
theorem after2_2 (c : Dev nD) (t : Fin cfg2.N) : (dat2 W c).after 2 t = k2_pay1 (blk2_0 W c t) (blk2_1 W c t) := by dsimp only [dat2]

def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d)))
def post2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t))

set_option maxHeartbeats 1000000 in
theorem sound2 (c : Dev nD) (t : Fin cfg2.N) :
    pre2 W c t ⊢ wp frame (wpE (defs₀ (F := F)) Variants.none c none) Set.univ (bodyAt2 t) (fun _ => post2 W c t) := by
  unfold pre2 post2 bodyAt2
  rw [show (dat2 W c).Φ t.succ = inv2 c from rfl, show (dat2 W c).Φ t.castSucc = inv2 c from rfl, after2_2]
  unfold Dat.owesAt Pipeline.owesWithin
  rw [show (dat2 W c).owed t.castSucc = 0 from rfl, show (dat2 W c).owed t.succ = 0 from rfl]
  simp only [before2_0, before2_1]
  rw [show (dat2 W c).after 0 t = blk2_0 W c t from rfl, show (dat2 W c).after 1 t = blk2_1 W c t from rfl]
  iintro ⟨HΦ, ⟨%Ws, -, HW⟩, ⟨%_, H0⟩, ⟨%_, H1⟩, ⟨%d, H2⟩⟩
  iapply (run2 c (grid2.coords t) (st2_0 t) _ (st2_1 t) _ (st2_2 t) _ (blk2_0 W c t) (blk2_1 W c t) ((dat2 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row2 (t : Fin cfg2.N) : defs₀ (F := F) .tc cfg2.body (cfg2.bodyArgs t (cfg2.slots t)) = bodyAt2 t := by
  unfold defs₀; rw [Defs.onTc_tc]

theorem obligation2 (c : Dev nD) : BodyObligation (dat2 (F := F) W c) (defs₀ (F := F)) Variants.none () Set.univ := fun t => by
  rw [bigSep_W2, bigSep_W2, row2]
  exact triple_restated (sound2 W c t) rfl .rfl fun _ => .rfl

/-! ## Region 3: `mmg_w_down` -/

/-- Operand 0's block at a point. -/
def blk3_0 (c : Dev nD) (t : Fin cfg3.N) : Vec F S2048x1408 .bf16 :=
  ((cfg3.win 0).blk t).view.read (Elt F) (W c (Pipeline.arrRef spec3 0))
/-- Operand 1's block at a point. -/
def blk3_1 (c : Dev nD) (t : Fin cfg3.N) : Vec F S2048x1024 .f32 :=
  ((cfg3.win 1).blk t).view.read (Elt F) (W c (Pipeline.arrRef spec3 1))
/-- The invariant at every point: the scoped buffers and the generator's register. -/
def inv3 (c : Dev nD) : sProp 𝕄 :=
  iprop(Pipeline.scopedRest (Ix := Unit) (Name := ℕ) (U := Pipeline.UD sig nD τ) (Lvl := ℕ) (Val := Elt F) spec3 c ∗ ∃ r, prngReg c r)
/-- The proof data on core `c`, entered at `W`. -/
def dat3 (c : Dev nD) : Dat τ (Elt F) Unit ℕ (Pipeline.UD sig nD τ) ℕ cfg3 c where
  A w := W c (Pipeline.arrRef spec3 w)
  after w t := match w with
    | ⟨0, _⟩ => blk3_0 W c t
    | ⟨1, _⟩ => blk3_1 W c t
    | ⟨2, _⟩ => k3_pay1 (blk3_0 W c t) (blk3_1 W c t)
  Φ _ := inv3 c
  q w := Pipeline.shareOf spec3 w
  owed _ := 0
theorem dat3_A (c : Dev nD) (w : Fin cfg3.W) : (dat3 W c).A w = W c (Pipeline.arrRef spec3 w) := by dsimp only [dat3]
theorem before3_0 (c : Dev nD) (t : Fin cfg3.N) (d) : (dat3 W c).before 0 t d = blk3_0 W c t :=
  ((dat3 W c).before_in_eq_fetched 0 rfl (fun _ => rfl) (fun _ _ _ => rfl) (fun _ => rfl) t d).trans rfl
theorem before3_1 (c : Dev nD) (t : Fin cfg3.N) (d) : (dat3 W c).before 1 t d = blk3_1 W c t :=
  ((dat3 W c).before_in_eq_fetched 1 rfl (fun _ => rfl) (fun _ _ _ => rfl) (fun _ => rfl) t d).trans rfl
theorem after3_2 (c : Dev nD) (t : Fin cfg3.N) : (dat3 W c).after 2 t = k3_pay1 (blk3_0 W c t) (blk3_1 W c t) := by dsimp only [dat3]

def pre3 (c : Dev nD) (t : Fin cfg3.N) : sProp 𝕄 :=
  iprop((dat3 W c).Φ t.castSucc ∗ (dat3 W c).owesAt () t.castSucc
    ∗ (∃ d, owns (c : Thread nD τ) (st3_0 t) fullShare ((dat3 W c).before 0 t d))
    ∗ (∃ d, owns (c : Thread nD τ) (st3_1 t) fullShare ((dat3 W c).before 1 t d))
    ∗ (∃ d, owns (c : Thread nD τ) (st3_2 t) fullShare ((dat3 W c).before 2 t d)))
def post3 (c : Dev nD) (t : Fin cfg3.N) : sProp 𝕄 :=
  iprop((dat3 W c).Φ t.succ ∗ (dat3 W c).owesAt () t.succ
    ∗ owns (c : Thread nD τ) (st3_0 t) fullShare ((dat3 W c).after 0 t)
    ∗ owns (c : Thread nD τ) (st3_1 t) fullShare ((dat3 W c).after 1 t)
    ∗ owns (c : Thread nD τ) (st3_2 t) fullShare ((dat3 W c).after 2 t))

set_option maxHeartbeats 1000000 in
theorem sound3 (c : Dev nD) (t : Fin cfg3.N) :
    pre3 W c t ⊢ wp frame (wpE (defs₀ (F := F)) Variants.none c none) Set.univ (bodyAt3 t) (fun _ => post3 W c t) := by
  unfold pre3 post3 bodyAt3
  rw [show (dat3 W c).Φ t.succ = inv3 c from rfl, show (dat3 W c).Φ t.castSucc = inv3 c from rfl, after3_2]
  unfold Dat.owesAt Pipeline.owesWithin
  rw [show (dat3 W c).owed t.castSucc = 0 from rfl, show (dat3 W c).owed t.succ = 0 from rfl]
  simp only [before3_0, before3_1]
  rw [show (dat3 W c).after 0 t = blk3_0 W c t from rfl, show (dat3 W c).after 1 t = blk3_1 W c t from rfl]
  iintro ⟨HΦ, ⟨%Ws, -, HW⟩, ⟨%_, H0⟩, ⟨%_, H1⟩, ⟨%d, H2⟩⟩
  iapply (run3 c (grid3.coords t) (st3_0 t) _ (st3_1 t) _ (st3_2 t) _ (blk3_0 W c t) (blk3_1 W c t) ((dat3 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row3 (t : Fin cfg3.N) : defs₀ (F := F) .tc cfg3.body (cfg3.bodyArgs t (cfg3.slots t)) = bodyAt3 t := by
  unfold defs₀; rw [Defs.onTc_tc]

theorem obligation3 (c : Dev nD) : BodyObligation (dat3 (F := F) W c) (defs₀ (F := F)) Variants.none () Set.univ := fun t => by
  rw [bigSep_W3, bigSep_W3, row3]
  exact triple_restated (sound3 W c t) rfl .rfl fun _ => .rfl

/-! ## Region 4: `swiglu_bwd` -/

/-- Operand 0's block at a point. -/
def blk4_0 (c : Dev nD) (t : Fin cfg4.N) : Vec F S256x2816 .bf16 :=
  ((cfg4.win 0).blk t).view.read (Elt F) (W c (Pipeline.arrRef spec4 0))
/-- Operand 1's block at a point. -/
def blk4_1 (c : Dev nD) (t : Fin cfg4.N) : Vec F S256x2816 .bf16 :=
  ((cfg4.win 1).blk t).view.read (Elt F) (W c (Pipeline.arrRef spec4 1))
/-- Operand 2's block at a point. -/
def blk4_2 (c : Dev nD) (t : Fin cfg4.N) : Vec F S256x2816 .bf16 :=
  ((cfg4.win 2).blk t).view.read (Elt F) (W c (Pipeline.arrRef spec4 2))
/-- The invariant at every point: the scoped buffers and the generator's register. -/
def inv4 (c : Dev nD) : sProp 𝕄 :=
  iprop(Pipeline.scopedRest (Ix := Unit) (Name := ℕ) (U := Pipeline.UD sig nD τ) (Lvl := ℕ) (Val := Elt F) spec4 c ∗ ∃ r, prngReg c r)
/-- The proof data on core `c`, entered at `W`. -/
def dat4 (c : Dev nD) : Dat τ (Elt F) Unit ℕ (Pipeline.UD sig nD τ) ℕ cfg4 c where
  A w := W c (Pipeline.arrRef spec4 w)
  after w t := match w with
    | ⟨0, _⟩ => blk4_0 W c t
    | ⟨1, _⟩ => blk4_1 W c t
    | ⟨2, _⟩ => blk4_2 W c t
    | ⟨3, _⟩ => halves (blk4_0 W c t) (blk4_1 W c t) (blk4_2 W c t)
  Φ _ := inv4 c
  q w := Pipeline.shareOf spec4 w
  owed _ := 0
theorem dat4_A (c : Dev nD) (w : Fin cfg4.W) : (dat4 W c).A w = W c (Pipeline.arrRef spec4 w) := by dsimp only [dat4]
theorem before4_0 (c : Dev nD) (t : Fin cfg4.N) (d) : (dat4 W c).before 0 t d = blk4_0 W c t :=
  ((dat4 W c).before_in_eq_fetched 0 rfl (fun _ => rfl) (fun _ _ _ => rfl) (fun _ => rfl) t d).trans rfl
theorem before4_1 (c : Dev nD) (t : Fin cfg4.N) (d) : (dat4 W c).before 1 t d = blk4_1 W c t :=
  ((dat4 W c).before_in_eq_fetched 1 rfl (fun _ => rfl) (fun _ _ _ => rfl) (fun _ => rfl) t d).trans rfl
theorem before4_2 (c : Dev nD) (t : Fin cfg4.N) (d) : (dat4 W c).before 2 t d = blk4_2 W c t :=
  ((dat4 W c).before_in_eq_fetched 2 rfl (fun _ => rfl) (fun _ _ _ => rfl) (fun _ => rfl) t d).trans rfl
theorem after4_3 (c : Dev nD) (t : Fin cfg4.N) : (dat4 W c).after 3 t = halves (blk4_0 W c t) (blk4_1 W c t) (blk4_2 W c t) := by dsimp only [dat4]

def pre4 (c : Dev nD) (t : Fin cfg4.N) : sProp 𝕄 :=
  iprop((dat4 W c).Φ t.castSucc ∗ (dat4 W c).owesAt () t.castSucc
    ∗ (∃ d, owns (c : Thread nD τ) (st4_0 t) fullShare ((dat4 W c).before 0 t d))
    ∗ (∃ d, owns (c : Thread nD τ) (st4_1 t) fullShare ((dat4 W c).before 1 t d))
    ∗ (∃ d, owns (c : Thread nD τ) (st4_2 t) fullShare ((dat4 W c).before 2 t d))
    ∗ (∃ d, owns (c : Thread nD τ) (st4_3 t) fullShare ((dat4 W c).before 3 t d)))
def post4 (c : Dev nD) (t : Fin cfg4.N) : sProp 𝕄 :=
  iprop((dat4 W c).Φ t.succ ∗ (dat4 W c).owesAt () t.succ
    ∗ owns (c : Thread nD τ) (st4_0 t) fullShare ((dat4 W c).after 0 t)
    ∗ owns (c : Thread nD τ) (st4_1 t) fullShare ((dat4 W c).after 1 t)
    ∗ owns (c : Thread nD τ) (st4_2 t) fullShare ((dat4 W c).after 2 t)
    ∗ owns (c : Thread nD τ) (st4_3 t) fullShare ((dat4 W c).after 3 t))

set_option maxHeartbeats 1000000 in
theorem sound4 (c : Dev nD) (t : Fin cfg4.N) :
    pre4 W c t ⊢ wp frame (wpE (defs₀ (F := F)) Variants.none c none) Set.univ (bodyAt4 t) (fun _ => post4 W c t) := by
  unfold pre4 post4 bodyAt4
  rw [show (dat4 W c).Φ t.succ = inv4 c from rfl, show (dat4 W c).Φ t.castSucc = inv4 c from rfl, after4_3]
  unfold Dat.owesAt Pipeline.owesWithin
  rw [show (dat4 W c).owed t.castSucc = 0 from rfl, show (dat4 W c).owed t.succ = 0 from rfl]
  simp only [before4_0, before4_1, before4_2]
  rw [show (dat4 W c).after 0 t = blk4_0 W c t from rfl, show (dat4 W c).after 1 t = blk4_1 W c t from rfl, show (dat4 W c).after 2 t = blk4_2 W c t from rfl]
  iintro ⟨HΦ, ⟨%Ws, -, HW⟩, ⟨%_, H0⟩, ⟨%_, H1⟩, ⟨%_, H2⟩, ⟨%d, H3⟩⟩
  iapply (run4 c (grid4.coords t) (st4_0 t) _ (st4_1 t) _ (st4_2 t) _ (st4_3 t) _ (blk4_0 W c t) (blk4_1 W c t) (blk4_2 W c t) ((dat4 W c).before 3 t d) Ws _)
  isplitl [H0]; · iexact H0
  isplitl [H1]; · iexact H1
  isplitl [H2]; · iexact H2
  isplitl [H3]; · iexact H3
  isplitl [HW]; · iexact HW
  iintro ⟨H0, H1, H2, H3, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  iexact H3

theorem row4 (t : Fin cfg4.N) : defs₀ (F := F) .tc cfg4.body (cfg4.bodyArgs t (cfg4.slots t)) = bodyAt4 t := by
  unfold defs₀; rw [Defs.onTc_tc]

theorem obligation4 (c : Dev nD) : BodyObligation (dat4 (F := F) W c) (defs₀ (F := F)) Variants.none () Set.univ := fun t => by
  rw [bigSep_W4, bigSep_W4, row4]
  exact triple_restated (sound4 W c t) rfl .rfl fun _ => .rfl

/-! ## Region 5: `mmb_gate_up` -/

/-- Operand 0's block at a point. -/
def blk5_0 (c : Dev nD) (t : Fin cfg5.N) : Vec F S1024x1408 .bf16 :=
  ((cfg5.win 0).blk t).view.read (Elt F) (W c (Pipeline.arrRef spec5 0))
/-- Operand 1's block at a point. -/
def blk5_1 (c : Dev nD) (t : Fin cfg5.N) : Vec F S1408x1024 .bf16 :=
  ((cfg5.win 1).blk t).view.read (Elt F) (W c (Pipeline.arrRef spec5 1))
/-- The sum a row block's steps keep, before point `n`. -/
def acc (c : Dev nD) : ℕ → Vec F S1024x1024 .f32
  | 0 => k5_pay2 (blk5_0 W c t5_0) (blk5_1 W c t5_0)
  | n + 1 => if h : n < cfg5.N then
      if n % 4 = 0 then k5_pay2 (blk5_0 W c ⟨n, h⟩) (blk5_1 W c ⟨n, h⟩) else k5_pay3 (blk5_0 W c ⟨n, h⟩) (blk5_1 W c ⟨n, h⟩) (acc c n)
    else acc c n
theorem acc_first (c : Dev nD) (t : Fin cfg5.N) (h : t.val % 4 = 0) : acc W c (t.val + 1) = k5_pay2 (blk5_0 W c t) (blk5_1 W c t) := by
  conv_lhs => unfold acc
  rw [dif_pos t.isLt, if_pos h]
theorem acc_next (c : Dev nD) (t : Fin cfg5.N) (h : ¬ t.val % 4 = 0) :
    acc W c (t.val + 1) = k5_pay3 (blk5_0 W c t) (blk5_1 W c t) (acc W c t.val) := by
  conv_lhs => unfold acc
  rw [dif_pos t.isLt, if_neg h]

/-- The invariant before point `n`: the scratch buffer holds the running sum inside a row block. -/
def inv5 (n : ℕ) (c : Dev nD) : sProp 𝕄 :=
  iprop((∃ a, ⌜¬ n % 4 = 0 → a = acc W c n⌝ ∗ own c (Memref.whole cc5_scratch0) a)
    ∗ Pipeline.scopedRestBut (Ix := Unit) (Name := ℕ) (U := Pipeline.UD sig nD τ) (Lvl := ℕ) (Val := Elt F) spec5 c [cc5_scratch0]
    ∗ ∃ r, prngReg c r)
/-- The proof data on core `c`, entered at `W`. -/
def dat5 (c : Dev nD) : Dat τ (Elt F) Unit ℕ (Pipeline.UD sig nD τ) ℕ cfg5 c where
  A w := W c (Pipeline.arrRef spec5 w)
  after w t := match w with
    | ⟨0, _⟩ => blk5_0 W c t
    | ⟨1, _⟩ => blk5_1 W c t
    | ⟨2, _⟩ => acc W c (t.val + 1)
  Φ t := inv5 W t.val c
  q w := Pipeline.shareOf spec5 w
  owed _ := 0
theorem dat5_A (c : Dev nD) (w : Fin cfg5.W) : (dat5 W c).A w = W c (Pipeline.arrRef spec5 w) := by dsimp only [dat5]
theorem before5_0 (c : Dev nD) (t : Fin cfg5.N) (d) : (dat5 W c).before 0 t d = blk5_0 W c t :=
  ((dat5 W c).before_in_eq_fetched 0 rfl (fun _ => rfl) (fun _ _ _ => rfl) (fun _ => rfl) t d).trans rfl
theorem before5_1 (c : Dev nD) (t : Fin cfg5.N) (d) : (dat5 W c).before 1 t d = blk5_1 W c t :=
  ((dat5 W c).before_in_eq_fetched 1 rfl (fun _ => rfl) (fun _ _ _ => rfl) (fun _ => rfl) t d).trans rfl
theorem after5_2 (c : Dev nD) (t : Fin cfg5.N) : (dat5 W c).after 2 t = acc W c (t.val + 1) := by dsimp only [dat5]

def pre5 (c : Dev nD) (t : Fin cfg5.N) : sProp 𝕄 :=
  iprop((dat5 W c).Φ t.castSucc ∗ (dat5 W c).owesAt () t.castSucc
    ∗ (∃ d, owns (c : Thread nD τ) (st5_0 t) fullShare ((dat5 W c).before 0 t d))
    ∗ (∃ d, owns (c : Thread nD τ) (st5_1 t) fullShare ((dat5 W c).before 1 t d))
    ∗ (∃ d, owns (c : Thread nD τ) (st5_2 t) fullShare ((dat5 W c).before 2 t d)))
def post5 (c : Dev nD) (t : Fin cfg5.N) : sProp 𝕄 :=
  iprop((dat5 W c).Φ t.succ ∗ (dat5 W c).owesAt () t.succ
    ∗ owns (c : Thread nD τ) (st5_0 t) fullShare ((dat5 W c).after 0 t)
    ∗ owns (c : Thread nD τ) (st5_1 t) fullShare ((dat5 W c).after 1 t)
    ∗ owns (c : Thread nD τ) (st5_2 t) fullShare ((dat5 W c).after 2 t))
def post5_idle (c : Dev nD) (t : Fin cfg5.N) : sProp 𝕄 :=
  iprop((dat5 W c).Φ t.succ ∗ (dat5 W c).owesAt () t.succ
    ∗ owns (c : Thread nD τ) (st5_0 t) fullShare ((dat5 W c).after 0 t)
    ∗ owns (c : Thread nD τ) (st5_1 t) fullShare ((dat5 W c).after 1 t)
    ∗ (∃ d, owns (c : Thread nD τ) (st5_2 t) fullShare ((dat5 W c).before 2 t d)))
theorem coord5 : ∀ t : Fin grid5.N, (grid5.coords t 2).val = t.val % 4 := by decide
theorem idle5_at : ∀ t : Fin grid5.N, ¬ t.val % 4 = 3 → idle5 2 (grid5.coords t) = true := by decide
theorem busy5_at : ∀ t : Fin grid5.N, t.val % 4 = 3 → idle5 2 (grid5.coords t) = false := by decide
theorem noflush5 (t : Fin cfg5.N) (h : ¬ t.val % 4 = 3) : (cfg5.win 2).flush t = false :=
  Bool.eq_false_iff.mpr fun h' => h ((flush5_2 t).mp h')

set_option maxHeartbeats 1000000 in
theorem sound5_first (c : Dev nD) (t : Fin cfg5.N) (h : t.val % 4 = 0) :
    pre5 W c t ⊢ wp frame (wpE (defs₀ (F := F)) Variants.none c none) Set.univ (bodyAt5 t) (fun _ => post5_idle W c t) := by
  unfold pre5 post5_idle bodyAt5
  rw [show (dat5 W c).Φ t.succ = inv5 W (t.val + 1) c from rfl, show (dat5 W c).Φ t.castSucc = inv5 W t.val c from rfl]
  unfold Dat.owesAt Pipeline.owesWithin inv5
  rw [show (dat5 W c).owed t.castSucc = 0 from rfl, show (dat5 W c).owed t.succ = 0 from rfl, acc_first W c t h]
  simp only [before5_0, before5_1]
  rw [show (dat5 W c).after 0 t = blk5_0 W c t from rfl, show (dat5 W c).after 1 t = blk5_1 W c t from rfl]
  iintro ⟨⟨⟨%a, %ha, Hs⟩, Hr, Hg⟩, ⟨%Ws, -, HW⟩, ⟨%_, H0⟩, ⟨%_, H1⟩, ⟨%d, H2⟩⟩
  iapply (run5_first c (grid5.coords t) ((coord5 t).trans h) (st5_0 t) _ (st5_1 t) _ (st5_2 t) _ (Memref.whole cc5_scratch0) _ (blk5_0 W c t) (blk5_1 W c t) ((dat5 W c).before 2 t d) _ Ws _)
  isplitl [H0]; · iexact H0
  isplitl [H1]; · iexact H1
  isplitl [H2]; · iexact H2
  isplitl [Hs]; · iexact Hs
  isplitl [HW]; · iexact HW
  iintro ⟨H0, H1, H2, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  iexists d; iexact H2

set_option maxHeartbeats 1000000 in
theorem sound5_next (c : Dev nD) (t : Fin cfg5.N) (h : t.val % 4 = 1 ∨ t.val % 4 = 2) :
    pre5 W c t ⊢ wp frame (wpE (defs₀ (F := F)) Variants.none c none) Set.univ (bodyAt5 t) (fun _ => post5_idle W c t) := by
  unfold pre5 post5_idle bodyAt5
  rw [show (dat5 W c).Φ t.succ = inv5 W (t.val + 1) c from rfl, show (dat5 W c).Φ t.castSucc = inv5 W t.val c from rfl]
  unfold Dat.owesAt Pipeline.owesWithin inv5
  rw [show (dat5 W c).owed t.castSucc = 0 from rfl, show (dat5 W c).owed t.succ = 0 from rfl, acc_next W c t (by omega)]
  simp only [before5_0, before5_1]
  rw [show (dat5 W c).after 0 t = blk5_0 W c t from rfl, show (dat5 W c).after 1 t = blk5_1 W c t from rfl]
  iintro ⟨⟨⟨%a, %ha, Hs⟩, Hr, Hg⟩, ⟨%Ws, -, HW⟩, ⟨%_, H0⟩, ⟨%_, H1⟩, ⟨%d, H2⟩⟩
  obtain rfl := ha (by omega)
  iapply (run5_next c (grid5.coords t) (h.imp (coord5 t).trans (coord5 t).trans) (st5_0 t) _ (st5_1 t) _ (st5_2 t) _ (Memref.whole cc5_scratch0) _ (blk5_0 W c t) (blk5_1 W c t) ((dat5 W c).before 2 t d) _ Ws _)
  isplitl [H0]; · iexact H0
  isplitl [H1]; · iexact H1
  isplitl [H2]; · iexact H2
  isplitl [Hs]; · iexact Hs
  isplitl [HW]; · iexact HW
  iintro ⟨H0, H1, H2, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  iexists d; iexact H2

set_option maxHeartbeats 1000000 in
theorem sound5_last (c : Dev nD) (t : Fin cfg5.N) (h : t.val % 4 = 3) :
    pre5 W c t ⊢ wp frame (wpE (defs₀ (F := F)) Variants.none c none) Set.univ (bodyAt5 t) (fun _ => post5 W c t) := by
  unfold pre5 post5 bodyAt5
  rw [show (dat5 W c).Φ t.succ = inv5 W (t.val + 1) c from rfl, show (dat5 W c).Φ t.castSucc = inv5 W t.val c from rfl, after5_2]
  unfold Dat.owesAt Pipeline.owesWithin inv5
  rw [show (dat5 W c).owed t.castSucc = 0 from rfl, show (dat5 W c).owed t.succ = 0 from rfl, acc_next W c t (by omega)]
  simp only [before5_0, before5_1]
  rw [show (dat5 W c).after 0 t = blk5_0 W c t from rfl, show (dat5 W c).after 1 t = blk5_1 W c t from rfl]
  iintro ⟨⟨⟨%a, %ha, Hs⟩, Hr, Hg⟩, ⟨%Ws, -, HW⟩, ⟨%_, H0⟩, ⟨%_, H1⟩, ⟨%d, H2⟩⟩
  obtain rfl := ha (by omega)
  iapply (run5_last c (grid5.coords t) ((coord5 t).trans h) (st5_0 t) _ (st5_1 t) _ (st5_2 t) _ (Memref.whole cc5_scratch0) _ (blk5_0 W c t) (blk5_1 W c t) ((dat5 W c).before 2 t d) _ Ws _)
  isplitl [H0]; · iexact H0
  isplitl [H1]; · iexact H1
  isplitl [H2]; · iexact H2
  isplitl [Hs]; · iexact Hs
  isplitl [HW]; · iexact HW
  iintro ⟨H0, H1, H2, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  iexact H2

theorem row5 (t : Fin cfg5.N) : defs₀ (F := F) .tc cfg5.body (cfg5.bodyArgs t (cfg5.slots t)) = bodyAt5 t := by
  unfold defs₀; rw [Defs.onTc_tc]

theorem obligation5 (c : Dev nD) : BodyObligation (dat5 (F := F) W c) (defs₀ (F := F)) Variants.none () Set.univ := fun t => by
  rw [bigSep_W5, bigSep_W5, row5]
  by_cases h3 : t.val % 4 = 3
  · refine triple_restated (sound5_last W c t h3) rfl .rfl fun _ => ?_
    unfold post5
    dsimp only
    rw [show idle5 2 (grid5.coords t) = false from busy5_at t h3]
  · by_cases h0 : t.val % 4 = 0
    · refine triple_restated (sound5_first W c t h0) rfl .rfl fun _ => ?_
      unfold post5_idle
      dsimp only
      rw [show idle5 2 (grid5.coords t) = true from idle5_at t h3, show (win5 2).flush t = false from noflush5 t h3]
    · refine triple_restated (sound5_next W c t (by omega)) rfl .rfl fun _ => ?_
      unfold post5_idle
      dsimp only
      rw [show idle5 2 (grid5.coords t) = true from idle5_at t h3, show (win5 2).flush t = false from noflush5 t h3]

/-! ## Region 6: `mmg_w_gate_up` -/

/-- Operand 0's block at a point. -/
def blk6_0 (c : Dev nD) (t : Fin cfg6.N) : Vec F S2048x1408 .bf16 :=
  ((cfg6.win 0).blk t).view.read (Elt F) (W c (Pipeline.arrRef spec6 0))
/-- Operand 1's block at a point. -/
def blk6_1 (c : Dev nD) (t : Fin cfg6.N) : Vec F S2048x1024 .bf16 :=
  ((cfg6.win 1).blk t).view.read (Elt F) (W c (Pipeline.arrRef spec6 1))
/-- The invariant at every point: the scoped buffers and the generator's register. -/
def inv6 (c : Dev nD) : sProp 𝕄 :=
  iprop(Pipeline.scopedRest (Ix := Unit) (Name := ℕ) (U := Pipeline.UD sig nD τ) (Lvl := ℕ) (Val := Elt F) spec6 c ∗ ∃ r, prngReg c r)
/-- The proof data on core `c`, entered at `W`. -/
def dat6 (c : Dev nD) : Dat τ (Elt F) Unit ℕ (Pipeline.UD sig nD τ) ℕ cfg6 c where
  A w := W c (Pipeline.arrRef spec6 w)
  after w t := match w with
    | ⟨0, _⟩ => blk6_0 W c t
    | ⟨1, _⟩ => blk6_1 W c t
    | ⟨2, _⟩ => k6_pay1 (blk6_0 W c t) (blk6_1 W c t)
  Φ _ := inv6 c
  q w := Pipeline.shareOf spec6 w
  owed _ := 0
theorem dat6_A (c : Dev nD) (w : Fin cfg6.W) : (dat6 W c).A w = W c (Pipeline.arrRef spec6 w) := by dsimp only [dat6]
theorem before6_0 (c : Dev nD) (t : Fin cfg6.N) (d) : (dat6 W c).before 0 t d = blk6_0 W c t :=
  ((dat6 W c).before_in_eq_fetched 0 rfl (fun _ => rfl) (fun _ _ _ => rfl) (fun _ => rfl) t d).trans rfl
theorem before6_1 (c : Dev nD) (t : Fin cfg6.N) (d) : (dat6 W c).before 1 t d = blk6_1 W c t :=
  ((dat6 W c).before_in_eq_fetched 1 rfl (fun _ => rfl) (fun _ _ _ => rfl) (fun _ => rfl) t d).trans rfl
theorem after6_2 (c : Dev nD) (t : Fin cfg6.N) : (dat6 W c).after 2 t = k6_pay1 (blk6_0 W c t) (blk6_1 W c t) := by dsimp only [dat6]

def pre6 (c : Dev nD) (t : Fin cfg6.N) : sProp 𝕄 :=
  iprop((dat6 W c).Φ t.castSucc ∗ (dat6 W c).owesAt () t.castSucc
    ∗ (∃ d, owns (c : Thread nD τ) (st6_0 t) fullShare ((dat6 W c).before 0 t d))
    ∗ (∃ d, owns (c : Thread nD τ) (st6_1 t) fullShare ((dat6 W c).before 1 t d))
    ∗ (∃ d, owns (c : Thread nD τ) (st6_2 t) fullShare ((dat6 W c).before 2 t d)))
def post6 (c : Dev nD) (t : Fin cfg6.N) : sProp 𝕄 :=
  iprop((dat6 W c).Φ t.succ ∗ (dat6 W c).owesAt () t.succ
    ∗ owns (c : Thread nD τ) (st6_0 t) fullShare ((dat6 W c).after 0 t)
    ∗ owns (c : Thread nD τ) (st6_1 t) fullShare ((dat6 W c).after 1 t)
    ∗ owns (c : Thread nD τ) (st6_2 t) fullShare ((dat6 W c).after 2 t))

set_option maxHeartbeats 1000000 in
theorem sound6 (c : Dev nD) (t : Fin cfg6.N) :
    pre6 W c t ⊢ wp frame (wpE (defs₀ (F := F)) Variants.none c none) Set.univ (bodyAt6 t) (fun _ => post6 W c t) := by
  unfold pre6 post6 bodyAt6
  rw [show (dat6 W c).Φ t.succ = inv6 c from rfl, show (dat6 W c).Φ t.castSucc = inv6 c from rfl, after6_2]
  unfold Dat.owesAt Pipeline.owesWithin
  rw [show (dat6 W c).owed t.castSucc = 0 from rfl, show (dat6 W c).owed t.succ = 0 from rfl]
  simp only [before6_0, before6_1]
  rw [show (dat6 W c).after 0 t = blk6_0 W c t from rfl, show (dat6 W c).after 1 t = blk6_1 W c t from rfl]
  iintro ⟨HΦ, ⟨%Ws, -, HW⟩, ⟨%_, H0⟩, ⟨%_, H1⟩, ⟨%d, H2⟩⟩
  iapply (run6 c (grid6.coords t) (st6_0 t) _ (st6_1 t) _ (st6_2 t) _ (blk6_0 W c t) (blk6_1 W c t) ((dat6 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row6 (t : Fin cfg6.N) : defs₀ (F := F) .tc cfg6.body (cfg6.bodyArgs t (cfg6.slots t)) = bodyAt6 t := by
  unfold defs₀; rw [Defs.onTc_tc]

theorem obligation6 (c : Dev nD) : BodyObligation (dat6 (F := F) W c) (defs₀ (F := F)) Variants.none () Set.univ := fun t => by
  rw [bigSep_W6, bigSep_W6, row6]
  exact triple_restated (sound6 W c t) rfl .rfl fun _ => .rfl

end Cert.Proof.Ffn

end
-- ==== Proof.FfnRun.lean ====
/-
  The run of the feed-forward layer's program, at any elements: the host's transpose, then the seven regions in turn,
  each entered with what the one before left; it ends, the arguments and the semaphores as they were.
-/
module

public import proofs.«01_k».proof.Proof.FfnData

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers between the items -/

/-- Core `c`'s buffers before the first region: the host has transposed one weight. -/
def U1 (c : Dev nD) : Valuation τ sig (Elt F) := StableHlo.after hostOps0 (V0 m c)
/-- After region 0, which writes `main_v1`. -/
def U2 (c : Dev nD) : Valuation τ sig (Elt F) := Function.update (U1 m c) main_v1 ((dat0 (U1 m) c).arrAt 2 cfg0.N)
/-- After region 1, which writes `main_v2`. -/
def U3 (c : Dev nD) : Valuation τ sig (Elt F) := Function.update (U2 m c) main_v2 ((dat1 (U2 m) c).arrAt 2 cfg1.N)
/-- After region 2, which writes `main_v3`. -/
def U4 (c : Dev nD) : Valuation τ sig (Elt F) := Function.update (U3 m c) main_v3 ((dat2 (U3 m) c).arrAt 2 cfg2.N)
/-- After region 3, which writes `main_v4`. -/
def U5 (c : Dev nD) : Valuation τ sig (Elt F) := Function.update (U4 m c) main_v4 ((dat3 (U4 m) c).arrAt 2 cfg3.N)
/-- After region 4, which writes `main_v5`. -/
def U6 (c : Dev nD) : Valuation τ sig (Elt F) := Function.update (U5 m c) main_v5 ((dat4 (U5 m) c).arrAt 3 cfg4.N)
/-- After region 5, which writes `main_v6`. -/
def U7 (c : Dev nD) : Valuation τ sig (Elt F) := Function.update (U6 m c) main_v6 ((dat5 (U6 m) c).arrAt 2 cfg5.N)
/-- After region 6, which writes `main_v7`. -/
def U8 (c : Dev nD) : Valuation τ sig (Elt F) := Function.update (U7 m c) main_v7 ((dat6 (U7 m) c).arrAt 2 cfg6.N)
theorem U2_out (c : Dev nD) : U2 m c main_v1 = (dat0 (U1 m) c).arrAt 2 cfg0.N := Function.update_self _ _ _
theorem U2_of (c : Dev nD) (r : Ref sig .tc) (h : r ≠ main_v1) : U2 m c r = U1 m c r :=
  Function.update_of_ne (StableHlo.devRef_ne_of_ne h : (Proc.devRef .tc r : DevRef τ sig) ≠ Proc.devRef .tc main_v1) _ _
theorem U3_out (c : Dev nD) : U3 m c main_v2 = (dat1 (U2 m) c).arrAt 2 cfg1.N := Function.update_self _ _ _
theorem U3_of (c : Dev nD) (r : Ref sig .tc) (h : r ≠ main_v2) : U3 m c r = U2 m c r :=
  Function.update_of_ne (StableHlo.devRef_ne_of_ne h : (Proc.devRef .tc r : DevRef τ sig) ≠ Proc.devRef .tc main_v2) _ _
theorem U4_out (c : Dev nD) : U4 m c main_v3 = (dat2 (U3 m) c).arrAt 2 cfg2.N := Function.update_self _ _ _
theorem U4_of (c : Dev nD) (r : Ref sig .tc) (h : r ≠ main_v3) : U4 m c r = U3 m c r :=
  Function.update_of_ne (StableHlo.devRef_ne_of_ne h : (Proc.devRef .tc r : DevRef τ sig) ≠ Proc.devRef .tc main_v3) _ _
theorem U5_out (c : Dev nD) : U5 m c main_v4 = (dat3 (U4 m) c).arrAt 2 cfg3.N := Function.update_self _ _ _
theorem U5_of (c : Dev nD) (r : Ref sig .tc) (h : r ≠ main_v4) : U5 m c r = U4 m c r :=
  Function.update_of_ne (StableHlo.devRef_ne_of_ne h : (Proc.devRef .tc r : DevRef τ sig) ≠ Proc.devRef .tc main_v4) _ _
theorem U6_out (c : Dev nD) : U6 m c main_v5 = (dat4 (U5 m) c).arrAt 3 cfg4.N := Function.update_self _ _ _
theorem U6_of (c : Dev nD) (r : Ref sig .tc) (h : r ≠ main_v5) : U6 m c r = U5 m c r :=
  Function.update_of_ne (StableHlo.devRef_ne_of_ne h : (Proc.devRef .tc r : DevRef τ sig) ≠ Proc.devRef .tc main_v5) _ _
theorem U7_out (c : Dev nD) : U7 m c main_v6 = (dat5 (U6 m) c).arrAt 2 cfg5.N := Function.update_self _ _ _
theorem U7_of (c : Dev nD) (r : Ref sig .tc) (h : r ≠ main_v6) : U7 m c r = U6 m c r :=
  Function.update_of_ne (StableHlo.devRef_ne_of_ne h : (Proc.devRef .tc r : DevRef τ sig) ≠ Proc.devRef .tc main_v6) _ _
theorem U8_out (c : Dev nD) : U8 m c main_v7 = (dat6 (U7 m) c).arrAt 2 cfg6.N := Function.update_self _ _ _
theorem U8_of (c : Dev nD) (r : Ref sig .tc) (h : r ≠ main_v7) : U8 m c r = U7 m c r :=
  Function.update_of_ne (StableHlo.devRef_ne_of_ne h : (Proc.devRef .tc r : DevRef τ sig) ≠ Proc.devRef .tc main_v7) _ _
theorem U1_of (c : Dev nD) (r : Ref sig .tc) (h : r ≠ main_v0) : U1 m c r = m ((c : Thread nD τ).loc r) :=
  StableHlo.after_of_writes_sub hostOps0 _ hostOps0_writes (by simpa using h)
theorem U8_arg0 (c : Dev nD) : U8 m c main_arg0 = m ((c : Thread nD τ).loc main_arg0) := by
  rw [U8_of m c main_arg0 (by decide), U7_of m c main_arg0 (by decide), U6_of m c main_arg0 (by decide), U5_of m c main_arg0 (by decide), U4_of m c main_arg0 (by decide), U3_of m c main_arg0 (by decide), U2_of m c main_arg0 (by decide), U1_of m c main_arg0 (by decide)]
theorem U8_arg1 (c : Dev nD) : U8 m c main_arg1 = m ((c : Thread nD τ).loc main_arg1) := by
  rw [U8_of m c main_arg1 (by decide), U7_of m c main_arg1 (by decide), U6_of m c main_arg1 (by decide), U5_of m c main_arg1 (by decide), U4_of m c main_arg1 (by decide), U3_of m c main_arg1 (by decide), U2_of m c main_arg1 (by decide), U1_of m c main_arg1 (by decide)]
theorem U8_arg2 (c : Dev nD) : U8 m c main_arg2 = m ((c : Thread nD τ).loc main_arg2) := by
  rw [U8_of m c main_arg2 (by decide), U7_of m c main_arg2 (by decide), U6_of m c main_arg2 (by decide), U5_of m c main_arg2 (by decide), U4_of m c main_arg2 (by decide), U3_of m c main_arg2 (by decide), U2_of m c main_arg2 (by decide), U1_of m c main_arg2 (by decide)]
theorem U8_arg3 (c : Dev nD) : U8 m c main_arg3 = m ((c : Thread nD τ).loc main_arg3) := by
  rw [U8_of m c main_arg3 (by decide), U7_of m c main_arg3 (by decide), U6_of m c main_arg3 (by decide), U5_of m c main_arg3 (by decide), U4_of m c main_arg3 (by decide), U3_of m c main_arg3 (by decide), U2_of m c main_arg3 (by decide), U1_of m c main_arg3 (by decide)]

/-- Every region's proof data, each entered with what the one before left. -/
def pdats : (p : Fin 7) → (c : Dev nD) → Dat τ (Elt F) Unit ℕ (Pipeline.UD sig nD τ) ℕ (cfgs p) c := fun
  | 0 => dat0 (U1 m)
  | 1 => dat1 (U2 m)
  | 2 => dat2 (U3 m)
  | 3 => dat3 (U4 m)
  | 4 => dat4 (U5 m)
  | 5 => dat5 (U6 m)
  | 6 => dat6 (U7 m)
  | ⟨_ + 7, h⟩ => absurd h (Nat.not_lt.2 (Nat.le_add_left _ _))

/-! ## A region as a segment -/

/-- No core owes another anything: no level is assigned. -/
abbrev lev : GSem nD τ sig → Finset Unit := fun _ => ∅
abbrev lvl : GSem nD τ sig → Unit → ℕ := fun _ _ => 0

/-- What rides beside the buffers: the core owes nothing, and the generator's register. -/
abbrev beside (c : Dev nD) : sProp 𝕄 := iprop((∃ W, owes (c : Thread nD τ) (0 : CellTallies nD τ sig Unit) W) ∗ ∃ r, prngReg c r)

set_option backward.isDefEq.respectTransparency.types false in
/-- Region `p` entered with the buffers at `V` and left with them at `V'`. -/
def region (p : Fin 7) (kit : Pipeline.LaunchFacts₀ (nD := nD) (τ := τ) cfgs p)
    (V V' : Dev nD → Valuation τ sig (Elt F))
    (hbody : ∀ c, BodyObligation (pdats m p c) (defs₀ (F := F)) Variants.none () Set.univ)
    (hA : ∀ c w, (pdats m p c).A w = V c (Pipeline.arrRef (cfgs p).spec w))
    (hq : ∀ c w, (pdats m p c).q w = Pipeline.shareOf (cfgs p).spec w)
    (howed : ∀ c t, (pdats m p c).owed t = 0) (hrec : ∀ c t, (pdats m p c).recorded t = Set.univ)
    (hfirst : ∀ c, iprop(Pipeline.scopedRest (Ix := Unit) (Name := ℕ) (U := Pipeline.UD sig nD τ) (Lvl := ℕ) (Val := Elt F) (cfgs p).spec c
      ∗ ∃ r, prngReg c r) ⊢ (pdats m p c).Φ 0)
    (hlast : ∀ c, (pdats m p c).Φ (Fin.last (cfgs p).N) ⊢ iprop(Pipeline.scopedRest (Ix := Unit) (Name := ℕ) (U := Pipeline.UD sig nD τ) (Lvl := ℕ)
      (Val := Elt F) (cfgs p).spec c ∗ ∃ r, prngReg c r))
    (hF : ∀ c w, (pdats m p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm (pdats m) () defs₀ Variants.none lev lvl p where
  win := kit.win
  block_pos := kit.block_pos
  stage_whole := kit.stage_whole
  K := PEmpty
  osem := fun k => k.elim
  ho := Pipeline.OwnSemFacts.none _
  hbody c := (hbody c).loose
  hwaits := Pipeline.hwaits_of_owed_zero (pcfgs (F := F)) adm (pdats m) () lev lvl p howed
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => V c (Proc.devRef .tc b))
  hentry c := by
    rw [Pipeline.ownSems0_none, show StableHlo.held (c : Thread nD τ) (Pipeline.ucRefs τ sig) (V c) = unscopedBufs c (fun b => V c (Proc.devRef .tc b))
      from (Pipeline.unscopedBufs_held (Ix := Unit) (Name := ℕ) (U := Pipeline.UD sig nD τ) (Lvl := ℕ) c (V c)).symm]
    have hsplit := Pipeline.arrays_of_unscopedBufs_shared (p := p) (pcfgs (F := F)) adm (pdats m) kit.win kit.sharedIn kit.arr_whole c
      (fun w _ => hq c w) (fun b => V c (Proc.devRef .tc b)) (hA c)
    iintro ⟨⟨Hub, HO, Hg⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      icases HO with ⟨%W, HO⟩; iexists W; isplitr; · ipureintro; exact fun _ _ => Or.inl (by rw [hrec]; exact Set.mem_univ _)
      iexact HO
    isplitl [Hg]; · iexact Hg
    iexact Hrest
  hin c := (show _ ⊢ iprop(Pipeline.scopedRest (Ix := Unit) (Name := ℕ) (U := Pipeline.UD sig nD τ) (Lvl := ℕ) (Val := Elt F) (cfgs p).spec c
      ∗ ∃ r, prngReg c r) from by
    iintro ⟨Hg, -, Hr⟩
    isplitl [Hr] <;> iassumption).trans (hfirst c)
  hout c := (hlast c).trans (by
    rw [Pipeline.ownSems0_none]
    iintro ⟨Hr, Hg⟩
    isplitl [Hg]; · iexact Hg
    isplitr; · iempintro
    iexact Hr)
  hexit c := by
    have hjoin := Pipeline.unscopedBufs_of_arrays_shared (p := p) (pcfgs (F := F)) adm kit.win kit.sharedIn kit.arr_whole c (pdats m)
      (fun w _ => hq c w) (fun b => V c (Proc.devRef .tc b)) (fun b => V' c (Proc.devRef .tc b)) ((pdats m p c).arrAt · (cfgs p).N) (hF c) (hrest c)
    rw [show StableHlo.held (c : Thread nD τ) (Pipeline.ucRefs τ sig) (V' c) = unscopedBufs c (fun b => V' c (Proc.devRef .tc b))
      from (Pipeline.unscopedBufs_held (Ix := Unit) (Name := ℕ) (U := Pipeline.UD sig nD τ) (Lvl := ℕ) c (V' c)).symm]
    iintro ⟨Ha, HO, Hg, Hrest⟩
    imodintro
    isplitl [Ha Hrest]
    · iapply hjoin; isplitl [Ha] <;> iassumption
    isplitl [HO]
    · unfold Dat.owesAt Pipeline.owesWithin
      rw [howed c (Fin.last _)]
      icases HO with ⟨%W, -, HO⟩; iexists W; iexact HO
    iexact Hg

theorem left0 (c : Dev nD) : ∀ w : Fin cfg0.W, (dat0 (U1 m) c).arrAt w cfg0.N = U2 m c (Pipeline.arrRef spec0 w) := fun
  | ⟨0, _⟩ => ((dat0 (U1 m) c).arrAt_in 0 rfl _).trans ((dat0_A (U1 m) c 0).trans (U2_of m c (Pipeline.arrRef spec0 0) (by decide)).symm)
  | ⟨1, _⟩ => ((dat0 (U1 m) c).arrAt_in 1 rfl _).trans ((dat0_A (U1 m) c 1).trans (U2_of m c (Pipeline.arrRef spec0 1) (by decide)).symm)
  | ⟨2, _⟩ => (U2_out m c).symm
theorem kept0 (c : Dev nD) (r : Ref sig .tc) (h : r ∉ Finset.univ.image (Pipeline.arrRef spec0)) : U2 m c r = U1 m c r :=
  U2_of m c r fun e => h (Finset.mem_image.mpr ⟨2, Finset.mem_univ _, e.symm⟩)
set_option backward.isDefEq.respectTransparency.types false in
def reg0 : Pipeline.RegionSeg (pcfgs (F := F)) adm (pdats m) () defs₀ Variants.none lev lvl 0 :=
  region m 0 launch0.to₀ (U1 m) (U2 m) (obligation0 (U1 m)) (dat0_A (U1 m)) (fun _ _ => rfl) (fun _ _ => rfl) (fun _ _ => rfl)
    (fun _ => .rfl) (fun _ => .rfl) (left0 m) (kept0 m)

theorem left1 (c : Dev nD) : ∀ w : Fin cfg1.W, (dat1 (U2 m) c).arrAt w cfg1.N = U3 m c (Pipeline.arrRef spec1 w) := fun
  | ⟨0, _⟩ => ((dat1 (U2 m) c).arrAt_in 0 rfl _).trans ((dat1_A (U2 m) c 0).trans (U3_of m c (Pipeline.arrRef spec1 0) (by decide)).symm)
  | ⟨1, _⟩ => ((dat1 (U2 m) c).arrAt_in 1 rfl _).trans ((dat1_A (U2 m) c 1).trans (U3_of m c (Pipeline.arrRef spec1 1) (by decide)).symm)
  | ⟨2, _⟩ => (U3_out m c).symm
theorem kept1 (c : Dev nD) (r : Ref sig .tc) (h : r ∉ Finset.univ.image (Pipeline.arrRef spec1)) : U3 m c r = U2 m c r :=
  U3_of m c r fun e => h (Finset.mem_image.mpr ⟨2, Finset.mem_univ _, e.symm⟩)
set_option backward.isDefEq.respectTransparency.types false in
def reg1 : Pipeline.RegionSeg (pcfgs (F := F)) adm (pdats m) () defs₀ Variants.none lev lvl 1 :=
  region m 1 launch₀1 (U2 m) (U3 m) (obligation1 (U2 m)) (dat1_A (U2 m)) (fun _ _ => rfl) (fun _ _ => rfl) (fun _ _ => rfl)
    (fun _ => .rfl) (fun _ => .rfl) (left1 m) (kept1 m)

theorem left2 (c : Dev nD) : ∀ w : Fin cfg2.W, (dat2 (U3 m) c).arrAt w cfg2.N = U4 m c (Pipeline.arrRef spec2 w) := fun
  | ⟨0, _⟩ => ((dat2 (U3 m) c).arrAt_in 0 rfl _).trans ((dat2_A (U3 m) c 0).trans (U4_of m c (Pipeline.arrRef spec2 0) (by decide)).symm)
  | ⟨1, _⟩ => ((dat2 (U3 m) c).arrAt_in 1 rfl _).trans ((dat2_A (U3 m) c 1).trans (U4_of m c (Pipeline.arrRef spec2 1) (by decide)).symm)
  | ⟨2, _⟩ => (U4_out m c).symm
theorem kept2 (c : Dev nD) (r : Ref sig .tc) (h : r ∉ Finset.univ.image (Pipeline.arrRef spec2)) : U4 m c r = U3 m c r :=
  U4_of m c r fun e => h (Finset.mem_image.mpr ⟨2, Finset.mem_univ _, e.symm⟩)
set_option backward.isDefEq.respectTransparency.types false in
def reg2 : Pipeline.RegionSeg (pcfgs (F := F)) adm (pdats m) () defs₀ Variants.none lev lvl 2 :=
  region m 2 launch2.to₀ (U3 m) (U4 m) (obligation2 (U3 m)) (dat2_A (U3 m)) (fun _ _ => rfl) (fun _ _ => rfl) (fun _ _ => rfl)
    (fun _ => .rfl) (fun _ => .rfl) (left2 m) (kept2 m)

theorem left3 (c : Dev nD) : ∀ w : Fin cfg3.W, (dat3 (U4 m) c).arrAt w cfg3.N = U5 m c (Pipeline.arrRef spec3 w) := fun
  | ⟨0, _⟩ => ((dat3 (U4 m) c).arrAt_in 0 rfl _).trans ((dat3_A (U4 m) c 0).trans (U5_of m c (Pipeline.arrRef spec3 0) (by decide)).symm)
  | ⟨1, _⟩ => ((dat3 (U4 m) c).arrAt_in 1 rfl _).trans ((dat3_A (U4 m) c 1).trans (U5_of m c (Pipeline.arrRef spec3 1) (by decide)).symm)
  | ⟨2, _⟩ => (U5_out m c).symm
theorem kept3 (c : Dev nD) (r : Ref sig .tc) (h : r ∉ Finset.univ.image (Pipeline.arrRef spec3)) : U5 m c r = U4 m c r :=
  U5_of m c r fun e => h (Finset.mem_image.mpr ⟨2, Finset.mem_univ _, e.symm⟩)
set_option backward.isDefEq.respectTransparency.types false in
def reg3 : Pipeline.RegionSeg (pcfgs (F := F)) adm (pdats m) () defs₀ Variants.none lev lvl 3 :=
  region m 3 launch3.to₀ (U4 m) (U5 m) (obligation3 (U4 m)) (dat3_A (U4 m)) (fun _ _ => rfl) (fun _ _ => rfl) (fun _ _ => rfl)
    (fun _ => .rfl) (fun _ => .rfl) (left3 m) (kept3 m)

theorem left4 (c : Dev nD) : ∀ w : Fin cfg4.W, (dat4 (U5 m) c).arrAt w cfg4.N = U6 m c (Pipeline.arrRef spec4 w) := fun
  | ⟨0, _⟩ => ((dat4 (U5 m) c).arrAt_in 0 rfl _).trans ((dat4_A (U5 m) c 0).trans (U6_of m c (Pipeline.arrRef spec4 0) (by decide)).symm)
  | ⟨1, _⟩ => ((dat4 (U5 m) c).arrAt_in 1 rfl _).trans ((dat4_A (U5 m) c 1).trans (U6_of m c (Pipeline.arrRef spec4 1) (by decide)).symm)
  | ⟨2, _⟩ => ((dat4 (U5 m) c).arrAt_in 2 rfl _).trans ((dat4_A (U5 m) c 2).trans (U6_of m c (Pipeline.arrRef spec4 2) (by decide)).symm)
  | ⟨3, _⟩ => (U6_out m c).symm
theorem kept4 (c : Dev nD) (r : Ref sig .tc) (h : r ∉ Finset.univ.image (Pipeline.arrRef spec4)) : U6 m c r = U5 m c r :=
  U6_of m c r fun e => h (Finset.mem_image.mpr ⟨3, Finset.mem_univ _, e.symm⟩)
set_option backward.isDefEq.respectTransparency.types false in
def reg4 : Pipeline.RegionSeg (pcfgs (F := F)) adm (pdats m) () defs₀ Variants.none lev lvl 4 :=
  region m 4 launch₀4 (U5 m) (U6 m) (obligation4 (U5 m)) (dat4_A (U5 m)) (fun _ _ => rfl) (fun _ _ => rfl) (fun _ _ => rfl)
    (fun _ => .rfl) (fun _ => .rfl) (left4 m) (kept4 m)

theorem left5 (c : Dev nD) : ∀ w : Fin cfg5.W, (dat5 (U6 m) c).arrAt w cfg5.N = U7 m c (Pipeline.arrRef spec5 w) := fun
  | ⟨0, _⟩ => ((dat5 (U6 m) c).arrAt_in 0 rfl _).trans ((dat5_A (U6 m) c 0).trans (U7_of m c (Pipeline.arrRef spec5 0) (by decide)).symm)
  | ⟨1, _⟩ => ((dat5 (U6 m) c).arrAt_in 1 rfl _).trans ((dat5_A (U6 m) c 1).trans (U7_of m c (Pipeline.arrRef spec5 1) (by decide)).symm)
  | ⟨2, _⟩ => (U7_out m c).symm
theorem kept5 (c : Dev nD) (r : Ref sig .tc) (h : r ∉ Finset.univ.image (Pipeline.arrRef spec5)) : U7 m c r = U6 m c r :=
  U7_of m c r fun e => h (Finset.mem_image.mpr ⟨2, Finset.mem_univ _, e.symm⟩)
theorem first5 (c : Dev nD) : iprop(Pipeline.scopedRest (Ix := Unit) (Name := ℕ) (U := Pipeline.UD sig nD τ) (Lvl := ℕ) (Val := Elt F) spec5 c
    ∗ ∃ r, prngReg c r) ⊢ (inv5 (U6 m) 0 c : sProp 𝕄) := by
  unfold inv5 own owns
  rw [scopedRest5_split]
  simp only [Memref.view_whole, View.set_whole]
  iintro ⟨⟨⟨%f, Hf⟩, Hr⟩, Hg⟩
  isplitl [Hf]
  · iexists f; isplitr; · ipureintro; exact fun h => absurd trivial h
    iexists f; isplitr; · ipureintro; rfl
    iexact Hf
  isplitl [Hr]; · iexact Hr
  iexact Hg
theorem last5 (c : Dev nD) : (inv5 (U6 m) 8 c : sProp 𝕄) ⊢ iprop(Pipeline.scopedRest (Ix := Unit) (Name := ℕ) (U := Pipeline.UD sig nD τ) (Lvl := ℕ)
    (Val := Elt F) spec5 c ∗ ∃ r, prngReg c r) := by
  unfold inv5 own owns
  rw [scopedRest5_split]
  simp only [Memref.view_whole, View.set_whole]
  iintro ⟨⟨%a, -, ⟨%f, -, Hf⟩⟩, Hr, Hg⟩
  isplitl [Hf Hr]
  · isplitl [Hf]; · iexists f; iexact Hf
    iexact Hr
  iexact Hg
set_option backward.isDefEq.respectTransparency.types false in
def reg5 : Pipeline.RegionSeg (pcfgs (F := F)) adm (pdats m) () defs₀ Variants.none lev lvl 5 :=
  region m 5 launch5.to₀ (U6 m) (U7 m) (obligation5 (U6 m)) (dat5_A (U6 m)) (fun _ _ => rfl) (fun _ _ => rfl) (fun _ _ => rfl)
    (first5 m) (last5 m) (left5 m) (kept5 m)

theorem left6 (c : Dev nD) : ∀ w : Fin cfg6.W, (dat6 (U7 m) c).arrAt w cfg6.N = U8 m c (Pipeline.arrRef spec6 w) := fun
  | ⟨0, _⟩ => ((dat6 (U7 m) c).arrAt_in 0 rfl _).trans ((dat6_A (U7 m) c 0).trans (U8_of m c (Pipeline.arrRef spec6 0) (by decide)).symm)
  | ⟨1, _⟩ => ((dat6 (U7 m) c).arrAt_in 1 rfl _).trans ((dat6_A (U7 m) c 1).trans (U8_of m c (Pipeline.arrRef spec6 1) (by decide)).symm)
  | ⟨2, _⟩ => (U8_out m c).symm
theorem kept6 (c : Dev nD) (r : Ref sig .tc) (h : r ∉ Finset.univ.image (Pipeline.arrRef spec6)) : U8 m c r = U7 m c r :=
  U8_of m c r fun e => h (Finset.mem_image.mpr ⟨2, Finset.mem_univ _, e.symm⟩)
set_option backward.isDefEq.respectTransparency.types false in
def reg6 : Pipeline.RegionSeg (pcfgs (F := F)) adm (pdats m) () defs₀ Variants.none lev lvl 6 :=
  region m 6 launch6.to₀ (U7 m) (U8 m) (obligation6 (U7 m)) (dat6_A (U7 m)) (fun _ _ => rfl) (fun _ _ => rfl) (fun _ _ => rfl)
    (fun _ => .rfl) (fun _ => .rfl) (left6 m) (kept6 m)

/-! ## The run -/

/-- The launch element: the pipelines' at their staging cells, no counter yet. -/
def elem0 : Pipeline.UD sig nD τ := (initOf (Pipeline.cells cfgs cellOf_inj) (Pipeline.launchToks cfgs cellOf_inj), 1)

/-- What the final memory holds on core `c`: every unscoped buffer as the last region left it. -/
def Left (c : Dev nD) (s : MemSt nD τ sig (Elt F)) : Prop :=
  ∀ b ∈ Pipeline.ucRefs τ sig, s.mem ((c : Thread nD τ).1, b) = U8 m c b

set_option backward.isDefEq.respectTransparency.types false in
/-- The program's run from any launch. -/
theorem run_left : θ_run defs (onTc (τ := τ) (main (F := F))) ⟨m, fun _ => 0, ρ⟩ (fun r => (∀ c : Dev nD, Left m c r.2) ∧ r.2.sem = fun _ => 0) := by
  refine Pipeline.θ_run_regions_kit_dev_sems (pcfgs (F := F)) adm (pdats m) () cellOf_inj
    (embL : Emb (URounds (GSem nD τ sig) Unit) 𝕄) defs₀ Variants.none lev lvl m ρ main
    (segs m Variants.none lev lvl (fun _ => beside) () (pdats m) (reg0 m) (reg1 m) (reg2 m) (reg3 m) (reg4 m) (reg5 m) (reg6 m))
    (fun c Q => by
      rewrite [main_chain c, Pipeline.Seg.run_eq_chain,
        show (segs m Variants.none lev lvl (fun _ => beside) () (pdats m) (reg0 m) (reg1 m) (reg2 m) (reg3 m) (reg4 m) (reg5 m) (reg6 m) c).map
            Pipeline.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := elem0)
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (U8 m c))
    (hch := fun c => ⟨.rfl, .rfl, .rfl, .rfl, .rfl, .rfl, .rfl, .rfl, ?_⟩)
    (hinit := ?_) (QY := fun c s => Left m c s) (hfin := fun c s' => ?_)
    (hQ := fun _ h hz => ⟨h, funext fun g => hz g (.inr (regions_no_unscoped g.2))⟩)
  · unfold elem0
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U8 m c) ∗ beside c) ⊢ _
    iintro ⟨Hh, HO, -⟩
    isplitl [Hh] <;> iassumption
  · refine Pipeline.initEach lev lvl fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := Pipeline.UD sig nD τ) (Lvl := ℕ) c (V0 m c)]
    iintro ⟨⟨Hh, -, HO, -, Hg, -⟩, -⟩
    imodintro
    isplitl [Hh]; · iexact Hh
    isplitl [HO]; · iexists ∅; iexact HO
    iexists _; iexact Hg
  · unfold StableHlo.held Left
    iintro ⟨Hh, HSI⟩
    ihave Hr := (pointsTo_read_all (Pipeline.ucRefs τ sig) (fun b => ((c : Thread nD τ).1, b)) (U8 m c) s') $$ [Hh HSI]
    · isplitl [Hh] <;> iassumption
    imodintro; iexact Hr

/-- The run, read at the arguments and at the results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v6) = U8 m c main_v6
      ∧ r.2.mem ((c.tc : Thread nD τ).loc main_v7) = U8 m c main_v7
      ∧ r.2.mem ((c.tc : Thread nD τ).loc main_v4) = U8 m c main_v4)
      ∧ r.2.sem = fun _ => 0) := by
  have at_ : ∀ (c : Dev nD) (s : MemSt nD τ sig (Elt F)), Left m c s → ∀ b : Ref sig .tc, ¬ (Proc.devRef (τ := τ) .tc b).isScoped →
      s.mem ((c.tc : Thread nD τ).loc b) = U8 m c b := fun c s h b hb =>
    h (Proc.devRef .tc b) (Finset.mem_filter.mpr ⟨StableHlo.devRef_mem_tcRefs b, hb⟩)
  exact (θ_run defs _ _).mono (fun r h => ⟨fun c => ⟨⟨
      (at_ c r.2 (h.1 c) main_arg0 (by decide)).trans (U8_arg0 m c), (at_ c r.2 (h.1 c) main_arg1 (by decide)).trans (U8_arg1 m c),
      (at_ c r.2 (h.1 c) main_arg2 (by decide)).trans (U8_arg2 m c), (at_ c r.2 (h.1 c) main_arg3 (by decide)).trans (U8_arg3 m c)⟩,
      at_ c r.2 (h.1 c) main_v6 (by decide), at_ c r.2 (h.1 c) main_v7 (by decide), at_ c r.2 (h.1 c) main_v4 (by decide)⟩, h.2⟩) (run_left m ρ)

end Cert.Proof.Ffn

end
-- ==== Proof.FfnSpec.lean ====
/-
  The feed-forward layer and its gradient over the real numbers, and what a payload of the layer's regions computes from
  blocks of real numbers.
-/
module

public import proofs.«01_k».proof.Proof.Lift
public import proofs.«01_k».proof.Proof.Operands
public import proofs.«01_k».proof.Proof.HostVals
public import proofs.«01_k».proof.Proof.FfnPoints

@[expose] public section

set_option maxRecDepth 16384

noncomputable section

namespace Cert.Proof.Ffn

open Idealize.ShloMosaic
open Idealize.ShloMosaic.TcCoe
open Idealize.ShloMosaic (ix2)
open scoped BigOperators

/-- The layer's input, its two matrices and the cotangent of its output. -/
structure Net where
  h : ℕ → ℕ → ℝ
  w : ℕ → ℕ → ℝ
  d : ℕ → ℕ → ℝ
  c : ℕ → ℕ → ℝ

/-- The logistic function. -/
def sg (x : ℝ) : ℝ := 1 / (1 + Real.exp (-x))

namespace Net
variable (n : Net)

/-- The gates and the values beside them. -/
def gu (t f : ℕ) : ℝ := ∑ k : Fin 1024, n.h t k.val * n.w k.val f
/-- The gated values. -/
def act (t f : ℕ) : ℝ := n.gu t f * sg (n.gu t f) * n.gu t (2816 + f)
/-- The gated values' gradient. -/
def da (t f : ℕ) : ℝ := ∑ k : Fin 1024, n.c t k.val * n.d f k.val
/-- The gates' gradient. -/
def dgate (t f : ℕ) : ℝ := n.da t f * n.gu t (2816 + f) * (sg (n.gu t f) * (1 + n.gu t f * (1 - sg (n.gu t f))))
/-- The gradient of the values beside them. -/
def dval (t f : ℕ) : ℝ := n.da t f * n.gu t f * sg (n.gu t f)
/-- The two side by side. -/
def dgu (t f : ℕ) : ℝ := if f < 2816 then n.dgate t f else n.dval t (f - 2816)
/-- The gradient of the input, of the first matrix (transposed) and of the second. -/
def dh (t k : ℕ) : ℝ := ∑ f : Fin 5632, n.dgu t f.val * n.w k f.val
def gw (f k : ℕ) : ℝ := ∑ t : Fin 2048, n.dgu t.val f * n.h t.val k
def gd (f k : ℕ) : ℝ := ∑ t : Fin 2048, n.act t.val f * n.c t.val k
end Net

/-- The array holds these real numbers. -/
def Reads {a b : ℕ} (φ : FTy) (x : FVec Ideal ⟨2, ![a, b]⟩ φ) (f : ℕ → ℕ → ℝ) : Prop :=
  ∀ (i : Fin a) (j : Fin b), x (ix2 i j) = ((f i.val j.val : ℝ) : EReal)

theorem Reads.at {a b : ℕ} {φ : FTy} {x : FVec Ideal ⟨2, ![a, b]⟩ φ} {f : ℕ → ℕ → ℝ} (h : Reads φ x f) (y : (⟨2, ![a, b]⟩ : Shape).Idx) :
    x y = ((f (y 0).val (y 1).val : ℝ) : EReal) := by
  have e : y = ix2 (y 0) (y 1) := funext fun k => by
    match k with
    | ⟨0, _⟩ => rfl
    | ⟨1, _⟩ => rfl
  rw [e]; exact h _ _

/-- The logistic function of a real number, over the extended reals. -/
theorem sg_real (x : ℝ) : Ideal.div (1 : EReal) (1 + Ideal.exp (-(x : EReal))) = ((sg x : ℝ) : EReal) := by
  rw [← EReal.coe_neg, Ideal.exp_coe, ← EReal.coe_one, ← EReal.coe_add]
  exact Lines.div_real 1 (by positivity)

open Cert.Kernel2Ideal Cert.Kernel2Ideal.Gen

section Products
variable {f g : ℕ → ℕ → ℝ}

theorem pay0 {x : FVec Ideal S1024x1024 .bf16} {y : FVec Ideal S1408x1024 .bf16} (hx : Reads .bf16 x f) (hy : Reads .bf16 y g) :
    Reads .bf16 (k0_pay1 x y : FVec Ideal S1024x1408 .bf16) fun i j => ∑ k : Fin 1024, f i k.val * g j k.val := fun i j => by
  unfold k0_pay1
  rw [shapeCast_id]
  exact matmul_nt_real none x y (fun i k => f i.val k.val) (fun j k => g j.val k.val) hx hy i j

theorem pay2 {x : FVec Ideal S1024x1024 .f32} {y : FVec Ideal S1408x1024 .bf16} (hx : Reads .f32 x f) (hy : Reads .bf16 y g) :
    Reads .bf16 (k2_pay1 x y : FVec Ideal S1024x1408 .bf16) fun i j => ∑ k : Fin 1024, f i k.val * g j k.val := fun i j => by
  unfold k2_pay1
  exact matmul_nt_real none (φ₁ := .bf16) (truncf .bf16 x bitsLt_bf16_f32) y (fun i k => f i.val k.val) (fun j k => g j.val k.val) hx hy i j

theorem pay3 {x : FVec Ideal S2048x1408 .bf16} {y : FVec Ideal S2048x1024 .f32} (hx : Reads .bf16 x f) (hy : Reads .f32 y g) :
    Reads .bf16 (k3_pay1 x y : FVec Ideal S1408x1024 .bf16) fun i j => ∑ k : Fin 2048, f k.val i * g k.val j := fun i j => by
  unfold k3_pay1
  rw [shapeCast_id]
  exact matmul_tn_real none _ x (φ₂ := .bf16) (truncf .bf16 y bitsLt_bf16_f32) (fun k i => f k.val i.val) (fun k j => g k.val j.val) hx hy i j

theorem pay6 {x : FVec Ideal S2048x1408 .bf16} {y : FVec Ideal S2048x1024 .bf16} (hx : Reads .bf16 x f) (hy : Reads .bf16 y g) :
    Reads .bf16 (k6_pay1 x y : FVec Ideal S1408x1024 .bf16) fun i j => ∑ k : Fin 2048, f k.val i * g k.val j := fun i j => by
  unfold k6_pay1
  rw [shapeCast_id]
  exact matmul_tn_real none _ x y (fun k i => f k.val i.val) (fun k j => g k.val j.val) hx hy i j

theorem pay5 {x : FVec Ideal S1024x1408 .bf16} {y : FVec Ideal S1408x1024 .bf16} (hx : Reads .bf16 x f) (hy : Reads .bf16 y g) :
    Reads .f32 (k5_pay1 x y : FVec Ideal S1024x1024 .f32) fun i j => ∑ k : Fin 1408, f i k.val * g k.val j := fun i j => by
  unfold k5_pay1
  rw [shapeCast_id, shapeCast_id]
  exact matmul_nn_real none x y (fun i k => f i.val k.val) (fun k j => g k.val j.val) hx hy i j

theorem pay5_first {x : FVec Ideal S1024x1408 .bf16} {y : FVec Ideal S1408x1024 .bf16} (hx : Reads .bf16 x f) (hy : Reads .bf16 y g) :
    Reads .f32 (k5_pay2 x y : FVec Ideal S1024x1024 .f32) fun i j => ∑ k : Fin 1408, f i k.val * g k.val j := fun i j => by
  unfold k5_pay2
  rw [shapeCast_id]
  exact pay5 hx hy i j

theorem pay5_next {x : FVec Ideal S1024x1408 .bf16} {y : FVec Ideal S1408x1024 .bf16} {z : FVec Ideal S1024x1024 .f32} {r : ℕ → ℕ → ℝ}
    (hx : Reads .bf16 x f) (hy : Reads .bf16 y g) (hz : Reads .f32 z r) :
    Reads .f32 (k5_pay3 x y z : FVec Ideal S1024x1024 .f32) fun i j => r i j + ∑ k : Fin 1408, f i k.val * g k.val j := fun i j => by
  unfold k5_pay3
  rw [shapeCast_id]
  rw [EReal.coe_add, ← hz i j, ← pay5 hx hy i j]
  rfl
end Products

section Gates
variable {x y z : FVec Ideal S256x2816 .bf16} {f g r : ℕ → ℕ → ℝ}

/-- The logistic factor of a block of gates. -/
def gates (x : FVec Ideal S256x2816 .bf16) : FVec Ideal S256x2816 .f32 := k4_pay3 x

theorem sg_apply (hx : Reads .bf16 x f) (i : Fin 256) (j : Fin 2816) : gates x (ix2 i j) = ((sg (f i.val j.val) : ℝ) : EReal) := by
  pointwise [gates, k4_pay3, k4_pay1]
  rw [hx, zero_sub]
  exact sg_real _

theorem pay1 (hx : Reads .bf16 x f) (hy : Reads .bf16 y g) : Reads .bf16 (k1_pay1 x y : FVec Ideal S256x2816 .bf16) fun i j => f i j * sg (f i j) * g i j := fun i j => by
  have h : (k1_pay1 x y : FVec Ideal S256x2816 .bf16) (ix2 i j) = (x (ix2 i j) : EReal) * gates x (ix2 i j) * y (ix2 i j) := by
    pointwise [k1_pay1, gates, k4_pay3, k4_pay1]
  rw [h, sg_apply hx, hx, hy, ← EReal.coe_mul, ← EReal.coe_mul]

theorem pay4_right (hx : Reads .bf16 x f) (hz : Reads .bf16 z r) : Reads .bf16 (k4_pay5 x z : FVec Ideal S256x2816 .bf16) fun i j => r i j * f i j * sg (f i j) := fun i j => by
  have h : (k4_pay5 x z : FVec Ideal S256x2816 .bf16) (ix2 i j) = (z (ix2 i j) : EReal) * x (ix2 i j) * gates x (ix2 i j) := by
    pointwise [k4_pay5, gates, k4_pay2, k4_pay1]
  rw [h, sg_apply hx, hx, hz, ← EReal.coe_mul, ← EReal.coe_mul]

theorem pay4_left (hx : Reads .bf16 x f) (hy : Reads .bf16 y g) (hz : Reads .bf16 z r) :
    Reads .bf16 (k4_pay4 x y z : FVec Ideal S256x2816 .bf16) fun i j => r i j * g i j * (sg (f i j) * (1 + f i j * (1 - sg (f i j)))) := fun i j => by
  have h : (k4_pay4 x y z : FVec Ideal S256x2816 .bf16) (ix2 i j)
      = (z (ix2 i j) : EReal) * y (ix2 i j) * (gates x (ix2 i j) * (1 + x (ix2 i j) * (1 - gates x (ix2 i j)))) := by
    pointwise [k4_pay4, gates, k4_pay2, k4_pay1]
  rw [h, sg_apply hx, hx, hy, hz]
  push_cast
  rfl
end Gates

end Cert.Proof.Ffn
-- ==== Proof.FfnVals.lean ====
/-
  What each region of the feed-forward layer leaves in its output array, where its operands hold real numbers.
-/
module

public import proofs.«01_k».proof.Proof.FfnData
public import proofs.«01_k».proof.Proof.FfnSpec
public import Idealize.ShloMosaic.Lib.Pipeline.ValueKit

@[expose] public section

set_option maxRecDepth 16384

noncomputable section

namespace Cert.Proof.Ffn

open Cert.Kernel2Ideal Cert.Kernel2Ideal.Gen
open Idealize.ShloMosaic
open Idealize.ShloMosaic.TcCoe
open Idealize.ShloMosaic (ix2)
open scoped BigOperators

variable (W : Dev nD → Valuation τ sig (Elt Ideal)) (c : Dev nD) {f g r : ℕ → ℕ → ℝ}

/-! ## Region 0 -/

theorem lt0 (t : Fin cfg0.N) : t.val < 8 := lt_of_lt_of_eq t.isLt N_0

/-- Where every window's block lies at a point. -/
theorem index0 : ∀ t : Fin grid0.N, win0_0.index t = ![t.val / 4, 0] ∧ win0_1.index t = ![t.val % 4, 0] ∧ win0_2.index t = ![t.val / 4, t.val % 4] := by
  decide +kernel

theorem block0_0 (t : Fin cfg0.N) (i : Fin 1024) (j : Fin 1024) :
    (blk0_0 W c t : FVec Ideal S1024x1024 .bf16) (ix2 i j) = W c main_arg0 (ix2 ⟨t.val / 4 * 1024 + i.val, by have := lt0 t; omega⟩ j) := by
  have h := (index0 t).1
  blk_ext [blk0_0, h]
theorem reads0_0 (hx : Reads .bf16 (W c main_arg0 : FVec Ideal S2048x1024 .bf16) f) (t : Fin cfg0.N) :
    Reads .bf16 (blk0_0 W c t : FVec Ideal S1024x1024 .bf16) fun i j => f (t.val / 4 * 1024 + i) (j) := fun i j =>
  (block0_0 W c t i j).trans (hx _ _)

theorem block0_1 (t : Fin cfg0.N) (i : Fin 1408) (j : Fin 1024) :
    (blk0_1 W c t : FVec Ideal S1408x1024 .bf16) (ix2 i j) = W c main_v0 (ix2 ⟨t.val % 4 * 1408 + i.val, by have := lt0 t; omega⟩ j) := by
  have h := (index0 t).2.1
  blk_ext [blk0_1, h]
theorem reads0_1 (hx : Reads .bf16 (W c main_v0 : FVec Ideal S5632x1024 .bf16) f) (t : Fin cfg0.N) :
    Reads .bf16 (blk0_1 W c t : FVec Ideal S1408x1024 .bf16) fun i j => f (t.val % 4 * 1408 + i) (j) := fun i j =>
  (block0_1 W c t i j).trans (hx _ _)

/-- The output's entry. -/
def val0 (f g : ℕ → ℕ → ℝ) (i j : ℕ) : ℝ := ∑ k : Fin 1024, f i k.val * g j k.val

theorem point0 (hx : Reads .bf16 (W c main_arg0 : FVec Ideal S2048x1024 .bf16) f) (hy : Reads .bf16 (W c main_v0 : FVec Ideal S5632x1024 .bf16) g) (t : Fin cfg0.N) :
    Reads .bf16 ((dat0 W c).after 2 t : FVec Ideal S1024x1408 .bf16) fun i j => val0 f g (t.val / 4 * 1024 + i) (t.val % 4 * 1408 + j) := by
  rw [after0_2]
  exact pay0 (reads0_0 W c hx t) (reads0_1 W c hy t)

theorem array0 (hx : Reads .bf16 (W c main_arg0 : FVec Ideal S2048x1024 .bf16) f) (hy : Reads .bf16 (W c main_v0 : FVec Ideal S5632x1024 .bf16) g) :
    Reads .bf16 ((dat0 W c).arrAt 2 cfg0.N : FVec Ideal S2048x5632 .bf16) (val0 f g) := by
  have h : (dat0 W c).arrAt 2 cfg0.N = (fun p => ((val0 f g (p 0).val (p 1).val : ℝ) : EReal) : FVec Ideal S2048x5632 .bf16) := by
    refine (dat0 W c).arrAt_eq_of_covers 2 _ (by decide +kernel) fun t hf y => ?_
    have hi := (index0 t).2.2
    have hb := (point0 W c hx hy t).at y
    generalize (dat0 W c).after 2 t = X at hb
    blk_simp [hi]
    exact hb
  intro i j
  rw [h]; rfl

/-! ## Region 1 -/

theorem lt1 (t : Fin cfg1.N) : t.val < 8 := lt_of_lt_of_eq t.isLt N_1

/-- Where every window's block lies at a point. -/
theorem index1 : ∀ t : Fin grid1.N, win1_0.index t = ![t.val, 0] ∧ win1_1.index t = ![t.val, 1] ∧ win1_2.index t = ![t.val, 0] := by
  decide +kernel

theorem block1_0 (t : Fin cfg1.N) (i : Fin 256) (j : Fin 2816) :
    (blk1_0 W c t : FVec Ideal S256x2816 .bf16) (ix2 i j) = W c main_v1 (ix2 ⟨t.val * 256 + i.val, by have := lt1 t; omega⟩ ⟨j.val, by have := lt1 t; omega⟩) := by
  have h := (index1 t).1
  blk_ext [blk1_0, h]
theorem reads1_0 (hx : Reads .bf16 (W c main_v1 : FVec Ideal S2048x5632 .bf16) f) (t : Fin cfg1.N) :
    Reads .bf16 (blk1_0 W c t : FVec Ideal S256x2816 .bf16) fun i j => f (t.val * 256 + i) (j) := fun i j =>
  (block1_0 W c t i j).trans (hx _ _)

theorem block1_1 (t : Fin cfg1.N) (i : Fin 256) (j : Fin 2816) :
    (blk1_1 W c t : FVec Ideal S256x2816 .bf16) (ix2 i j) = W c main_v1 (ix2 ⟨t.val * 256 + i.val, by have := lt1 t; omega⟩ ⟨2816 + j.val, by have := lt1 t; omega⟩) := by
  have h := (index1 t).2.1
  blk_ext [blk1_1, h]
theorem reads1_1 (hx : Reads .bf16 (W c main_v1 : FVec Ideal S2048x5632 .bf16) f) (t : Fin cfg1.N) :
    Reads .bf16 (blk1_1 W c t : FVec Ideal S256x2816 .bf16) fun i j => f (t.val * 256 + i) (2816 + j) := fun i j =>
  (block1_1 W c t i j).trans (hx _ _)

/-- The output's entry. -/
def val1 (f : ℕ → ℕ → ℝ) (i j : ℕ) : ℝ := f i j * sg (f i j) * f i (2816 + j)

theorem point1 (hx : Reads .bf16 (W c main_v1 : FVec Ideal S2048x5632 .bf16) f) (t : Fin cfg1.N) :
    Reads .bf16 ((dat1 W c).after 2 t : FVec Ideal S256x2816 .bf16) fun i j => val1 f (t.val * 256 + i) (j) := by
  rw [after1_2]
  exact pay1 (reads1_0 W c hx t) (reads1_1 W c hx t)

theorem array1 (hx : Reads .bf16 (W c main_v1 : FVec Ideal S2048x5632 .bf16) f) :
    Reads .bf16 ((dat1 W c).arrAt 2 cfg1.N : FVec Ideal S2048x2816 .bf16) (val1 f) := by
  have h : (dat1 W c).arrAt 2 cfg1.N = (fun p => ((val1 f (p 0).val (p 1).val : ℝ) : EReal) : FVec Ideal S2048x2816 .bf16) := by
    refine (dat1 W c).arrAt_eq_of_covers 2 _ (by decide +kernel) fun t hf y => ?_
    have hi := (index1 t).2.2
    have hb := (point1 W c hx t).at y
    generalize (dat1 W c).after 2 t = X at hb
    blk_simp [hi]
    exact hb
  intro i j
  rw [h]; rfl

/-! ## Region 2 -/

theorem lt2 (t : Fin cfg2.N) : t.val < 4 := lt_of_lt_of_eq t.isLt N_2

/-- Where every window's block lies at a point. -/
theorem index2 : ∀ t : Fin grid2.N, win2_0.index t = ![t.val / 2, 0] ∧ win2_1.index t = ![t.val % 2, 0] ∧ win2_2.index t = ![t.val / 2, t.val % 2] := by
  decide +kernel

theorem block2_0 (t : Fin cfg2.N) (i : Fin 1024) (j : Fin 1024) :
    (blk2_0 W c t : FVec Ideal S1024x1024 .f32) (ix2 i j) = W c main_arg3 (ix2 ⟨t.val / 2 * 1024 + i.val, by have := lt2 t; omega⟩ j) := by
  have h := (index2 t).1
  blk_ext [blk2_0, h]
theorem reads2_0 (hx : Reads .f32 (W c main_arg3 : FVec Ideal S2048x1024 .f32) f) (t : Fin cfg2.N) :
    Reads .f32 (blk2_0 W c t : FVec Ideal S1024x1024 .f32) fun i j => f (t.val / 2 * 1024 + i) (j) := fun i j =>
  (block2_0 W c t i j).trans (hx _ _)

theorem block2_1 (t : Fin cfg2.N) (i : Fin 1408) (j : Fin 1024) :
    (blk2_1 W c t : FVec Ideal S1408x1024 .bf16) (ix2 i j) = W c main_arg2 (ix2 ⟨t.val % 2 * 1408 + i.val, by have := lt2 t; omega⟩ j) := by
  have h := (index2 t).2.1
  blk_ext [blk2_1, h]
theorem reads2_1 (hx : Reads .bf16 (W c main_arg2 : FVec Ideal S2816x1024 .bf16) f) (t : Fin cfg2.N) :
    Reads .bf16 (blk2_1 W c t : FVec Ideal S1408x1024 .bf16) fun i j => f (t.val % 2 * 1408 + i) (j) := fun i j =>
  (block2_1 W c t i j).trans (hx _ _)

/-- The output's entry. -/
def val2 (f g : ℕ → ℕ → ℝ) (i j : ℕ) : ℝ := ∑ k : Fin 1024, f i k.val * g j k.val

theorem point2 (hx : Reads .f32 (W c main_arg3 : FVec Ideal S2048x1024 .f32) f) (hy : Reads .bf16 (W c main_arg2 : FVec Ideal S2816x1024 .bf16) g) (t : Fin cfg2.N) :
    Reads .bf16 ((dat2 W c).after 2 t : FVec Ideal S1024x1408 .bf16) fun i j => val2 f g (t.val / 2 * 1024 + i) (t.val % 2 * 1408 + j) := by
  rw [after2_2]
  exact pay2 (reads2_0 W c hx t) (reads2_1 W c hy t)

theorem array2 (hx : Reads .f32 (W c main_arg3 : FVec Ideal S2048x1024 .f32) f) (hy : Reads .bf16 (W c main_arg2 : FVec Ideal S2816x1024 .bf16) g) :
    Reads .bf16 ((dat2 W c).arrAt 2 cfg2.N : FVec Ideal S2048x2816 .bf16) (val2 f g) := by
  have h : (dat2 W c).arrAt 2 cfg2.N = (fun p => ((val2 f g (p 0).val (p 1).val : ℝ) : EReal) : FVec Ideal S2048x2816 .bf16) := by
    refine (dat2 W c).arrAt_eq_of_covers 2 _ (by decide +kernel) fun t hf y => ?_
    have hi := (index2 t).2.2
    have hb := (point2 W c hx hy t).at y
    generalize (dat2 W c).after 2 t = X at hb
    blk_simp [hi]
    exact hb
  intro i j
  rw [h]; rfl

/-! ## Region 3 -/

theorem lt3 (t : Fin cfg3.N) : t.val < 2 := lt_of_lt_of_eq t.isLt N_3

/-- Where every window's block lies at a point. -/
theorem index3 : ∀ t : Fin grid3.N, win3_0.index t = ![0, t.val] ∧ win3_1.index t = ![0, 0] ∧ win3_2.index t = ![t.val, 0] := by
  decide +kernel

theorem block3_0 (t : Fin cfg3.N) (i : Fin 2048) (j : Fin 1408) :
    (blk3_0 W c t : FVec Ideal S2048x1408 .bf16) (ix2 i j) = W c main_v2 (ix2 i ⟨t.val * 1408 + j.val, by have := lt3 t; omega⟩) := by
  have h := (index3 t).1
  blk_ext [blk3_0, h]
theorem reads3_0 (hx : Reads .bf16 (W c main_v2 : FVec Ideal S2048x2816 .bf16) f) (t : Fin cfg3.N) :
    Reads .bf16 (blk3_0 W c t : FVec Ideal S2048x1408 .bf16) fun i j => f (i) (t.val * 1408 + j) := fun i j =>
  (block3_0 W c t i j).trans (hx _ _)

theorem block3_1 (t : Fin cfg3.N) (i : Fin 2048) (j : Fin 1024) :
    (blk3_1 W c t : FVec Ideal S2048x1024 .f32) (ix2 i j) = W c main_arg3 (ix2 i j) := by
  have h := (index3 t).2.1
  blk_ext [blk3_1, h]
theorem reads3_1 (hx : Reads .f32 (W c main_arg3 : FVec Ideal S2048x1024 .f32) f) (t : Fin cfg3.N) :
    Reads .f32 (blk3_1 W c t : FVec Ideal S2048x1024 .f32) fun i j => f (i) (j) := fun i j =>
  (block3_1 W c t i j).trans (hx _ _)

/-- The output's entry. -/
def val3 (f g : ℕ → ℕ → ℝ) (i j : ℕ) : ℝ := ∑ k : Fin 2048, f k.val i * g k.val j

theorem point3 (hx : Reads .bf16 (W c main_v2 : FVec Ideal S2048x2816 .bf16) f) (hy : Reads .f32 (W c main_arg3 : FVec Ideal S2048x1024 .f32) g) (t : Fin cfg3.N) :
    Reads .bf16 ((dat3 W c).after 2 t : FVec Ideal S1408x1024 .bf16) fun i j => val3 f g (t.val * 1408 + i) (j) := by
  rw [after3_2]
  exact pay3 (reads3_0 W c hx t) (reads3_1 W c hy t)

theorem array3 (hx : Reads .bf16 (W c main_v2 : FVec Ideal S2048x2816 .bf16) f) (hy : Reads .f32 (W c main_arg3 : FVec Ideal S2048x1024 .f32) g) :
    Reads .bf16 ((dat3 W c).arrAt 2 cfg3.N : FVec Ideal S2816x1024 .bf16) (val3 f g) := by
  have h : (dat3 W c).arrAt 2 cfg3.N = (fun p => ((val3 f g (p 0).val (p 1).val : ℝ) : EReal) : FVec Ideal S2816x1024 .bf16) := by
    refine (dat3 W c).arrAt_eq_of_covers 2 _ (by decide +kernel) fun t hf y => ?_
    have hi := (index3 t).2.2
    have hb := (point3 W c hx hy t).at y
    generalize (dat3 W c).after 2 t = X at hb
    blk_simp [hi]
    exact hb
  intro i j
  rw [h]; rfl

/-! ## Region 6 -/

theorem lt6 (t : Fin cfg6.N) : t.val < 4 := lt_of_lt_of_eq t.isLt N_6

/-- Where every window's block lies at a point. -/
theorem index6 : ∀ t : Fin grid6.N, win6_0.index t = ![0, t.val] ∧ win6_1.index t = ![0, 0] ∧ win6_2.index t = ![t.val, 0] := by
  decide +kernel

theorem block6_0 (t : Fin cfg6.N) (i : Fin 2048) (j : Fin 1408) :
    (blk6_0 W c t : FVec Ideal S2048x1408 .bf16) (ix2 i j) = W c main_v5 (ix2 i ⟨t.val * 1408 + j.val, by have := lt6 t; omega⟩) := by
  have h := (index6 t).1
  blk_ext [blk6_0, h]
theorem reads6_0 (hx : Reads .bf16 (W c main_v5 : FVec Ideal S2048x5632 .bf16) f) (t : Fin cfg6.N) :
    Reads .bf16 (blk6_0 W c t : FVec Ideal S2048x1408 .bf16) fun i j => f (i) (t.val * 1408 + j) := fun i j =>
  (block6_0 W c t i j).trans (hx _ _)

theorem block6_1 (t : Fin cfg6.N) (i : Fin 2048) (j : Fin 1024) :
    (blk6_1 W c t : FVec Ideal S2048x1024 .bf16) (ix2 i j) = W c main_arg0 (ix2 i j) := by
  have h := (index6 t).2.1
  blk_ext [blk6_1, h]
theorem reads6_1 (hx : Reads .bf16 (W c main_arg0 : FVec Ideal S2048x1024 .bf16) f) (t : Fin cfg6.N) :
    Reads .bf16 (blk6_1 W c t : FVec Ideal S2048x1024 .bf16) fun i j => f (i) (j) := fun i j =>
  (block6_1 W c t i j).trans (hx _ _)

/-- The output's entry. -/
def val6 (f g : ℕ → ℕ → ℝ) (i j : ℕ) : ℝ := ∑ k : Fin 2048, f k.val i * g k.val j

theorem point6 (hx : Reads .bf16 (W c main_v5 : FVec Ideal S2048x5632 .bf16) f) (hy : Reads .bf16 (W c main_arg0 : FVec Ideal S2048x1024 .bf16) g) (t : Fin cfg6.N) :
    Reads .bf16 ((dat6 W c).after 2 t : FVec Ideal S1408x1024 .bf16) fun i j => val6 f g (t.val * 1408 + i) (j) := by
  rw [after6_2]
  exact pay6 (reads6_0 W c hx t) (reads6_1 W c hy t)

theorem array6 (hx : Reads .bf16 (W c main_v5 : FVec Ideal S2048x5632 .bf16) f) (hy : Reads .bf16 (W c main_arg0 : FVec Ideal S2048x1024 .bf16) g) :
    Reads .bf16 ((dat6 W c).arrAt 2 cfg6.N : FVec Ideal S5632x1024 .bf16) (val6 f g) := by
  have h : (dat6 W c).arrAt 2 cfg6.N = (fun p => ((val6 f g (p 0).val (p 1).val : ℝ) : EReal) : FVec Ideal S5632x1024 .bf16) := by
    refine (dat6 W c).arrAt_eq_of_covers 2 _ (by decide +kernel) fun t hf y => ?_
    have hi := (index6 t).2.2
    have hb := (point6 W c hx hy t).at y
    generalize (dat6 W c).after 2 t = X at hb
    blk_simp [hi]
    exact hb
  intro i j
  rw [h]; rfl

/-! ## Region 4 -/

theorem lt4 (t : Fin cfg4.N) : t.val < 8 := lt_of_lt_of_eq t.isLt N_4

/-- Where every window's block lies at a point. -/
theorem index4 : ∀ t : Fin grid4.N, win4_0.index t = ![t.val, 0] ∧ win4_1.index t = ![t.val, 1] ∧ win4_2.index t = ![t.val, 0] ∧ win4_3.index t = ![t.val, 0] := by
  decide +kernel

theorem block4_0 (t : Fin cfg4.N) (i : Fin 256) (j : Fin 2816) :
    (blk4_0 W c t : FVec Ideal S256x2816 .bf16) (ix2 i j) = W c main_v1 (ix2 ⟨t.val * 256 + i.val, by have := lt4 t; omega⟩ ⟨j.val, by have := lt4 t; omega⟩) := by
  have h := (index4 t).1
  blk_ext [blk4_0, h]
theorem reads4_0 (hx : Reads .bf16 (W c main_v1 : FVec Ideal S2048x5632 .bf16) f) (t : Fin cfg4.N) :
    Reads .bf16 (blk4_0 W c t : FVec Ideal S256x2816 .bf16) fun i j => f (t.val * 256 + i) (j) := fun i j =>
  (block4_0 W c t i j).trans (hx _ _)

theorem block4_1 (t : Fin cfg4.N) (i : Fin 256) (j : Fin 2816) :
    (blk4_1 W c t : FVec Ideal S256x2816 .bf16) (ix2 i j) = W c main_v1 (ix2 ⟨t.val * 256 + i.val, by have := lt4 t; omega⟩ ⟨2816 + j.val, by have := lt4 t; omega⟩) := by
  have h := (index4 t).2.1
  blk_ext [blk4_1, h]
theorem reads4_1 (hx : Reads .bf16 (W c main_v1 : FVec Ideal S2048x5632 .bf16) f) (t : Fin cfg4.N) :
    Reads .bf16 (blk4_1 W c t : FVec Ideal S256x2816 .bf16) fun i j => f (t.val * 256 + i) (2816 + j) := fun i j =>
  (block4_1 W c t i j).trans (hx _ _)

theorem block4_2 (t : Fin cfg4.N) (i : Fin 256) (j : Fin 2816) :
    (blk4_2 W c t : FVec Ideal S256x2816 .bf16) (ix2 i j) = W c main_v3 (ix2 ⟨t.val * 256 + i.val, by have := lt4 t; omega⟩ j) := by
  have h := (index4 t).2.2.1
  blk_ext [blk4_2, h]
theorem reads4_2 (hx : Reads .bf16 (W c main_v3 : FVec Ideal S2048x2816 .bf16) f) (t : Fin cfg4.N) :
    Reads .bf16 (blk4_2 W c t : FVec Ideal S256x2816 .bf16) fun i j => f (t.val * 256 + i) (j) := fun i j =>
  (block4_2 W c t i j).trans (hx _ _)

section Pieces
variable {n k b o : ℕ} (inb) (w : (Rect.unit (s := ⟨2, ![n, b]⟩) ![0, o] ![n, k] inb).shape.Idx → Elt Ideal .bf16)
  (L : List (View.Piece (Elt Ideal) (⟨2, ![n, b]⟩ : Shape) .bf16)) (i : Fin n) (j : Fin b)

/-- A store of some columns, at one of them and at another column. -/
theorem canon_in (l : Fin k) (h : j.val = o + l.val) :
    View.canon (⟨Rect.unit (s := ⟨2, ![n, b]⟩) ![0, o] ![n, k] inb, w⟩ :: L) (ix2 i j) = w (ix2 i l) := by
  have e : (ix2 i j : (⟨2, ![n, b]⟩ : Shape).Idx) = (Rect.unit (s := ⟨2, ![n, b]⟩) ![0, o] ![n, k] inb).emb (ix2 i l) := by
    refine funext fun a => Fin.ext ?_
    match a with
    | ⟨0, _⟩ => show i.val = 0 + 1 * i.val; omega
    | ⟨1, _⟩ => show j.val = o + 1 * l.val; omega
  rw [e]
  exact View.canon_cons_emb _ w L _

theorem canon_out (h : j.val < o ∨ o + k ≤ j.val) :
    View.canon (⟨Rect.unit (s := ⟨2, ![n, b]⟩) ![0, o] ![n, k] inb, w⟩ :: L) (ix2 i j) = View.canon L (ix2 i j) := by
  refine View.canon_cons_of_not_mem _ L fun hm => ?_
  rw [Rect.mem_set_unit] at hm
  have h1 := hm 1
  change o ≤ j.val ∧ j.val < o + k at h1
  omega
end Pieces

theorem halves_reads {x y z : FVec Ideal S256x2816 .bf16} (hx : Reads .bf16 x f) (hy : Reads .bf16 y g) (hz : Reads .bf16 z r) :
    Reads .bf16 (halves (F := Ideal) x y z : FVec Ideal S256x5632 .bf16) fun i j =>
      if j < 2816 then r i j * g i j * (sg (f i j) * (1 + f i j * (1 - sg (f i j)))) else r i (j - 2816) * f i (j - 2816) * sg (f i (j - 2816)) := by
  intro i j
  unfold halves
  have hl := pay4_left hx hy hz
  have hr := pay4_right hx hz
  generalize k4_pay4 (F := Ideal) x y z = p at hl ⊢
  generalize k4_pay5 (F := Ideal) x z = q at hr ⊢
  by_cases h : j.val < 2816
  · dsimp only
    rw [if_pos h]
    exact ((canon_out _ q _ i j (Or.inl h)).trans (canon_in _ p [] i j ⟨j.val, h⟩ (Nat.zero_add _).symm)).trans (hl i ⟨j.val, h⟩)
  · dsimp only
    rw [if_neg h]
    have hj : j.val - 2816 < 2816 := by omega
    exact (canon_in _ q _ i j ⟨j.val - 2816, hj⟩ (by show j.val = 2816 + (j.val - 2816); omega)).trans (hr i ⟨j.val - 2816, hj⟩)

/-- The output's entry. -/
def val4 (f r : ℕ → ℕ → ℝ) (i j : ℕ) : ℝ :=
  if j < 2816 then r i j * f i (2816 + j) * (sg (f i j) * (1 + f i j * (1 - sg (f i j)))) else r i (j - 2816) * f i (j - 2816) * sg (f i (j - 2816))

theorem point4 (hx : Reads .bf16 (W c main_v1 : FVec Ideal S2048x5632 .bf16) f) (hz : Reads .bf16 (W c main_v3 : FVec Ideal S2048x2816 .bf16) r) (t : Fin cfg4.N) :
    Reads .bf16 ((dat4 W c).after 3 t : FVec Ideal S256x5632 .bf16) fun i j => val4 f r (t.val * 256 + i) j := by
  rw [after4_3]
  exact halves_reads (reads4_0 W c hx t) (reads4_1 W c hx t) (reads4_2 W c hz t)

theorem array4 (hx : Reads .bf16 (W c main_v1 : FVec Ideal S2048x5632 .bf16) f) (hz : Reads .bf16 (W c main_v3 : FVec Ideal S2048x2816 .bf16) r) :
    Reads .bf16 ((dat4 W c).arrAt 3 cfg4.N : FVec Ideal S2048x5632 .bf16) (val4 f r) := by
  have h : (dat4 W c).arrAt 3 cfg4.N = (fun p => ((val4 f r (p 0).val (p 1).val : ℝ) : EReal) : FVec Ideal S2048x5632 .bf16) := by
    refine (dat4 W c).arrAt_eq_of_covers 3 _ (by decide +kernel) fun t hf y => ?_
    have hi := (index4 t).2.2.2
    have hb := (point4 W c hx hz t).at y
    generalize (dat4 W c).after 3 t = X at hb
    blk_simp [hi]
    exact hb
  intro i j
  rw [h]; rfl

/-! ## Region 5 -/

theorem lt5 (t : Fin cfg5.N) : t.val < 8 := lt_of_lt_of_eq t.isLt N_5

/-- Where every window's block lies at a point. -/
theorem index5 : ∀ t : Fin grid5.N, win5_0.index t = ![t.val / 4, t.val % 4] ∧ win5_1.index t = ![t.val % 4, 0] ∧ win5_2.index t = ![t.val / 4, 0] := by
  decide +kernel

theorem block5_0 (t : Fin cfg5.N) (i : Fin 1024) (j : Fin 1408) :
    (blk5_0 W c t : FVec Ideal S1024x1408 .bf16) (ix2 i j) = W c main_v5 (ix2 ⟨t.val / 4 * 1024 + i.val, by have := lt5 t; omega⟩ ⟨t.val % 4 * 1408 + j.val, by have := lt5 t; omega⟩) := by
  have h := (index5 t).1
  blk_ext [blk5_0, h]
theorem reads5_0 (hx : Reads .bf16 (W c main_v5 : FVec Ideal S2048x5632 .bf16) f) (t : Fin cfg5.N) :
    Reads .bf16 (blk5_0 W c t : FVec Ideal S1024x1408 .bf16) fun i j => f (t.val / 4 * 1024 + i) (t.val % 4 * 1408 + j) := fun i j =>
  (block5_0 W c t i j).trans (hx _ _)

theorem block5_1 (t : Fin cfg5.N) (i : Fin 1408) (j : Fin 1024) :
    (blk5_1 W c t : FVec Ideal S1408x1024 .bf16) (ix2 i j) = W c main_v0 (ix2 ⟨t.val % 4 * 1408 + i.val, by have := lt5 t; omega⟩ j) := by
  have h := (index5 t).2.1
  blk_ext [blk5_1, h]
theorem reads5_1 (hx : Reads .bf16 (W c main_v0 : FVec Ideal S5632x1024 .bf16) f) (t : Fin cfg5.N) :
    Reads .bf16 (blk5_1 W c t : FVec Ideal S1408x1024 .bf16) fun i j => f (t.val % 4 * 1408 + i) (j) := fun i j =>
  (block5_1 W c t i j).trans (hx _ _)

/-- A chunk of the output's sum, and the output's entry. -/
def chunk (f g : ℕ → ℕ → ℝ) (i j q : ℕ) : ℝ := ∑ k : Fin 1408, f i (q * 1408 + k.val) * g (q * 1408 + k.val) j
def val5 (f g : ℕ → ℕ → ℝ) (i j : ℕ) : ℝ := ∑ k : Fin 5632, f i k.val * g k.val j

/-- Chunks of equal length add up to the whole sum. -/
theorem sum_chunks (F : ℕ → ℝ) (n m : ℕ) : ∑ q ∈ Finset.range m, ∑ k ∈ Finset.range n, F (q * n + k) = ∑ k ∈ Finset.range (m * n), F k := by
  induction m with
  | zero => simp
  | succ m ih => rw [Finset.sum_range_succ, ih, Nat.succ_mul, Finset.sum_range_add]

theorem val5_chunks (f g : ℕ → ℕ → ℝ) (i j : ℕ) : ∑ q ∈ Finset.range 4, chunk f g i j q = val5 f g i j := by
  have h := sum_chunks (fun k => f i k * g k j) 1408 4
  unfold val5 chunk
  rw [show (4 * 1408 : ℕ) = 5632 from rfl, Finset.sum_range (fun k => f i k * g k j) (n := 5632)] at h
  rw [← h]
  exact Finset.sum_congr rfl fun q _ => (Finset.sum_range (fun k => f i (q * 1408 + k) * g (q * 1408 + k) j) (n := 1408)).symm

section
variable (hx : Reads .bf16 (W c main_v5 : FVec Ideal S2048x5632 .bf16) f) (hy : Reads .bf16 (W c main_v0 : FVec Ideal S5632x1024 .bf16) g)
include hx hy

theorem acc_reads (n : ℕ) (h : n < cfg5.N) : Reads .f32 (acc W c (n + 1) : FVec Ideal S1024x1024 .f32) fun i j =>
    ∑ q ∈ Finset.range (n % 4 + 1), chunk f g (n / 4 * 1024 + i) j q := by
  induction n with
  | zero =>
    intro i j
    rw [acc_first W c ⟨0, h⟩ rfl, pay5_first (reads5_0 W c hx ⟨0, h⟩) (reads5_1 W c hy ⟨0, h⟩) i j]
    dsimp only
    rw [show 0 % 4 + 1 = 1 from rfl, Finset.sum_range_one]
    rfl
  | succ n ih =>
    intro i j
    by_cases h0 : (n + 1) % 4 = 0
    · rw [acc_first W c ⟨n + 1, h⟩ h0, pay5_first (reads5_0 W c hx ⟨n + 1, h⟩) (reads5_1 W c hy ⟨n + 1, h⟩) i j]
      dsimp only
      rw [h0, Finset.sum_range_one]
      rfl
    · rw [acc_next W c ⟨n + 1, h⟩ h0, pay5_next (reads5_0 W c hx ⟨n + 1, h⟩) (reads5_1 W c hy ⟨n + 1, h⟩) (ih (Nat.lt_of_succ_lt h)) i j]
      dsimp only
      rw [show n % 4 + 1 = (n + 1) % 4 by omega, show n / 4 = (n + 1) / 4 by omega, Finset.sum_range_succ]
      rfl

theorem point5 (t : Fin cfg5.N) (h : t.val % 4 = 3) :
    Reads .f32 ((dat5 W c).after 2 t : FVec Ideal S1024x1024 .f32) fun i j => val5 f g (t.val / 4 * 1024 + i) j := by
  intro i j
  rw [after5_2, acc_reads W c hx hy t.val t.isLt i j, h]
  exact congrArg _ (val5_chunks f g _ _)

theorem array5 : Reads .f32 ((dat5 W c).arrAt 2 cfg5.N : FVec Ideal S2048x1024 .f32) (val5 f g) := by
  have h : (dat5 W c).arrAt 2 cfg5.N = (fun p => ((val5 f g (p 0).val (p 1).val : ℝ) : EReal) : FVec Ideal S2048x1024 .f32) := by
    refine (dat5 W c).arrAt_eq_of_covers 2 _ (by decide +kernel) fun t hf y => ?_
    have h3 : t.val % 4 = 3 := by
      by_contra hn
      exact absurd hf (by rw [noflush5 t hn]; decide)
    have hi := (index5 t).2.2
    have hb := (point5 W c hx hy t h3).at y
    generalize (dat5 W c).after 2 t = X at hb
    blk_simp [hi]
    exact hb
  intro i j
  rw [h]; rfl
end

end Cert.Proof.Ffn
-- ==== Proof.FfnResults.lean ====
/-
  The feed-forward layer's three results after the run, over real inputs: every region's array in turn.
-/
module

public import proofs.«01_k».proof.Proof.FfnRun
public import proofs.«01_k».proof.Proof.FfnVals

@[expose] public section

set_option maxRecDepth 16384

noncomputable section

namespace Cert.Proof.Ffn

open Cert.Kernel2Ideal Cert.Kernel2Ideal.Gen
open Idealize.ShloMosaic
open Idealize.ShloMosaic.TcCoe
open Idealize.ShloMosaic (ix2)
open scoped BigOperators

section
variable (m : (ℓ : Loc nD τ sig) → Buf (Elt Ideal) ℓ) (c : Dev nD)

/-- The input, the two matrices and the cotangent a device is given. -/
def argH : FVec Ideal S2048x1024 .bf16 := m ((c.tc : Thread nD τ).loc main_arg0)
def argW : FVec Ideal S1024x5632 .bf16 := m ((c.tc : Thread nD τ).loc main_arg1)
def argD : FVec Ideal S2816x1024 .bf16 := m ((c.tc : Thread nD τ).loc main_arg2)
def argC : FVec Ideal S2048x1024 .f32 := m ((c.tc : Thread nD τ).loc main_arg3)

theorem turned : (U1 m c main_v0 : FVec Ideal S5632x1024 .bf16) = transpose S5632x1024 [1, 0] (argW m c) transposes_S1024x5632_S5632x1024_1_0 := by
  unfold U1 argW
  rfl

theorem turned_apply (x : FVec Ideal S1024x5632 .bf16) (i : Fin 5632) (j : Fin 1024) :
    transpose S5632x1024 [1, 0] x transposes_S1024x5632_S5632x1024_1_0 (ix2 i j) = x (ix2 j i) := by
  pointwise []
end

section
variable {m : (ℓ : Loc nD τ sig) → Buf (Elt Ideal) ℓ} {c : Dev nD} {n : Net} (hh : Reads .bf16 (argH m c) n.h) (hw : Reads .bf16 (argW m c) n.w)
  (hd : Reads .bf16 (argD m c) n.d) (hc : Reads .f32 (argC m c) n.c)

include hw in
theorem reads_v0 : Reads .bf16 (U1 m c main_v0 : FVec Ideal S5632x1024 .bf16) fun j k => n.w k j := fun j k => by
  rw [turned, turned_apply]
  exact hw k j

include hh in
theorem reads_arg0 : Reads .bf16 (U1 m c main_arg0 : FVec Ideal S2048x1024 .bf16) n.h := by
  rw [U1_of m c main_arg0 (by decide)]; exact hh
include hd in
theorem reads_arg2 : Reads .bf16 (U3 m c main_arg2 : FVec Ideal S2816x1024 .bf16) n.d := by
  rw [U3_of m c main_arg2 (by decide), U2_of m c main_arg2 (by decide), U1_of m c main_arg2 (by decide)]; exact hd
include hc in
theorem reads_arg3 : Reads .f32 (U3 m c main_arg3 : FVec Ideal S2048x1024 .f32) n.c := by
  rw [U3_of m c main_arg3 (by decide), U2_of m c main_arg3 (by decide), U1_of m c main_arg3 (by decide)]; exact hc

include hh hw in
theorem reads_gu : Reads .bf16 (U2 m c main_v1 : FVec Ideal S2048x5632 .bf16) n.gu := by
  rw [U2_out]
  exact array0 (U1 m) c (reads_arg0 hh) (reads_v0 hw)

include hh hw in
theorem reads_act : Reads .bf16 (U3 m c main_v2 : FVec Ideal S2048x2816 .bf16) n.act := by
  rw [U3_out]
  exact array1 (U2 m) c (reads_gu hh hw)

include hd hc in
theorem reads_da : Reads .bf16 (U4 m c main_v3 : FVec Ideal S2048x2816 .bf16) n.da := by
  rw [U4_out]
  exact array2 (U3 m) c (reads_arg3 hc) (reads_arg2 hd)

include hh hw hc in
theorem reads_gd : Reads .bf16 (U5 m c main_v4 : FVec Ideal S2816x1024 .bf16) n.gd := by
  rw [U5_out]
  refine array3 (U4 m) c ?_ ?_
  · rw [U4_of m c main_v2 (by decide)]; exact reads_act hh hw
  · rw [U4_of m c main_arg3 (by decide)]; exact reads_arg3 hc

include hh hw hd hc

theorem reads_dgu : Reads .bf16 (U6 m c main_v5 : FVec Ideal S2048x5632 .bf16) n.dgu := by
  rw [U6_out]
  refine array4 (U5 m) c ?_ ?_
  · rw [U5_of m c main_v1 (by decide), U4_of m c main_v1 (by decide), U3_of m c main_v1 (by decide)]; exact reads_gu hh hw
  · rw [U5_of m c main_v3 (by decide)]; exact reads_da hd hc

theorem reads_dh : Reads .f32 (U7 m c main_v6 : FVec Ideal S2048x1024 .f32) n.dh := by
  rw [U7_out]
  refine array5 (U6 m) c (reads_dgu hh hw hd hc) ?_ (g := fun j k => n.w k j)
  rw [U6_of m c main_v0 (by decide), U5_of m c main_v0 (by decide), U4_of m c main_v0 (by decide), U3_of m c main_v0 (by decide),
    U2_of m c main_v0 (by decide)]
  exact reads_v0 hw

/-- The three results. -/
theorem result_dh : Reads .f32 (U8 m c main_v6 : FVec Ideal S2048x1024 .f32) n.dh := by
  rw [U8_of m c main_v6 (by decide)]; exact reads_dh hh hw hd hc

theorem result_gw : Reads .bf16 (U8 m c main_v7 : FVec Ideal S5632x1024 .bf16) n.gw := by
  rw [U8_out]
  refine array6 (U7 m) c ?_ ?_
  · rw [U7_of m c main_v5 (by decide)]; exact reads_dgu hh hw hd hc
  · rw [U7_of m c main_arg0 (by decide), U6_of m c main_arg0 (by decide), U5_of m c main_arg0 (by decide), U4_of m c main_arg0 (by decide),
      U3_of m c main_arg0 (by decide), U2_of m c main_arg0 (by decide)]
    exact reads_arg0 hh

theorem result_gd : Reads .bf16 (U8 m c main_v4 : FVec Ideal S2816x1024 .bf16) n.gd := by
  rw [U8_of m c main_v4 (by decide), U7_of m c main_v4 (by decide), U6_of m c main_v4 (by decide)]; exact reads_gd hh hw hc
end

end Cert.Proof.Ffn
-- ==== Proof.FfnRef.lean ====
/-
  The reference's three results for the feed-forward layer, over real inputs.
-/
module

public import proofs.«01_k».proof.Proof.FfnSpec
public import proofs.«01_k».proof.Proof.Gen.Reference2Ideal.Run

@[expose] public section

set_option maxRecDepth 16384

noncomputable section

namespace Cert.Proof.Ffn.Lines

open Cert.Reference2Ideal Cert.Reference2Ideal.Gen
open Idealize.ShloMosaic
open Idealize.ShloMosaic.TcCoe
open Idealize.ShloMosaic (ix2)
open scoped BigOperators

section
variable (h : FVec Ideal S2048x1024 .bf16) (w : FVec Ideal S1024x5632 .bf16) (d : FVec Ideal S2816x1024 .bf16) (ct : FVec Ideal S2048x1024 .f32)

/-! ## The reference's lines -/

def one : FVec Ideal S2048x2816 .f32 := broadcastInDim S2048x2816 ![] bcast_S_S2048x2816 (constant S_ .f32 0x3F800000#32)
def wide : FVec Ideal S2048x5632 .f32 :=
  Host.dotGeneral (F := Ideal) (φ₁ := .f32) (φ₂ := .f32) dot_S2048x1024_S1024x5632_S2048x5632_1_0_0_1_n_n none (extf .f32 h bitsLt_bf16_f32) (extf .f32 w bitsLt_bf16_f32)
def gate : FVec Ideal S2048x2816 .f32 := extractStridedSlice S2048x2816 ![0, 0] (wide h w) slices_S2048x5632_S2048x2816_0_0
def value : FVec Ideal S2048x2816 .f32 := extractStridedSlice S2048x2816 ![0, 2816] (wide h w) slices_S2048x5632_S2048x2816_0_2816
def logistic (x : FVec Ideal S2048x2816 .f32) : FVec Ideal S2048x2816 .f32 := Host.divf one (addf one (Host.exp (Host.negf x)))
def acts : FVec Ideal S2048x2816 .f32 := mulf (mulf (gate h w) (logistic (gate h w))) (value h w)
def dActs : FVec Ideal S2048x2816 .f32 :=
  Host.dotGeneral (F := Ideal) (φ₁ := .f32) (φ₂ := .f32) dot_S2048x1024_S2816x1024_S2048x2816_1_1_0_0_n_n none ct (extf .f32 d bitsLt_bf16_f32)
def dGate : FVec Ideal S2048x2816 .f32 :=
  addf (mulf (mulf (dActs d ct) (value h w)) (logistic (gate h w)))
    (mulf (mulf (gate h w) (mulf (dActs d ct) (value h w))) (mulf (logistic (gate h w)) (subf one (logistic (gate h w)))))
def dValue : FVec Ideal S2048x2816 .f32 := mulf (mulf (gate h w) (logistic (gate h w))) (dActs d ct)
def dWide : FVec Ideal S2048x5632 .f32 :=
  concatenate S2048x5632 1 [⟨S2048x2816, dGate h w d ct⟩, ⟨S2048x2816, dValue h w d ct⟩] concatenates_S2048x2816_S2048x2816_S2048x5632_d1
def dInput : FVec Ideal S2048x1024 .f32 :=
  Host.dotGeneral (F := Ideal) (φ₁ := .f32) (φ₂ := .f32) dot_S2048x5632_S1024x5632_S2048x1024_1_1_0_0_n_n none (dWide h w d ct) (extf .f32 w bitsLt_bf16_f32)
def dFirst : FVec Ideal S5632x1024 .bf16 :=
  truncf .bf16 (transpose S5632x1024 [1, 0] (transpose S1024x5632 [1, 0]
    (Host.dotGeneral (F := Ideal) (φ₁ := .f32) (φ₂ := .f32) dot_S2048x5632_S2048x1024_S5632x1024_0_0_1_1_n_n none (dWide h w d ct) (extf .f32 h bitsLt_bf16_f32))
    transposes_S5632x1024_S1024x5632_1_0) transposes_S1024x5632_S5632x1024_1_0) bitsLt_bf16_f32
def dSecond : FVec Ideal S2816x1024 .bf16 :=
  truncf .bf16 (transpose S2816x1024 [1, 0]
    (Host.dotGeneral (F := Ideal) (φ₁ := .f32) (φ₂ := .f32) dot_S2048x1024_S2048x2816_S1024x2816_0_0_1_1_n_n none ct (acts h w))
    transposes_S1024x2816_S2816x1024_1_0) bitsLt_bf16_f32

/-! ## At an index -/

theorem wide_apply (i : Fin 2048) (j : Fin 5632) : wide h w (ix2 i j) = ∑ k, h (ix2 i k) * w (ix2 k j) := by
  pointwise [wide]
theorem gate_apply (i : Fin 2048) (j : Fin 2816) : gate h w (ix2 i j) = wide h w (ix2 i ⟨j.val, by omega⟩) := by
  pointwise [gate]
theorem value_apply (i : Fin 2048) (j : Fin 2816) : value h w (ix2 i j) = wide h w (ix2 i ⟨2816 + j.val, by omega⟩) := by
  pointwise [value]
theorem logistic_apply (x : FVec Ideal S2048x2816 .f32) (i : Fin 2048) (j : Fin 2816) :
    logistic x (ix2 i j) = Ideal.div 1 (1 + Ideal.exp (-(x (ix2 i j)))) := by
  pointwise [logistic, one]
theorem acts_apply (i : Fin 2048) (j : Fin 2816) :
    acts h w (ix2 i j) = (gate h w (ix2 i j) * logistic (gate h w) (ix2 i j) * value h w (ix2 i j) : EReal) := by
  pointwise [acts]
theorem dActs_apply (i : Fin 2048) (j : Fin 2816) : dActs d ct (ix2 i j) = ∑ k, ct (ix2 i k) * d (ix2 j k) := by
  pointwise [dActs]
theorem dGate_apply (i : Fin 2048) (j : Fin 2816) : dGate h w d ct (ix2 i j)
    = (dActs d ct (ix2 i j) * value h w (ix2 i j) * logistic (gate h w) (ix2 i j)
      + gate h w (ix2 i j) * (dActs d ct (ix2 i j) * value h w (ix2 i j)) * (logistic (gate h w) (ix2 i j) * (1 - logistic (gate h w) (ix2 i j))) : EReal) := by
  pointwise [dGate, one]
theorem dValue_apply (i : Fin 2048) (j : Fin 2816) :
    dValue h w d ct (ix2 i j) = (gate h w (ix2 i j) * logistic (gate h w) (ix2 i j) * dActs d ct (ix2 i j) : EReal) := by
  pointwise [dValue]
theorem dWide_left (i : Fin 2048) (j : Fin 5632) (hj : j.val < 2816) : dWide h w d ct (ix2 i j) = dGate h w d ct (ix2 i ⟨j.val, hj⟩) :=
  beside_left (dGate h w d ct) (dValue h w d ct) _ i j hj
theorem dWide_right (i : Fin 2048) (j : Fin 5632) (hj : ¬ j.val < 2816) :
    dWide h w d ct (ix2 i j) = dValue h w d ct (ix2 i ⟨j.val - 2816, by omega⟩) :=
  beside_right (dGate h w d ct) (dValue h w d ct) _ i j hj (by omega)
theorem dInput_apply (i : Fin 2048) (k : Fin 1024) : dInput h w d ct (ix2 i k) = ∑ j, dWide h w d ct (ix2 i j) * w (ix2 k j) := by
  pointwise [dInput]
theorem dFirst_apply (j : Fin 5632) (k : Fin 1024) : dFirst h w d ct (ix2 j k) = ∑ i, dWide h w d ct (ix2 i j) * h (ix2 i k) := by
  pointwise [dFirst]
theorem dSecond_apply (j : Fin 2816) (k : Fin 1024) : dSecond h w ct (ix2 j k) = ∑ i, ct (ix2 i k) * acts h w (ix2 i j) := by
  pointwise [dSecond]
end

/-! ## Over real inputs -/

section
variable {h : FVec Ideal S2048x1024 .bf16} {w : FVec Ideal S1024x5632 .bf16} {d : FVec Ideal S2816x1024 .bf16} {ct : FVec Ideal S2048x1024 .f32} {n : Net}
  (hh : Reads .bf16 h n.h) (hw : Reads .bf16 w n.w) (hd : Reads .bf16 d n.d) (hc : Reads .f32 ct n.c)

section
include hh hw
theorem wide_val : Reads .f32 (wide h w) n.gu := fun i j => by
  rw [wide_apply]
  simp only [hh i, hw _ j]
  exact sum_coe_mul _ _
theorem gate_val (i : Fin 2048) (j : Fin 2816) : gate h w (ix2 i j) = ((n.gu i.val j.val : ℝ) : EReal) :=
  (gate_apply h w i j).trans (wide_val hh hw _ _)
theorem value_val (i : Fin 2048) (j : Fin 2816) : value h w (ix2 i j) = ((n.gu i.val (2816 + j.val) : ℝ) : EReal) :=
  (value_apply h w i j).trans (wide_val hh hw _ _)
theorem logistic_val (i : Fin 2048) (j : Fin 2816) : logistic (gate h w) (ix2 i j) = ((sg (n.gu i.val j.val) : ℝ) : EReal) := by
  rw [logistic_apply, gate_val hh hw]
  exact sg_real _
theorem acts_val : Reads .f32 (acts h w) n.act := fun i j => by
  rw [acts_apply, gate_val hh hw, logistic_val hh hw, value_val hh hw, ← EReal.coe_mul, ← EReal.coe_mul]
  rfl
end

section
include hd hc
theorem dActs_val : Reads .f32 (dActs d ct) n.da := fun i j => by
  rw [dActs_apply]
  simp only [hc i, hd j]
  exact sum_coe_mul _ _
end

include hh hw hc in
theorem dSecond_val : Reads .bf16 (dSecond h w ct) n.gd := fun j k => by
  rw [dSecond_apply]
  simp only [hc _ k, acts_val hh hw _ j, mul_comm ((n.c _ _ : ℝ) : EReal)]
  exact sum_coe_mul _ _

include hh hw hd hc

theorem dWide_val : Reads .f32 (dWide h w d ct) n.dgu := fun i j => by
  by_cases hj : j.val < 2816
  · rw [dWide_left h w d ct i j hj, dGate_apply, gate_val hh hw, logistic_val hh hw, value_val hh hw, dActs_val hd hc, Net.dgu, if_pos hj, Net.dgate,
      ← EReal.coe_one]
    simp only [← EReal.coe_mul, ← EReal.coe_sub, ← EReal.coe_add]
    exact congrArg _ (by ring)
  · rw [dWide_right h w d ct i j hj, dValue_apply, gate_val hh hw, logistic_val hh hw, dActs_val hd hc, Net.dgu, if_neg hj, Net.dval]
    simp only [← EReal.coe_mul]
    exact congrArg _ (by ring)
theorem dInput_val : Reads .f32 (dInput h w d ct) n.dh := fun i k => by
  rw [dInput_apply]
  simp only [dWide_val hh hw hd hc i, hw k]
  exact sum_coe_mul _ _
theorem dFirst_val : Reads .bf16 (dFirst h w d ct) n.gw := fun j k => by
  rw [dFirst_apply]
  simp only [dWide_val hh hw hd hc _ j, hh _ k]
  exact sum_coe_mul _ _
end

/-! ## The run's results are these arrays -/

section
variable (m : (ℓ : Loc nD τ sig) → Buf (Elt Ideal) ℓ) (c : Dev nD)

theorem res_input : Cert.Reference2Ideal.Value.res_main_v18 m c
    = dInput (m ((c.tc : Thread nD τ).loc main_arg0)) (m ((c.tc : Thread nD τ).loc main_arg1)) (m ((c.tc : Thread nD τ).loc main_arg2))
        (m ((c.tc : Thread nD τ).loc main_arg3)) := by
  unfold Cert.Reference2Ideal.Value.res_main_v18
  rfl
theorem res_first : Cert.Reference2Ideal.Value.res_main_v20 m c
    = dFirst (m ((c.tc : Thread nD τ).loc main_arg0)) (m ((c.tc : Thread nD τ).loc main_arg1)) (m ((c.tc : Thread nD τ).loc main_arg2))
        (m ((c.tc : Thread nD τ).loc main_arg3)) := by
  unfold Cert.Reference2Ideal.Value.res_main_v20
  rfl
end

end Cert.Proof.Ffn.Lines
-- ==== Proof.FfnEquation.lean ====
/-
  From inputs of finite magnitude the feed-forward program's three results are the reference's.
-/
module

public import proofs.«01_k».proof.Proof.Inputs
public import proofs.«01_k».proof.Proof.Equation
public import proofs.«01_k».proof.Proof.FfnResults
public import proofs.«01_k».proof.Proof.FfnRef
public import proofs.«01_k».proof.Proof.Gen.Pre_finite2

@[expose] public section

set_option maxRecDepth 16384

noncomputable section

namespace Cert.Proof.Ffn

open Idealize.ShloMosaic
open Idealize.ShloMosaic.TcCoe
open Idealize.ShloMosaic (ix2)

section
open Cert.Pre_finite2

theorem magnitude_narrow {a b : ℕ} (x : FVec Ideal ⟨2, ![a, b]⟩ .bf16) (hb : (S_ : Shape).BroadcastsInDim ⟨2, ![a, b]⟩ (![] : Fin 0 → Fin 2)) (i : Fin a) (j : Fin b)
    (h : cmpf .olt (Host.absf (extf .f32 x Cert.Pre_finite2.Gen.bitsLt_bf16_f32)) (broadcastInDim ⟨2, ![a, b]⟩ ![] hb (constant S_ .f32 0x7F800000#32)) (ix2 i j) = 1#1) :
    ∃ r : ℝ, x (ix2 i j) = (r : EReal) := by
  refine real_of_magnitude _ ?_
  rw [← h]
  rfl

theorem magnitude_wide {a b : ℕ} (x : FVec Ideal ⟨2, ![a, b]⟩ .f32) (hb : (S_ : Shape).BroadcastsInDim ⟨2, ![a, b]⟩ (![] : Fin 0 → Fin 2)) (i : Fin a) (j : Fin b)
    (h : cmpf .olt (Host.absf x) (broadcastInDim ⟨2, ![a, b]⟩ ![] hb (constant S_ .f32 0x7F800000#32)) (ix2 i j) = 1#1) :
    ∃ r : ℝ, x (ix2 i j) = (r : EReal) := by
  refine real_of_magnitude _ ?_
  rw [← h]
  rfl

/-- The four tests of the precondition, element by element. -/
theorem magnitudes (x : FVec Ideal S2048x1024 .bf16) (w : FVec Ideal S1024x5632 .bf16) (d : FVec Ideal S2816x1024 .bf16) (ct : FVec Ideal S2048x1024 .f32)
    (h : Cert.Pre_finite2.fn (F := Ideal) x w d ct = fun _ => 1#1) :
    (∀ (i : Fin 2048) (j : Fin 1024), ∃ r : ℝ, x (ix2 i j) = (r : EReal)) ∧ (∀ (i : Fin 1024) (j : Fin 5632), ∃ r : ℝ, w (ix2 i j) = (r : EReal))
    ∧ (∀ (i : Fin 2816) (j : Fin 1024), ∃ r : ℝ, d (ix2 i j) = (r : EReal)) ∧ ∀ (i : Fin 2048) (j : Fin 1024), ∃ r : ℝ, ct (ix2 i j) = (r : EReal) := by
  have e := congrFun h (fun k : Fin 0 => k.elim0)
  obtain ⟨e123, e4⟩ := IntOp.andi_eq_one.mp e
  obtain ⟨e12, e3⟩ := IntOp.andi_eq_one.mp e123
  obtain ⟨e1, e2⟩ := IntOp.andi_eq_one.mp e12
  haveI : Subsingleton S_.Idx := ⟨fun p q => funext fun k => k.elim0⟩
  exact ⟨fun i j => magnitude_narrow x _ i j (Host.reduce_andi_all _ _ _ _ _ e1 _), fun i j => magnitude_narrow w _ i j (Host.reduce_andi_all _ _ _ _ _ e2 _),
    fun i j => magnitude_narrow d _ i j (Host.reduce_andi_all _ _ _ _ _ e3 _), fun i j => magnitude_wide ct _ i j (Host.reduce_andi_all _ _ _ _ _ e4 _)⟩
end

/-- An array of real numbers holds some real numbers. -/
theorem reads_of_real {a b : ℕ} {φ : FTy} (x : FVec Ideal ⟨2, ![a, b]⟩ φ) (h : ∀ i j, ∃ r : ℝ, x (ix2 i j) = (r : EReal)) : ∃ f : ℕ → ℕ → ℝ, Reads φ x f := by
  choose g hg using h
  refine ⟨fun i j => if k : i < a ∧ j < b then g ⟨i, k.1⟩ ⟨j, k.2⟩ else 0, fun i j => ?_⟩
  dsimp only
  rw [dif_pos ⟨i.isLt, j.isLt⟩]
  exact hg i j

/-- Arrays that hold the same real numbers are equal. -/
theorem Reads.eq {a b : ℕ} {φ : FTy} {x y : FVec Ideal ⟨2, ![a, b]⟩ φ} {f : ℕ → ℕ → ℝ} (hx : Reads φ x f) (hy : Reads φ y f) : x = y :=
  ext_pair fun i j => (hx i j).trans (hy i j).symm

section
open Cert.Kernel2Ideal Cert.Kernel2Ideal.Gen

variable (m : (ℓ : Loc nD τ sig) → Buf (Elt Ideal) ℓ) (h : Cert.Pre_Kernel2Ideal_finite2 m) (c : Dev nD)
include h

/-- The inputs of an allowed launch are real arrays. -/
theorem real_inputs : ∃ n : Net, Reads .bf16 (argH m c) n.h ∧ Reads .bf16 (argW m c) n.w ∧ Reads .bf16 (argD m c) n.d ∧ Reads .f32 (argC m c) n.c := by
  obtain ⟨h1, h2, h3, h4⟩ := magnitudes _ _ _ _ (h c)
  obtain ⟨f1, h1⟩ := reads_of_real (argH m c) h1
  obtain ⟨f2, h2⟩ := reads_of_real (argW m c) h2
  obtain ⟨f3, h3⟩ := reads_of_real (argD m c) h3
  obtain ⟨f4, h4⟩ := reads_of_real (argC m c) h4
  exact ⟨⟨f1, f2, f3, f4⟩, h1, h2, h3, h4⟩

theorem inputs_agree : (U8 m c main_v6 : FVec Ideal S2048x1024 .f32) = Lines.dInput (argH m c) (argW m c) (argD m c) (argC m c) := by
  obtain ⟨n, hh, hw, hd, hc⟩ := real_inputs m h c
  exact Reads.eq (result_dh hh hw hd hc) (Lines.dInput_val hh hw hd hc)

theorem firsts_agree : (U8 m c main_v7 : FVec Ideal S5632x1024 .bf16) = Lines.dFirst (argH m c) (argW m c) (argD m c) (argC m c) := by
  obtain ⟨n, hh, hw, hd, hc⟩ := real_inputs m h c
  exact Reads.eq (result_gw hh hw hd hc) (Lines.dFirst_val hh hw hd hc)

theorem seconds_agree : (U8 m c main_v4 : FVec Ideal S2816x1024 .bf16) = Lines.dSecond (argH m c) (argW m c) (argC m c) := by
  obtain ⟨n, hh, hw, hd, hc⟩ := real_inputs m h c
  exact Reads.eq (result_gd hh hw hd hc) (Lines.dSecond_val hh hw hc)
end

end Cert.Proof.Ffn
-- ==== Proof.FfnWords.lean ====
/-
  The feed-forward program and its idealization are one text, so the run of the second at machine words is the first's.
-/
module

public import proofs.«01_k».proof.Proof.Gen.Kernel2
public import proofs.«01_k».proof.Proof.Gen.Kernel2Ideal

@[expose] public section

set_option maxRecDepth 65536

noncomputable section

namespace Cert.Proof.Ffn

open Idealize.ShloMosaic Idealize.SL.Sem

set_option maxHeartbeats 1000000

variable {F : FTy → Type} [FloatOps F]

theorem same_body0 : @Cert.Kernel2.cc0_mm_gate_up F _ _ = @Cert.Kernel2Ideal.cc0_mm_gate_up F _ _ := rfl
theorem same_body1 : @Cert.Kernel2.cc1_swiglu_fwd F _ _ = @Cert.Kernel2Ideal.cc1_swiglu_fwd F _ _ := rfl
theorem same_body2 : @Cert.Kernel2.cc2_mmb_down F _ _ = @Cert.Kernel2Ideal.cc2_mmb_down F _ _ := rfl
theorem same_body3 : @Cert.Kernel2.cc3_mmg_w_down F _ _ = @Cert.Kernel2Ideal.cc3_mmg_w_down F _ _ := rfl
theorem same_body4 : @Cert.Kernel2.cc4_swiglu_bwd F _ _ = @Cert.Kernel2Ideal.cc4_swiglu_bwd F _ _ := rfl
theorem same_body5 : @Cert.Kernel2.cc5_mmb_gate_up F _ _ = @Cert.Kernel2Ideal.cc5_mmb_gate_up F _ _ := rfl
theorem same_body6 : @Cert.Kernel2.cc6_mmg_w_gate_up F _ _ = @Cert.Kernel2Ideal.cc6_mmg_w_gate_up F _ _ := rfl

theorem same_bodies : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | 0, (t, s) =>
    show Cert.Kernel2.cc0_mm_gate_up _ _ _ _ _ _ _ = _
    rw [same_body0]
    rfl
  | 1, (t, s) =>
    show Cert.Kernel2.cc1_swiglu_fwd _ _ _ _ _ _ _ = _
    rw [same_body1]
    rfl
  | 2, (t, s) =>
    show Cert.Kernel2.cc2_mmb_down _ _ _ _ _ _ _ = _
    rw [same_body2]
    rfl
  | 3, (t, s) =>
    show Cert.Kernel2.cc3_mmg_w_down _ _ _ _ _ _ _ = _
    rw [same_body3]
    rfl
  | 4, (t, s) =>
    show Cert.Kernel2.cc4_swiglu_bwd _ _ _ _ _ _ _ _ _ = _
    rw [same_body4]
    rfl
  | 5, (t, s) =>
    show Cert.Kernel2.cc5_mmb_gate_up _ _ _ _ _ _ _ _ _ = _
    rw [same_body5]
    rfl
  | 6, (t, s) =>
    show Cert.Kernel2.cc6_mmg_w_gate_up _ _ _ _ _ _ _ = _
    rw [same_body6]
    rfl
  | ⟨_ + 7, h⟩, _ => exact absurd h (Nat.not_lt.2 (Nat.le_add_left _ _))

theorem same_defs : @Cert.Kernel2.defs F _ _ = @Cert.Kernel2Ideal.defs F _ _ := by
  show Pipeline.defs Cert.Kernel2.pcfgs Cert.Kernel2.defs₀ = _
  rw [same_bodies]
  rfl

theorem same_main : Cert.Kernel2.main (F := F) = Cert.Kernel2Ideal.main (F := F) := rfl

end Cert.Proof.Ffn
-- ==== Proof.ProjPoints.lean ====
/-
  The calls of the input projection's backward pass (three products for the matrix's gradient, three for the input's):
  what one grid point of each leaves, at any elements.
-/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import Idealize.ShloMosaic.Lib.Pipeline.FrameValue
public import Idealize.ShloMosaic.Lib.Pipeline.TableIdle
public import Idealize.ShloMosaic.Lib.Pipeline.RegionsLoop
public import Idealize.ShloMosaic.Lib.VecWindow
public import Idealize.ShloMosaic.Lib.Tactic

@[expose] public section

set_option maxRecDepth 16384

noncomputable section

namespace Cert.Proof.Proj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M` owned whole on core `c` at contents `X`. -/
abbrev own (c : Dev nD) {sp : Space} {S : Shape} {e : EltTy} (M : Memref sig .tc sp S e) (X : S.Idx → Elt F e) : sProp 𝕄 :=
  owns (c : Thread nD τ) M fullShare X

/-- A buffer written whole is owned at what was written. -/
theorem own_written (c : Dev nD) {sp : Space} {S : Shape} {e : EltTy} (M : Memref sig .tc sp S e) (f : M.view.ty.Contents (Elt F))
    {off : Fin S.rank → ℕ} (inb : ∀ a, off a + S.size a ≤ S.size a) (X : S.Idx → Elt F e) :
    (M.view.loc (c : Thread nD τ) ↦[M.view.set]{fullShare} M.view.writes (Elt F) f [⟨Rect.unit off S.size inb, X⟩]) ⊢ (own c M X : sProp 𝕄) := by
  iintro H
  unfold own owns; iexists _; isplitr
  swap; · iexact H
  ipureintro
  exact View.read_writes_full _ _ inb X []

theorem run0 (c : Dev nD) (i : grid0.Coords) (a : Memref sig .tc .vmem S2048x16 .f32) (ha : a.IsWhole) (b : Memref sig .tc .vmem S2048x1024 .bf16) (hb : b.IsWhole) (o : Memref sig .tc .vmem S16x1024 .bf16) (ho : o.IsWhole)
    (x : Vec F S2048x16 .f32) (y : Vec F S2048x1024 .bf16) (z : Vec F S16x1024 .bf16) (W : Waits sig Unit) (K : PUnit → sProp 𝕄) :
    iprop(own c a x ∗ own c b y ∗ own c o z ∗ owes (c : Thread nD τ) 0 W
      ∗ (iprop(own c a x ∗ own c b y ∗ own c o (k0_pay1 x y) ∗ (∃ W', owes (c : Thread nD τ) 0 W')) -∗ K ⟨⟩))
      ⊢ wp frame (wpE (defs₀ (F := F)) Variants.none c none) Set.univ (cc0_mmg_w_in i a ha b hb o ho) K := by
  simp only [cc0_mmg_w_in_eq_skeleton]; unfold cc0_mmg_w_in_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k0_pay1 x y)); iexact Ho
  iexists _; iexact HW

theorem run1 (c : Dev nD) (i : grid1.Coords) (a : Memref sig .tc .vmem S2048x1024 .bf16) (ha : a.IsWhole) (b : Memref sig .tc .vmem S2048x1024 .bf16) (hb : b.IsWhole) (o : Memref sig .tc .vmem S1024x1024 .bf16) (ho : o.IsWhole)
    (x : Vec F S2048x1024 .bf16) (y : Vec F S2048x1024 .bf16) (z : Vec F S1024x1024 .bf16) (W : Waits sig Unit) (K : PUnit → sProp 𝕄) :
    iprop(own c a x ∗ own c b y ∗ own c o z ∗ owes (c : Thread nD τ) 0 W
      ∗ (iprop(own c a x ∗ own c b y ∗ own c o (k1_pay1 x y) ∗ (∃ W', owes (c : Thread nD τ) 0 W')) -∗ K ⟨⟩))
      ⊢ wp frame (wpE (defs₀ (F := F)) Variants.none c none) Set.univ (cc1_mmg_w_in i a ha b hb o ho) K := by
  simp only [cc1_mmg_w_in_eq_skeleton]; unfold cc1_mmg_w_in_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k1_pay1 x y)); iexact Ho
  iexists _; iexact HW

theorem run2 (c : Dev nD) (i : grid2.Coords) (a : Memref sig .tc .vmem S2048x1024 .bf16) (ha : a.IsWhole) (b : Memref sig .tc .vmem S2048x1024 .bf16) (hb : b.IsWhole) (o : Memref sig .tc .vmem S1024x1024 .bf16) (ho : o.IsWhole)
    (x : Vec F S2048x1024 .bf16) (y : Vec F S2048x1024 .bf16) (z : Vec F S1024x1024 .bf16) (W : Waits sig Unit) (K : PUnit → sProp 𝕄) :
    iprop(own c a x ∗ own c b y ∗ own c o z ∗ owes (c : Thread nD τ) 0 W
      ∗ (iprop(own c a x ∗ own c b y ∗ own c o (k2_pay1 x y) ∗ (∃ W', owes (c : Thread nD τ) 0 W')) -∗ K ⟨⟩))
      ⊢ wp frame (wpE (defs₀ (F := F)) Variants.none c none) Set.univ (cc2_mmg_w_in i a ha b hb o ho) K := by
  simp only [cc2_mmg_w_in_eq_skeleton]; unfold cc2_mmg_w_in_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k2_pay1 x y)); iexact Ho
  iexists _; iexact HW

theorem run3 (c : Dev nD) (i : grid3.Coords) (a : Memref sig .tc .vmem S1024x16 .f32) (ha : a.IsWhole) (b : Memref sig .tc .vmem S16x1024 .bf16) (hb : b.IsWhole) (o : Memref sig .tc .vmem S1024x1024 .f32) (ho : o.IsWhole)
    (x : Vec F S1024x16 .f32) (y : Vec F S16x1024 .bf16) (z : Vec F S1024x1024 .f32) (W : Waits sig Unit) (K : PUnit → sProp 𝕄) :
    iprop(own c a x ∗ own c b y ∗ own c o z ∗ owes (c : Thread nD τ) 0 W
      ∗ (iprop(own c a x ∗ own c b y ∗ own c o (k3_pay1 x y) ∗ (∃ W', owes (c : Thread nD τ) 0 W')) -∗ K ⟨⟩))
      ⊢ wp frame (wpE (defs₀ (F := F)) Variants.none c none) Set.univ (cc3_mmb_in i a ha b hb o ho) K := by
  simp only [cc3_mmb_in_eq_skeleton]; unfold cc3_mmb_in_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k3_pay1 x y)); iexact Ho
  iexists _; iexact HW

/-- What a step's number says of the tests on it. -/
theorem starts : ∀ k < 6, Scalar.cmpi .ne (Scalar.extui (Scalar.cmpi .eq (BitVec.ofNat 32 k) 0#32) : BitVec 32) 0#32 = 1#1 ↔ k = 0 := by decide
theorem adds : ∀ k < 6, Scalar.cmpi .ne (Scalar.extui (Scalar.cmpi .sgt (BitVec.ofNat 32 k) 0#32) : BitVec 32) 0#32 = 1#1 ↔ 0 < k := by decide
theorem ends4 (i : grid4.Coords) : k4_cond3 i = 1#1 ↔ (i 2).val = 5 :=
  (by decide : ∀ k < 6, Scalar.cmpi .ne (Scalar.extui (Scalar.cmpi .eq (BitVec.ofNat 32 k) 5#32) : BitVec 32) 0#32 = 1#1 ↔ k = 5) _ (i 2).isLt
theorem ends5 (i : grid5.Coords) : k5_cond3 i = 1#1 ↔ (i 2).val = 4 :=
  (by decide : ∀ k < 5, Scalar.cmpi .ne (Scalar.extui (Scalar.cmpi .eq (BitVec.ofNat 32 k) 4#32) : BitVec 32) 0#32 = 1#1 ↔ k = 4) _ (i 2).isLt

/-- The first of a row block's steps starts the sum. -/
theorem run4_first (c : Dev nD) (i : grid4.Coords) (hk : (i 2).val = 0) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o z ∗ own c s (k4_pay2 x y) ∗ (∃ W', owes (c : Thread nD τ) 0 W')) -∗ K ⟨⟩))
      ⊢ wp frame (wpE (defs₀ (F := F)) Variants.none c none) Set.univ (cc4_mmb_in i a ha b hb d hd o ho s hs) K := by
  simp only [cc4_mmb_in_eq_skeleton]; unfold cc4_mmb_in_skel
  have hl : (i 2).val < 6 := lt_of_lt_of_le (i 2).isLt (by decide)
  have e1 := (starts _ hl).mpr hk
  have e2 := mt (adds _ hl).mp (by omega)
  have e3 := mt (ends4 i).mp (by omega)
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (owns_of_rep (c : Thread nD τ) o fullShare z); iexact Ho
  isplitl [Hs]; · iapply (own_written c s _ _ (k4_pay2 x y)); iexact Hs
  iexists _; iexact HW

/-- A middle step adds to it. -/
theorem run4_next (c : Dev nD) (i : grid4.Coords) (hk : 0 < (i 2).val ∧ (i 2).val < 5) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o z ∗ own c s (k4_pay3 x y t) ∗ (∃ W', owes (c : Thread nD τ) 0 W')) -∗ K ⟨⟩))
      ⊢ wp frame (wpE (defs₀ (F := F)) Variants.none c none) Set.univ (cc4_mmb_in i a ha b hb d hd o ho s hs) K := by
  simp only [cc4_mmb_in_eq_skeleton]; unfold cc4_mmb_in_skel
  have hl : (i 2).val < 6 := lt_of_lt_of_le (i 2).isLt (by decide)
  have e1 := mt (starts _ hl).mp (by omega)
  have e2 := (adds _ hl).mpr hk.1
  have e3 := mt (ends4 i).mp (by omega)
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y, View.readAt_rep_full (Val := Elt F) s.view t]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (owns_of_rep (c : Thread nD τ) o fullShare z); iexact Ho
  isplitl [Hs]; · iapply (own_written c s _ _ (k4_pay3 x y t)); iexact Hs
  iexists _; iexact HW

/-- The last step adds to it, and writes it out on top of what was there. -/
theorem run4_last (c : Dev nD) (i : grid4.Coords) (hk : (i 2).val = 5) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o (k4_pay4 (k4_pay3 x y t) r) ∗ own c s (k4_pay3 x y t) ∗ (∃ W', owes (c : Thread nD τ) 0 W')) -∗ K ⟨⟩))
      ⊢ wp frame (wpE (defs₀ (F := F)) Variants.none c none) Set.univ (cc4_mmb_in i a ha b hb d hd o ho s hs) K := by
  simp only [cc4_mmb_in_eq_skeleton]; unfold cc4_mmb_in_skel
  have hl : (i 2).val < 6 := lt_of_lt_of_le (i 2).isLt (by decide)
  have e1 := mt (starts _ hl).mp (by omega)
  have e2 := (adds _ hl).mpr (by omega)
  have e3 := (ends4 i).mpr hk
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  unfold run4_last.sl.v13 run4_last.sl.Hs_1
  rw [View.readAt_rep_full (Val := Elt F) a.view x, View.readAt_rep_full (Val := Elt F) b.view y, View.readAt_rep_full (Val := Elt F) s.view t, View.readAt_rep_full (Val := Elt F) d.view r]
  generalize k4_pay3 x y t = p
  rw [View.readCov_full (Val := Elt F) s.view]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (own_written c o _ _ (k4_pay4 p r)); iexact Ho
  isplitl [Hs]; · iapply (own_written c s _ _ p); iexact Hs
  iexists _; iexact HW

/-- The first of a row block's steps starts the sum. -/
theorem run5_first (c : Dev nD) (i : grid5.Coords) (hk : (i 2).val = 0) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o z ∗ own c s (k5_pay2 x y) ∗ (∃ W', owes (c : Thread nD τ) 0 W')) -∗ K ⟨⟩))
      ⊢ wp frame (wpE (defs₀ (F := F)) Variants.none c none) Set.univ (cc5_mmb_in i a ha b hb d hd o ho s hs) K := by
  simp only [cc5_mmb_in_eq_skeleton]; unfold cc5_mmb_in_skel
  have hl : (i 2).val < 6 := lt_of_lt_of_le (i 2).isLt (by decide)
  have e1 := (starts _ hl).mpr hk
  have e2 := mt (adds _ hl).mp (by omega)
  have e3 := mt (ends5 i).mp (by omega)
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (owns_of_rep (c : Thread nD τ) o fullShare z); iexact Ho
  isplitl [Hs]; · iapply (own_written c s _ _ (k5_pay2 x y)); iexact Hs
  iexists _; iexact HW

/-- A middle step adds to it. -/
theorem run5_next (c : Dev nD) (i : grid5.Coords) (hk : 0 < (i 2).val ∧ (i 2).val < 4) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o z ∗ own c s (k5_pay3 x y t) ∗ (∃ W', owes (c : Thread nD τ) 0 W')) -∗ K ⟨⟩))
      ⊢ wp frame (wpE (defs₀ (F := F)) Variants.none c none) Set.univ (cc5_mmb_in i a ha b hb d hd o ho s hs) K := by
  simp only [cc5_mmb_in_eq_skeleton]; unfold cc5_mmb_in_skel
  have hl : (i 2).val < 6 := lt_of_lt_of_le (i 2).isLt (by decide)
  have e1 := mt (starts _ hl).mp (by omega)
  have e2 := (adds _ hl).mpr hk.1
  have e3 := mt (ends5 i).mp (by omega)
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  rw [View.readAt_rep_full (Val := Elt F) a.view x, View.readAt_rep_full (Val := Elt F) b.view y, View.readAt_rep_full (Val := Elt F) s.view t]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (owns_of_rep (c : Thread nD τ) o fullShare z); iexact Ho
  isplitl [Hs]; · iapply (own_written c s _ _ (k5_pay3 x y t)); iexact Hs
  iexists _; iexact HW

/-- The last step adds to it, and writes it out on top of what was there. -/
theorem run5_last (c : Dev nD) (i : grid5.Coords) (hk : (i 2).val = 4) (a : Memref sig .tc .vmem S1024x1024 .bf16) (ha : a.IsWhole) (b : Memref sig .tc .vmem S1024x1024 .bf16) (hb : b.IsWhole)
    (d : Memref sig .tc .vmem S1024x1024 .f32) (hd : d.IsWhole) (o : Memref sig .tc .vmem S1024x1024 .f32) (ho : o.IsWhole) (s : Memref sig .tc .vmem S1024x1024 .f32) (hs : s.IsWhole)
    (x y : Vec F S1024x1024 .bf16) (r z t : Vec F S1024x1024 .f32) (W : Waits sig Unit) (K : PUnit → sProp 𝕄) :
    iprop(own c a x ∗ own c b y ∗ own c d r ∗ own c o z ∗ own c s t ∗ owes (c : Thread nD τ) 0 W
      ∗ (iprop(own c a x ∗ own c b y ∗ own c d r ∗ own c o (k5_pay4 (k5_pay3 x y t) r) ∗ own c s (k5_pay3 x y t) ∗ (∃ W', owes (c : Thread nD τ) 0 W')) -∗ K ⟨⟩))
      ⊢ wp frame (wpE (defs₀ (F := F)) Variants.none c none) Set.univ (cc5_mmb_in i a ha b hb d hd o ho s hs) K := by
  simp only [cc5_mmb_in_eq_skeleton]; unfold cc5_mmb_in_skel
  have hl : (i 2).val < 6 := lt_of_lt_of_le (i 2).isLt (by decide)
  have e1 := mt (starts _ hl).mp (by omega)
  have e2 := (adds _ hl).mpr (by omega)
  have e3 := (ends5 i).mpr hk
  iintro ⟨Ha, Hb, Hd, Ho, Hs, HW, Hk⟩
  ihave Ha := (rep_of_owns (c : Thread nD τ) a fullShare x) $$ Ha
  ihave Hb := (rep_of_owns (c : Thread nD τ) b fullShare y) $$ Hb
  ihave Hd := (rep_of_owns (c : Thread nD τ) d fullShare r) $$ Hd
  ihave Ho := (rep_of_owns (c : Thread nD τ) o fullShare z) $$ Ho
  ihave Hs := (rep_of_owns (c : Thread nD τ) s fullShare t) $$ Hs
  sl_exec
  sl_step
  unfold run5_last.sl.v13 run5_last.sl.Hs_1
  rw [View.readAt_rep_full (Val := Elt F) a.view x, View.readAt_rep_full (Val := Elt F) b.view y, View.readAt_rep_full (Val := Elt F) s.view t, View.readAt_rep_full (Val := Elt F) d.view r]
  generalize k5_pay3 x y t = p
  rw [View.readCov_full (Val := Elt F) s.view]
  iapply Hk
  isplitl [Ha]; · iapply (owns_of_rep (c : Thread nD τ) a fullShare x); iexact Ha
  isplitl [Hb]; · iapply (owns_of_rep (c : Thread nD τ) b fullShare y); iexact Hb
  isplitl [Hd]; · iapply (owns_of_rep (c : Thread nD τ) d fullShare r); iexact Hd
  isplitl [Ho]; · iapply (own_written c o _ _ (k5_pay4 p r)); iexact Ho
  isplitl [Hs]; · iapply (own_written c s _ _ p); iexact Hs
  iexists _; iexact HW

end Cert.Proof.Proj

end
-- ==== Proof.ProjData.lean ====
/-
  The projection's regions as the pipeline runs them: what each reads and leaves at every point, over any
  contents of the buffers it is entered with, and that its body does so.
-/
module

public import proofs.«01_k».proof.Proof.ProjPoints

@[expose] public section

set_option maxRecDepth 16384

noncomputable section

namespace Cert.Proof.Proj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (W : Dev nD → Valuation τ sig (Elt F))

/-! ## Region 0: `mmg_w_in` -/

/-- Operand 0's block at a point. -/
def blk0_0 (c : Dev nD) (t : Fin cfg0.N) : Vec F S2048x16 .f32 :=
  ((cfg0.win 0).blk t).view.read (Elt F) (W c (Pipeline.arrRef spec0 0))
/-- Operand 1's block at a point. -/
def blk0_1 (c : Dev nD) (t : Fin cfg0.N) : Vec F S2048x1024 .bf16 :=
  ((cfg0.win 1).blk t).view.read (Elt F) (W c (Pipeline.arrRef spec0 1))
/-- The invariant at every point: the scoped buffers and the generator's register. -/
def inv0 (c : Dev nD) : sProp 𝕄 :=
  iprop(Pipeline.scopedRest (Ix := Unit) (Name := ℕ) (U := Pipeline.UD sig nD τ) (Lvl := ℕ) (Val := Elt F) spec0 c ∗ ∃ r, prngReg c r)
/-- The proof data on core `c`, entered at `W`. -/
def dat0 (c : Dev nD) : Dat τ (Elt F) Unit ℕ (Pipeline.UD sig nD τ) ℕ cfg0 c where
  A w := W c (Pipeline.arrRef spec0 w)
  after w t := match w with
    | ⟨0, _⟩ => blk0_0 W c t
    | ⟨1, _⟩ => blk0_1 W c t
    | ⟨2, _⟩ => k0_pay1 (blk0_0 W c t) (blk0_1 W c t)
  Φ _ := inv0 c
  q w := Pipeline.shareOf spec0 w
  owed _ := 0
theorem dat0_A (c : Dev nD) (w : Fin cfg0.W) : (dat0 W c).A w = W c (Pipeline.arrRef spec0 w) := by dsimp only [dat0]
theorem before0_0 (c : Dev nD) (t : Fin cfg0.N) (d) : (dat0 W c).before 0 t d = blk0_0 W c t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0_1 W c t :=
  ((dat0 W c).before_in_eq_fetched 1 rfl (fun _ => rfl) (fun _ _ _ => rfl) (fun _ => rfl) t d).trans rfl
theorem after0_2 (c : Dev nD) (t : Fin cfg0.N) : (dat0 W c).after 2 t = k0_pay1 (blk0_0 W c t) (blk0_1 W c t) := by dsimp only [dat0]

def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

set_option maxHeartbeats 1000000 in
theorem sound0 (c : Dev nD) (t : Fin cfg0.N) :
    pre0 W c t ⊢ wp frame (wpE (defs₀ (F := F)) Variants.none c none) Set.univ (bodyAt0 t) (fun _ => post0 W c t) := by
  unfold pre0 post0 bodyAt0
  rw [show (dat0 W c).Φ t.succ = inv0 c from rfl, show (dat0 W c).Φ t.castSucc = inv0 c from rfl, after0_2]
  unfold Dat.owesAt Pipeline.owesWithin
  rw [show (dat0 W c).owed t.castSucc = 0 from rfl, show (dat0 W c).owed t.succ = 0 from rfl]
  simp only [before0_0, before0_1]
  rw [show (dat0 W c).after 0 t = blk0_0 W c t from rfl, show (dat0 W c).after 1 t = blk0_1 W c t from rfl]
  iintro ⟨HΦ, ⟨%Ws, -, HW⟩, ⟨%_, H0⟩, ⟨%_, H1⟩, ⟨%d, H2⟩⟩
  iapply (run0 c (grid0.coords t) (st0_0 t) _ (st0_1 t) _ (st0_2 t) _ (blk0_0 W c t) (blk0_1 W c t) ((dat0 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) W c) (defs₀ (F := F)) Variants.none () Set.univ := fun t => by
  rw [bigSep_W0, bigSep_W0, row0]
  exact triple_restated (sound0 W c t) rfl .rfl fun _ => .rfl

/-! ## Region 1: `mmg_w_in` -/

/-- Operand 0's block at a point. -/
def blk1_0 (c : Dev nD) (t : Fin cfg1.N) : Vec F S2048x1024 .bf16 :=
  ((cfg1.win 0).blk t).view.read (Elt F) (W c (Pipeline.arrRef spec1 0))
/-- Operand 1's block at a point. -/
def blk1_1 (c : Dev nD) (t : Fin cfg1.N) : Vec F S2048x1024 .bf16 :=
  ((cfg1.win 1).blk t).view.read (Elt F) (W c (Pipeline.arrRef spec1 1))
/-- The invariant at every point: the scoped buffers and the generator's register. -/
def inv1 (c : Dev nD) : sProp 𝕄 :=
  iprop(Pipeline.scopedRest (Ix := Unit) (Name := ℕ) (U := Pipeline.UD sig nD τ) (Lvl := ℕ) (Val := Elt F) spec1 c ∗ ∃ r, prngReg c r)
/-- The proof data on core `c`, entered at `W`. -/
def dat1 (c : Dev nD) : Dat τ (Elt F) Unit ℕ (Pipeline.UD sig nD τ) ℕ cfg1 c where
  A w := W c (Pipeline.arrRef spec1 w)
  after w t := match w with
    | ⟨0, _⟩ => blk1_0 W c t
    | ⟨1, _⟩ => blk1_1 W c t
    | ⟨2, _⟩ => k1_pay1 (blk1_0 W c t) (blk1_1 W c t)
  Φ _ := inv1 c
  q w := Pipeline.shareOf spec1 w
  owed _ := 0
theorem dat1_A (c : Dev nD) (w : Fin cfg1.W) : (dat1 W c).A w = W c (Pipeline.arrRef spec1 w) := by dsimp only [dat1]
theorem before1_0 (c : Dev nD) (t : Fin cfg1.N) (d) : (dat1 W c).before 0 t d = blk1_0 W c t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1_1 W c t :=
  ((dat1 W c).before_in_eq_fetched 1 rfl (fun _ => rfl) (fun _ _ _ => rfl) (fun _ => rfl) t d).trans rfl
theorem after1_2 (c : Dev nD) (t : Fin cfg1.N) : (dat1 W c).after 2 t = k1_pay1 (blk1_0 W c t) (blk1_1 W c t) := by dsimp only [dat1]

def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d)))
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t))

set_option maxHeartbeats 1000000 in
theorem sound1 (c : Dev nD) (t : Fin cfg1.N) :
    pre1 W c t ⊢ wp frame (wpE (defs₀ (F := F)) Variants.none c none) Set.univ (bodyAt1 t) (fun _ => post1 W c t) := by
  unfold pre1 post1 bodyAt1
  rw [show (dat1 W c).Φ t.succ = inv1 c from rfl, show (dat1 W c).Φ t.castSucc = inv1 c from rfl, after1_2]
  unfold Dat.owesAt Pipeline.owesWithin
  rw [show (dat1 W c).owed t.castSucc = 0 from rfl, show (dat1 W c).owed t.succ = 0 from rfl]
  simp only [before1_0, before1_1]
  rw [show (dat1 W c).after 0 t = blk1_0 W c t from rfl, show (dat1 W c).after 1 t = blk1_1 W c t from rfl]
  iintro ⟨HΦ, ⟨%Ws, -, HW⟩, ⟨%_, H0⟩, ⟨%_, H1⟩, ⟨%d, H2⟩⟩
  iapply (run1 c (grid1.coords t) (st1_0 t) _ (st1_1 t) _ (st1_2 t) _ (blk1_0 W c t) (blk1_1 W c t) ((dat1 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) W c) (defs₀ (F := F)) Variants.none () Set.univ := fun t => by
  rw [bigSep_W1, bigSep_W1, row1]
  exact triple_restated (sound1 W c t) rfl .rfl fun _ => .rfl

/-! ## Region 2: `mmg_w_in` -/

/-- Operand 0's block at a point. -/
def blk2_0 (c : Dev nD) (t : Fin cfg2.N) : Vec F S2048x1024 .bf16 :=
  ((cfg2.win 0).blk t).view.read (Elt F) (W c (Pipeline.arrRef spec2 0))
/-- Operand 1's block at a point. -/
def blk2_1 (c : Dev nD) (t : Fin cfg2.N) : Vec F S2048x1024 .bf16 :=
  ((cfg2.win 1).blk t).view.read (Elt F) (W c (Pipeline.arrRef spec2 1))
/-- The invariant at every point: the scoped buffers and the generator's register. -/
def inv2 (c : Dev nD) : sProp 𝕄 :=
  iprop(Pipeline.scopedRest (Ix := Unit) (Name := ℕ) (U := Pipeline.UD sig nD τ) (Lvl := ℕ) (Val := Elt F) spec2 c ∗ ∃ r, prngReg c r)
/-- The proof data on core `c`, entered at `W`. -/
def dat2 (c : Dev nD) : Dat τ (Elt F) Unit ℕ (Pipeline.UD sig nD τ) ℕ cfg2 c where
  A w := W c (Pipeline.arrRef spec2 w)
  after w t := match w with
    | ⟨0, _⟩ => blk2_0 W c t
    | ⟨1, _⟩ => blk2_1 W c t
    | ⟨2, _⟩ => k2_pay1 (blk2_0 W c t) (blk2_1 W c t)
  Φ _ := inv2 c
  q w := Pipeline.shareOf spec2 w
  owed _ := 0
theorem dat2_A (c : Dev nD) (w : Fin cfg2.W) : (dat2 W c).A w = W c (Pipeline.arrRef spec2 w) := by dsimp only [dat2]
theorem before2_0 (c : Dev nD) (t : Fin cfg2.N) (d) : (dat2 W c).before 0 t d = blk2_0 W c t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2_1 W c t :=
  ((dat2 W c).before_in_eq_fetched 1 rfl (fun _ => rfl) (fun _ _ _ => rfl) (fun _ => rfl) t d).trans rfl
theorem after2_2 (c : Dev nD) (t : Fin cfg2.N) : (dat2 W c).after 2 t = k2_pay1 (blk2_0 W c t) (blk2_1 W c t) := by dsimp only [dat2]

def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d)))
def post2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t))

set_option maxHeartbeats 1000000 in
theorem sound2 (c : Dev nD) (t : Fin cfg2.N) :
    pre2 W c t ⊢ wp frame (wpE (defs₀ (F := F)) Variants.none c none) Set.univ (bodyAt2 t) (fun _ => post2 W c t) := by
  unfold pre2 post2 bodyAt2
  rw [show (dat2 W c).Φ t.succ = inv2 c from rfl, show (dat2 W c).Φ t.castSucc = inv2 c from rfl, after2_2]
  unfold Dat.owesAt Pipeline.owesWithin
  rw [show (dat2 W c).owed t.castSucc = 0 from rfl, show (dat2 W c).owed t.succ = 0 from rfl]
  simp only [before2_0, before2_1]
  rw [show (dat2 W c).after 0 t = blk2_0 W c t from rfl, show (dat2 W c).after 1 t = blk2_1 W c t from rfl]
  iintro ⟨HΦ, ⟨%Ws, -, HW⟩, ⟨%_, H0⟩, ⟨%_, H1⟩, ⟨%d, H2⟩⟩
  iapply (run2 c (grid2.coords t) (st2_0 t) _ (st2_1 t) _ (st2_2 t) _ (blk2_0 W c t) (blk2_1 W c t) ((dat2 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row2 (t : Fin cfg2.N) : defs₀ (F := F) .tc cfg2.body (cfg2.bodyArgs t (cfg2.slots t)) = bodyAt2 t := by
  unfold defs₀; rw [Defs.onTc_tc]

theorem obligation2 (c : Dev nD) : BodyObligation (dat2 (F := F) W c) (defs₀ (F := F)) Variants.none () Set.univ := fun t => by
  rw [bigSep_W2, bigSep_W2, row2]
  exact triple_restated (sound2 W c t) rfl .rfl fun _ => .rfl

/-! ## Region 3: `mmb_in` -/

/-- Operand 0's block at a point. -/
def blk3_0 (c : Dev nD) (t : Fin cfg3.N) : Vec F S1024x16 .f32 :=
  ((cfg3.win 0).blk t).view.read (Elt F) (W c (Pipeline.arrRef spec3 0))
/-- Operand 1's block at a point. -/
def blk3_1 (c : Dev nD) (t : Fin cfg3.N) : Vec F S16x1024 .bf16 :=
  ((cfg3.win 1).blk t).view.read (Elt F) (W c (Pipeline.arrRef spec3 1))
/-- The invariant at every point: the scoped buffers and the generator's register. -/
def inv3 (c : Dev nD) : sProp 𝕄 :=
  iprop(Pipeline.scopedRest (Ix := Unit) (Name := ℕ) (U := Pipeline.UD sig nD τ) (Lvl := ℕ) (Val := Elt F) spec3 c ∗ ∃ r, prngReg c r)
/-- The proof data on core `c`, entered at `W`. -/
def dat3 (c : Dev nD) : Dat τ (Elt F) Unit ℕ (Pipeline.UD sig nD τ) ℕ cfg3 c where
  A w := W c (Pipeline.arrRef spec3 w)
  after w t := match w with
    | ⟨0, _⟩ => blk3_0 W c t
    | ⟨1, _⟩ => blk3_1 W c t
    | ⟨2, _⟩ => k3_pay1 (blk3_0 W c t) (blk3_1 W c t)
  Φ _ := inv3 c
  q w := Pipeline.shareOf spec3 w
  owed _ := 0
theorem dat3_A (c : Dev nD) (w : Fin cfg3.W) : (dat3 W c).A w = W c (Pipeline.arrRef spec3 w) := by dsimp only [dat3]
theorem before3_0 (c : Dev nD) (t : Fin cfg3.N) (d) : (dat3 W c).before 0 t d = blk3_0 W c t :=
  ((dat3 W c).before_in_eq_fetched 0 rfl (fun _ => rfl) (fun _ _ _ => rfl) (fun _ => rfl) t d).trans rfl
theorem before3_1 (c : Dev nD) (t : Fin cfg3.N) (d) : (dat3 W c).before 1 t d = blk3_1 W c t :=
  ((dat3 W c).before_in_eq_fetched 1 rfl (fun _ => rfl) (fun _ _ _ => rfl) (fun _ => rfl) t d).trans rfl
theorem after3_2 (c : Dev nD) (t : Fin cfg3.N) : (dat3 W c).after 2 t = k3_pay1 (blk3_0 W c t) (blk3_1 W c t) := by dsimp only [dat3]

def pre3 (c : Dev nD) (t : Fin cfg3.N) : sProp 𝕄 :=
  iprop((dat3 W c).Φ t.castSucc ∗ (dat3 W c).owesAt () t.castSucc
    ∗ (∃ d, owns (c : Thread nD τ) (st3_0 t) fullShare ((dat3 W c).before 0 t d))
    ∗ (∃ d, owns (c : Thread nD τ) (st3_1 t) fullShare ((dat3 W c).before 1 t d))
    ∗ (∃ d, owns (c : Thread nD τ) (st3_2 t) fullShare ((dat3 W c).before 2 t d)))
def post3 (c : Dev nD) (t : Fin cfg3.N) : sProp 𝕄 :=
  iprop((dat3 W c).Φ t.succ ∗ (dat3 W c).owesAt () t.succ
    ∗ owns (c : Thread nD τ) (st3_0 t) fullShare ((dat3 W c).after 0 t)
    ∗ owns (c : Thread nD τ) (st3_1 t) fullShare ((dat3 W c).after 1 t)
    ∗ owns (c : Thread nD τ) (st3_2 t) fullShare ((dat3 W c).after 2 t))

set_option maxHeartbeats 1000000 in
theorem sound3 (c : Dev nD) (t : Fin cfg3.N) :
    pre3 W c t ⊢ wp frame (wpE (defs₀ (F := F)) Variants.none c none) Set.univ (bodyAt3 t) (fun _ => post3 W c t) := by
  unfold pre3 post3 bodyAt3
  rw [show (dat3 W c).Φ t.succ = inv3 c from rfl, show (dat3 W c).Φ t.castSucc = inv3 c from rfl, after3_2]
  unfold Dat.owesAt Pipeline.owesWithin
  rw [show (dat3 W c).owed t.castSucc = 0 from rfl, show (dat3 W c).owed t.succ = 0 from rfl]
  simp only [before3_0, before3_1]
  rw [show (dat3 W c).after 0 t = blk3_0 W c t from rfl, show (dat3 W c).after 1 t = blk3_1 W c t from rfl]
  iintro ⟨HΦ, ⟨%Ws, -, HW⟩, ⟨%_, H0⟩, ⟨%_, H1⟩, ⟨%d, H2⟩⟩
  iapply (run3 c (grid3.coords t) (st3_0 t) _ (st3_1 t) _ (st3_2 t) _ (blk3_0 W c t) (blk3_1 W c t) ((dat3 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row3 (t : Fin cfg3.N) : defs₀ (F := F) .tc cfg3.body (cfg3.bodyArgs t (cfg3.slots t)) = bodyAt3 t := by
  unfold defs₀; rw [Defs.onTc_tc]

theorem obligation3 (c : Dev nD) : BodyObligation (dat3 (F := F) W c) (defs₀ (F := F)) Variants.none () Set.univ := fun t => by
  rw [bigSep_W3, bigSep_W3, row3]
  exact triple_restated (sound3 W c t) rfl .rfl fun _ => .rfl

/-! ## Region 4: `mmb_in` -/

/-- Operand 0's block at a point. -/
def blk4_0 (c : Dev nD) (t : Fin cfg4.N) : Vec F S1024x1024 .bf16 :=
  ((cfg4.win 0).blk t).view.read (Elt F) (W c (Pipeline.arrRef spec4 0))
/-- Operand 1's block at a point. -/
def blk4_1 (c : Dev nD) (t : Fin cfg4.N) : Vec F S1024x1024 .bf16 :=
  ((cfg4.win 1).blk t).view.read (Elt F) (W c (Pipeline.arrRef spec4 1))
/-- Operand 2's block at a point. -/
def blk4_2 (c : Dev nD) (t : Fin cfg4.N) : Vec F S1024x1024 .f32 :=
  ((cfg4.win 2).blk t).view.read (Elt F) (W c (Pipeline.arrRef spec4 2))
/-- The sum a row block's steps keep, before point `n`. -/
def acc4 (c : Dev nD) : ℕ → Vec F S1024x1024 .f32
  | 0 => k4_pay2 (blk4_0 W c t4_0) (blk4_1 W c t4_0)
  | n + 1 => if h : n < cfg4.N then
      if n % 6 = 0 then k4_pay2 (blk4_0 W c ⟨n, h⟩) (blk4_1 W c ⟨n, h⟩) else k4_pay3 (blk4_0 W c ⟨n, h⟩) (blk4_1 W c ⟨n, h⟩) (acc4 c n)
    else acc4 c n
theorem acc4_first (c : Dev nD) (t : Fin cfg4.N) (h : t.val % 6 = 0) : acc4 W c (t.val + 1) = k4_pay2 (blk4_0 W c t) (blk4_1 W c t) := by
  conv_lhs => unfold acc4
  rw [dif_pos t.isLt, if_pos h]
theorem acc4_next (c : Dev nD) (t : Fin cfg4.N) (h : ¬ t.val % 6 = 0) :
    acc4 W c (t.val + 1) = k4_pay3 (blk4_0 W c t) (blk4_1 W c t) (acc4 W c t.val) := by
  conv_lhs => unfold acc4
  rw [dif_pos t.isLt, if_neg h]

/-- The invariant before point `n`: the scratch buffer holds the running sum inside a row block. -/
def inv4 (n : ℕ) (c : Dev nD) : sProp 𝕄 :=
  iprop((∃ a, ⌜¬ n % 6 = 0 → a = acc4 W c n⌝ ∗ own c (Memref.whole cc4_scratch0) a)
    ∗ Pipeline.scopedRestBut (Ix := Unit) (Name := ℕ) (U := Pipeline.UD sig nD τ) (Lvl := ℕ) (Val := Elt F) spec4 c [cc4_scratch0]
    ∗ ∃ r, prngReg c r)
/-- The proof data on core `c`, entered at `W`. -/
def dat4 (c : Dev nD) : Dat τ (Elt F) Unit ℕ (Pipeline.UD sig nD τ) ℕ cfg4 c where
  A w := W c (Pipeline.arrRef spec4 w)
  after w t := match w with
    | ⟨0, _⟩ => blk4_0 W c t
    | ⟨1, _⟩ => blk4_1 W c t
    | ⟨2, _⟩ => blk4_2 W c t
    | ⟨3, _⟩ => k4_pay4 (acc4 W c (t.val + 1)) (blk4_2 W c t)
  Φ t := inv4 W t.val c
  q w := Pipeline.shareOf spec4 w
  owed _ := 0
theorem dat4_A (c : Dev nD) (w : Fin cfg4.W) : (dat4 W c).A w = W c (Pipeline.arrRef spec4 w) := by dsimp only [dat4]
theorem before4_0 (c : Dev nD) (t : Fin cfg4.N) (d) : (dat4 W c).before 0 t d = blk4_0 W c t :=
  ((dat4 W c).before_in_eq_fetched 0 rfl (fun _ => rfl) (fun _ _ _ => rfl) (fun _ => rfl) t d).trans rfl
theorem before4_1 (c : Dev nD) (t : Fin cfg4.N) (d) : (dat4 W c).before 1 t d = blk4_1 W c t :=
  ((dat4 W c).before_in_eq_fetched 1 rfl (fun _ => rfl) (fun _ _ _ => rfl) (fun _ => rfl) t d).trans rfl
theorem before4_2 (c : Dev nD) (t : Fin cfg4.N) (d) : (dat4 W c).before 2 t d = blk4_2 W c t :=
  ((dat4 W c).before_in_eq_fetched 2 rfl (fun _ => rfl) (fun _ _ _ => rfl) (fun _ => rfl) t d).trans rfl
theorem after4_3 (c : Dev nD) (t : Fin cfg4.N) : (dat4 W c).after 3 t = k4_pay4 (acc4 W c (t.val + 1)) (blk4_2 W c t) := by dsimp only [dat4]

def pre4 (c : Dev nD) (t : Fin cfg4.N) : sProp 𝕄 :=
  iprop((dat4 W c).Φ t.castSucc ∗ (dat4 W c).owesAt () t.castSucc
    ∗ (∃ d, owns (c : Thread nD τ) (st4_0 t) fullShare ((dat4 W c).before 0 t d))
    ∗ (∃ d, owns (c : Thread nD τ) (st4_1 t) fullShare ((dat4 W c).before 1 t d))
    ∗ (∃ d, owns (c : Thread nD τ) (st4_2 t) fullShare ((dat4 W c).before 2 t d))
    ∗ (∃ d, owns (c : Thread nD τ) (st4_3 t) fullShare ((dat4 W c).before 3 t d)))
def post4 (c : Dev nD) (t : Fin cfg4.N) : sProp 𝕄 :=
  iprop((dat4 W c).Φ t.succ ∗ (dat4 W c).owesAt () t.succ
    ∗ owns (c : Thread nD τ) (st4_0 t) fullShare ((dat4 W c).after 0 t)
    ∗ owns (c : Thread nD τ) (st4_1 t) fullShare ((dat4 W c).after 1 t)
    ∗ owns (c : Thread nD τ) (st4_2 t) fullShare ((dat4 W c).after 2 t)
    ∗ owns (c : Thread nD τ) (st4_3 t) fullShare ((dat4 W c).after 3 t))
def post4_idle (c : Dev nD) (t : Fin cfg4.N) : sProp 𝕄 :=
  iprop((dat4 W c).Φ t.succ ∗ (dat4 W c).owesAt () t.succ
    ∗ owns (c : Thread nD τ) (st4_0 t) fullShare ((dat4 W c).after 0 t)
    ∗ owns (c : Thread nD τ) (st4_1 t) fullShare ((dat4 W c).after 1 t)
    ∗ owns (c : Thread nD τ) (st4_2 t) fullShare ((dat4 W c).after 2 t)
    ∗ (∃ d, owns (c : Thread nD τ) (st4_3 t) fullShare ((dat4 W c).before 3 t d)))
theorem coord4 : ∀ t : Fin grid4.N, (grid4.coords t 2).val = t.val % 6 := by decide
theorem idle4_at : ∀ t : Fin grid4.N, ¬ t.val % 6 = 5 → idle4 3 (grid4.coords t) = true := by decide
theorem busy4_at : ∀ t : Fin grid4.N, t.val % 6 = 5 → idle4 3 (grid4.coords t) = false := by decide
theorem noflush4 (t : Fin cfg4.N) (h : ¬ t.val % 6 = 5) : (cfg4.win 3).flush t = false :=
  Bool.eq_false_iff.mpr fun h' => h ((flush4_3 t).mp h')

set_option maxHeartbeats 1000000 in
theorem sound4_first (c : Dev nD) (t : Fin cfg4.N) (h : t.val % 6 = 0) :
    pre4 W c t ⊢ wp frame (wpE (defs₀ (F := F)) Variants.none c none) Set.univ (bodyAt4 t) (fun _ => post4_idle W c t) := by
  unfold pre4 post4_idle bodyAt4
  rw [show (dat4 W c).Φ t.succ = inv4 W (t.val + 1) c from rfl, show (dat4 W c).Φ t.castSucc = inv4 W t.val c from rfl]
  unfold Dat.owesAt Pipeline.owesWithin inv4
  rw [show (dat4 W c).owed t.castSucc = 0 from rfl, show (dat4 W c).owed t.succ = 0 from rfl, acc4_first W c t h]
  simp only [before4_0, before4_1, before4_2]
  rw [show (dat4 W c).after 0 t = blk4_0 W c t from rfl, show (dat4 W c).after 1 t = blk4_1 W c t from rfl, show (dat4 W c).after 2 t = blk4_2 W c t from rfl]
  iintro ⟨⟨⟨%a, %ha, Hs⟩, Hr, Hg⟩, ⟨%Ws, -, HW⟩, ⟨%_, H0⟩, ⟨%_, H1⟩, ⟨%_, H2⟩, ⟨%d, H3⟩⟩
  iapply (run4_first c (grid4.coords t) ((coord4 t).trans h) (st4_0 t) _ (st4_1 t) _ (st4_2 t) _ (st4_3 t) _ (Memref.whole cc4_scratch0) _ (blk4_0 W c t) (blk4_1 W c t) (blk4_2 W c t)
    ((dat4 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexists d; iexact H3

set_option maxHeartbeats 1000000 in
theorem sound4_next (c : Dev nD) (t : Fin cfg4.N) (h : 0 < t.val % 6 ∧ t.val % 6 < 5) :
    pre4 W c t ⊢ wp frame (wpE (defs₀ (F := F)) Variants.none c none) Set.univ (bodyAt4 t) (fun _ => post4_idle W c t) := by
  unfold pre4 post4_idle bodyAt4
  rw [show (dat4 W c).Φ t.succ = inv4 W (t.val + 1) c from rfl, show (dat4 W c).Φ t.castSucc = inv4 W t.val c from rfl]
  unfold Dat.owesAt Pipeline.owesWithin inv4
  rw [show (dat4 W c).owed t.castSucc = 0 from rfl, show (dat4 W c).owed t.succ = 0 from rfl, acc4_next W c t (by omega)]
  simp only [before4_0, before4_1, before4_2]
  rw [show (dat4 W c).after 0 t = blk4_0 W c t from rfl, show (dat4 W c).after 1 t = blk4_1 W c t from rfl, show (dat4 W c).after 2 t = blk4_2 W c t from rfl]
  iintro ⟨⟨⟨%a, %ha, Hs⟩, Hr, Hg⟩, ⟨%Ws, -, HW⟩, ⟨%_, H0⟩, ⟨%_, H1⟩, ⟨%_, H2⟩, ⟨%d, H3⟩⟩
  obtain rfl := ha (by omega)
  iapply (run4_next c (grid4.coords t) (by rw [coord4]; exact h) (st4_0 t) _ (st4_1 t) _ (st4_2 t) _ (st4_3 t) _ (Memref.whole cc4_scratch0) _ (blk4_0 W c t) (blk4_1 W c t) (blk4_2 W c t)
    ((dat4 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexists d; iexact H3

set_option maxHeartbeats 1000000 in
theorem sound4_last (c : Dev nD) (t : Fin cfg4.N) (h : t.val % 6 = 5) :
    pre4 W c t ⊢ wp frame (wpE (defs₀ (F := F)) Variants.none c none) Set.univ (bodyAt4 t) (fun _ => post4 W c t) := by
  unfold pre4 post4 bodyAt4
  rw [show (dat4 W c).Φ t.succ = inv4 W (t.val + 1) c from rfl, show (dat4 W c).Φ t.castSucc = inv4 W t.val c from rfl, after4_3]
  unfold Dat.owesAt Pipeline.owesWithin inv4
  rw [show (dat4 W c).owed t.castSucc = 0 from rfl, show (dat4 W c).owed t.succ = 0 from rfl, acc4_next W c t (by omega)]
  simp only [before4_0, before4_1, before4_2]
  rw [show (dat4 W c).after 0 t = blk4_0 W c t from rfl, show (dat4 W c).after 1 t = blk4_1 W c t from rfl, show (dat4 W c).after 2 t = blk4_2 W c t from rfl]
  iintro ⟨⟨⟨%a, %ha, Hs⟩, Hr, Hg⟩, ⟨%Ws, -, HW⟩, ⟨%_, H0⟩, ⟨%_, H1⟩, ⟨%_, H2⟩, ⟨%d, H3⟩⟩
  obtain rfl := ha (by omega)
  iapply (run4_last c (grid4.coords t) ((coord4 t).trans h) (st4_0 t) _ (st4_1 t) _ (st4_2 t) _ (st4_3 t) _ (Memref.whole cc4_scratch0) _ (blk4_0 W c t) (blk4_1 W c t) (blk4_2 W c t)
    ((dat4 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexact H3

theorem row4 (t : Fin cfg4.N) : defs₀ (F := F) .tc cfg4.body (cfg4.bodyArgs t (cfg4.slots t)) = bodyAt4 t := by
  unfold defs₀; rw [Defs.onTc_tc]

theorem obligation4 (c : Dev nD) : BodyObligation (dat4 (F := F) W c) (defs₀ (F := F)) Variants.none () Set.univ := fun t => by
  rw [bigSep_W4, bigSep_W4, row4]
  by_cases h3 : t.val % 6 = 5
  · refine triple_restated (sound4_last W c t h3) rfl .rfl fun _ => ?_
    unfold post4
    dsimp only
    rw [show idle4 3 (grid4.coords t) = false from busy4_at t h3]
  · by_cases h0 : t.val % 6 = 0
    · refine triple_restated (sound4_first W c t h0) rfl .rfl fun _ => ?_
      unfold post4_idle
      dsimp only
      rw [show idle4 3 (grid4.coords t) = true from idle4_at t h3, show (win4 3).flush t = false from noflush4 t h3]
    · refine triple_restated (sound4_next W c t (by omega)) rfl .rfl fun _ => ?_
      unfold post4_idle
      dsimp only
      rw [show idle4 3 (grid4.coords t) = true from idle4_at t h3, show (win4 3).flush t = false from noflush4 t h3]

/-! ## Region 5: `mmb_in` -/

/-- Operand 0's block at a point. -/
def blk5_0 (c : Dev nD) (t : Fin cfg5.N) : Vec F S1024x1024 .bf16 :=
  ((cfg5.win 0).blk t).view.read (Elt F) (W c (Pipeline.arrRef spec5 0))
/-- Operand 1's block at a point. -/
def blk5_1 (c : Dev nD) (t : Fin cfg5.N) : Vec F S1024x1024 .bf16 :=
  ((cfg5.win 1).blk t).view.read (Elt F) (W c (Pipeline.arrRef spec5 1))
/-- Operand 2's block at a point. -/
def blk5_2 (c : Dev nD) (t : Fin cfg5.N) : Vec F S1024x1024 .f32 :=
  ((cfg5.win 2).blk t).view.read (Elt F) (W c (Pipeline.arrRef spec5 2))
/-- The sum a row block's steps keep, before point `n`. -/
def acc5 (c : Dev nD) : ℕ → Vec F S1024x1024 .f32
  | 0 => k5_pay2 (blk5_0 W c t5_0) (blk5_1 W c t5_0)
  | n + 1 => if h : n < cfg5.N then
      if n % 5 = 0 then k5_pay2 (blk5_0 W c ⟨n, h⟩) (blk5_1 W c ⟨n, h⟩) else k5_pay3 (blk5_0 W c ⟨n, h⟩) (blk5_1 W c ⟨n, h⟩) (acc5 c n)
    else acc5 c n
theorem acc5_first (c : Dev nD) (t : Fin cfg5.N) (h : t.val % 5 = 0) : acc5 W c (t.val + 1) = k5_pay2 (blk5_0 W c t) (blk5_1 W c t) := by
  conv_lhs => unfold acc5
  rw [dif_pos t.isLt, if_pos h]
theorem acc5_next (c : Dev nD) (t : Fin cfg5.N) (h : ¬ t.val % 5 = 0) :
    acc5 W c (t.val + 1) = k5_pay3 (blk5_0 W c t) (blk5_1 W c t) (acc5 W c t.val) := by
  conv_lhs => unfold acc5
  rw [dif_pos t.isLt, if_neg h]

/-- The invariant before point `n`: the scratch buffer holds the running sum inside a row block. -/
def inv5 (n : ℕ) (c : Dev nD) : sProp 𝕄 :=
  iprop((∃ a, ⌜¬ n % 5 = 0 → a = acc5 W c n⌝ ∗ own c (Memref.whole cc5_scratch0) a)
    ∗ Pipeline.scopedRestBut (Ix := Unit) (Name := ℕ) (U := Pipeline.UD sig nD τ) (Lvl := ℕ) (Val := Elt F) spec5 c [cc5_scratch0]
    ∗ ∃ r, prngReg c r)
/-- The proof data on core `c`, entered at `W`. -/
def dat5 (c : Dev nD) : Dat τ (Elt F) Unit ℕ (Pipeline.UD sig nD τ) ℕ cfg5 c where
  A w := W c (Pipeline.arrRef spec5 w)
  after w t := match w with
    | ⟨0, _⟩ => blk5_0 W c t
    | ⟨1, _⟩ => blk5_1 W c t
    | ⟨2, _⟩ => blk5_2 W c t
    | ⟨3, _⟩ => k5_pay4 (acc5 W c (t.val + 1)) (blk5_2 W c t)
  Φ t := inv5 W t.val c
  q w := Pipeline.shareOf spec5 w
  owed _ := 0
theorem dat5_A (c : Dev nD) (w : Fin cfg5.W) : (dat5 W c).A w = W c (Pipeline.arrRef spec5 w) := by dsimp only [dat5]
theorem before5_0 (c : Dev nD) (t : Fin cfg5.N) (d) : (dat5 W c).before 0 t d = blk5_0 W c t :=
  ((dat5 W c).before_in_eq_fetched 0 rfl (fun _ => rfl) (fun _ _ _ => rfl) (fun _ => rfl) t d).trans rfl
theorem before5_1 (c : Dev nD) (t : Fin cfg5.N) (d) : (dat5 W c).before 1 t d = blk5_1 W c t :=
  ((dat5 W c).before_in_eq_fetched 1 rfl (fun _ => rfl) (fun _ _ _ => rfl) (fun _ => rfl) t d).trans rfl
theorem before5_2 (c : Dev nD) (t : Fin cfg5.N) (d) : (dat5 W c).before 2 t d = blk5_2 W c t :=
  ((dat5 W c).before_in_eq_fetched 2 rfl (fun _ => rfl) (fun _ _ _ => rfl) (fun _ => rfl) t d).trans rfl
theorem after5_3 (c : Dev nD) (t : Fin cfg5.N) : (dat5 W c).after 3 t = k5_pay4 (acc5 W c (t.val + 1)) (blk5_2 W c t) := by dsimp only [dat5]

def pre5 (c : Dev nD) (t : Fin cfg5.N) : sProp 𝕄 :=
  iprop((dat5 W c).Φ t.castSucc ∗ (dat5 W c).owesAt () t.castSucc
    ∗ (∃ d, owns (c : Thread nD τ) (st5_0 t) fullShare ((dat5 W c).before 0 t d))
    ∗ (∃ d, owns (c : Thread nD τ) (st5_1 t) fullShare ((dat5 W c).before 1 t d))
    ∗ (∃ d, owns (c : Thread nD τ) (st5_2 t) fullShare ((dat5 W c).before 2 t d))
    ∗ (∃ d, owns (c : Thread nD τ) (st5_3 t) fullShare ((dat5 W c).before 3 t d)))
def post5 (c : Dev nD) (t : Fin cfg5.N) : sProp 𝕄 :=
  iprop((dat5 W c).Φ t.succ ∗ (dat5 W c).owesAt () t.succ
    ∗ owns (c : Thread nD τ) (st5_0 t) fullShare ((dat5 W c).after 0 t)
    ∗ owns (c : Thread nD τ) (st5_1 t) fullShare ((dat5 W c).after 1 t)
    ∗ owns (c : Thread nD τ) (st5_2 t) fullShare ((dat5 W c).after 2 t)
    ∗ owns (c : Thread nD τ) (st5_3 t) fullShare ((dat5 W c).after 3 t))
def post5_idle (c : Dev nD) (t : Fin cfg5.N) : sProp 𝕄 :=
  iprop((dat5 W c).Φ t.succ ∗ (dat5 W c).owesAt () t.succ
    ∗ owns (c : Thread nD τ) (st5_0 t) fullShare ((dat5 W c).after 0 t)
    ∗ owns (c : Thread nD τ) (st5_1 t) fullShare ((dat5 W c).after 1 t)
    ∗ owns (c : Thread nD τ) (st5_2 t) fullShare ((dat5 W c).after 2 t)
    ∗ (∃ d, owns (c : Thread nD τ) (st5_3 t) fullShare ((dat5 W c).before 3 t d)))
theorem coord5 : ∀ t : Fin grid5.N, (grid5.coords t 2).val = t.val % 5 := by decide
theorem idle5_at : ∀ t : Fin grid5.N, ¬ t.val % 5 = 4 → idle5 3 (grid5.coords t) = true := by decide
theorem busy5_at : ∀ t : Fin grid5.N, t.val % 5 = 4 → idle5 3 (grid5.coords t) = false := by decide
theorem noflush5 (t : Fin cfg5.N) (h : ¬ t.val % 5 = 4) : (cfg5.win 3).flush t = false :=
  Bool.eq_false_iff.mpr fun h' => h ((flush5_3 t).mp h')

set_option maxHeartbeats 1000000 in
theorem sound5_first (c : Dev nD) (t : Fin cfg5.N) (h : t.val % 5 = 0) :
    pre5 W c t ⊢ wp frame (wpE (defs₀ (F := F)) Variants.none c none) Set.univ (bodyAt5 t) (fun _ => post5_idle W c t) := by
  unfold pre5 post5_idle bodyAt5
  rw [show (dat5 W c).Φ t.succ = inv5 W (t.val + 1) c from rfl, show (dat5 W c).Φ t.castSucc = inv5 W t.val c from rfl]
  unfold Dat.owesAt Pipeline.owesWithin inv5
  rw [show (dat5 W c).owed t.castSucc = 0 from rfl, show (dat5 W c).owed t.succ = 0 from rfl, acc5_first W c t h]
  simp only [before5_0, before5_1, before5_2]
  rw [show (dat5 W c).after 0 t = blk5_0 W c t from rfl, show (dat5 W c).after 1 t = blk5_1 W c t from rfl, show (dat5 W c).after 2 t = blk5_2 W c t from rfl]
  iintro ⟨⟨⟨%a, %ha, Hs⟩, Hr, Hg⟩, ⟨%Ws, -, HW⟩, ⟨%_, H0⟩, ⟨%_, H1⟩, ⟨%_, H2⟩, ⟨%d, H3⟩⟩
  iapply (run5_first c (grid5.coords t) ((coord5 t).trans h) (st5_0 t) _ (st5_1 t) _ (st5_2 t) _ (st5_3 t) _ (Memref.whole cc5_scratch0) _ (blk5_0 W c t) (blk5_1 W c t) (blk5_2 W c t)
    ((dat5 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexists d; iexact H3

set_option maxHeartbeats 1000000 in
theorem sound5_next (c : Dev nD) (t : Fin cfg5.N) (h : 0 < t.val % 5 ∧ t.val % 5 < 4) :
    pre5 W c t ⊢ wp frame (wpE (defs₀ (F := F)) Variants.none c none) Set.univ (bodyAt5 t) (fun _ => post5_idle W c t) := by
  unfold pre5 post5_idle bodyAt5
  rw [show (dat5 W c).Φ t.succ = inv5 W (t.val + 1) c from rfl, show (dat5 W c).Φ t.castSucc = inv5 W t.val c from rfl]
  unfold Dat.owesAt Pipeline.owesWithin inv5
  rw [show (dat5 W c).owed t.castSucc = 0 from rfl, show (dat5 W c).owed t.succ = 0 from rfl, acc5_next W c t (by omega)]
  simp only [before5_0, before5_1, before5_2]
  rw [show (dat5 W c).after 0 t = blk5_0 W c t from rfl, show (dat5 W c).after 1 t = blk5_1 W c t from rfl, show (dat5 W c).after 2 t = blk5_2 W c t from rfl]
  iintro ⟨⟨⟨%a, %ha, Hs⟩, Hr, Hg⟩, ⟨%Ws, -, HW⟩, ⟨%_, H0⟩, ⟨%_, H1⟩, ⟨%_, H2⟩, ⟨%d, H3⟩⟩
  obtain rfl := ha (by omega)
  iapply (run5_next c (grid5.coords t) (by rw [coord5]; exact h) (st5_0 t) _ (st5_1 t) _ (st5_2 t) _ (st5_3 t) _ (Memref.whole cc5_scratch0) _ (blk5_0 W c t) (blk5_1 W c t) (blk5_2 W c t)
    ((dat5 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexists d; iexact H3

set_option maxHeartbeats 1000000 in
theorem sound5_last (c : Dev nD) (t : Fin cfg5.N) (h : t.val % 5 = 4) :
    pre5 W c t ⊢ wp frame (wpE (defs₀ (F := F)) Variants.none c none) Set.univ (bodyAt5 t) (fun _ => post5 W c t) := by
  unfold pre5 post5 bodyAt5
  rw [show (dat5 W c).Φ t.succ = inv5 W (t.val + 1) c from rfl, show (dat5 W c).Φ t.castSucc = inv5 W t.val c from rfl, after5_3]
  unfold Dat.owesAt Pipeline.owesWithin inv5
  rw [show (dat5 W c).owed t.castSucc = 0 from rfl, show (dat5 W c).owed t.succ = 0 from rfl, acc5_next W c t (by omega)]
  simp only [before5_0, before5_1, before5_2]
  rw [show (dat5 W c).after 0 t = blk5_0 W c t from rfl, show (dat5 W c).after 1 t = blk5_1 W c t from rfl, show (dat5 W c).after 2 t = blk5_2 W c t from rfl]
  iintro ⟨⟨⟨%a, %ha, Hs⟩, Hr, Hg⟩, ⟨%Ws, -, HW⟩, ⟨%_, H0⟩, ⟨%_, H1⟩, ⟨%_, H2⟩, ⟨%d, H3⟩⟩
  obtain rfl := ha (by omega)
  iapply (run5_last c (grid5.coords t) ((coord5 t).trans h) (st5_0 t) _ (st5_1 t) _ (st5_2 t) _ (st5_3 t) _ (Memref.whole cc5_scratch0) _ (blk5_0 W c t) (blk5_1 W c t) (blk5_2 W c t)
    ((dat5 W c).before 3 t d) _ Ws _)
  isplitl [H0]; · iexact H0
  isplitl [H1]; · iexact H1
  isplitl [H2]; · iexact H2
  isplitl [H3]; · iexact H3
  isplitl [Hs]; · iexact Hs
  isplitl [HW]; · iexact HW
  iintro ⟨H0, H1, H2, H3, Hs, ⟨%W', HW'⟩⟩
  isplitl [Hs Hr Hg]
  · isplitl [Hs]
    · iexists _; isplitr
      swap; · iexact Hs
      ipureintro; exact fun _ => rfl
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  iexact H3

theorem row5 (t : Fin cfg5.N) : defs₀ (F := F) .tc cfg5.body (cfg5.bodyArgs t (cfg5.slots t)) = bodyAt5 t := by
  unfold defs₀; rw [Defs.onTc_tc]

theorem obligation5 (c : Dev nD) : BodyObligation (dat5 (F := F) W c) (defs₀ (F := F)) Variants.none () Set.univ := fun t => by
  rw [bigSep_W5, bigSep_W5, row5]
  by_cases h3 : t.val % 5 = 4
  · refine triple_restated (sound5_last W c t h3) rfl .rfl fun _ => ?_
    unfold post5
    dsimp only
    rw [show idle5 3 (grid5.coords t) = false from busy5_at t h3]
  · by_cases h0 : t.val % 5 = 0
    · refine triple_restated (sound5_first W c t h0) rfl .rfl fun _ => ?_
      unfold post5_idle
      dsimp only
      rw [show idle5 3 (grid5.coords t) = true from idle5_at t h3, show (win5 3).flush t = false from noflush5 t h3]
    · refine triple_restated (sound5_next W c t (by omega)) rfl .rfl fun _ => ?_
      unfold post5_idle
      dsimp only
      rw [show idle5 3 (grid5.coords t) = true from idle5_at t h3, show (win5 3).flush t = false from noflush5 t h3]

end Cert.Proof.Proj

end
-- ==== Proof.ProjRun.lean ====
/-
  The run of the projection's program, at any elements: the host's transpose, then the six regions in turn,
  each entered with what the one before left; it ends, the arguments and the semaphores as they were.
-/
module

public import proofs.«01_k».proof.Proof.ProjData

@[expose] public section

set_option maxRecDepth 16384

noncomputable section

namespace Cert.Proof.Proj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers between the items -/

/-- Core `c`'s buffers before the first region: the host has transposed the weight. -/
def U1 (c : Dev nD) : Valuation τ sig (Elt F) := StableHlo.after hostOps0 (V0 m c)
/-- After region 0, which writes `main_v1`. -/
def U2 (c : Dev nD) : Valuation τ sig (Elt F) := Function.update (U1 m c) main_v1 ((dat0 (U1 m) c).arrAt 2 cfg0.N)
/-- After region 1, which writes `main_v2`. -/
def U3 (c : Dev nD) : Valuation τ sig (Elt F) := Function.update (U2 m c) main_v2 ((dat1 (U2 m) c).arrAt 2 cfg1.N)
/-- After region 2, which writes `main_v3`. -/
def U4 (c : Dev nD) : Valuation τ sig (Elt F) := Function.update (U3 m c) main_v3 ((dat2 (U3 m) c).arrAt 2 cfg2.N)
/-- After region 3, which writes `main_v4`. -/
def U5 (c : Dev nD) : Valuation τ sig (Elt F) := Function.update (U4 m c) main_v4 ((dat3 (U4 m) c).arrAt 2 cfg3.N)
/-- After region 4, which writes `main_v5`. -/
def U6 (c : Dev nD) : Valuation τ sig (Elt F) := Function.update (U5 m c) main_v5 ((dat4 (U5 m) c).arrAt 3 cfg4.N)
/-- After region 5, which writes `main_v6`. -/
def U7 (c : Dev nD) : Valuation τ sig (Elt F) := Function.update (U6 m c) main_v6 ((dat5 (U6 m) c).arrAt 3 cfg5.N)
theorem U2_out (c : Dev nD) : U2 m c main_v1 = (dat0 (U1 m) c).arrAt 2 cfg0.N := Function.update_self _ _ _
theorem U2_of (c : Dev nD) (r : Ref sig .tc) (h : r ≠ main_v1) : U2 m c r = U1 m c r :=
  Function.update_of_ne (StableHlo.devRef_ne_of_ne h : (Proc.devRef .tc r : DevRef τ sig) ≠ Proc.devRef .tc main_v1) _ _
theorem U3_out (c : Dev nD) : U3 m c main_v2 = (dat1 (U2 m) c).arrAt 2 cfg1.N := Function.update_self _ _ _
theorem U3_of (c : Dev nD) (r : Ref sig .tc) (h : r ≠ main_v2) : U3 m c r = U2 m c r :=
  Function.update_of_ne (StableHlo.devRef_ne_of_ne h : (Proc.devRef .tc r : DevRef τ sig) ≠ Proc.devRef .tc main_v2) _ _
theorem U4_out (c : Dev nD) : U4 m c main_v3 = (dat2 (U3 m) c).arrAt 2 cfg2.N := Function.update_self _ _ _
theorem U4_of (c : Dev nD) (r : Ref sig .tc) (h : r ≠ main_v3) : U4 m c r = U3 m c r :=
  Function.update_of_ne (StableHlo.devRef_ne_of_ne h : (Proc.devRef .tc r : DevRef τ sig) ≠ Proc.devRef .tc main_v3) _ _
theorem U5_out (c : Dev nD) : U5 m c main_v4 = (dat3 (U4 m) c).arrAt 2 cfg3.N := Function.update_self _ _ _
theorem U5_of (c : Dev nD) (r : Ref sig .tc) (h : r ≠ main_v4) : U5 m c r = U4 m c r :=
  Function.update_of_ne (StableHlo.devRef_ne_of_ne h : (Proc.devRef .tc r : DevRef τ sig) ≠ Proc.devRef .tc main_v4) _ _
theorem U6_out (c : Dev nD) : U6 m c main_v5 = (dat4 (U5 m) c).arrAt 3 cfg4.N := Function.update_self _ _ _
theorem U6_of (c : Dev nD) (r : Ref sig .tc) (h : r ≠ main_v5) : U6 m c r = U5 m c r :=
  Function.update_of_ne (StableHlo.devRef_ne_of_ne h : (Proc.devRef .tc r : DevRef τ sig) ≠ Proc.devRef .tc main_v5) _ _
theorem U7_out (c : Dev nD) : U7 m c main_v6 = (dat5 (U6 m) c).arrAt 3 cfg5.N := Function.update_self _ _ _
theorem U7_of (c : Dev nD) (r : Ref sig .tc) (h : r ≠ main_v6) : U7 m c r = U6 m c r :=
  Function.update_of_ne (StableHlo.devRef_ne_of_ne h : (Proc.devRef .tc r : DevRef τ sig) ≠ Proc.devRef .tc main_v6) _ _
theorem U1_of (c : Dev nD) (r : Ref sig .tc) (h : r ≠ main_v0) : U1 m c r = m ((c : Thread nD τ).loc r) :=
  StableHlo.after_of_writes_sub hostOps0 _ hostOps0_writes (by simpa using h)
/-- What no region writes is at the end as the host left it. -/
theorem U7_of_all (c : Dev nD) (r : Ref sig .tc) (h : r ∉ ([main_v1, main_v2, main_v3, main_v4, main_v5, main_v6] : List (Ref sig .tc))) : U7 m c r = U1 m c r := by
  simp only [List.mem_cons, List.not_mem_nil, or_false, not_or] at h
  obtain ⟨h1, h2, h3, h4, h5, h6⟩ := h
  rw [U7_of m c r h6, U6_of m c r h5, U5_of m c r h4, U4_of m c r h3, U3_of m c r h2, U2_of m c r h1]
theorem U7_arg (c : Dev nD) (r : Ref sig .tc) (h : r ∉ ([main_v1, main_v2, main_v3, main_v4, main_v5, main_v6] : List (Ref sig .tc))) (h0 : r ≠ main_v0) :
    U7 m c r = m ((c : Thread nD τ).loc r) :=
  (U7_of_all m c r h).trans (U1_of m c r h0)

/-- Every region's proof data, each entered with what the one before left. -/
def pdats : (p : Fin 6) → (c : Dev nD) → Dat τ (Elt F) Unit ℕ (Pipeline.UD sig nD τ) ℕ (cfgs p) c := fun
  | 0 => dat0 (U1 m)
  | 1 => dat1 (U2 m)
  | 2 => dat2 (U3 m)
  | 3 => dat3 (U4 m)
  | 4 => dat4 (U5 m)
  | 5 => dat5 (U6 m)
  | ⟨_ + 6, h⟩ => absurd h (Nat.not_lt.2 (Nat.le_add_left _ _))

/-! ## A region as a segment -/

/-- No core owes another anything: no level is assigned. -/
abbrev lev : GSem nD τ sig → Finset Unit := fun _ => ∅
abbrev lvl : GSem nD τ sig → Unit → ℕ := fun _ _ => 0

/-- What rides beside the buffers: the core owes nothing, and the generator's register. -/
abbrev beside (c : Dev nD) : sProp 𝕄 := iprop((∃ W, owes (c : Thread nD τ) (0 : CellTallies nD τ sig Unit) W) ∗ ∃ r, prngReg c r)

set_option backward.isDefEq.respectTransparency.types false in
/-- Region `p` entered with the buffers at `V` and left with them at `V'`. -/
def region (p : Fin 6) (kit : Pipeline.LaunchFacts₀ (nD := nD) (τ := τ) cfgs p)
    (V V' : Dev nD → Valuation τ sig (Elt F))
    (hbody : ∀ c, BodyObligation (pdats m p c) (defs₀ (F := F)) Variants.none () Set.univ)
    (hA : ∀ c w, (pdats m p c).A w = V c (Pipeline.arrRef (cfgs p).spec w))
    (hq : ∀ c w, (pdats m p c).q w = Pipeline.shareOf (cfgs p).spec w)
    (howed : ∀ c t, (pdats m p c).owed t = 0) (hrec : ∀ c t, (pdats m p c).recorded t = Set.univ)
    (hfirst : ∀ c, iprop(Pipeline.scopedRest (Ix := Unit) (Name := ℕ) (U := Pipeline.UD sig nD τ) (Lvl := ℕ) (Val := Elt F) (cfgs p).spec c
      ∗ ∃ r, prngReg c r) ⊢ (pdats m p c).Φ 0)
    (hlast : ∀ c, (pdats m p c).Φ (Fin.last (cfgs p).N) ⊢ iprop(Pipeline.scopedRest (Ix := Unit) (Name := ℕ) (U := Pipeline.UD sig nD τ) (Lvl := ℕ)
      (Val := Elt F) (cfgs p).spec c ∗ ∃ r, prngReg c r))
    (hF : ∀ c w, (pdats m p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm (pdats m) () defs₀ Variants.none lev lvl p where
  win := kit.win
  block_pos := kit.block_pos
  stage_whole := kit.stage_whole
  K := PEmpty
  osem := fun k => k.elim
  ho := Pipeline.OwnSemFacts.none _
  hbody c := (hbody c).loose
  hwaits := Pipeline.hwaits_of_owed_zero (pcfgs (F := F)) adm (pdats m) () lev lvl p howed
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => V c (Proc.devRef .tc b))
  hentry c := by
    rw [Pipeline.ownSems0_none, show StableHlo.held (c : Thread nD τ) (Pipeline.ucRefs τ sig) (V c) = unscopedBufs c (fun b => V c (Proc.devRef .tc b))
      from (Pipeline.unscopedBufs_held (Ix := Unit) (Name := ℕ) (U := Pipeline.UD sig nD τ) (Lvl := ℕ) c (V c)).symm]
    have hsplit := Pipeline.arrays_of_unscopedBufs_shared (p := p) (pcfgs (F := F)) adm (pdats m) kit.win kit.sharedIn kit.arr_whole c
      (fun w _ => hq c w) (fun b => V c (Proc.devRef .tc b)) (hA c)
    iintro ⟨⟨Hub, HO, Hg⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      icases HO with ⟨%W, HO⟩; iexists W; isplitr; · ipureintro; exact fun _ _ => Or.inl (by rw [hrec]; exact Set.mem_univ _)
      iexact HO
    isplitl [Hg]; · iexact Hg
    iexact Hrest
  hin c := (show _ ⊢ iprop(Pipeline.scopedRest (Ix := Unit) (Name := ℕ) (U := Pipeline.UD sig nD τ) (Lvl := ℕ) (Val := Elt F) (cfgs p).spec c
      ∗ ∃ r, prngReg c r) from by
    iintro ⟨Hg, -, Hr⟩
    isplitl [Hr] <;> iassumption).trans (hfirst c)
  hout c := (hlast c).trans (by
    rw [Pipeline.ownSems0_none]
    iintro ⟨Hr, Hg⟩
    isplitl [Hg]; · iexact Hg
    isplitr; · iempintro
    iexact Hr)
  hexit c := by
    have hjoin := Pipeline.unscopedBufs_of_arrays_shared (p := p) (pcfgs (F := F)) adm kit.win kit.sharedIn kit.arr_whole c (pdats m)
      (fun w _ => hq c w) (fun b => V c (Proc.devRef .tc b)) (fun b => V' c (Proc.devRef .tc b)) ((pdats m p c).arrAt · (cfgs p).N) (hF c) (hrest c)
    rw [show StableHlo.held (c : Thread nD τ) (Pipeline.ucRefs τ sig) (V' c) = unscopedBufs c (fun b => V' c (Proc.devRef .tc b))
      from (Pipeline.unscopedBufs_held (Ix := Unit) (Name := ℕ) (U := Pipeline.UD sig nD τ) (Lvl := ℕ) c (V' c)).symm]
    iintro ⟨Ha, HO, Hg, Hrest⟩
    imodintro
    isplitl [Ha Hrest]
    · iapply hjoin; isplitl [Ha] <;> iassumption
    isplitl [HO]
    · unfold Dat.owesAt Pipeline.owesWithin
      rw [howed c (Fin.last _)]
      icases HO with ⟨%W, -, HO⟩; iexists W; iexact HO
    iexact Hg

theorem left0 (c : Dev nD) : ∀ w : Fin cfg0.W, (dat0 (U1 m) c).arrAt w cfg0.N = U2 m c (Pipeline.arrRef spec0 w) := fun
  | ⟨0, _⟩ => ((dat0 (U1 m) c).arrAt_in 0 rfl _).trans ((dat0_A (U1 m) c 0).trans (U2_of m c (Pipeline.arrRef spec0 0) (by decide)).symm)
  | ⟨1, _⟩ => ((dat0 (U1 m) c).arrAt_in 1 rfl _).trans ((dat0_A (U1 m) c 1).trans (U2_of m c (Pipeline.arrRef spec0 1) (by decide)).symm)
  | ⟨2, _⟩ => (U2_out m c).symm
theorem kept0 (c : Dev nD) (r : Ref sig .tc) (h : r ∉ Finset.univ.image (Pipeline.arrRef spec0)) : U2 m c r = U1 m c r :=
  U2_of m c r fun e => h (Finset.mem_image.mpr ⟨2, Finset.mem_univ _, e.symm⟩)
set_option backward.isDefEq.respectTransparency.types false in
def reg0 : Pipeline.RegionSeg (pcfgs (F := F)) adm (pdats m) () defs₀ Variants.none lev lvl 0 :=
  region m 0 launch0.to₀ (U1 m) (U2 m) (obligation0 (U1 m)) (dat0_A (U1 m)) (fun _ _ => rfl) (fun _ _ => rfl) (fun _ _ => rfl)
    (fun _ => .rfl) (fun _ => .rfl) (left0 m) (kept0 m)

theorem left1 (c : Dev nD) : ∀ w : Fin cfg1.W, (dat1 (U2 m) c).arrAt w cfg1.N = U3 m c (Pipeline.arrRef spec1 w) := fun
  | ⟨0, _⟩ => ((dat1 (U2 m) c).arrAt_in 0 rfl _).trans ((dat1_A (U2 m) c 0).trans (U3_of m c (Pipeline.arrRef spec1 0) (by decide)).symm)
  | ⟨1, _⟩ => ((dat1 (U2 m) c).arrAt_in 1 rfl _).trans ((dat1_A (U2 m) c 1).trans (U3_of m c (Pipeline.arrRef spec1 1) (by decide)).symm)
  | ⟨2, _⟩ => (U3_out m c).symm
theorem kept1 (c : Dev nD) (r : Ref sig .tc) (h : r ∉ Finset.univ.image (Pipeline.arrRef spec1)) : U3 m c r = U2 m c r :=
  U3_of m c r fun e => h (Finset.mem_image.mpr ⟨2, Finset.mem_univ _, e.symm⟩)
set_option backward.isDefEq.respectTransparency.types false in
def reg1 : Pipeline.RegionSeg (pcfgs (F := F)) adm (pdats m) () defs₀ Variants.none lev lvl 1 :=
  region m 1 launch1.to₀ (U2 m) (U3 m) (obligation1 (U2 m)) (dat1_A (U2 m)) (fun _ _ => rfl) (fun _ _ => rfl) (fun _ _ => rfl)
    (fun _ => .rfl) (fun _ => .rfl) (left1 m) (kept1 m)

theorem left2 (c : Dev nD) : ∀ w : Fin cfg2.W, (dat2 (U3 m) c).arrAt w cfg2.N = U4 m c (Pipeline.arrRef spec2 w) := fun
  | ⟨0, _⟩ => ((dat2 (U3 m) c).arrAt_in 0 rfl _).trans ((dat2_A (U3 m) c 0).trans (U4_of m c (Pipeline.arrRef spec2 0) (by decide)).symm)
  | ⟨1, _⟩ => ((dat2 (U3 m) c).arrAt_in 1 rfl _).trans ((dat2_A (U3 m) c 1).trans (U4_of m c (Pipeline.arrRef spec2 1) (by decide)).symm)
  | ⟨2, _⟩ => (U4_out m c).symm
theorem kept2 (c : Dev nD) (r : Ref sig .tc) (h : r ∉ Finset.univ.image (Pipeline.arrRef spec2)) : U4 m c r = U3 m c r :=
  U4_of m c r fun e => h (Finset.mem_image.mpr ⟨2, Finset.mem_univ _, e.symm⟩)
set_option backward.isDefEq.respectTransparency.types false in
def reg2 : Pipeline.RegionSeg (pcfgs (F := F)) adm (pdats m) () defs₀ Variants.none lev lvl 2 :=
  region m 2 launch2.to₀ (U3 m) (U4 m) (obligation2 (U3 m)) (dat2_A (U3 m)) (fun _ _ => rfl) (fun _ _ => rfl) (fun _ _ => rfl)
    (fun _ => .rfl) (fun _ => .rfl) (left2 m) (kept2 m)

theorem left3 (c : Dev nD) : ∀ w : Fin cfg3.W, (dat3 (U4 m) c).arrAt w cfg3.N = U5 m c (Pipeline.arrRef spec3 w) := fun
  | ⟨0, _⟩ => ((dat3 (U4 m) c).arrAt_in 0 rfl _).trans ((dat3_A (U4 m) c 0).trans (U5_of m c (Pipeline.arrRef spec3 0) (by decide)).symm)
  | ⟨1, _⟩ => ((dat3 (U4 m) c).arrAt_in 1 rfl _).trans ((dat3_A (U4 m) c 1).trans (U5_of m c (Pipeline.arrRef spec3 1) (by decide)).symm)
  | ⟨2, _⟩ => (U5_out m c).symm
theorem kept3 (c : Dev nD) (r : Ref sig .tc) (h : r ∉ Finset.univ.image (Pipeline.arrRef spec3)) : U5 m c r = U4 m c r :=
  U5_of m c r fun e => h (Finset.mem_image.mpr ⟨2, Finset.mem_univ _, e.symm⟩)
set_option backward.isDefEq.respectTransparency.types false in
def reg3 : Pipeline.RegionSeg (pcfgs (F := F)) adm (pdats m) () defs₀ Variants.none lev lvl 3 :=
  region m 3 launch3.to₀ (U4 m) (U5 m) (obligation3 (U4 m)) (dat3_A (U4 m)) (fun _ _ => rfl) (fun _ _ => rfl) (fun _ _ => rfl)
    (fun _ => .rfl) (fun _ => .rfl) (left3 m) (kept3 m)

theorem left4 (c : Dev nD) : ∀ w : Fin cfg4.W, (dat4 (U5 m) c).arrAt w cfg4.N = U6 m c (Pipeline.arrRef spec4 w) := fun
  | ⟨0, _⟩ => ((dat4 (U5 m) c).arrAt_in 0 rfl _).trans ((dat4_A (U5 m) c 0).trans (U6_of m c (Pipeline.arrRef spec4 0) (by decide)).symm)
  | ⟨1, _⟩ => ((dat4 (U5 m) c).arrAt_in 1 rfl _).trans ((dat4_A (U5 m) c 1).trans (U6_of m c (Pipeline.arrRef spec4 1) (by decide)).symm)
  | ⟨2, _⟩ => ((dat4 (U5 m) c).arrAt_in 2 rfl _).trans ((dat4_A (U5 m) c 2).trans (U6_of m c (Pipeline.arrRef spec4 2) (by decide)).symm)
  | ⟨3, _⟩ => (U6_out m c).symm
theorem kept4 (c : Dev nD) (r : Ref sig .tc) (h : r ∉ Finset.univ.image (Pipeline.arrRef spec4)) : U6 m c r = U5 m c r :=
  U6_of m c r fun e => h (Finset.mem_image.mpr ⟨3, Finset.mem_univ _, e.symm⟩)
theorem first4 (c : Dev nD) : iprop(Pipeline.scopedRest (Ix := Unit) (Name := ℕ) (U := Pipeline.UD sig nD τ) (Lvl := ℕ) (Val := Elt F) spec4 c
    ∗ ∃ r, prngReg c r) ⊢ (inv4 (U5 m) 0 c : sProp 𝕄) := by
  unfold inv4 own owns
  rw [scopedRest4_split]
  simp only [Memref.view_whole, View.set_whole]
  iintro ⟨⟨⟨%f, Hf⟩, Hr⟩, Hg⟩
  isplitl [Hf]
  · iexists f; isplitr; · ipureintro; exact fun h => absurd trivial h
    iexists f; isplitr; · ipureintro; rfl
    iexact Hf
  isplitl [Hr]; · iexact Hr
  iexact Hg
theorem last4 (c : Dev nD) : (inv4 (U5 m) 12 c : sProp 𝕄) ⊢ iprop(Pipeline.scopedRest (Ix := Unit) (Name := ℕ) (U := Pipeline.UD sig nD τ) (Lvl := ℕ)
    (Val := Elt F) spec4 c ∗ ∃ r, prngReg c r) := by
  unfold inv4 own owns
  rw [scopedRest4_split]
  simp only [Memref.view_whole, View.set_whole]
  iintro ⟨⟨%a, -, ⟨%f, -, Hf⟩⟩, Hr, Hg⟩
  isplitl [Hf Hr]
  · isplitl [Hf]; · iexists f; iexact Hf
    iexact Hr
  iexact Hg
set_option backward.isDefEq.respectTransparency.types false in
def reg4 : Pipeline.RegionSeg (pcfgs (F := F)) adm (pdats m) () defs₀ Variants.none lev lvl 4 :=
  region m 4 launch4.to₀ (U5 m) (U6 m) (obligation4 (U5 m)) (dat4_A (U5 m)) (fun _ _ => rfl) (fun _ _ => rfl) (fun _ _ => rfl)
    (first4 m) (last4 m) (left4 m) (kept4 m)

theorem left5 (c : Dev nD) : ∀ w : Fin cfg5.W, (dat5 (U6 m) c).arrAt w cfg5.N = U7 m c (Pipeline.arrRef spec5 w) := fun
  | ⟨0, _⟩ => ((dat5 (U6 m) c).arrAt_in 0 rfl _).trans ((dat5_A (U6 m) c 0).trans (U7_of m c (Pipeline.arrRef spec5 0) (by decide)).symm)
  | ⟨1, _⟩ => ((dat5 (U6 m) c).arrAt_in 1 rfl _).trans ((dat5_A (U6 m) c 1).trans (U7_of m c (Pipeline.arrRef spec5 1) (by decide)).symm)
  | ⟨2, _⟩ => ((dat5 (U6 m) c).arrAt_in 2 rfl _).trans ((dat5_A (U6 m) c 2).trans (U7_of m c (Pipeline.arrRef spec5 2) (by decide)).symm)
  | ⟨3, _⟩ => (U7_out m c).symm
theorem kept5 (c : Dev nD) (r : Ref sig .tc) (h : r ∉ Finset.univ.image (Pipeline.arrRef spec5)) : U7 m c r = U6 m c r :=
  U7_of m c r fun e => h (Finset.mem_image.mpr ⟨3, Finset.mem_univ _, e.symm⟩)
theorem first5 (c : Dev nD) : iprop(Pipeline.scopedRest (Ix := Unit) (Name := ℕ) (U := Pipeline.UD sig nD τ) (Lvl := ℕ) (Val := Elt F) spec5 c
    ∗ ∃ r, prngReg c r) ⊢ (inv5 (U6 m) 0 c : sProp 𝕄) := by
  unfold inv5 own owns
  rw [scopedRest5_split]
  simp only [Memref.view_whole, View.set_whole]
  iintro ⟨⟨⟨%f, Hf⟩, Hr⟩, Hg⟩
  isplitl [Hf]
  · iexists f; isplitr; · ipureintro; exact fun h => absurd trivial h
    iexists f; isplitr; · ipureintro; rfl
    iexact Hf
  isplitl [Hr]; · iexact Hr
  iexact Hg
theorem last5 (c : Dev nD) : (inv5 (U6 m) 10 c : sProp 𝕄) ⊢ iprop(Pipeline.scopedRest (Ix := Unit) (Name := ℕ) (U := Pipeline.UD sig nD τ) (Lvl := ℕ)
    (Val := Elt F) spec5 c ∗ ∃ r, prngReg c r) := by
  unfold inv5 own owns
  rw [scopedRest5_split]
  simp only [Memref.view_whole, View.set_whole]
  iintro ⟨⟨%a, -, ⟨%f, -, Hf⟩⟩, Hr, Hg⟩
  isplitl [Hf Hr]
  · isplitl [Hf]; · iexists f; iexact Hf
    iexact Hr
  iexact Hg
set_option backward.isDefEq.respectTransparency.types false in
def reg5 : Pipeline.RegionSeg (pcfgs (F := F)) adm (pdats m) () defs₀ Variants.none lev lvl 5 :=
  region m 5 launch5.to₀ (U6 m) (U7 m) (obligation5 (U6 m)) (dat5_A (U6 m)) (fun _ _ => rfl) (fun _ _ => rfl) (fun _ _ => rfl)
    (first5 m) (last5 m) (left5 m) (kept5 m)

/-! ## The run -/

/-- The launch element: the pipelines' at their staging cells, no counter yet. -/
def elem0 : Pipeline.UD sig nD τ := (initOf (Pipeline.cells cfgs cellOf_inj) (Pipeline.launchToks cfgs cellOf_inj), 1)

/-- What the final memory holds on core `c`: every unscoped buffer as the last region left it. -/
def Left (c : Dev nD) (s : MemSt nD τ sig (Elt F)) : Prop :=
  ∀ b ∈ Pipeline.ucRefs τ sig, s.mem ((c : Thread nD τ).1, b) = U7 m c b

set_option backward.isDefEq.respectTransparency.types false in
/-- The program's run from any launch. -/
theorem run_left : θ_run defs (onTc (τ := τ) (main (F := F))) ⟨m, fun _ => 0, ρ⟩ (fun r => (∀ c : Dev nD, Left m c r.2) ∧ r.2.sem = fun _ => 0) := by
  refine Pipeline.θ_run_regions_kit_dev_sems (pcfgs (F := F)) adm (pdats m) () cellOf_inj
    (embL : Emb (URounds (GSem nD τ sig) Unit) 𝕄) defs₀ Variants.none lev lvl m ρ main
    (segs m Variants.none lev lvl (fun _ => beside) () (pdats m) (reg0 m) (reg1 m) (reg2 m) (reg3 m) (reg4 m) (reg5 m))
    (fun c Q => by
      rewrite [main_chain c, Pipeline.Seg.run_eq_chain,
        show (segs m Variants.none lev lvl (fun _ => beside) () (pdats m) (reg0 m) (reg1 m) (reg2 m) (reg3 m) (reg4 m) (reg5 m) c).map
            Pipeline.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := elem0)
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (U7 m c))
    (hch := fun c => ⟨.rfl, .rfl, .rfl, .rfl, .rfl, .rfl, .rfl, ?_⟩)
    (hinit := ?_) (QY := fun c s => Left m c s) (hfin := fun c s' => ?_)
    (hQ := fun _ h hz => ⟨h, funext fun g => hz g (.inr (regions_no_unscoped g.2))⟩)
  · unfold elem0
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U7 m c) ∗ beside c) ⊢ _
    iintro ⟨Hh, HO, -⟩
    isplitl [Hh] <;> iassumption
  · refine Pipeline.initEach lev lvl fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := Pipeline.UD sig nD τ) (Lvl := ℕ) c (V0 m c)]
    iintro ⟨⟨Hh, -, HO, -, Hg, -⟩, -⟩
    imodintro
    isplitl [Hh]; · iexact Hh
    isplitl [HO]; · iexists ∅; iexact HO
    iexists _; iexact Hg
  · unfold StableHlo.held Left
    iintro ⟨Hh, HSI⟩
    ihave Hr := (pointsTo_read_all (Pipeline.ucRefs τ sig) (fun b => ((c : Thread nD τ).1, b)) (U7 m c) s') $$ [Hh HSI]
    · isplitl [Hh] <;> iassumption
    imodintro; iexact Hr

/-- The run, read at the arguments and at the results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v6) = U7 m c main_v6
      ∧ r.2.mem ((c.tc : Thread nD τ).loc main_v2) = U7 m c main_v2
      ∧ r.2.mem ((c.tc : Thread nD τ).loc main_v1) = U7 m c main_v1
      ∧ r.2.mem ((c.tc : Thread nD τ).loc main_v3) = U7 m c main_v3)
      ∧ r.2.sem = fun _ => 0) := by
  have at_ : ∀ (c : Dev nD) (s : MemSt nD τ sig (Elt F)), Left m c s → ∀ b : Ref sig .tc, ¬ (Proc.devRef (τ := τ) .tc b).isScoped →
      s.mem ((c.tc : Thread nD τ).loc b) = U7 m c b := fun c s h b hb =>
    h (Proc.devRef .tc b) (Finset.mem_filter.mpr ⟨StableHlo.devRef_mem_tcRefs b, hb⟩)
  exact (θ_run defs _ _).mono (fun r h => ⟨fun c => ⟨⟨
      (at_ c r.2 (h.1 c) main_arg0 (by decide)).trans (U7_arg m c main_arg0 (by decide) (by decide)),
      (at_ c r.2 (h.1 c) main_arg1 (by decide)).trans (U7_arg m c main_arg1 (by decide) (by decide)),
      (at_ c r.2 (h.1 c) main_arg2 (by decide)).trans (U7_arg m c main_arg2 (by decide) (by decide)),
      (at_ c r.2 (h.1 c) main_arg3 (by decide)).trans (U7_arg m c main_arg3 (by decide) (by decide)),
      (at_ c r.2 (h.1 c) main_arg4 (by decide)).trans (U7_arg m c main_arg4 (by decide) (by decide))⟩,
      at_ c r.2 (h.1 c) main_v6 (by decide), at_ c r.2 (h.1 c) main_v2 (by decide), at_ c r.2 (h.1 c) main_v1 (by decide), at_ c r.2 (h.1 c) main_v3 (by decide)⟩, h.2⟩) (run_left m ρ)

end Cert.Proof.Proj

end
-- ==== Proof.ProjSpec.lean ====
/-
  Matrices of extended reals, and what a payload of the projection's regions computes from blocks of them. Every step
  of the comparison regroups one sum, so it holds at every extended real.
-/
module

public import proofs.«01_k».proof.Proof.Lift
public import proofs.«01_k».proof.Proof.ProjPoints

@[expose] public section

set_option maxRecDepth 16384

noncomputable section

namespace Cert.Proof.Proj

open Idealize.ShloMosaic
open Idealize.ShloMosaic.TcCoe
open Idealize.ShloMosaic (ix2)
open scoped BigOperators

/-- The array holds these extended reals. -/
def Holds {a b : ℕ} (φ : FTy) (x : FVec Ideal ⟨2, ![a, b]⟩ φ) (f : ℕ → ℕ → EReal) : Prop :=
  ∀ (i : Fin a) (j : Fin b), x (ix2 i j) = f i.val j.val

theorem Holds.at {a b : ℕ} {φ : FTy} {x : FVec Ideal ⟨2, ![a, b]⟩ φ} {f : ℕ → ℕ → EReal} (h : Holds φ x f) (y : (⟨2, ![a, b]⟩ : Shape).Idx) :
    x y = f (y 0).val (y 1).val := by
  have e : y = ix2 (y 0) (y 1) := funext fun k => by
    match k with
    | ⟨0, _⟩ => rfl
    | ⟨1, _⟩ => rfl
  rw [e]; exact h _ _

/-- Arrays that hold the same entries are equal. -/
theorem Holds.eq {a b : ℕ} {φ : FTy} {x y : FVec Ideal ⟨2, ![a, b]⟩ φ} {f : ℕ → ℕ → EReal} (hx : Holds φ x f) (hy : Holds φ y f) : x = y :=
  funext fun p => (hx.at p).trans (hy.at p).symm

/-- Every array's entries, by their two numbers. -/
def entries {a b : ℕ} {φ : FTy} (x : FVec Ideal ⟨2, ![a, b]⟩ φ) (i j : ℕ) : EReal := if k : i < a ∧ j < b then x (ix2 ⟨i, k.1⟩ ⟨j, k.2⟩) else 0

theorem holds_entries {a b : ℕ} {φ : FTy} (x : FVec Ideal ⟨2, ![a, b]⟩ φ) : Holds φ x (entries x) := fun i j => by
  unfold entries
  rw [dif_pos ⟨i.isLt, j.isLt⟩]

/-- Chunks of equal length add up to the whole sum. -/
theorem sum_chunks (F : ℕ → EReal) (n m : ℕ) : ∑ q ∈ Finset.range m, ∑ k ∈ Finset.range n, F (q * n + k) = ∑ k ∈ Finset.range (m * n), F k := by
  induction m with
  | zero => simp
  | succ m ih => rw [Finset.sum_range_succ, ih, Nat.succ_mul, Finset.sum_range_add]

open Cert.Kernel3Ideal Cert.Kernel3Ideal.Gen

variable {f g r : ℕ → ℕ → EReal}

theorem pay0 {x : FVec Ideal S2048x16 .f32} {y : FVec Ideal S2048x1024 .bf16} (hx : Holds .f32 x f) (hy : Holds .bf16 y g) :
    Holds .bf16 (k0_pay1 x y : FVec Ideal S16x1024 .bf16) fun i j => ∑ k : Fin 2048, f k.val i * g k.val j := fun i j => by
  unfold k0_pay1
  refine (dimsTN_apply _ none (φ₁ := .bf16) (truncf .bf16 x bitsLt_bf16_f32) y _ i j).trans ?_
  rw [ValueIdx.constant_apply, Ideal.ofBits_zero_f32, zero_add]
  exact Finset.sum_congr rfl fun k _ => congrArg₂ (· * ·) (hx k i) (hy k j)

theorem pay1 {x y : FVec Ideal S2048x1024 .bf16} (hx : Holds .bf16 x f) (hy : Holds .bf16 y g) :
    Holds .bf16 (k1_pay1 x y : FVec Ideal S1024x1024 .bf16) fun i j => ∑ k : Fin 2048, f k.val i * g k.val j := fun i j => by
  unfold k1_pay1
  refine (dimsTN_apply _ none x y _ i j).trans ?_
  rw [ValueIdx.constant_apply, Ideal.ofBits_zero_f32, zero_add]
  exact Finset.sum_congr rfl fun k _ => congrArg₂ (· * ·) (hx k i) (hy k j)

theorem pay2 {x y : FVec Ideal S2048x1024 .bf16} (hx : Holds .bf16 x f) (hy : Holds .bf16 y g) :
    Holds .bf16 (k2_pay1 x y : FVec Ideal S1024x1024 .bf16) fun i j => ∑ k : Fin 2048, f k.val i * g k.val j := pay1 hx hy

theorem pay3 {x : FVec Ideal S1024x16 .f32} {y : FVec Ideal S16x1024 .bf16} (hx : Holds .f32 x f) (hy : Holds .bf16 y g) :
    Holds .f32 (k3_pay1 x y : FVec Ideal S1024x1024 .f32) fun i j => ∑ k : Fin 16, f i k.val * g k.val j := fun i j => by
  pointwise [k3_pay1]
  exact Finset.sum_congr rfl fun k _ => congrArg₂ (· * ·) (hx i k) (hy k j)

theorem pay4 {x y : FVec Ideal S1024x1024 .bf16} (hx : Holds .bf16 x f) (hy : Holds .bf16 y g) :
    Holds .f32 (k4_pay1 x y : FVec Ideal S1024x1024 .f32) fun i j => ∑ k : Fin 1024, f i k.val * g k.val j := fun i j => by
  pointwise [k4_pay1]
  exact Finset.sum_congr rfl fun k _ => congrArg₂ (· * ·) (hx i k) (hy k j)

theorem pay4_first {x y : FVec Ideal S1024x1024 .bf16} (hx : Holds .bf16 x f) (hy : Holds .bf16 y g) :
    Holds .f32 (k4_pay2 x y : FVec Ideal S1024x1024 .f32) fun i j => ∑ k : Fin 1024, f i k.val * g k.val j := fun i j => by
  unfold k4_pay2
  rw [shapeCast_id]
  exact pay4 hx hy i j

theorem pay4_next {x y : FVec Ideal S1024x1024 .bf16} {z : FVec Ideal S1024x1024 .f32} (hx : Holds .bf16 x f) (hy : Holds .bf16 y g) (hz : Holds .f32 z r) :
    Holds .f32 (k4_pay3 x y z : FVec Ideal S1024x1024 .f32) fun i j => r i j + ∑ k : Fin 1024, f i k.val * g k.val j := fun i j => by
  unfold k4_pay3
  rw [shapeCast_id]
  exact congrArg₂ (· + ·) (hz i j) (pay4 hx hy i j)

theorem pay4_last {x y : FVec Ideal S1024x1024 .f32} (hx : Holds .f32 x f) (hy : Holds .f32 y g) :
    Holds .f32 (k4_pay4 x y : FVec Ideal S1024x1024 .f32) fun i j => f i j + g i j := fun i j => by
  unfold k4_pay4
  rw [shapeCast_id]
  exact congrArg₂ (· + ·) (hx i j) (hy i j)

end Cert.Proof.Proj
-- ==== Proof.ProjVals.lean ====
/-
  What each region of the projection's program leaves in its output array, whatever its operands hold.
-/
module

public import proofs.«01_k».proof.Proof.ProjData
public import proofs.«01_k».proof.Proof.ProjSpec
public import Idealize.ShloMosaic.Lib.Pipeline.ValueKit

@[expose] public section

set_option maxRecDepth 16384

noncomputable section

namespace Cert.Proof.Proj

open Cert.Kernel3Ideal Cert.Kernel3Ideal.Gen
open Idealize.ShloMosaic
open Idealize.ShloMosaic.TcCoe
open Idealize.ShloMosaic (ix2)
open scoped BigOperators

variable (W : Dev nD → Valuation τ sig (Elt Ideal)) (c : Dev nD) {f g r : ℕ → ℕ → EReal}

/-- The entry of the product of one matrix, turned, with another. -/
def turnedDot (f g : ℕ → ℕ → EReal) (i j : ℕ) : EReal := ∑ k : Fin 2048, f k.val i * g k.val j
/-- The entry of the product of one matrix with `n` rows of another, from row `s` on. -/
def dotFrom (f g : ℕ → ℕ → EReal) (s n i j : ℕ) : EReal := ∑ k ∈ Finset.range n, f i k * g (s + k) j

/-! ## Region 0 -/

theorem lt0 (t : Fin cfg0.N) : t.val < 1 := lt_of_lt_of_eq t.isLt N_0

/-- Where every window's block lies at a point. -/
theorem index0 : ∀ t : Fin grid0.N, win0_0.index t = ![0, 0] ∧ win0_1.index t = ![0, 0] ∧ win0_2.index t = ![0, 0] := by
  decide +kernel

theorem block0_0 (t : Fin cfg0.N) (i : Fin 2048) (j : Fin 16) :
    (blk0_0 W c t : FVec Ideal S2048x16 .f32) (ix2 i j) = W c main_arg3 (ix2 i j) := by
  have h := (index0 t).1
  blk_ext [blk0_0, h]
theorem reads0_0 (hx : Holds .f32 (W c main_arg3 : FVec Ideal S2048x16 .f32) f) (t : Fin cfg0.N) :
    Holds .f32 (blk0_0 W c t : FVec Ideal S2048x16 .f32) fun i j => f i j := fun i j =>
  (block0_0 W c t i j).trans (hx _ _)

theorem block0_1 (t : Fin cfg0.N) (i : Fin 2048) (j : Fin 1024) :
    (blk0_1 W c t : FVec Ideal S2048x1024 .bf16) (ix2 i j) = W c main_arg0 (ix2 i j) := by
  have h := (index0 t).2.1
  blk_ext [blk0_1, h]
theorem reads0_1 (hx : Holds .bf16 (W c main_arg0 : FVec Ideal S2048x1024 .bf16) g) (t : Fin cfg0.N) :
    Holds .bf16 (blk0_1 W c t : FVec Ideal S2048x1024 .bf16) fun i j => g i j := fun i j =>
  (block0_1 W c t i j).trans (hx _ _)

theorem point0 (hx : Holds .f32 (W c main_arg3 : FVec Ideal S2048x16 .f32) f) (hy : Holds .bf16 (W c main_arg0 : FVec Ideal S2048x1024 .bf16) g) (t : Fin cfg0.N) :
    Holds .bf16 ((dat0 W c).after 2 t : FVec Ideal S16x1024 .bf16) fun i j => turnedDot f g i j := by
  rw [after0_2]
  exact pay0 (reads0_0 W c hx t) (reads0_1 W c hy t)

theorem array0 (hx : Holds .f32 (W c main_arg3 : FVec Ideal S2048x16 .f32) f) (hy : Holds .bf16 (W c main_arg0 : FVec Ideal S2048x1024 .bf16) g) :
    Holds .bf16 ((dat0 W c).arrAt 2 cfg0.N : FVec Ideal S16x1024 .bf16) (turnedDot f g) := by
  have h : (dat0 W c).arrAt 2 cfg0.N = (fun p => turnedDot f g (p 0).val (p 1).val : FVec Ideal S16x1024 .bf16) := by
    refine (dat0 W c).arrAt_eq_of_covers 2 _ (by decide +kernel) fun t hf y => ?_
    have hi := (index0 t).2.2
    have hb := (point0 W c hx hy t).at y
    generalize (dat0 W c).after 2 t = X at hb
    blk_simp [hi]
    exact hb
  intro i j
  rw [h]; rfl

/-! ## Region 1 -/

theorem lt1 (t : Fin cfg1.N) : t.val < 6 := lt_of_lt_of_eq t.isLt N_1

/-- Where every window's block lies at a point. -/
theorem index1 : ∀ t : Fin grid1.N, win1_0.index t = ![0, t.val] ∧ win1_1.index t = ![0, 0] ∧ win1_2.index t = ![t.val, 0] := by
  decide +kernel

theorem block1_0 (t : Fin cfg1.N) (i : Fin 2048) (j : Fin 1024) :
    (blk1_0 W c t : FVec Ideal S2048x1024 .bf16) (ix2 i j) = W c main_arg2 (ix2 i ⟨t.val * 1024 + j.val, by have := lt1 t; omega⟩) := by
  have h := (index1 t).1
  blk_ext [blk1_0, h]
theorem reads1_0 (hx : Holds .bf16 (W c main_arg2 : FVec Ideal S2048x6144 .bf16) f) (t : Fin cfg1.N) :
    Holds .bf16 (blk1_0 W c t : FVec Ideal S2048x1024 .bf16) fun i j => f i (t.val * 1024 + j) := fun i j =>
  (block1_0 W c t i j).trans (hx _ _)

theorem block1_1 (t : Fin cfg1.N) (i : Fin 2048) (j : Fin 1024) :
    (blk1_1 W c t : FVec Ideal S2048x1024 .bf16) (ix2 i j) = W c main_arg0 (ix2 i j) := by
  have h := (index1 t).2.1
  blk_ext [blk1_1, h]
theorem reads1_1 (hx : Holds .bf16 (W c main_arg0 : FVec Ideal S2048x1024 .bf16) g) (t : Fin cfg1.N) :
    Holds .bf16 (blk1_1 W c t : FVec Ideal S2048x1024 .bf16) fun i j => g i j := fun i j =>
  (block1_1 W c t i j).trans (hx _ _)

theorem point1 (hx : Holds .bf16 (W c main_arg2 : FVec Ideal S2048x6144 .bf16) f) (hy : Holds .bf16 (W c main_arg0 : FVec Ideal S2048x1024 .bf16) g) (t : Fin cfg1.N) :
    Holds .bf16 ((dat1 W c).after 2 t : FVec Ideal S1024x1024 .bf16) fun i j => turnedDot f g (t.val * 1024 + i) j := by
  rw [after1_2]
  exact pay1 (reads1_0 W c hx t) (reads1_1 W c hy t)

theorem array1 (hx : Holds .bf16 (W c main_arg2 : FVec Ideal S2048x6144 .bf16) f) (hy : Holds .bf16 (W c main_arg0 : FVec Ideal S2048x1024 .bf16) g) :
    Holds .bf16 ((dat1 W c).arrAt 2 cfg1.N : FVec Ideal S6144x1024 .bf16) (turnedDot f g) := by
  have h : (dat1 W c).arrAt 2 cfg1.N = (fun p => turnedDot f g (p 0).val (p 1).val : FVec Ideal S6144x1024 .bf16) := by
    refine (dat1 W c).arrAt_eq_of_covers 2 _ (by decide +kernel) fun t hf y => ?_
    have hi := (index1 t).2.2
    have hb := (point1 W c hx hy t).at y
    generalize (dat1 W c).after 2 t = X at hb
    blk_simp [hi]
    exact hb
  intro i j
  rw [h]; rfl

/-! ## Region 2 -/

theorem lt2 (t : Fin cfg2.N) : t.val < 5 := lt_of_lt_of_eq t.isLt N_2

/-- Where every window's block lies at a point. -/
theorem index2 : ∀ t : Fin grid2.N, win2_0.index t = ![0, t.val] ∧ win2_1.index t = ![0, 0] ∧ win2_2.index t = ![t.val, 0] := by
  decide +kernel

theorem block2_0 (t : Fin cfg2.N) (i : Fin 2048) (j : Fin 1024) :
    (blk2_0 W c t : FVec Ideal S2048x1024 .bf16) (ix2 i j) = W c main_arg4 (ix2 i ⟨t.val * 1024 + j.val, by have := lt2 t; omega⟩) := by
  have h := (index2 t).1
  blk_ext [blk2_0, h]
theorem reads2_0 (hx : Holds .bf16 (W c main_arg4 : FVec Ideal S2048x5120 .bf16) f) (t : Fin cfg2.N) :
    Holds .bf16 (blk2_0 W c t : FVec Ideal S2048x1024 .bf16) fun i j => f i (t.val * 1024 + j) := fun i j =>
  (block2_0 W c t i j).trans (hx _ _)

theorem block2_1 (t : Fin cfg2.N) (i : Fin 2048) (j : Fin 1024) :
    (blk2_1 W c t : FVec Ideal S2048x1024 .bf16) (ix2 i j) = W c main_arg0 (ix2 i j) := by
  have h := (index2 t).2.1
  blk_ext [blk2_1, h]
theorem reads2_1 (hx : Holds .bf16 (W c main_arg0 : FVec Ideal S2048x1024 .bf16) g) (t : Fin cfg2.N) :
    Holds .bf16 (blk2_1 W c t : FVec Ideal S2048x1024 .bf16) fun i j => g i j := fun i j =>
  (block2_1 W c t i j).trans (hx _ _)

theorem point2 (hx : Holds .bf16 (W c main_arg4 : FVec Ideal S2048x5120 .bf16) f) (hy : Holds .bf16 (W c main_arg0 : FVec Ideal S2048x1024 .bf16) g) (t : Fin cfg2.N) :
    Holds .bf16 ((dat2 W c).after 2 t : FVec Ideal S1024x1024 .bf16) fun i j => turnedDot f g (t.val * 1024 + i) j := by
  rw [after2_2]
  exact pay2 (reads2_0 W c hx t) (reads2_1 W c hy t)

theorem array2 (hx : Holds .bf16 (W c main_arg4 : FVec Ideal S2048x5120 .bf16) f) (hy : Holds .bf16 (W c main_arg0 : FVec Ideal S2048x1024 .bf16) g) :
    Holds .bf16 ((dat2 W c).arrAt 2 cfg2.N : FVec Ideal S5120x1024 .bf16) (turnedDot f g) := by
  have h : (dat2 W c).arrAt 2 cfg2.N = (fun p => turnedDot f g (p 0).val (p 1).val : FVec Ideal S5120x1024 .bf16) := by
    refine (dat2 W c).arrAt_eq_of_covers 2 _ (by decide +kernel) fun t hf y => ?_
    have hi := (index2 t).2.2
    have hb := (point2 W c hx hy t).at y
    generalize (dat2 W c).after 2 t = X at hb
    blk_simp [hi]
    exact hb
  intro i j
  rw [h]; rfl

/-! ## Region 3 -/

theorem lt3 (t : Fin cfg3.N) : t.val < 2 := lt_of_lt_of_eq t.isLt N_3

/-- Where every window's block lies at a point. -/
theorem index3 : ∀ t : Fin grid3.N, win3_0.index t = ![t.val, 0] ∧ win3_1.index t = ![6144, 0] ∧ win3_2.index t = ![t.val, 0] := by
  decide +kernel

theorem block3_0 (t : Fin cfg3.N) (i : Fin 1024) (j : Fin 16) :
    (blk3_0 W c t : FVec Ideal S1024x16 .f32) (ix2 i j) = W c main_arg3 (ix2 ⟨t.val * 1024 + i.val, by have := lt3 t; omega⟩ j) := by
  have h := (index3 t).1
  blk_ext [blk3_0, h]
theorem reads3_0 (hx : Holds .f32 (W c main_arg3 : FVec Ideal S2048x16 .f32) f) (t : Fin cfg3.N) :
    Holds .f32 (blk3_0 W c t : FVec Ideal S1024x16 .f32) fun i j => f (t.val * 1024 + i) j := fun i j =>
  (block3_0 W c t i j).trans (hx _ _)

/-- Where an entry of the rows' block lies in the array of all rows. -/
theorem place3 (t : Fin cfg3.N) (y : S16x1024.Idx) (a : Fin 2) :
    ((((View.whole main_v0).slice (win3_1.rect t)).emb y a : Fin _) : ℕ) = win3_1.index t a + (y a).val := by
  show win3_1.index t a + 1 * (y a).val = _
  rw [Nat.one_mul]
theorem block3_1 (t : Fin cfg3.N) (i : Fin 16) (j : Fin 1024) :
    (blk3_1 W c t : FVec Ideal S16x1024 .bf16) (ix2 i j) = W c main_v0 (ix2 ⟨6144 + i.val, by have := lt3 t; omega⟩ j) := by
  have h := (index3 t).2.1
  blk_ext [blk3_1, h]
  · exact (place3 t _ _).trans (by rw [h]; rfl)
  · exact (place3 t _ _).trans (by rw [h]; exact Nat.zero_add _)
theorem reads3_1 (hx : Holds .bf16 (W c main_v0 : FVec Ideal S11280x1024 .bf16) g) (t : Fin cfg3.N) :
    Holds .bf16 (blk3_1 W c t : FVec Ideal S16x1024 .bf16) fun i j => g (6144 + i) j := fun i j =>
  (block3_1 W c t i j).trans (hx _ _)

theorem point3 (hx : Holds .f32 (W c main_arg3 : FVec Ideal S2048x16 .f32) f) (hy : Holds .bf16 (W c main_v0 : FVec Ideal S11280x1024 .bf16) g) (t : Fin cfg3.N) :
    Holds .f32 ((dat3 W c).after 2 t : FVec Ideal S1024x1024 .f32) fun i j => dotFrom f g 6144 16 (t.val * 1024 + i) j := by
  rw [after3_2]
  refine fun i j => (pay3 (reads3_0 W c hx t) (reads3_1 W c hy t) i j).trans ?_
  exact (Finset.sum_range fun k => f (t.val * 1024 + i.val) k * g (6144 + k) j.val).symm

theorem array3 (hx : Holds .f32 (W c main_arg3 : FVec Ideal S2048x16 .f32) f) (hy : Holds .bf16 (W c main_v0 : FVec Ideal S11280x1024 .bf16) g) :
    Holds .f32 ((dat3 W c).arrAt 2 cfg3.N : FVec Ideal S2048x1024 .f32) (dotFrom f g 6144 16) := by
  have h : (dat3 W c).arrAt 2 cfg3.N = (fun p => dotFrom f g 6144 16 (p 0).val (p 1).val : FVec Ideal S2048x1024 .f32) := by
    refine (dat3 W c).arrAt_eq_of_covers 2 _ (by decide +kernel) fun t hf y => ?_
    have hi := (index3 t).2.2
    have hb := (point3 W c hx hy t).at y
    generalize (dat3 W c).after 2 t = X at hb
    blk_simp [hi]
    exact hb
  intro i j
  rw [h]; rfl

/-! ## Region 4 -/

theorem lt4 (t : Fin cfg4.N) : t.val < 12 := lt_of_lt_of_eq t.isLt N_4

/-- Where every window's block lies at a point. -/
theorem index4 : ∀ t : Fin grid4.N, win4_0.index t = ![t.val / 6, t.val % 6] ∧ win4_1.index t = ![t.val % 6 * 1024, 0] ∧ win4_2.index t = ![t.val / 6, 0] ∧ win4_3.index t = ![t.val / 6, 0] := by
  decide +kernel

theorem block4_0 (t : Fin cfg4.N) (i : Fin 1024) (j : Fin 1024) :
    (blk4_0 W c t : FVec Ideal S1024x1024 .bf16) (ix2 i j) = W c main_arg2 (ix2 ⟨t.val / 6 * 1024 + i.val, by have := lt4 t; omega⟩ ⟨t.val % 6 * 1024 + j.val, by have := lt4 t; omega⟩) := by
  have h := (index4 t).1
  blk_ext [blk4_0, h]
theorem reads4_0 (hx : Holds .bf16 (W c main_arg2 : FVec Ideal S2048x6144 .bf16) f) (t : Fin cfg4.N) :
    Holds .bf16 (blk4_0 W c t : FVec Ideal S1024x1024 .bf16) fun i j => f (t.val / 6 * 1024 + i) (t.val % 6 * 1024 + j) := fun i j =>
  (block4_0 W c t i j).trans (hx _ _)

/-- Where an entry of the rows' block lies in the array of all rows. -/
theorem place4 (t : Fin cfg4.N) (y : S1024x1024.Idx) (a : Fin 2) :
    ((((View.whole main_v0).slice (win4_1.rect t)).emb y a : Fin _) : ℕ) = win4_1.index t a + (y a).val := by
  show win4_1.index t a + 1 * (y a).val = _
  rw [Nat.one_mul]
theorem block4_1 (t : Fin cfg4.N) (i : Fin 1024) (j : Fin 1024) :
    (blk4_1 W c t : FVec Ideal S1024x1024 .bf16) (ix2 i j) = W c main_v0 (ix2 ⟨t.val % 6 * 1024 + i.val, by have := lt4 t; omega⟩ j) := by
  have h := (index4 t).2.1
  blk_ext [blk4_1, h]
  · exact (place4 t _ _).trans (by rw [h]; rfl)
  · exact (place4 t _ _).trans (by rw [h]; exact Nat.zero_add _)
theorem reads4_1 (hx : Holds .bf16 (W c main_v0 : FVec Ideal S11280x1024 .bf16) g) (t : Fin cfg4.N) :
    Holds .bf16 (blk4_1 W c t : FVec Ideal S1024x1024 .bf16) fun i j => g (t.val % 6 * 1024 + i) j := fun i j =>
  (block4_1 W c t i j).trans (hx _ _)

theorem block4_2 (t : Fin cfg4.N) (i : Fin 1024) (j : Fin 1024) :
    (blk4_2 W c t : FVec Ideal S1024x1024 .f32) (ix2 i j) = W c main_v4 (ix2 ⟨t.val / 6 * 1024 + i.val, by have := lt4 t; omega⟩ j) := by
  have h := (index4 t).2.2.1
  blk_ext [blk4_2, h]
theorem reads4_2 (hx : Holds .f32 (W c main_v4 : FVec Ideal S2048x1024 .f32) r) (t : Fin cfg4.N) :
    Holds .f32 (blk4_2 W c t : FVec Ideal S1024x1024 .f32) fun i j => r (t.val / 6 * 1024 + i) j := fun i j =>
  (block4_2 W c t i j).trans (hx _ _)

section
variable (hx : Holds .bf16 (W c main_arg2 : FVec Ideal S2048x6144 .bf16) f) (hy : Holds .bf16 (W c main_v0 : FVec Ideal S11280x1024 .bf16) g) (hz : Holds .f32 (W c main_v4 : FVec Ideal S2048x1024 .f32) r)
include hx hy

theorem acc4_holds (n : ℕ) (h : n < cfg4.N) : Holds .f32 (acc4 W c (n + 1) : FVec Ideal S1024x1024 .f32) fun i j =>
    dotFrom f g 0 ((n % 6 + 1) * 1024) (n / 6 * 1024 + i) j := by
  have step (k : Fin cfg4.N) (i j : ℕ) : (∑ q : Fin 1024, f (k.val / 6 * 1024 + i) (k.val % 6 * 1024 + q.val) * g (k.val % 6 * 1024 + q.val) j)
      = ∑ q ∈ Finset.range 1024, f (k.val / 6 * 1024 + i) (k.val % 6 * 1024 + q) * g (0 + (k.val % 6 * 1024 + q)) j := by
    rw [Finset.sum_range]
    refine Finset.sum_congr rfl fun q _ => ?_
    congr 2
    omega
  induction n with
  | zero =>
    intro i j
    rw [acc4_first W c ⟨0, h⟩ rfl]
    refine (pay4_first (reads4_0 W c hx ⟨0, h⟩) (reads4_1 W c hy ⟨0, h⟩) i j).trans ((step ⟨0, h⟩ i j).trans ?_)
    unfold dotFrom
    simp
  | succ n ih =>
    intro i j
    by_cases h0 : (n + 1) % 6 = 0
    · rw [acc4_first W c ⟨n + 1, h⟩ h0]
      refine (pay4_first (reads4_0 W c hx ⟨n + 1, h⟩) (reads4_1 W c hy ⟨n + 1, h⟩) i j).trans ((step ⟨n + 1, h⟩ i j).trans ?_)
      unfold dotFrom
      dsimp only
      simp only [h0, Nat.zero_mul, Nat.zero_add, Nat.one_mul]
    · rw [acc4_next W c ⟨n + 1, h⟩ h0]
      refine (pay4_next (reads4_0 W c hx ⟨n + 1, h⟩) (reads4_1 W c hy ⟨n + 1, h⟩) (ih (Nat.lt_of_succ_lt h)) i j).trans
        ((congrArg _ (step ⟨n + 1, h⟩ i j)).trans ?_)
      unfold dotFrom
      dsimp only
      rw [show (n + 1) % 6 = n % 6 + 1 by omega, show (n + 1) / 6 = n / 6 by omega, Nat.succ_mul (n % 6 + 1), Finset.sum_range_add]

include hz
theorem point4 (t : Fin cfg4.N) (h : t.val % 6 = 5) :
    Holds .f32 ((dat4 W c).after 3 t : FVec Ideal S1024x1024 .f32) fun i j =>
      dotFrom f g 0 6144 (t.val / 6 * 1024 + i) j + r (t.val / 6 * 1024 + i) j := by
  intro i j
  rw [after4_3]
  refine (pay4_last (acc4_holds W c hx hy t.val t.isLt) (reads4_2 W c hz t) i j).trans ?_
  dsimp only
  rw [h]

theorem array4 : Holds .f32 ((dat4 W c).arrAt 3 cfg4.N : FVec Ideal S2048x1024 .f32) fun i j => dotFrom f g 0 6144 i j + r i j := by
  have h : (dat4 W c).arrAt 3 cfg4.N = (fun p => dotFrom f g 0 6144 (p 0).val (p 1).val + r (p 0).val (p 1).val : FVec Ideal S2048x1024 .f32) := by
    refine (dat4 W c).arrAt_eq_of_covers 3 _ (by decide +kernel) fun t hf y => ?_
    have h3 : t.val % 6 = 5 := by
      by_contra hn
      exact absurd hf (by rw [noflush4 t hn]; decide)
    have hi := (index4 t).2.2.2
    have hb := (point4 W c hx hy hz t h3).at y
    generalize (dat4 W c).after 3 t = X at hb
    blk_simp [hi]
    exact hb
  intro i j
  rw [h]; rfl
end

/-! ## Region 5 -/

theorem lt5 (t : Fin cfg5.N) : t.val < 10 := lt_of_lt_of_eq t.isLt N_5

/-- Where every window's block lies at a point. -/
theorem index5 : ∀ t : Fin grid5.N, win5_0.index t = ![t.val / 5, t.val % 5] ∧ win5_1.index t = ![6160 + t.val % 5 * 1024, 0] ∧ win5_2.index t = ![t.val / 5, 0] ∧ win5_3.index t = ![t.val / 5, 0] := by
  decide +kernel

theorem block5_0 (t : Fin cfg5.N) (i : Fin 1024) (j : Fin 1024) :
    (blk5_0 W c t : FVec Ideal S1024x1024 .bf16) (ix2 i j) = W c main_arg4 (ix2 ⟨t.val / 5 * 1024 + i.val, by have := lt5 t; omega⟩ ⟨t.val % 5 * 1024 + j.val, by have := lt5 t; omega⟩) := by
  have h := (index5 t).1
  blk_ext [blk5_0, h]
theorem reads5_0 (hx : Holds .bf16 (W c main_arg4 : FVec Ideal S2048x5120 .bf16) f) (t : Fin cfg5.N) :
    Holds .bf16 (blk5_0 W c t : FVec Ideal S1024x1024 .bf16) fun i j => f (t.val / 5 * 1024 + i) (t.val % 5 * 1024 + j) := fun i j =>
  (block5_0 W c t i j).trans (hx _ _)

/-- Where an entry of the rows' block lies in the array of all rows. -/
theorem place5 (t : Fin cfg5.N) (y : S1024x1024.Idx) (a : Fin 2) :
    ((((View.whole main_v0).slice (win5_1.rect t)).emb y a : Fin _) : ℕ) = win5_1.index t a + (y a).val := by
  show win5_1.index t a + 1 * (y a).val = _
  rw [Nat.one_mul]
theorem block5_1 (t : Fin cfg5.N) (i : Fin 1024) (j : Fin 1024) :
    (blk5_1 W c t : FVec Ideal S1024x1024 .bf16) (ix2 i j) = W c main_v0 (ix2 ⟨6160 + t.val % 5 * 1024 + i.val, by have := lt5 t; omega⟩ j) := by
  have h := (index5 t).2.1
  blk_ext [blk5_1, h]
  · exact (place5 t _ _).trans (by rw [h]; rfl)
  · exact (place5 t _ _).trans (by rw [h]; exact Nat.zero_add _)
theorem reads5_1 (hx : Holds .bf16 (W c main_v0 : FVec Ideal S11280x1024 .bf16) g) (t : Fin cfg5.N) :
    Holds .bf16 (blk5_1 W c t : FVec Ideal S1024x1024 .bf16) fun i j => g (6160 + t.val % 5 * 1024 + i) j := fun i j =>
  (block5_1 W c t i j).trans (hx _ _)

theorem block5_2 (t : Fin cfg5.N) (i : Fin 1024) (j : Fin 1024) :
    (blk5_2 W c t : FVec Ideal S1024x1024 .f32) (ix2 i j) = W c main_v5 (ix2 ⟨t.val / 5 * 1024 + i.val, by have := lt5 t; omega⟩ j) := by
  have h := (index5 t).2.2.1
  blk_ext [blk5_2, h]
theorem reads5_2 (hx : Holds .f32 (W c main_v5 : FVec Ideal S2048x1024 .f32) r) (t : Fin cfg5.N) :
    Holds .f32 (blk5_2 W c t : FVec Ideal S1024x1024 .f32) fun i j => r (t.val / 5 * 1024 + i) j := fun i j =>
  (block5_2 W c t i j).trans (hx _ _)

section
variable (hx : Holds .bf16 (W c main_arg4 : FVec Ideal S2048x5120 .bf16) f) (hy : Holds .bf16 (W c main_v0 : FVec Ideal S11280x1024 .bf16) g) (hz : Holds .f32 (W c main_v5 : FVec Ideal S2048x1024 .f32) r)
include hx hy

theorem acc5_holds (n : ℕ) (h : n < cfg5.N) : Holds .f32 (acc5 W c (n + 1) : FVec Ideal S1024x1024 .f32) fun i j =>
    dotFrom f g 6160 ((n % 5 + 1) * 1024) (n / 5 * 1024 + i) j := by
  have step (k : Fin cfg5.N) (i j : ℕ) : (∑ q : Fin 1024, f (k.val / 5 * 1024 + i) (k.val % 5 * 1024 + q.val) * g (6160 + k.val % 5 * 1024 + q.val) j)
      = ∑ q ∈ Finset.range 1024, f (k.val / 5 * 1024 + i) (k.val % 5 * 1024 + q) * g (6160 + (k.val % 5 * 1024 + q)) j := by
    rw [Finset.sum_range]
    refine Finset.sum_congr rfl fun q _ => ?_
    congr 2
    omega
  induction n with
  | zero =>
    intro i j
    rw [acc5_first W c ⟨0, h⟩ rfl]
    refine (pay4_first (reads5_0 W c hx ⟨0, h⟩) (reads5_1 W c hy ⟨0, h⟩) i j).trans ((step ⟨0, h⟩ i j).trans ?_)
    unfold dotFrom
    simp
  | succ n ih =>
    intro i j
    by_cases h0 : (n + 1) % 5 = 0
    · rw [acc5_first W c ⟨n + 1, h⟩ h0]
      refine (pay4_first (reads5_0 W c hx ⟨n + 1, h⟩) (reads5_1 W c hy ⟨n + 1, h⟩) i j).trans ((step ⟨n + 1, h⟩ i j).trans ?_)
      unfold dotFrom
      dsimp only
      simp only [h0, Nat.zero_mul, Nat.zero_add, Nat.one_mul]
    · rw [acc5_next W c ⟨n + 1, h⟩ h0]
      refine (pay4_next (reads5_0 W c hx ⟨n + 1, h⟩) (reads5_1 W c hy ⟨n + 1, h⟩) (ih (Nat.lt_of_succ_lt h)) i j).trans
        ((congrArg _ (step ⟨n + 1, h⟩ i j)).trans ?_)
      unfold dotFrom
      dsimp only
      rw [show (n + 1) % 5 = n % 5 + 1 by omega, show (n + 1) / 5 = n / 5 by omega, Nat.succ_mul (n % 5 + 1), Finset.sum_range_add]

include hz
theorem point5 (t : Fin cfg5.N) (h : t.val % 5 = 4) :
    Holds .f32 ((dat5 W c).after 3 t : FVec Ideal S1024x1024 .f32) fun i j =>
      dotFrom f g 6160 5120 (t.val / 5 * 1024 + i) j + r (t.val / 5 * 1024 + i) j := by
  intro i j
  rw [after5_3]
  refine (pay4_last (acc5_holds W c hx hy t.val t.isLt) (reads5_2 W c hz t) i j).trans ?_
  dsimp only
  rw [h]

theorem array5 : Holds .f32 ((dat5 W c).arrAt 3 cfg5.N : FVec Ideal S2048x1024 .f32) fun i j => dotFrom f g 6160 5120 i j + r i j := by
  have h : (dat5 W c).arrAt 3 cfg5.N = (fun p => dotFrom f g 6160 5120 (p 0).val (p 1).val + r (p 0).val (p 1).val : FVec Ideal S2048x1024 .f32) := by
    refine (dat5 W c).arrAt_eq_of_covers 3 _ (by decide +kernel) fun t hf y => ?_
    have h3 : t.val % 5 = 4 := by
      by_contra hn
      exact absurd hf (by rw [noflush5 t hn]; decide)
    have hi := (index5 t).2.2.2
    have hb := (point5 W c hx hy hz t h3).at y
    generalize (dat5 W c).after 3 t = X at hb
    blk_simp [hi]
    exact hb
  intro i j
  rw [h]; rfl
end

end Cert.Proof.Proj
-- ==== Proof.ProjEquation.lean ====
/-
  The projection's program and its reference leave the same four arrays, from any inputs: the reference multiplies the
  three cotangents side by side, the program one at a time.
-/
module

public import proofs.«01_k».proof.Proof.ProjRun
public import proofs.«01_k».proof.Proof.ProjVals
public import proofs.«01_k».proof.Proof.Gen.Reference3Ideal.Run

@[expose] public section

set_option maxRecDepth 16384

noncomputable section

namespace Cert.Proof.Proj

open Idealize.ShloMosaic
open Idealize.ShloMosaic.TcCoe
open Idealize.ShloMosaic (ix2)
open scoped BigOperators

/-- Three matrices of 6144, 16 and further columns side by side. -/
def joined (f g r : ℕ → ℕ → EReal) (i j : ℕ) : EReal := if j < 6144 then f i j else if j < 6160 then g i (j - 6144) else r i (j - 6160)

section
variable {f g r w : ℕ → ℕ → EReal}

theorem joined_first (i : ℕ) {j : ℕ} (h : j < 6144) : joined f g r i j = f i j := if_pos h
theorem joined_second (i : ℕ) {j : ℕ} (h : j < 16) : joined f g r i (6144 + j) = g i j := by
  unfold joined
  rw [if_neg (by omega), if_pos (by omega), Nat.add_sub_cancel_left]
theorem joined_third (i j : ℕ) : joined f g r i (6160 + j) = r i j := by
  unfold joined
  rw [if_neg (by omega), if_neg (by omega), Nat.add_sub_cancel_left]

/-- One product with the joined matrix is the three products, added in the program's order. -/
theorem joined_dot (i j : ℕ) : ∑ k : Fin 11280, joined f g r i k.val * w k.val j
    = dotFrom r w 6160 5120 i j + (dotFrom f w 0 6144 i j + dotFrom g w 6144 16 i j) := by
  rw [← Finset.sum_range fun k => joined f g r i k * w k j, show 11280 = 6144 + 16 + 5120 from rfl, Finset.sum_range_add, Finset.sum_range_add, add_comm]
  unfold dotFrom
  refine congrArg₂ (· + ·) (Finset.sum_congr rfl fun k _ => ?_) (congrArg₂ (· + ·) (Finset.sum_congr rfl fun k hk => ?_) (Finset.sum_congr rfl fun k hk => ?_))
  · rw [show 6144 + 16 = 6160 from rfl, joined_third]
  · rw [joined_first i (Finset.mem_range.mp hk), Nat.zero_add]
  · rw [joined_second i (Finset.mem_range.mp hk)]
end

/-! ## The reference's lines -/

namespace Lines

open Cert.Reference3Ideal Cert.Reference3Ideal.Gen

variable (x : FVec Ideal S2048x1024 .bf16) (w : FVec Ideal S1024x11280 .bf16) (y1 : FVec Ideal S2048x6144 .bf16) (yf : FVec Ideal S2048x16 .f32)
  (y2 : FVec Ideal S2048x5120 .bf16)

def cat : FVec Ideal S2048x11280 .f32 :=
  concatenate S2048x11280 1 [⟨S2048x6144, extf .f32 y1 bitsLt_bf16_f32⟩, ⟨S2048x16, yf⟩, ⟨S2048x5120, extf .f32 y2 bitsLt_bf16_f32⟩]
    concatenates_S2048x6144_S2048x16_S2048x5120_S2048x11280_d1
def dInput : FVec Ideal S2048x1024 .f32 :=
  Host.dotGeneral (F := Ideal) (φ₁ := .f32) (φ₂ := .f32) dot_S2048x11280_S1024x11280_S2048x1024_1_1_0_0_n_n none (cat y1 yf y2) (extf .f32 w bitsLt_bf16_f32)
def dWeight : FVec Ideal S11280x1024 .bf16 :=
  truncf .bf16 (transpose S11280x1024 [1, 0] (transpose S1024x11280 [1, 0]
    (Host.dotGeneral (F := Ideal) (φ₁ := .f32) (φ₂ := .f32) dot_S2048x11280_S2048x1024_S11280x1024_0_0_1_1_n_n none (cat y1 yf y2) (extf .f32 x bitsLt_bf16_f32))
    transposes_S11280x1024_S1024x11280_1_0) transposes_S1024x11280_S11280x1024_1_0) bitsLt_bf16_f32
def dFirst : FVec Ideal S6144x1024 .bf16 := extractStridedSlice S6144x1024 ![0, 0] (dWeight x y1 yf y2) slices_S11280x1024_S6144x1024_0_0
def dSecond : FVec Ideal S16x1024 .bf16 := extractStridedSlice S16x1024 ![6144, 0] (dWeight x y1 yf y2) slices_S11280x1024_S16x1024_6144_0
def dThird : FVec Ideal S5120x1024 .bf16 := extractStridedSlice S5120x1024 ![6160, 0] (dWeight x y1 yf y2) slices_S11280x1024_S5120x1024_6160_0

theorem dInput_apply (i : Fin 2048) (k : Fin 1024) : dInput w y1 yf y2 (ix2 i k) = ∑ j, cat y1 yf y2 (ix2 i j) * w (ix2 k j) := by
  pointwise [dInput]
theorem dWeight_apply (j : Fin 11280) (k : Fin 1024) : dWeight x y1 yf y2 (ix2 j k) = ∑ i, cat y1 yf y2 (ix2 i j) * x (ix2 i k) := by
  pointwise [dWeight]
theorem dFirst_apply (j : Fin 6144) (k : Fin 1024) : dFirst x y1 yf y2 (ix2 j k) = dWeight x y1 yf y2 (ix2 ⟨j.val, by omega⟩ k) := by
  pointwise [dFirst]
theorem dSecond_apply (j : Fin 16) (k : Fin 1024) : dSecond x y1 yf y2 (ix2 j k) = dWeight x y1 yf y2 (ix2 ⟨6144 + j.val, by omega⟩ k) := by
  pointwise [dSecond]
theorem dThird_apply (j : Fin 5120) (k : Fin 1024) : dThird x y1 yf y2 (ix2 j k) = dWeight x y1 yf y2 (ix2 ⟨6160 + j.val, by omega⟩ k) := by
  pointwise [dThird]

variable {x w y1 yf y2} {fx fw f g r : ℕ → ℕ → EReal} (hx : Holds .bf16 x fx) (hw : Holds .bf16 w fw) (h1 : Holds .bf16 y1 f) (hf : Holds .f32 yf g)
  (h2 : Holds .bf16 y2 r)
include h1 hf h2

theorem cat_holds : Holds .f32 (cat y1 yf y2) (joined f g r) := fun i j => by
  unfold joined
  by_cases a : j.val < 6144
  · rw [if_pos a, ← h1 i ⟨j.val, a⟩]
    pointwise [cat, a]
  · by_cases b : j.val < 6160
    · rw [if_neg a, if_pos b, ← hf i ⟨j.val - 6144, by omega⟩]
      have b' : j.val - 6144 < 16 := by omega
      pointwise [cat, a, b']
    · rw [if_neg a, if_neg b]
      have e := h2 i ⟨j.val - 6160, by omega⟩
      rw [← e]
      have b' : ¬ j.val - 6144 < 16 := by omega
      have k : (⟨j.val - 6144 - 16, by omega⟩ : Fin 5120) = ⟨j.val - 6160, by omega⟩ := Fin.ext (by simp only; omega)
      pointwise [cat, a, b', k]

include hw in
theorem dInput_holds : Holds .f32 (dInput w y1 yf y2) fun i k =>
    dotFrom r (fun a b => fw b a) 6160 5120 i k + (dotFrom f (fun a b => fw b a) 0 6144 i k + dotFrom g (fun a b => fw b a) 6144 16 i k) := fun i k => by
  rw [dInput_apply]
  refine Eq.trans ?_ (joined_dot (w := fun a b => fw b a) i.val k.val)
  exact Finset.sum_congr rfl fun j _ => congrArg₂ (· * ·) (cat_holds h1 hf h2 i j) (hw k j)

include hx

theorem dWeight_holds : Holds .bf16 (dWeight x y1 yf y2) (turnedDot (joined f g r) fx) := fun j k => by
  rw [dWeight_apply]
  exact Finset.sum_congr rfl fun i _ => congrArg₂ (· * ·) (cat_holds h1 hf h2 i j) (hx i k)
theorem dFirst_holds : Holds .bf16 (dFirst x y1 yf y2) (turnedDot f fx) := fun j k => by
  rw [dFirst_apply, dWeight_holds hx h1 hf h2]
  exact Finset.sum_congr rfl fun i _ => by rw [joined_first i.val j.isLt]
theorem dSecond_holds : Holds .bf16 (dSecond x y1 yf y2) (turnedDot g fx) := fun j k => by
  rw [dSecond_apply, dWeight_holds hx h1 hf h2]
  exact Finset.sum_congr rfl fun i _ => by rw [joined_second i.val j.isLt]
theorem dThird_holds : Holds .bf16 (dThird x y1 yf y2) (turnedDot r fx) := fun j k => by
  rw [dThird_apply, dWeight_holds hx h1 hf h2]
  exact Finset.sum_congr rfl fun i _ => by rw [joined_third i.val j.val]

end Lines

/-! ## The program's results -/

open Cert.Kernel3Ideal Cert.Kernel3Ideal.Gen

section
variable (m : (ℓ : Loc nD τ sig) → Buf (Elt Ideal) ℓ) (c : Dev nD)

/-- The input, the matrix and the three cotangents a device is given. -/
def argX : FVec Ideal S2048x1024 .bf16 := m ((c.tc : Thread nD τ).loc main_arg0)
def argW : FVec Ideal S1024x11280 .bf16 := m ((c.tc : Thread nD τ).loc main_arg1)
def arg1 : FVec Ideal S2048x6144 .bf16 := m ((c.tc : Thread nD τ).loc main_arg2)
def argF : FVec Ideal S2048x16 .f32 := m ((c.tc : Thread nD τ).loc main_arg3)
def arg2 : FVec Ideal S2048x5120 .bf16 := m ((c.tc : Thread nD τ).loc main_arg4)

theorem turned : (U1 m c main_v0 : FVec Ideal S11280x1024 .bf16) = transpose S11280x1024 [1, 0] (argW m c) transposes_S1024x11280_S11280x1024_1_0 := by
  unfold U1 argW
  rfl
theorem turned_apply (x : FVec Ideal S1024x11280 .bf16) (i : Fin 11280) (j : Fin 1024) :
    transpose S11280x1024 [1, 0] x transposes_S1024x11280_S11280x1024_1_0 (ix2 i j) = x (ix2 j i) := by
  pointwise []
theorem holds_rows : Holds .bf16 (U1 m c main_v0 : FVec Ideal S11280x1024 .bf16) fun i j => entries (argW m c) j i := fun i j => by
  rw [turned, turned_apply]
  exact holds_entries _ j i

theorem holds_X : Holds .bf16 (U1 m c main_arg0 : FVec Ideal S2048x1024 .bf16) (entries (argX m c)) := by
  rw [U1_of m c main_arg0 (by decide)]; exact holds_entries (argX m c)
theorem holds_1 : Holds .bf16 (U1 m c main_arg2 : FVec Ideal S2048x6144 .bf16) (entries (arg1 m c)) := by
  rw [U1_of m c main_arg2 (by decide)]; exact holds_entries (arg1 m c)
theorem holds_F : Holds .f32 (U1 m c main_arg3 : FVec Ideal S2048x16 .f32) (entries (argF m c)) := by
  rw [U1_of m c main_arg3 (by decide)]; exact holds_entries (argF m c)
theorem holds_2 : Holds .bf16 (U1 m c main_arg4 : FVec Ideal S2048x5120 .bf16) (entries (arg2 m c)) := by
  rw [U1_of m c main_arg4 (by decide)]; exact holds_entries (arg2 m c)

/-- What a region before the last ones leaves alone. -/
theorem kept_U2 (r : Ref sig .tc) (h : r ≠ main_v1) : U2 m c r = U1 m c r := U2_of m c r h
theorem kept_U3 (r : Ref sig .tc) (h : r ≠ main_v1 ∧ r ≠ main_v2) : U3 m c r = U1 m c r := by
  rw [U3_of m c r h.2, U2_of m c r h.1]
theorem kept_U4 (r : Ref sig .tc) (h : r ≠ main_v1 ∧ r ≠ main_v2 ∧ r ≠ main_v3) : U4 m c r = U1 m c r := by
  rw [U4_of m c r h.2.2, kept_U3 m c r ⟨h.1, h.2.1⟩]
theorem kept_U5 (r : Ref sig .tc) (h : r ≠ main_v1 ∧ r ≠ main_v2 ∧ r ≠ main_v3 ∧ r ≠ main_v4) : U5 m c r = U1 m c r := by
  rw [U5_of m c r h.2.2.2, kept_U4 m c r ⟨h.1, h.2.1, h.2.2.1⟩]
theorem kept_U6 (r : Ref sig .tc) (h : r ≠ main_v1 ∧ r ≠ main_v2 ∧ r ≠ main_v3 ∧ r ≠ main_v4 ∧ r ≠ main_v5) : U6 m c r = U1 m c r := by
  rw [U6_of m c r h.2.2.2.2, kept_U5 m c r ⟨h.1, h.2.1, h.2.2.1, h.2.2.2.1⟩]

theorem result_second : Holds .bf16 (U7 m c main_v1 : FVec Ideal S16x1024 .bf16) (turnedDot (entries (argF m c)) (entries (argX m c))) := by
  rw [U7_of m c main_v1 (by decide), U6_of m c main_v1 (by decide), U5_of m c main_v1 (by decide), U4_of m c main_v1 (by decide),
    U3_of m c main_v1 (by decide), U2_out]
  exact array0 (U1 m) c (holds_F m c) (holds_X m c)
theorem result_first : Holds .bf16 (U7 m c main_v2 : FVec Ideal S6144x1024 .bf16) (turnedDot (entries (arg1 m c)) (entries (argX m c))) := by
  rw [U7_of m c main_v2 (by decide), U6_of m c main_v2 (by decide), U5_of m c main_v2 (by decide), U4_of m c main_v2 (by decide), U3_out]
  refine array1 (U2 m) c ?_ ?_
  · rw [kept_U2 m c main_arg2 (by decide)]; exact holds_1 m c
  · rw [kept_U2 m c main_arg0 (by decide)]; exact holds_X m c
theorem result_third : Holds .bf16 (U7 m c main_v3 : FVec Ideal S5120x1024 .bf16) (turnedDot (entries (arg2 m c)) (entries (argX m c))) := by
  rw [U7_of m c main_v3 (by decide), U6_of m c main_v3 (by decide), U5_of m c main_v3 (by decide), U4_out]
  refine array2 (U3 m) c ?_ ?_
  · rw [kept_U3 m c main_arg4 (by decide)]; exact holds_2 m c
  · rw [kept_U3 m c main_arg0 (by decide)]; exact holds_X m c

/-- The matrix's rows as the program reads them. -/
abbrev rows (i j : ℕ) : EReal := entries (argW m c) j i

theorem after_second : Holds .f32 (U5 m c main_v4 : FVec Ideal S2048x1024 .f32) (dotFrom (entries (argF m c)) (rows m c) 6144 16) := by
  rw [U5_out]
  refine array3 (U4 m) c ?_ ?_
  · rw [kept_U4 m c main_arg3 (by decide)]; exact holds_F m c
  · rw [kept_U4 m c main_v0 (by decide)]; exact holds_rows m c
theorem after_first : Holds .f32 (U6 m c main_v5 : FVec Ideal S2048x1024 .f32) fun i j =>
    dotFrom (entries (arg1 m c)) (rows m c) 0 6144 i j + dotFrom (entries (argF m c)) (rows m c) 6144 16 i j := by
  rw [U6_out]
  refine array4 (U5 m) c ?_ ?_ (after_second m c)
  · rw [kept_U5 m c main_arg2 (by decide)]; exact holds_1 m c
  · rw [kept_U5 m c main_v0 (by decide)]; exact holds_rows m c
theorem result_input : Holds .f32 (U7 m c main_v6 : FVec Ideal S2048x1024 .f32) fun i j => dotFrom (entries (arg2 m c)) (rows m c) 6160 5120 i j
    + (dotFrom (entries (arg1 m c)) (rows m c) 0 6144 i j + dotFrom (entries (argF m c)) (rows m c) 6144 16 i j) := by
  rw [U7_out]
  refine array5 (U6 m) c ?_ ?_ (after_first m c)
  · rw [kept_U6 m c main_arg4 (by decide)]; exact holds_2 m c
  · rw [kept_U6 m c main_v0 (by decide)]; exact holds_rows m c

/-! ## The two agree -/

theorem inputs_agree : (U7 m c main_v6 : FVec Ideal S2048x1024 .f32) = Lines.dInput (argW m c) (arg1 m c) (argF m c) (arg2 m c) :=
  Holds.eq (result_input m c) (Lines.dInput_holds (holds_entries _) (holds_entries _) (holds_entries _) (holds_entries _))
theorem firsts_agree : (U7 m c main_v2 : FVec Ideal S6144x1024 .bf16) = Lines.dFirst (argX m c) (arg1 m c) (argF m c) (arg2 m c) :=
  Holds.eq (result_first m c) (Lines.dFirst_holds (holds_entries _) (holds_entries _) (holds_entries _) (holds_entries _))
theorem seconds_agree : (U7 m c main_v1 : FVec Ideal S16x1024 .bf16) = Lines.dSecond (argX m c) (arg1 m c) (argF m c) (arg2 m c) :=
  Holds.eq (result_second m c) (Lines.dSecond_holds (holds_entries _) (holds_entries _) (holds_entries _) (holds_entries _))
theorem thirds_agree : (U7 m c main_v3 : FVec Ideal S5120x1024 .bf16) = Lines.dThird (argX m c) (arg1 m c) (argF m c) (arg2 m c) :=
  Holds.eq (result_third m c) (Lines.dThird_holds (holds_entries _) (holds_entries _) (holds_entries _) (holds_entries _))
end

end Cert.Proof.Proj
-- ==== Proof.ProjWords.lean ====
/-
  The projection's program and its idealization are one text, so the run of the second at machine words is the first's.
-/
module

public import proofs.«01_k».proof.Proof.Gen.Kernel3
public import proofs.«01_k».proof.Proof.Gen.Kernel3Ideal

@[expose] public section

set_option maxRecDepth 65536

noncomputable section

namespace Cert.Proof.Proj

open Idealize.ShloMosaic Idealize.SL.Sem

set_option maxHeartbeats 1000000

variable {F : FTy → Type} [FloatOps F]

theorem same_body0 : @Cert.Kernel3.cc0_mmg_w_in F _ _ = @Cert.Kernel3Ideal.cc0_mmg_w_in F _ _ := rfl
theorem same_body1 : @Cert.Kernel3.cc1_mmg_w_in F _ _ = @Cert.Kernel3Ideal.cc1_mmg_w_in F _ _ := rfl
theorem same_body2 : @Cert.Kernel3.cc2_mmg_w_in F _ _ = @Cert.Kernel3Ideal.cc2_mmg_w_in F _ _ := rfl
theorem same_body3 : @Cert.Kernel3.cc3_mmb_in F _ _ = @Cert.Kernel3Ideal.cc3_mmb_in F _ _ := rfl
theorem same_body4 : @Cert.Kernel3.cc4_mmb_in F _ _ = @Cert.Kernel3Ideal.cc4_mmb_in F _ _ := rfl
theorem same_body5 : @Cert.Kernel3.cc5_mmb_in F _ _ = @Cert.Kernel3Ideal.cc5_mmb_in F _ _ := rfl

theorem same_bodies : @Cert.Kernel3.defs₀ F _ _ = @Cert.Kernel3Ideal.defs₀ F _ _ := by
  unfold Cert.Kernel3.defs₀ Cert.Kernel3Ideal.defs₀
  refine congrArg Defs.onTc (funext fun l => funext fun a => ?_)
  match l, a with
  | 0, (t, s) =>
    show Cert.Kernel3.cc0_mmg_w_in _ _ _ _ _ _ _ = _
    rw [same_body0]
    rfl
  | 1, (t, s) =>
    show Cert.Kernel3.cc1_mmg_w_in _ _ _ _ _ _ _ = _
    rw [same_body1]
    rfl
  | 2, (t, s) =>
    show Cert.Kernel3.cc2_mmg_w_in _ _ _ _ _ _ _ = _
    rw [same_body2]
    rfl
  | 3, (t, s) =>
    show Cert.Kernel3.cc3_mmb_in _ _ _ _ _ _ _ = _
    rw [same_body3]
    rfl
  | 4, (t, s) =>
    show Cert.Kernel3.cc4_mmb_in _ _ _ _ _ _ _ _ _ _ _ = _
    rw [same_body4]
    rfl
  | 5, (t, s) =>
    show Cert.Kernel3.cc5_mmb_in _ _ _ _ _ _ _ _ _ _ _ = _
    rw [same_body5]
    rfl
  | ⟨_ + 6, h⟩, _ => exact absurd h (Nat.not_lt.2 (Nat.le_add_left _ _))

theorem same_defs : @Cert.Kernel3.defs F _ _ = @Cert.Kernel3Ideal.defs F _ _ := by
  show Pipeline.defs Cert.Kernel3.pcfgs Cert.Kernel3.defs₀ = _
  rw [same_bodies]
  rfl

theorem same_main : Cert.Kernel3.main (F := F) = Cert.Kernel3Ideal.main (F := F) := rfl

end Cert.Proof.Proj
-- ==== Proof.FwdPoints.lean ====
/-
  The calls of the input projection (its product in three pieces): what one grid point of each leaves, at any elements.
-/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Regions
public import Idealize.ShloMosaic.Lib.Pipeline.FrameValue
public import Idealize.ShloMosaic.Lib.Pipeline.TableIdle
public import Idealize.ShloMosaic.Lib.Pipeline.RegionsLoop
public import Idealize.ShloMosaic.Lib.VecWindow
public import Idealize.ShloMosaic.Lib.Tactic

@[expose] public section

set_option maxRecDepth 16384

noncomputable section

namespace Cert.Proof.Fwd

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M` owned whole on core `c` at contents `X`. -/
abbrev own (c : Dev nD) {sp : Space} {S : Shape} {e : EltTy} (M : Memref sig .tc sp S e) (X : S.Idx → Elt F e) : sProp 𝕄 :=
  owns (c : Thread nD τ) M fullShare X

/-- A buffer written whole is owned at what was written. -/
theorem own_written (c : Dev nD) {sp : Space} {S : Shape} {e : EltTy} (M : Memref sig .tc sp S e) (f : M.view.ty.Contents (Elt F))
    {off : Fin S.rank → ℕ} (inb : ∀ a, off a + S.size a ≤ S.size a) (X : S.Idx → Elt F e) :
    (M.view.loc (c : Thread nD τ) ↦[M.view.set]{fullShare} M.view.writes (Elt F) f [⟨Rect.unit off S.size inb, X⟩]) ⊢ (own c M X : sProp 𝕄) := by
  iintro H
  unfold own owns; iexists _; isplitr
  swap; · iexact H
  ipureintro
  exact View.read_writes_full _ _ inb X []

theorem run0 (c : Dev nD) (i : grid0.Coords) (a : Memref sig .tc .vmem S1024x1024 .bf16) (ha : a.IsWhole) (b : Memref sig .tc .vmem S1024x1024 .bf16) (hb : b.IsWhole) (o : Memref sig .tc .vmem S1024x1024 .bf16) (ho : o.IsWhole)
    (x : Vec F S1024x1024 .bf16) (y : Vec F S1024x1024 .bf16) (z : Vec F S1024x1024 .bf16) (W : Waits sig Unit) (K : PUnit → sProp 𝕄) :
    iprop(own c a x ∗ own c b y ∗ own c o z ∗ owes (c : Thread nD τ) 0 W
      ∗ (iprop(own c a x ∗ own c b y ∗ own c o (k0_pay1 x y) ∗ (∃ W', owes (c : Thread nD τ) 0 W')) -∗ K ⟨⟩))
      ⊢ wp frame (wpE (defs₀ (F := F)) Variants.none c none) Set.univ (cc0_mm_in_lo i a ha b hb o ho) K := by
  simp only [cc0_mm_in_lo_eq_skeleton]; unfold cc0_mm_in_lo_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k0_pay1 x y)); iexact Ho
  iexists _; iexact HW

theorem run1 (c : Dev nD) (i : grid1.Coords) (a : Memref sig .tc .vmem S1024x1024 .bf16) (ha : a.IsWhole) (b : Memref sig .tc .vmem S1024x1024 .bf16) (hb : b.IsWhole) (o : Memref sig .tc .vmem S1024x1024 .bf16) (ho : o.IsWhole)
    (x : Vec F S1024x1024 .bf16) (y : Vec F S1024x1024 .bf16) (z : Vec F S1024x1024 .bf16) (W : Waits sig Unit) (K : PUnit → sProp 𝕄) :
    iprop(own c a x ∗ own c b y ∗ own c o z ∗ owes (c : Thread nD τ) 0 W
      ∗ (iprop(own c a x ∗ own c b y ∗ own c o (k1_pay1 x y) ∗ (∃ W', owes (c : Thread nD τ) 0 W')) -∗ K ⟨⟩))
      ⊢ wp frame (wpE (defs₀ (F := F)) Variants.none c none) Set.univ (cc1_mm_in_hi i a ha b hb o ho) K := by
  simp only [cc1_mm_in_hi_eq_skeleton]; unfold cc1_mm_in_hi_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k1_pay1 x y)); iexact Ho
  iexists _; iexact HW

theorem run2 (c : Dev nD) (i : grid2.Coords) (a : Memref sig .tc .vmem S1024x1024 .bf16) (ha : a.IsWhole) (b : Memref sig .tc .vmem S16x1024 .bf16) (hb : b.IsWhole) (o : Memref sig .tc .vmem S1024x16 .f32) (ho : o.IsWhole)
    (x : Vec F S1024x1024 .bf16) (y : Vec F S16x1024 .bf16) (z : Vec F S1024x16 .f32) (W : Waits sig Unit) (K : PUnit → sProp 𝕄) :
    iprop(own c a x ∗ own c b y ∗ own c o z ∗ owes (c : Thread nD τ) 0 W
      ∗ (iprop(own c a x ∗ own c b y ∗ own c o (k2_pay1 x y) ∗ (∃ W', owes (c : Thread nD τ) 0 W')) -∗ K ⟨⟩))
      ⊢ wp frame (wpE (defs₀ (F := F)) Variants.none c none) Set.univ (cc2_mm_in_f i a ha b hb o ho) K := by
  simp only [cc2_mm_in_f_eq_skeleton]; unfold cc2_mm_in_f_skel
  iintro ⟨Ha, Hb, Ho, HW, Hk⟩
  ihave Ha := (rep_of_owns (c : Thread nD τ) a fullShare x) $$ Ha
  ihave Hb := (rep_of_owns (c : Thread nD τ) b fullShare y) $$ Hb
  ihave Ho := (rep_of_owns (c : Thread nD τ) o fullShare z) $$ Ho
  sl_exec
  sl_step
  rw [View.readAt_rep_full (Val := Elt F) a.view x, View.readAt_rep_full (Val := Elt F) b.view y]
  iapply Hk
  isplitl [Ha]; · iapply (owns_of_rep (c : Thread nD τ) a fullShare x); iexact Ha
  isplitl [Hb]; · iapply (owns_of_rep (c : Thread nD τ) b fullShare y); iexact Hb
  isplitl [Ho]; · iapply (own_written c o _ _ (k2_pay1 x y)); iexact Ho
  iexists _; iexact HW

end Cert.Proof.Fwd

end
-- ==== Proof.FwdData.lean ====
/-
  The input projection's regions as the pipeline runs them: what each reads and leaves at every point, over any
  contents of the buffers it is entered with, and that its body does so.
-/
module

public import proofs.«01_k».proof.Proof.FwdPoints

@[expose] public section

set_option maxRecDepth 16384

noncomputable section

namespace Cert.Proof.Fwd

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (W : Dev nD → Valuation τ sig (Elt F))

/-! ## Region 0: `mm_in_lo` -/

/-- Operand 0's block at a point. -/
def blk0_0 (c : Dev nD) (t : Fin cfg0.N) : Vec F S1024x1024 .bf16 :=
  ((cfg0.win 0).blk t).view.read (Elt F) (W c (Pipeline.arrRef spec0 0))
/-- Operand 1's block at a point. -/
def blk0_1 (c : Dev nD) (t : Fin cfg0.N) : Vec F S1024x1024 .bf16 :=
  ((cfg0.win 1).blk t).view.read (Elt F) (W c (Pipeline.arrRef spec0 1))
/-- The invariant at every point: the scoped buffers and the generator's register. -/
def inv0 (c : Dev nD) : sProp 𝕄 :=
  iprop(Pipeline.scopedRest (Ix := Unit) (Name := ℕ) (U := Pipeline.UD sig nD τ) (Lvl := ℕ) (Val := Elt F) spec0 c ∗ ∃ r, prngReg c r)
/-- The proof data on core `c`, entered at `W`. -/
def dat0 (c : Dev nD) : Dat τ (Elt F) Unit ℕ (Pipeline.UD sig nD τ) ℕ cfg0 c where
  A w := W c (Pipeline.arrRef spec0 w)
  after w t := match w with
    | ⟨0, _⟩ => blk0_0 W c t
    | ⟨1, _⟩ => blk0_1 W c t
    | ⟨2, _⟩ => k0_pay1 (blk0_0 W c t) (blk0_1 W c t)
  Φ _ := inv0 c
  q w := Pipeline.shareOf spec0 w
  owed _ := 0
theorem dat0_A (c : Dev nD) (w : Fin cfg0.W) : (dat0 W c).A w = W c (Pipeline.arrRef spec0 w) := by dsimp only [dat0]
theorem before0_0 (c : Dev nD) (t : Fin cfg0.N) (d) : (dat0 W c).before 0 t d = blk0_0 W c t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0_1 W c t :=
  ((dat0 W c).before_in_eq_fetched 1 rfl (fun _ => rfl) (fun _ _ _ => rfl) (fun _ => rfl) t d).trans rfl
theorem after0_2 (c : Dev nD) (t : Fin cfg0.N) : (dat0 W c).after 2 t = k0_pay1 (blk0_0 W c t) (blk0_1 W c t) := by dsimp only [dat0]

def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

set_option maxHeartbeats 1000000 in
theorem sound0 (c : Dev nD) (t : Fin cfg0.N) :
    pre0 W c t ⊢ wp frame (wpE (defs₀ (F := F)) Variants.none c none) Set.univ (bodyAt0 t) (fun _ => post0 W c t) := by
  unfold pre0 post0 bodyAt0
  rw [show (dat0 W c).Φ t.succ = inv0 c from rfl, show (dat0 W c).Φ t.castSucc = inv0 c from rfl, after0_2]
  unfold Dat.owesAt Pipeline.owesWithin
  rw [show (dat0 W c).owed t.castSucc = 0 from rfl, show (dat0 W c).owed t.succ = 0 from rfl]
  simp only [before0_0, before0_1]
  rw [show (dat0 W c).after 0 t = blk0_0 W c t from rfl, show (dat0 W c).after 1 t = blk0_1 W c t from rfl]
  iintro ⟨HΦ, ⟨%Ws, -, HW⟩, ⟨%_, H0⟩, ⟨%_, H1⟩, ⟨%d, H2⟩⟩
  iapply (run0 c (grid0.coords t) (st0_0 t) _ (st0_1 t) _ (st0_2 t) _ (blk0_0 W c t) (blk0_1 W c t) ((dat0 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) W c) (defs₀ (F := F)) Variants.none () Set.univ := fun t => by
  rw [bigSep_W0, bigSep_W0, row0]
  exact triple_restated (sound0 W c t) rfl .rfl fun _ => .rfl

/-! ## Region 1: `mm_in_hi` -/

/-- Operand 0's block at a point. -/
def blk1_0 (c : Dev nD) (t : Fin cfg1.N) : Vec F S1024x1024 .bf16 :=
  ((cfg1.win 0).blk t).view.read (Elt F) (W c (Pipeline.arrRef spec1 0))
/-- Operand 1's block at a point. -/
def blk1_1 (c : Dev nD) (t : Fin cfg1.N) : Vec F S1024x1024 .bf16 :=
  ((cfg1.win 1).blk t).view.read (Elt F) (W c (Pipeline.arrRef spec1 1))
/-- The invariant at every point: the scoped buffers and the generator's register. -/
def inv1 (c : Dev nD) : sProp 𝕄 :=
  iprop(Pipeline.scopedRest (Ix := Unit) (Name := ℕ) (U := Pipeline.UD sig nD τ) (Lvl := ℕ) (Val := Elt F) spec1 c ∗ ∃ r, prngReg c r)
/-- The proof data on core `c`, entered at `W`. -/
def dat1 (c : Dev nD) : Dat τ (Elt F) Unit ℕ (Pipeline.UD sig nD τ) ℕ cfg1 c where
  A w := W c (Pipeline.arrRef spec1 w)
  after w t := match w with
    | ⟨0, _⟩ => blk1_0 W c t
    | ⟨1, _⟩ => blk1_1 W c t
    | ⟨2, _⟩ => k1_pay1 (blk1_0 W c t) (blk1_1 W c t)
  Φ _ := inv1 c
  q w := Pipeline.shareOf spec1 w
  owed _ := 0
theorem dat1_A (c : Dev nD) (w : Fin cfg1.W) : (dat1 W c).A w = W c (Pipeline.arrRef spec1 w) := by dsimp only [dat1]
theorem before1_0 (c : Dev nD) (t : Fin cfg1.N) (d) : (dat1 W c).before 0 t d = blk1_0 W c t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1_1 W c t :=
  ((dat1 W c).before_in_eq_fetched 1 rfl (fun _ => rfl) (fun _ _ _ => rfl) (fun _ => rfl) t d).trans rfl
theorem after1_2 (c : Dev nD) (t : Fin cfg1.N) : (dat1 W c).after 2 t = k1_pay1 (blk1_0 W c t) (blk1_1 W c t) := by dsimp only [dat1]

def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d)))
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t))

set_option maxHeartbeats 1000000 in
theorem sound1 (c : Dev nD) (t : Fin cfg1.N) :
    pre1 W c t ⊢ wp frame (wpE (defs₀ (F := F)) Variants.none c none) Set.univ (bodyAt1 t) (fun _ => post1 W c t) := by
  unfold pre1 post1 bodyAt1
  rw [show (dat1 W c).Φ t.succ = inv1 c from rfl, show (dat1 W c).Φ t.castSucc = inv1 c from rfl, after1_2]
  unfold Dat.owesAt Pipeline.owesWithin
  rw [show (dat1 W c).owed t.castSucc = 0 from rfl, show (dat1 W c).owed t.succ = 0 from rfl]
  simp only [before1_0, before1_1]
  rw [show (dat1 W c).after 0 t = blk1_0 W c t from rfl, show (dat1 W c).after 1 t = blk1_1 W c t from rfl]
  iintro ⟨HΦ, ⟨%Ws, -, HW⟩, ⟨%_, H0⟩, ⟨%_, H1⟩, ⟨%d, H2⟩⟩
  iapply (run1 c (grid1.coords t) (st1_0 t) _ (st1_1 t) _ (st1_2 t) _ (blk1_0 W c t) (blk1_1 W c t) ((dat1 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) W c) (defs₀ (F := F)) Variants.none () Set.univ := fun t => by
  rw [bigSep_W1, bigSep_W1, row1]
  exact triple_restated (sound1 W c t) rfl .rfl fun _ => .rfl

/-! ## Region 2: `mm_in_f` -/

/-- Operand 0's block at a point. -/
def blk2_0 (c : Dev nD) (t : Fin cfg2.N) : Vec F S1024x1024 .bf16 :=
  ((cfg2.win 0).blk t).view.read (Elt F) (W c (Pipeline.arrRef spec2 0))
/-- Operand 1's block at a point. -/
def blk2_1 (c : Dev nD) (t : Fin cfg2.N) : Vec F S16x1024 .bf16 :=
  ((cfg2.win 1).blk t).view.read (Elt F) (W c (Pipeline.arrRef spec2 1))
/-- The invariant at every point: the scoped buffers and the generator's register. -/
def inv2 (c : Dev nD) : sProp 𝕄 :=
  iprop(Pipeline.scopedRest (Ix := Unit) (Name := ℕ) (U := Pipeline.UD sig nD τ) (Lvl := ℕ) (Val := Elt F) spec2 c ∗ ∃ r, prngReg c r)
/-- The proof data on core `c`, entered at `W`. -/
def dat2 (c : Dev nD) : Dat τ (Elt F) Unit ℕ (Pipeline.UD sig nD τ) ℕ cfg2 c where
  A w := W c (Pipeline.arrRef spec2 w)
  after w t := match w with
    | ⟨0, _⟩ => blk2_0 W c t
    | ⟨1, _⟩ => blk2_1 W c t
    | ⟨2, _⟩ => k2_pay1 (blk2_0 W c t) (blk2_1 W c t)
  Φ _ := inv2 c
  q w := Pipeline.shareOf spec2 w
  owed _ := 0
theorem dat2_A (c : Dev nD) (w : Fin cfg2.W) : (dat2 W c).A w = W c (Pipeline.arrRef spec2 w) := by dsimp only [dat2]
theorem before2_0 (c : Dev nD) (t : Fin cfg2.N) (d) : (dat2 W c).before 0 t d = blk2_0 W c t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2_1 W c t :=
  ((dat2 W c).before_in_eq_fetched 1 rfl (fun _ => rfl) (fun _ _ _ => rfl) (fun _ => rfl) t d).trans rfl
theorem after2_2 (c : Dev nD) (t : Fin cfg2.N) : (dat2 W c).after 2 t = k2_pay1 (blk2_0 W c t) (blk2_1 W c t) := by dsimp only [dat2]

def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d)))
def post2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t))

set_option maxHeartbeats 1000000 in
theorem sound2 (c : Dev nD) (t : Fin cfg2.N) :
    pre2 W c t ⊢ wp frame (wpE (defs₀ (F := F)) Variants.none c none) Set.univ (bodyAt2 t) (fun _ => post2 W c t) := by
  unfold pre2 post2 bodyAt2
  rw [show (dat2 W c).Φ t.succ = inv2 c from rfl, show (dat2 W c).Φ t.castSucc = inv2 c from rfl, after2_2]
  unfold Dat.owesAt Pipeline.owesWithin
  rw [show (dat2 W c).owed t.castSucc = 0 from rfl, show (dat2 W c).owed t.succ = 0 from rfl]
  simp only [before2_0, before2_1]
  rw [show (dat2 W c).after 0 t = blk2_0 W c t from rfl, show (dat2 W c).after 1 t = blk2_1 W c t from rfl]
  iintro ⟨HΦ, ⟨%Ws, -, HW⟩, ⟨%_, H0⟩, ⟨%_, H1⟩, ⟨%d, H2⟩⟩
  iapply (run2 c (grid2.coords t) (st2_0 t) _ (st2_1 t) _ (st2_2 t) _ (blk2_0 W c t) (blk2_1 W c t) ((dat2 W c).before 2 t d) Ws _)
  isplitl [H0]; · iexact H0
  isplitl [H1]; · iexact H1
  isplitl [H2]; · iexact H2
  isplitl [HW]; · iexact HW
  iintro ⟨H0, H1, H2, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem row2 (t : Fin cfg2.N) : defs₀ (F := F) .tc cfg2.body (cfg2.bodyArgs t (cfg2.slots t)) = bodyAt2 t := by
  unfold defs₀; rw [Defs.onTc_tc]

theorem obligation2 (c : Dev nD) : BodyObligation (dat2 (F := F) W c) (defs₀ (F := F)) Variants.none () Set.univ := fun t => by
  rw [bigSep_W2, bigSep_W2, row2]
  exact triple_restated (sound2 W c t) rfl .rfl fun _ => .rfl

end Cert.Proof.Fwd

end
-- ==== Proof.FwdRun.lean ====
/-
  The run of the input projection's program, at any elements: the host's transpose, then the three regions in turn,
  each entered with what the one before left; it ends, the arguments and the semaphores as they were.
-/
module

public import proofs.«01_k».proof.Proof.FwdData

@[expose] public section

set_option maxRecDepth 16384

noncomputable section

namespace Cert.Proof.Fwd

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers between the items -/

/-- Core `c`'s buffers before the first region: the host has transposed the weight. -/
def U1 (c : Dev nD) : Valuation τ sig (Elt F) := StableHlo.after hostOps0 (V0 m c)
/-- After region 0, which writes `main_v1`. -/
def U2 (c : Dev nD) : Valuation τ sig (Elt F) := Function.update (U1 m c) main_v1 ((dat0 (U1 m) c).arrAt 2 cfg0.N)
/-- After region 1, which writes `main_v2`. -/
def U3 (c : Dev nD) : Valuation τ sig (Elt F) := Function.update (U2 m c) main_v2 ((dat1 (U2 m) c).arrAt 2 cfg1.N)
/-- After region 2, which writes `main_v3`. -/
def U4 (c : Dev nD) : Valuation τ sig (Elt F) := Function.update (U3 m c) main_v3 ((dat2 (U3 m) c).arrAt 2 cfg2.N)
theorem U2_out (c : Dev nD) : U2 m c main_v1 = (dat0 (U1 m) c).arrAt 2 cfg0.N := Function.update_self _ _ _
theorem U2_of (c : Dev nD) (r : Ref sig .tc) (h : r ≠ main_v1) : U2 m c r = U1 m c r :=
  Function.update_of_ne (StableHlo.devRef_ne_of_ne h : (Proc.devRef .tc r : DevRef τ sig) ≠ Proc.devRef .tc main_v1) _ _
theorem U3_out (c : Dev nD) : U3 m c main_v2 = (dat1 (U2 m) c).arrAt 2 cfg1.N := Function.update_self _ _ _
theorem U3_of (c : Dev nD) (r : Ref sig .tc) (h : r ≠ main_v2) : U3 m c r = U2 m c r :=
  Function.update_of_ne (StableHlo.devRef_ne_of_ne h : (Proc.devRef .tc r : DevRef τ sig) ≠ Proc.devRef .tc main_v2) _ _
theorem U4_out (c : Dev nD) : U4 m c main_v3 = (dat2 (U3 m) c).arrAt 2 cfg2.N := Function.update_self _ _ _
theorem U4_of (c : Dev nD) (r : Ref sig .tc) (h : r ≠ main_v3) : U4 m c r = U3 m c r :=
  Function.update_of_ne (StableHlo.devRef_ne_of_ne h : (Proc.devRef .tc r : DevRef τ sig) ≠ Proc.devRef .tc main_v3) _ _
theorem U1_of (c : Dev nD) (r : Ref sig .tc) (h : r ≠ main_v0) : U1 m c r = m ((c : Thread nD τ).loc r) :=
  StableHlo.after_of_writes_sub hostOps0 _ hostOps0_writes (by simpa using h)
theorem U4_arg (c : Dev nD) (r : Ref sig .tc) (h : r ∉ ([main_v1, main_v2, main_v3] : List (Ref sig .tc))) (h0 : r ≠ main_v0) :
    U4 m c r = m ((c : Thread nD τ).loc r) := by
  simp only [List.mem_cons, List.not_mem_nil, or_false, not_or] at h
  obtain ⟨h1, h2, h3⟩ := h
  rw [U4_of m c r h3, U3_of m c r h2, U2_of m c r h1, U1_of m c r h0]

/-- Every region's proof data, each entered with what the one before left. -/
def pdats : (p : Fin 3) → (c : Dev nD) → Dat τ (Elt F) Unit ℕ (Pipeline.UD sig nD τ) ℕ (cfgs p) c := fun
  | 0 => dat0 (U1 m)
  | 1 => dat1 (U2 m)
  | 2 => dat2 (U3 m)
  | ⟨_ + 3, h⟩ => absurd h (Nat.not_lt.2 (Nat.le_add_left _ _))

/-! ## A region as a segment -/

/-- No core owes another anything: no level is assigned. -/
abbrev lev : GSem nD τ sig → Finset Unit := fun _ => ∅
abbrev lvl : GSem nD τ sig → Unit → ℕ := fun _ _ => 0

/-- What rides beside the buffers: the core owes nothing, and the generator's register. -/
abbrev beside (c : Dev nD) : sProp 𝕄 := iprop((∃ W, owes (c : Thread nD τ) (0 : CellTallies nD τ sig Unit) W) ∗ ∃ r, prngReg c r)

set_option backward.isDefEq.respectTransparency.types false in
/-- Region `p` entered with the buffers at `V` and left with them at `V'`. -/
def region (p : Fin 3) (kit : Pipeline.LaunchFacts₀ (nD := nD) (τ := τ) cfgs p)
    (V V' : Dev nD → Valuation τ sig (Elt F))
    (hbody : ∀ c, BodyObligation (pdats m p c) (defs₀ (F := F)) Variants.none () Set.univ)
    (hA : ∀ c w, (pdats m p c).A w = V c (Pipeline.arrRef (cfgs p).spec w))
    (hq : ∀ c w, (pdats m p c).q w = Pipeline.shareOf (cfgs p).spec w)
    (howed : ∀ c t, (pdats m p c).owed t = 0) (hrec : ∀ c t, (pdats m p c).recorded t = Set.univ)
    (hfirst : ∀ c, iprop(Pipeline.scopedRest (Ix := Unit) (Name := ℕ) (U := Pipeline.UD sig nD τ) (Lvl := ℕ) (Val := Elt F) (cfgs p).spec c
      ∗ ∃ r, prngReg c r) ⊢ (pdats m p c).Φ 0)
    (hlast : ∀ c, (pdats m p c).Φ (Fin.last (cfgs p).N) ⊢ iprop(Pipeline.scopedRest (Ix := Unit) (Name := ℕ) (U := Pipeline.UD sig nD τ) (Lvl := ℕ)
      (Val := Elt F) (cfgs p).spec c ∗ ∃ r, prngReg c r))
    (hF : ∀ c w, (pdats m p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm (pdats m) () defs₀ Variants.none lev lvl p where
  win := kit.win
  block_pos := kit.block_pos
  stage_whole := kit.stage_whole
  K := PEmpty
  osem := fun k => k.elim
  ho := Pipeline.OwnSemFacts.none _
  hbody c := (hbody c).loose
  hwaits := Pipeline.hwaits_of_owed_zero (pcfgs (F := F)) adm (pdats m) () lev lvl p howed
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => V c (Proc.devRef .tc b))
  hentry c := by
    rw [Pipeline.ownSems0_none, show StableHlo.held (c : Thread nD τ) (Pipeline.ucRefs τ sig) (V c) = unscopedBufs c (fun b => V c (Proc.devRef .tc b))
      from (Pipeline.unscopedBufs_held (Ix := Unit) (Name := ℕ) (U := Pipeline.UD sig nD τ) (Lvl := ℕ) c (V c)).symm]
    have hsplit := Pipeline.arrays_of_unscopedBufs_shared (p := p) (pcfgs (F := F)) adm (pdats m) kit.win kit.sharedIn kit.arr_whole c
      (fun w _ => hq c w) (fun b => V c (Proc.devRef .tc b)) (hA c)
    iintro ⟨⟨Hub, HO, Hg⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      icases HO with ⟨%W, HO⟩; iexists W; isplitr; · ipureintro; exact fun _ _ => Or.inl (by rw [hrec]; exact Set.mem_univ _)
      iexact HO
    isplitl [Hg]; · iexact Hg
    iexact Hrest
  hin c := (show _ ⊢ iprop(Pipeline.scopedRest (Ix := Unit) (Name := ℕ) (U := Pipeline.UD sig nD τ) (Lvl := ℕ) (Val := Elt F) (cfgs p).spec c
      ∗ ∃ r, prngReg c r) from by
    iintro ⟨Hg, -, Hr⟩
    isplitl [Hr] <;> iassumption).trans (hfirst c)
  hout c := (hlast c).trans (by
    rw [Pipeline.ownSems0_none]
    iintro ⟨Hr, Hg⟩
    isplitl [Hg]; · iexact Hg
    isplitr; · iempintro
    iexact Hr)
  hexit c := by
    have hjoin := Pipeline.unscopedBufs_of_arrays_shared (p := p) (pcfgs (F := F)) adm kit.win kit.sharedIn kit.arr_whole c (pdats m)
      (fun w _ => hq c w) (fun b => V c (Proc.devRef .tc b)) (fun b => V' c (Proc.devRef .tc b)) ((pdats m p c).arrAt · (cfgs p).N) (hF c) (hrest c)
    rw [show StableHlo.held (c : Thread nD τ) (Pipeline.ucRefs τ sig) (V' c) = unscopedBufs c (fun b => V' c (Proc.devRef .tc b))
      from (Pipeline.unscopedBufs_held (Ix := Unit) (Name := ℕ) (U := Pipeline.UD sig nD τ) (Lvl := ℕ) c (V' c)).symm]
    iintro ⟨Ha, HO, Hg, Hrest⟩
    imodintro
    isplitl [Ha Hrest]
    · iapply hjoin; isplitl [Ha] <;> iassumption
    isplitl [HO]
    · unfold Dat.owesAt Pipeline.owesWithin
      rw [howed c (Fin.last _)]
      icases HO with ⟨%W, -, HO⟩; iexists W; iexact HO
    iexact Hg

theorem left0 (c : Dev nD) : ∀ w : Fin cfg0.W, (dat0 (U1 m) c).arrAt w cfg0.N = U2 m c (Pipeline.arrRef spec0 w) := fun
  | ⟨0, _⟩ => ((dat0 (U1 m) c).arrAt_in 0 rfl _).trans ((dat0_A (U1 m) c 0).trans (U2_of m c (Pipeline.arrRef spec0 0) (by decide)).symm)
  | ⟨1, _⟩ => ((dat0 (U1 m) c).arrAt_in 1 rfl _).trans ((dat0_A (U1 m) c 1).trans (U2_of m c (Pipeline.arrRef spec0 1) (by decide)).symm)
  | ⟨2, _⟩ => (U2_out m c).symm
theorem kept0 (c : Dev nD) (r : Ref sig .tc) (h : r ∉ Finset.univ.image (Pipeline.arrRef spec0)) : U2 m c r = U1 m c r :=
  U2_of m c r fun e => h (Finset.mem_image.mpr ⟨2, Finset.mem_univ _, e.symm⟩)
set_option backward.isDefEq.respectTransparency.types false in
def reg0 : Pipeline.RegionSeg (pcfgs (F := F)) adm (pdats m) () defs₀ Variants.none lev lvl 0 :=
  region m 0 launch0.to₀ (U1 m) (U2 m) (obligation0 (U1 m)) (dat0_A (U1 m)) (fun _ _ => rfl) (fun _ _ => rfl) (fun _ _ => rfl)
    (fun _ => .rfl) (fun _ => .rfl) (left0 m) (kept0 m)

theorem left1 (c : Dev nD) : ∀ w : Fin cfg1.W, (dat1 (U2 m) c).arrAt w cfg1.N = U3 m c (Pipeline.arrRef spec1 w) := fun
  | ⟨0, _⟩ => ((dat1 (U2 m) c).arrAt_in 0 rfl _).trans ((dat1_A (U2 m) c 0).trans (U3_of m c (Pipeline.arrRef spec1 0) (by decide)).symm)
  | ⟨1, _⟩ => ((dat1 (U2 m) c).arrAt_in 1 rfl _).trans ((dat1_A (U2 m) c 1).trans (U3_of m c (Pipeline.arrRef spec1 1) (by decide)).symm)
  | ⟨2, _⟩ => (U3_out m c).symm
theorem kept1 (c : Dev nD) (r : Ref sig .tc) (h : r ∉ Finset.univ.image (Pipeline.arrRef spec1)) : U3 m c r = U2 m c r :=
  U3_of m c r fun e => h (Finset.mem_image.mpr ⟨2, Finset.mem_univ _, e.symm⟩)
set_option backward.isDefEq.respectTransparency.types false in
def reg1 : Pipeline.RegionSeg (pcfgs (F := F)) adm (pdats m) () defs₀ Variants.none lev lvl 1 :=
  region m 1 launch1.to₀ (U2 m) (U3 m) (obligation1 (U2 m)) (dat1_A (U2 m)) (fun _ _ => rfl) (fun _ _ => rfl) (fun _ _ => rfl)
    (fun _ => .rfl) (fun _ => .rfl) (left1 m) (kept1 m)

theorem left2 (c : Dev nD) : ∀ w : Fin cfg2.W, (dat2 (U3 m) c).arrAt w cfg2.N = U4 m c (Pipeline.arrRef spec2 w) := fun
  | ⟨0, _⟩ => ((dat2 (U3 m) c).arrAt_in 0 rfl _).trans ((dat2_A (U3 m) c 0).trans (U4_of m c (Pipeline.arrRef spec2 0) (by decide)).symm)
  | ⟨1, _⟩ => ((dat2 (U3 m) c).arrAt_in 1 rfl _).trans ((dat2_A (U3 m) c 1).trans (U4_of m c (Pipeline.arrRef spec2 1) (by decide)).symm)
  | ⟨2, _⟩ => (U4_out m c).symm
theorem kept2 (c : Dev nD) (r : Ref sig .tc) (h : r ∉ Finset.univ.image (Pipeline.arrRef spec2)) : U4 m c r = U3 m c r :=
  U4_of m c r fun e => h (Finset.mem_image.mpr ⟨2, Finset.mem_univ _, e.symm⟩)
set_option backward.isDefEq.respectTransparency.types false in
def reg2 : Pipeline.RegionSeg (pcfgs (F := F)) adm (pdats m) () defs₀ Variants.none lev lvl 2 :=
  region m 2 launch2.to₀ (U3 m) (U4 m) (obligation2 (U3 m)) (dat2_A (U3 m)) (fun _ _ => rfl) (fun _ _ => rfl) (fun _ _ => rfl)
    (fun _ => .rfl) (fun _ => .rfl) (left2 m) (kept2 m)

/-! ## The run -/

/-- The launch element: the pipelines' at their staging cells, no counter yet. -/
def elem0 : Pipeline.UD sig nD τ := (initOf (Pipeline.cells cfgs cellOf_inj) (Pipeline.launchToks cfgs cellOf_inj), 1)

/-- What the final memory holds on core `c`: every unscoped buffer as the last region left it. -/
def Left (c : Dev nD) (s : MemSt nD τ sig (Elt F)) : Prop :=
  ∀ b ∈ Pipeline.ucRefs τ sig, s.mem ((c : Thread nD τ).1, b) = U4 m c b

set_option backward.isDefEq.respectTransparency.types false in
/-- The program's run from any launch. -/
theorem run_left : θ_run defs (onTc (τ := τ) (main (F := F))) ⟨m, fun _ => 0, ρ⟩ (fun r => (∀ c : Dev nD, Left m c r.2) ∧ r.2.sem = fun _ => 0) := by
  refine Pipeline.θ_run_regions_kit_dev_sems (pcfgs (F := F)) adm (pdats m) () cellOf_inj
    (embL : Emb (URounds (GSem nD τ sig) Unit) 𝕄) defs₀ Variants.none lev lvl m ρ main
    (segs m Variants.none lev lvl (fun _ => beside) () (pdats m) (reg0 m) (reg1 m) (reg2 m))
    (fun c Q => by
      rewrite [main_chain c, Pipeline.Seg.run_eq_chain,
        show (segs m Variants.none lev lvl (fun _ => beside) () (pdats m) (reg0 m) (reg1 m) (reg2 m) c).map
            Pipeline.Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := elem0)
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (U4 m c))
    (hch := fun c => ⟨.rfl, .rfl, .rfl, .rfl, ?_⟩)
    (hinit := ?_) (QY := fun c s => Left m c s) (hfin := fun c s' => ?_)
    (hQ := fun _ h hz => ⟨h, funext fun g => hz g (.inr (regions_no_unscoped g.2))⟩)
  · unfold elem0
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U4 m c) ∗ beside c) ⊢ _
    iintro ⟨Hh, HO, -⟩
    isplitl [Hh] <;> iassumption
  · refine Pipeline.initEach lev lvl fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := Pipeline.UD sig nD τ) (Lvl := ℕ) c (V0 m c)]
    iintro ⟨⟨Hh, -, HO, -, Hg, -⟩, -⟩
    imodintro
    isplitl [Hh]; · iexact Hh
    isplitl [HO]; · iexists ∅; iexact HO
    iexists _; iexact Hg
  · unfold StableHlo.held Left
    iintro ⟨Hh, HSI⟩
    ihave Hr := (pointsTo_read_all (Pipeline.ucRefs τ sig) (fun b => ((c : Thread nD τ).1, b)) (U4 m c) s') $$ [Hh HSI]
    · isplitl [Hh] <;> iassumption
    imodintro; iexact Hr

/-- The run, read at the arguments and at the results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v1) = U4 m c main_v1
      ∧ r.2.mem ((c.tc : Thread nD τ).loc main_v3) = U4 m c main_v3
      ∧ r.2.mem ((c.tc : Thread nD τ).loc main_v2) = U4 m c main_v2)
      ∧ r.2.sem = fun _ => 0) := by
  have at_ : ∀ (c : Dev nD) (s : MemSt nD τ sig (Elt F)), Left m c s → ∀ b : Ref sig .tc, ¬ (Proc.devRef (τ := τ) .tc b).isScoped →
      s.mem ((c.tc : Thread nD τ).loc b) = U4 m c b := fun c s h b hb =>
    h (Proc.devRef .tc b) (Finset.mem_filter.mpr ⟨StableHlo.devRef_mem_tcRefs b, hb⟩)
  exact (θ_run defs _ _).mono (fun r h => ⟨fun c => ⟨⟨
      (at_ c r.2 (h.1 c) main_arg0 (by decide)).trans (U4_arg m c main_arg0 (by decide) (by decide)),
      (at_ c r.2 (h.1 c) main_arg1 (by decide)).trans (U4_arg m c main_arg1 (by decide) (by decide))⟩,
      at_ c r.2 (h.1 c) main_v1 (by decide), at_ c r.2 (h.1 c) main_v3 (by decide), at_ c r.2 (h.1 c) main_v2 (by decide)⟩, h.2⟩) (run_left m ρ)

end Cert.Proof.Fwd

end
-- ==== Proof.FwdEquation.lean ====
/-
  The input projection's three calls leave the reference's arrays, from any inputs.
-/
module

public import proofs.«01_k».proof.Proof.FwdRun
public import proofs.«01_k».proof.Proof.ProjSpec
public import Idealize.ShloMosaic.Lib.Pipeline.ValueKit
public import proofs.«01_k».proof.Proof.Gen.Reference4Ideal.Run

@[expose] public section

set_option maxRecDepth 16384

noncomputable section

namespace Cert.Proof.Fwd

open Idealize.ShloMosaic
open Idealize.ShloMosaic.TcCoe
open Idealize.ShloMosaic (ix2)
open Cert.Proof.Proj (Holds entries holds_entries)
open scoped BigOperators

/-- The entry of the product of one matrix with rows of another, from row `s` on. -/
def rowDot (f g : ℕ → ℕ → EReal) (s i j : ℕ) : EReal := ∑ k : Fin 1024, f i k.val * g (s + j) k.val

section
open Cert.Kernel4Ideal Cert.Kernel4Ideal.Gen

variable {f g : ℕ → ℕ → EReal}

theorem pay0 {x y : FVec Ideal S1024x1024 .bf16} (hx : Holds .bf16 x f) (hy : Holds .bf16 y g) :
    Holds .bf16 (k0_pay1 x y : FVec Ideal S1024x1024 .bf16) fun i j => ∑ k : Fin 1024, f i k.val * g j k.val := fun i j => by
  pointwise [k0_pay1]
  exact Finset.sum_congr rfl fun k _ => congrArg₂ (· * ·) (hx i k) (hy j k)
theorem pay1 {x y : FVec Ideal S1024x1024 .bf16} (hx : Holds .bf16 x f) (hy : Holds .bf16 y g) :
    Holds .bf16 (k1_pay1 x y : FVec Ideal S1024x1024 .bf16) fun i j => ∑ k : Fin 1024, f i k.val * g j k.val := pay0 hx hy
theorem pay2 {x : FVec Ideal S1024x1024 .bf16} {y : FVec Ideal S16x1024 .bf16} (hx : Holds .bf16 x f) (hy : Holds .bf16 y g) :
    Holds .f32 (k2_pay1 x y : FVec Ideal S1024x16 .f32) fun i j => ∑ k : Fin 1024, f i k.val * g j k.val := fun i j => by
  pointwise [k2_pay1]
  exact Finset.sum_congr rfl fun k _ => congrArg₂ (· * ·) (hx i k) (hy j k)

variable (W : Dev nD → Valuation τ sig (Elt Ideal)) (c : Dev nD)

/-! ## Region 0 -/

theorem lt0 (t : Fin cfg0.N) : t.val < 12 := lt_of_lt_of_eq t.isLt N_0
/-- Where every window's block lies at a point. -/
theorem index0 : ∀ t : Fin grid0.N, win0_0.index t = ![t.val / 6, 0] ∧ win0_1.index t = ![t.val % 6 * 1024, 0] ∧ win0_2.index t = ![t.val / 6, t.val % 6] := by
  decide +kernel
/-- Where an entry of the rows' block lies in the array of all rows. -/
theorem place0 (t : Fin cfg0.N) (y : S1024x1024.Idx) (a : Fin 2) :
    ((((View.whole main_v0).slice (win0_1.rect t)).emb y a : Fin _) : ℕ) = win0_1.index t a + (y a).val := by
  show win0_1.index t a + 1 * (y a).val = _
  rw [Nat.one_mul]
theorem block0_0 (t : Fin cfg0.N) (i j : Fin 1024) :
    (blk0_0 W c t : FVec Ideal S1024x1024 .bf16) (ix2 i j) = W c main_arg0 (ix2 ⟨t.val / 6 * 1024 + i.val, by have := lt0 t; omega⟩ j) := by
  have h := (index0 t).1
  blk_ext [blk0_0, h]
theorem block0_1 (t : Fin cfg0.N) (i : Fin 1024) (j : Fin 1024) :
    (blk0_1 W c t : FVec Ideal S1024x1024 .bf16) (ix2 i j) = W c main_v0 (ix2 ⟨t.val % 6 * 1024 + i.val, by have := lt0 t; omega⟩ j) := by
  have h := (index0 t).2.1
  blk_ext [blk0_1, h]
  · exact (place0 t _ _).trans (by rw [h]; rfl)
  · exact (place0 t _ _).trans (by rw [h]; exact Nat.zero_add _)

theorem array0 (hx : Holds .bf16 (W c main_arg0 : FVec Ideal S2048x1024 .bf16) f) (hy : Holds .bf16 (W c main_v0 : FVec Ideal S11280x1024 .bf16) g) :
    Holds .bf16 ((dat0 W c).arrAt 2 cfg0.N : FVec Ideal S2048x6144 .bf16) (rowDot f g 0) := by
  have point (t : Fin cfg0.N) : Holds .bf16 ((dat0 W c).after 2 t : FVec Ideal S1024x1024 .bf16) fun i j => rowDot f g 0 (t.val / 6 * 1024 + i) (t.val % 6 * 1024 + j) := by
    rw [after0_2]
    intro i j
    refine (pay0 (fun i j => (block0_0 W c t i j).trans (hx _ _)) (fun i j => (block0_1 W c t i j).trans (hy _ _))
      (f := fun i j => f (t.val / 6 * 1024 + i) j) (g := fun i j => g (t.val % 6 * 1024 + i) j) i j).trans ?_
    unfold rowDot
    dsimp only
    rw [Nat.zero_add]
  have h : (dat0 W c).arrAt 2 cfg0.N = (fun p => rowDot f g 0 (p 0).val (p 1).val : FVec Ideal S2048x6144 .bf16) := by
    refine (dat0 W c).arrAt_eq_of_covers 2 _ (by decide +kernel) fun t hf y => ?_
    have hi := (index0 t).2.2
    have hb := (point t).at y
    generalize (dat0 W c).after 2 t = X at hb
    blk_simp [hi]
    exact hb
  intro i j
  rw [h]; rfl

/-! ## Region 1 -/

theorem lt1 (t : Fin cfg1.N) : t.val < 10 := lt_of_lt_of_eq t.isLt N_1
/-- Where every window's block lies at a point. -/
theorem index1 : ∀ t : Fin grid1.N, win1_0.index t = ![t.val / 5, 0] ∧ win1_1.index t = ![6160 + t.val % 5 * 1024, 0] ∧ win1_2.index t = ![t.val / 5, t.val % 5] := by
  decide +kernel
/-- Where an entry of the rows' block lies in the array of all rows. -/
theorem place1 (t : Fin cfg1.N) (y : S1024x1024.Idx) (a : Fin 2) :
    ((((View.whole main_v0).slice (win1_1.rect t)).emb y a : Fin _) : ℕ) = win1_1.index t a + (y a).val := by
  show win1_1.index t a + 1 * (y a).val = _
  rw [Nat.one_mul]
theorem block1_0 (t : Fin cfg1.N) (i j : Fin 1024) :
    (blk1_0 W c t : FVec Ideal S1024x1024 .bf16) (ix2 i j) = W c main_arg0 (ix2 ⟨t.val / 5 * 1024 + i.val, by have := lt1 t; omega⟩ j) := by
  have h := (index1 t).1
  blk_ext [blk1_0, h]
theorem block1_1 (t : Fin cfg1.N) (i : Fin 1024) (j : Fin 1024) :
    (blk1_1 W c t : FVec Ideal S1024x1024 .bf16) (ix2 i j) = W c main_v0 (ix2 ⟨6160 + t.val % 5 * 1024 + i.val, by have := lt1 t; omega⟩ j) := by
  have h := (index1 t).2.1
  blk_ext [blk1_1, h]
  · exact (place1 t _ _).trans (by rw [h]; rfl)
  · exact (place1 t _ _).trans (by rw [h]; exact Nat.zero_add _)

theorem array1 (hx : Holds .bf16 (W c main_arg0 : FVec Ideal S2048x1024 .bf16) f) (hy : Holds .bf16 (W c main_v0 : FVec Ideal S11280x1024 .bf16) g) :
    Holds .bf16 ((dat1 W c).arrAt 2 cfg1.N : FVec Ideal S2048x5120 .bf16) (rowDot f g 6160) := by
  have point (t : Fin cfg1.N) : Holds .bf16 ((dat1 W c).after 2 t : FVec Ideal S1024x1024 .bf16) fun i j => rowDot f g 6160 (t.val / 5 * 1024 + i) (t.val % 5 * 1024 + j) := by
    rw [after1_2]
    intro i j
    refine (pay1 (fun i j => (block1_0 W c t i j).trans (hx _ _)) (fun i j => (block1_1 W c t i j).trans (hy _ _))
      (f := fun i j => f (t.val / 5 * 1024 + i) j) (g := fun i j => g (6160 + t.val % 5 * 1024 + i) j) i j).trans ?_
    unfold rowDot
    dsimp only
    rw [Nat.add_assoc]
  have h : (dat1 W c).arrAt 2 cfg1.N = (fun p => rowDot f g 6160 (p 0).val (p 1).val : FVec Ideal S2048x5120 .bf16) := by
    refine (dat1 W c).arrAt_eq_of_covers 2 _ (by decide +kernel) fun t hf y => ?_
    have hi := (index1 t).2.2
    have hb := (point t).at y
    generalize (dat1 W c).after 2 t = X at hb
    blk_simp [hi]
    exact hb
  intro i j
  rw [h]; rfl

/-! ## Region 2 -/

theorem lt2 (t : Fin cfg2.N) : t.val < 2 := lt_of_lt_of_eq t.isLt N_2
/-- Where every window's block lies at a point. -/
theorem index2 : ∀ t : Fin grid2.N, win2_0.index t = ![t.val, 0] ∧ win2_1.index t = ![6144, 0] ∧ win2_2.index t = ![t.val, 0] := by
  decide +kernel
/-- Where an entry of the rows' block lies in the array of all rows. -/
theorem place2 (t : Fin cfg2.N) (y : S16x1024.Idx) (a : Fin 2) :
    ((((View.whole main_v0).slice (win2_1.rect t)).emb y a : Fin _) : ℕ) = win2_1.index t a + (y a).val := by
  show win2_1.index t a + 1 * (y a).val = _
  rw [Nat.one_mul]
theorem block2_0 (t : Fin cfg2.N) (i j : Fin 1024) :
    (blk2_0 W c t : FVec Ideal S1024x1024 .bf16) (ix2 i j) = W c main_arg0 (ix2 ⟨t.val * 1024 + i.val, by have := lt2 t; omega⟩ j) := by
  have h := (index2 t).1
  blk_ext [blk2_0, h]
theorem block2_1 (t : Fin cfg2.N) (i : Fin 16) (j : Fin 1024) :
    (blk2_1 W c t : FVec Ideal S16x1024 .bf16) (ix2 i j) = W c main_v0 (ix2 ⟨6144 + i.val, by have := lt2 t; omega⟩ j) := by
  have h := (index2 t).2.1
  blk_ext [blk2_1, h]
  · exact (place2 t _ _).trans (by rw [h]; rfl)
  · exact (place2 t _ _).trans (by rw [h]; exact Nat.zero_add _)

theorem array2 (hx : Holds .bf16 (W c main_arg0 : FVec Ideal S2048x1024 .bf16) f) (hy : Holds .bf16 (W c main_v0 : FVec Ideal S11280x1024 .bf16) g) :
    Holds .f32 ((dat2 W c).arrAt 2 cfg2.N : FVec Ideal S2048x16 .f32) (rowDot f g 6144) := by
  have point (t : Fin cfg2.N) : Holds .f32 ((dat2 W c).after 2 t : FVec Ideal S1024x16 .f32) fun i j => rowDot f g 6144 (t.val * 1024 + i) j := by
    rw [after2_2]
    intro i j
    refine (pay2 (fun i j => (block2_0 W c t i j).trans (hx _ _)) (fun i j => (block2_1 W c t i j).trans (hy _ _))
      (f := fun i j => f (t.val * 1024 + i) j) (g := fun i j => g (6144 + i) j) i j).trans ?_
    unfold rowDot
    rfl
  have h : (dat2 W c).arrAt 2 cfg2.N = (fun p => rowDot f g 6144 (p 0).val (p 1).val : FVec Ideal S2048x16 .f32) := by
    refine (dat2 W c).arrAt_eq_of_covers 2 _ (by decide +kernel) fun t hf y => ?_
    have hi := (index2 t).2.2
    have hb := (point t).at y
    generalize (dat2 W c).after 2 t = X at hb
    blk_simp [hi]
    exact hb
  intro i j
  rw [h]; rfl
end

/-! ## The reference's lines -/

namespace Lines

open Cert.Reference4Ideal Cert.Reference4Ideal.Gen

variable (x : FVec Ideal S2048x1024 .bf16) (w : FVec Ideal S1024x11280 .bf16)

def product : FVec Ideal S2048x11280 .f32 :=
  Host.dotGeneral (F := Ideal) (φ₁ := .f32) (φ₂ := .f32) dot_S2048x1024_S1024x11280_S2048x11280_1_0_0_1_n_n none (extf .f32 x bitsLt_bf16_f32) (extf .f32 w bitsLt_bf16_f32)
def first : FVec Ideal S2048x6144 .bf16 := truncf .bf16 (extractStridedSlice S2048x6144 ![0, 0] (product x w) slices_S2048x11280_S2048x6144_0_0) bitsLt_bf16_f32
def second : FVec Ideal S2048x16 .f32 := extractStridedSlice S2048x16 ![0, 6144] (product x w) slices_S2048x11280_S2048x16_0_6144
def third : FVec Ideal S2048x5120 .bf16 := truncf .bf16 (extractStridedSlice S2048x5120 ![0, 6160] (product x w) slices_S2048x11280_S2048x5120_0_6160) bitsLt_bf16_f32

variable {x w} {f g : ℕ → ℕ → EReal} (hx : Holds .bf16 x f) (hw : Holds .bf16 w g)
include hx hw

theorem product_holds : Holds .f32 (product x w) (rowDot f (fun a b => g b a) 0) := fun i j => by
  pointwise [product]
  unfold rowDot
  rw [Nat.zero_add]
  exact Finset.sum_congr rfl fun k _ => congrArg₂ (· * ·) (hx i k) (hw k j)
theorem first_holds : Holds .bf16 (first x w) (rowDot f (fun a b => g b a) 0) := fun i j => by
  have e : first x w (ix2 i j) = product x w (ix2 i ⟨j.val, by omega⟩) := by pointwise [first]
  exact e.trans (product_holds hx hw i _)
theorem second_holds : Holds .f32 (second x w) (rowDot f (fun a b => g b a) 6144) := fun i j => by
  have e : second x w (ix2 i j) = product x w (ix2 i ⟨6144 + j.val, by omega⟩) := by pointwise [second]
  refine e.trans ((product_holds hx hw i _).trans ?_)
  unfold rowDot
  rw [Nat.zero_add]
theorem third_holds : Holds .bf16 (third x w) (rowDot f (fun a b => g b a) 6160) := fun i j => by
  have e : third x w (ix2 i j) = product x w (ix2 i ⟨6160 + j.val, by omega⟩) := by pointwise [third]
  refine e.trans ((product_holds hx hw i _).trans ?_)
  unfold rowDot
  rw [Nat.zero_add]

end Lines

/-! ## The two agree -/

open Cert.Kernel4Ideal Cert.Kernel4Ideal.Gen

variable (m : (ℓ : Loc nD τ sig) → Buf (Elt Ideal) ℓ) (c : Dev nD)

/-- The input and the matrix a device is given. -/
def argX : FVec Ideal S2048x1024 .bf16 := m ((c.tc : Thread nD τ).loc main_arg0)
def argW : FVec Ideal S1024x11280 .bf16 := m ((c.tc : Thread nD τ).loc main_arg1)

theorem turned : (U1 m c main_v0 : FVec Ideal S11280x1024 .bf16) = transpose S11280x1024 [1, 0] (argW m c) transposes_S1024x11280_S11280x1024_1_0 := by
  unfold U1 argW
  rfl
theorem turned_apply (x : FVec Ideal S1024x11280 .bf16) (i : Fin 11280) (j : Fin 1024) :
    transpose S11280x1024 [1, 0] x transposes_S1024x11280_S11280x1024_1_0 (ix2 i j) = x (ix2 j i) := by
  pointwise []

theorem holds_rows : Holds .bf16 (U1 m c main_v0 : FVec Ideal S11280x1024 .bf16) fun i j => entries (argW m c) j i := fun i j => by
  rw [turned, turned_apply]
  exact holds_entries _ j i
theorem holds_X : Holds .bf16 (U1 m c main_arg0 : FVec Ideal S2048x1024 .bf16) (entries (argX m c)) := by
  rw [U1_of m c main_arg0 (by decide)]; exact holds_entries (argX m c)

theorem firsts_agree : (U4 m c main_v1 : FVec Ideal S2048x6144 .bf16) = Lines.first (argX m c) (argW m c) := by
  rw [U4_of m c main_v1 (by decide), U3_of m c main_v1 (by decide), U2_out]
  exact Holds.eq (array0 (U1 m) c (holds_X m c) (holds_rows m c)) (Lines.first_holds (holds_entries _) (holds_entries _))
theorem thirds_agree : (U4 m c main_v2 : FVec Ideal S2048x5120 .bf16) = Lines.third (argX m c) (argW m c) := by
  rw [U4_of m c main_v2 (by decide), U3_out]
  refine Holds.eq (array1 (U2 m) c (f := entries (argX m c)) (g := fun i j => entries (argW m c) j i) ?_ ?_) (Lines.third_holds (holds_entries _) (holds_entries _))
  · rw [U2_of m c main_arg0 (by decide)]; exact holds_X m c
  · rw [U2_of m c main_v0 (by decide)]; exact holds_rows m c
theorem seconds_agree : (U4 m c main_v3 : FVec Ideal S2048x16 .f32) = Lines.second (argX m c) (argW m c) := by
  rw [U4_out]
  refine Holds.eq (array2 (U3 m) c (f := entries (argX m c)) (g := fun i j => entries (argW m c) j i) ?_ ?_) (Lines.second_holds (holds_entries _) (holds_entries _))
  · rw [U3_of m c main_arg0 (by decide), U2_of m c main_arg0 (by decide)]; exact holds_X m c
  · rw [U3_of m c main_v0 (by decide), U2_of m c main_v0 (by decide)]; exact holds_rows m c

end Cert.Proof.Fwd
-- ==== Proof.FwdWords.lean ====
/-
  The input projection's program and its idealization are one text, so the run of the second at machine words is the first's.
-/
module

public import proofs.«01_k».proof.Proof.Gen.Kernel4
public import proofs.«01_k».proof.Proof.Gen.Kernel4Ideal

@[expose] public section

set_option maxRecDepth 65536

noncomputable section

namespace Cert.Proof.Fwd

open Idealize.ShloMosaic Idealize.SL.Sem

set_option maxHeartbeats 1000000

variable {F : FTy → Type} [FloatOps F]

theorem same_body0 : @Cert.Kernel4.cc0_mm_in_lo F _ _ = @Cert.Kernel4Ideal.cc0_mm_in_lo F _ _ := rfl
theorem same_body1 : @Cert.Kernel4.cc1_mm_in_hi F _ _ = @Cert.Kernel4Ideal.cc1_mm_in_hi F _ _ := rfl
theorem same_body2 : @Cert.Kernel4.cc2_mm_in_f F _ _ = @Cert.Kernel4Ideal.cc2_mm_in_f F _ _ := rfl

theorem same_bodies : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | 0, (t, s) =>
    show Cert.Kernel4.cc0_mm_in_lo _ _ _ _ _ _ _ = _
    rw [same_body0]
    rfl
  | 1, (t, s) =>
    show Cert.Kernel4.cc1_mm_in_hi _ _ _ _ _ _ _ = _
    rw [same_body1]
    rfl
  | 2, (t, s) =>
    show Cert.Kernel4.cc2_mm_in_f _ _ _ _ _ _ _ = _
    rw [same_body2]
    rfl
  | ⟨_ + 3, h⟩, _ => exact absurd h (Nat.not_lt.2 (Nat.le_add_left _ _))

theorem same_defs : @Cert.Kernel4.defs F _ _ = @Cert.Kernel4Ideal.defs F _ _ := by
  show Pipeline.defs Cert.Kernel4.pcfgs Cert.Kernel4.defs₀ = _
  rw [same_bodies]
  rfl

theorem same_main : Cert.Kernel4.main (F := F) = Cert.Kernel4Ideal.main (F := F) := rfl

end Cert.Proof.Fwd
-- ==== Proof.lean ====
/- The assembly of `Cert.Claim`: the runs of the two kernels and of the reference, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite
public import proofs.«01_k».proof.Proof.Equation
public import proofs.«01_k».proof.Proof.Words
public import proofs.«01_k».proof.Proof.Gen.Kernel2
public import proofs.«01_k».proof.Proof.Gen.Kernel2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Regions
public import proofs.«01_k».proof.Proof.Gen.Reference4Ideal.Run
public import proofs.«01_k».proof.Proof.FfnEquation
public import proofs.«01_k».proof.Proof.FfnWords
public import proofs.«01_k».proof.Proof.ProjEquation
public import proofs.«01_k».proof.Proof.ProjWords
public import proofs.«01_k».proof.Proof.FwdEquation
public import proofs.«01_k».proof.Proof.FwdWords
public import Idealize.ShloMosaic.Adequacy
public import Idealize.ShloMosaic.Init

@[expose] public section

noncomputable section

namespace Cert.Proof

open Idealize.ShloMosaic Idealize.SL.Sem

/-- The kernel's run at the machine's words. -/
theorem frame_kernel : Cert.quiescent_Kernel := by
  intro m ρ _
  rw [same_main, same_defs]
  exact (θ_run Cert.KernelIdeal.defs _ _).mono (fun _ h => ⟨fun c => (h.1 c).1, h.2⟩) (run_main (F := Bits) m ρ)

/-- The kernel's run over the extended reals. -/
theorem frame_ideal : Cert.quiescent_KernelIdeal := fun m ρ _ =>
  (θ_run Cert.KernelIdeal.defs _ _).mono (fun _ h => ⟨fun c => (h.1 c).1, h.2⟩) (run_main (F := Ideal) m ρ)

theorem frame_ideal_finite : Cert.quiescent_KernelIdeal_pre_finite := fun m ρ _ => frame_ideal m ρ trivial

/-- The reference's run; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- Both runs end with the reference's arrays. -/
theorem same_results : Cert.algebraic_KernelIdeal_ReferenceIdeal_pre_finite := by
  intro m ρ m' ρ' hm hagree
  refine ⟨fun c => arrayAt m c 8, fun c => (dats m 0 c).arrAt 7 Cert.KernelIdeal.cfg0.N,
    (θ_run Cert.KernelIdeal.defs _ _).mono (fun _ h c => ⟨(h.1 c).2.1, (h.1 c).2.2, (h.1 c).1⟩) (run_main (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · dsimp only
    obtain ⟨e0, e1, e2, e3⟩ := hagree c
    rw [gradients_agree m hm c, Lines.res_z, e0, e1, e2, e3]
  · dsimp only
    obtain ⟨e0, e1, e2, -⟩ := hagree c
    rw [gates_agree m hm c, Lines.res_c, e0, e1, e2]

namespace Ffn

open Idealize.ShloMosaic.TcCoe

set_option maxHeartbeats 2000000

/-- The feed-forward program's run at the machine's words. -/
theorem frame_kernel : Cert.quiescent_Kernel2 := by
  intro m ρ _
  rw [same_main, same_defs]
  exact (θ_run Cert.Kernel2Ideal.defs _ _).mono (fun _ h => ⟨fun c => (h.1 c).1, h.2⟩) (run_main (F := Bits) m ρ)

/-- Its run over the extended reals. -/
theorem frame_ideal : Cert.quiescent_Kernel2Ideal := fun m ρ _ =>
  (θ_run Cert.Kernel2Ideal.defs _ _).mono (fun _ h => ⟨fun c => (h.1 c).1, h.2⟩) (run_main (F := Ideal) m ρ)

theorem frame_ideal_finite : Cert.quiescent_Kernel2Ideal_pre_finite2 := fun m ρ _ => frame_ideal m ρ trivial

/-- Its reference's run; it declares no semaphore. -/
theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_reference_finite : Cert.quiescent_Reference2Ideal_pre_finite2 := fun m ρ _ => frame_reference m ρ trivial

/-- Both runs end with the reference's arrays. -/
theorem same_results : Cert.algebraic_Kernel2Ideal_Reference2Ideal_pre_finite2 := by
  intro m ρ m' ρ' hm hagree
  refine ⟨fun c => U8 m c Cert.Kernel2Ideal.main_v6, fun c => U8 m c Cert.Kernel2Ideal.main_v7, fun c => U8 m c Cert.Kernel2Ideal.main_v4,
    (θ_run Cert.Kernel2Ideal.defs _ _).mono (fun _ h c => ⟨(h.1 c).2.1, (h.1 c).2.2.1, (h.1 c).2.2.2, (h.1 c).1⟩) (run_main (F := Ideal) m ρ), ?_⟩
  refine (θ_run Cert.Reference2Ideal.defs _ _).mono ?_ (Cert.Reference2Ideal.Value.run (F := Ideal) m' ρ')
  intro r h c
  obtain ⟨e0, e1, e2, e3⟩ := hagree c
  obtain ⟨h0, h1, h2, h3⟩ := h c
  refine ⟨h0.trans ?_, h1.trans ?_, h2.trans ?_, h3⟩
  · rw [Lines.res_input, e0, e1, e2, e3]
    exact (inputs_agree m hm c).symm
  · rw [Lines.res_first, e0, e1, e2, e3]
    exact (firsts_agree m hm c).symm
  · rw [e0, e1, e3]
    exact (seconds_agree m hm c).symm

end Ffn

namespace Proj

open Idealize.ShloMosaic.TcCoe

set_option maxHeartbeats 2000000

/-- The projection's backward run at the machine's words. -/
theorem frame_kernel : Cert.quiescent_Kernel3 := by
  intro m ρ _
  rw [same_main, same_defs]
  exact (θ_run Cert.Kernel3Ideal.defs _ _).mono (fun _ h => ⟨fun c => (h.1 c).1, h.2⟩) (run_main (F := Bits) m ρ)

/-- Its run over the extended reals. -/
theorem frame_ideal : Cert.quiescent_Kernel3Ideal := fun m ρ _ =>
  (θ_run Cert.Kernel3Ideal.defs _ _).mono (fun _ h => ⟨fun c => (h.1 c).1, h.2⟩) (run_main (F := Ideal) m ρ)

/-- Its reference's run; it declares no semaphore. -/
theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- Both runs end with the reference's arrays. -/
theorem same_results : Cert.algebraic_Kernel3Ideal_Reference3Ideal := by
  intro m ρ m' ρ' hm hagree
  refine ⟨fun c => U7 m c Cert.Kernel3Ideal.main_v6, fun c => U7 m c Cert.Kernel3Ideal.main_v2, fun c => U7 m c Cert.Kernel3Ideal.main_v1,
    fun c => U7 m c Cert.Kernel3Ideal.main_v3, (θ_run Cert.Kernel3Ideal.defs _ _).mono
      (fun _ h c => ⟨(h.1 c).2.1, (h.1 c).2.2.1, (h.1 c).2.2.2.1, (h.1 c).2.2.2.2, (h.1 c).1⟩) (run_main (F := Ideal) m ρ), ?_⟩
  refine (θ_run Cert.Reference3Ideal.defs _ _).mono ?_ (Cert.Reference3Ideal.Value.run (F := Ideal) m' ρ')
  intro r h c
  obtain ⟨e0, e1, e2, e3, e4⟩ := hagree c
  obtain ⟨h0, h1, h2, h3, h4⟩ := h c
  refine ⟨h0.trans ?_, h1.trans ?_, h2.trans ?_, h3.trans ?_, h4⟩
  · rw [e1, e2, e3, e4]
    exact (inputs_agree m c).symm
  · rw [e0, e2, e3, e4]
    exact (firsts_agree m c).symm
  · rw [e0, e2, e3, e4]
    exact (seconds_agree m c).symm
  · rw [e0, e2, e3, e4]
    exact (thirds_agree m c).symm

end Proj

namespace Fwd

open Idealize.ShloMosaic.TcCoe

set_option maxHeartbeats 2000000

/-- The projection's forward run at the machine's words. -/
theorem frame_kernel : Cert.quiescent_Kernel4 := by
  intro m ρ _
  rw [same_main, same_defs]
  exact (θ_run Cert.Kernel4Ideal.defs _ _).mono (fun _ h => ⟨fun c => (h.1 c).1, h.2⟩) (run_main (F := Bits) m ρ)

/-- Its run over the extended reals. -/
theorem frame_ideal : Cert.quiescent_Kernel4Ideal := fun m ρ _ =>
  (θ_run Cert.Kernel4Ideal.defs _ _).mono (fun _ h => ⟨fun c => (h.1 c).1, h.2⟩) (run_main (F := Ideal) m ρ)

/-- Its reference's run; it declares no semaphore. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- Both runs end with the reference's arrays. -/
theorem same_results : Cert.algebraic_Kernel4Ideal_Reference4Ideal := by
  intro m ρ m' ρ' hm hagree
  refine ⟨fun c => U4 m c Cert.Kernel4Ideal.main_v1, fun c => U4 m c Cert.Kernel4Ideal.main_v3, fun c => U4 m c Cert.Kernel4Ideal.main_v2,
    (θ_run Cert.Kernel4Ideal.defs _ _).mono (fun _ h c => ⟨(h.1 c).2.1, (h.1 c).2.2.1, (h.1 c).2.2.2, (h.1 c).1⟩) (run_main (F := Ideal) m ρ), ?_⟩
  refine (θ_run Cert.Reference4Ideal.defs _ _).mono ?_ (Cert.Reference4Ideal.Value.run (F := Ideal) m' ρ')
  intro r h c
  obtain ⟨e0, e1⟩ := hagree c
  obtain ⟨h0, h1, h2, h3⟩ := h c
  refine ⟨h0.trans ?_, h1.trans ?_, h2.trans ?_, h3⟩
  · rw [e0, e1]
    exact (firsts_agree m c).symm
  · rw [e0, e1]
    exact (seconds_agree m c).symm
  · rw [e0, e1]
    exact (thirds_agree m c).symm

end Fwd

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_finite2.Gen.facts,
    frame_kernel, frame_ideal, frame_ideal_finite, frame_reference, frame_reference_finite,
    Ffn.frame_kernel, Ffn.frame_ideal, Ffn.frame_ideal_finite, Ffn.frame_reference, Ffn.frame_reference_finite,
    Proj.frame_kernel, Proj.frame_ideal, Proj.frame_reference, Fwd.frame_kernel, Fwd.frame_ideal, Fwd.frame_reference,
    trivial, same_results, trivial, Ffn.same_results, trivial, Proj.same_results, trivial, Fwd.same_results⟩

end Cert.Proof

end
